-- ==== Defs.lean ====
def Pre_Up [hPre_pre_up : Cert.Pre_pre_up.Facts] (m : (ℓ : Loc Cert.Up.nD Cert.Up.τ Cert.Up.sig) → Buf (Elt Bits) ℓ) : Prop :=
  ∀ c : Dev Cert.Up.nD,
    (Cert.Pre_pre_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_pre_up : Cert.Pre_pre_up.Facts] (m : (ℓ : Loc Cert.UpIdeal.nD Cert.UpIdeal.τ Cert.UpIdeal.sig) → Buf (Elt Ideal) ℓ) : Prop :=
  ∀ c : Dev Cert.UpIdeal.nD,
    (Cert.Pre_pre_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_pre_up [hPre_pre_up : Cert.Pre_pre_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_pre_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_pre_down : Cert.Pre_pre_down.Facts] (m : (ℓ : Loc Cert.Down.nD Cert.Down.τ Cert.Down.sig) → Buf (Elt Bits) ℓ) : Prop :=
  ∀ c : Dev Cert.Down.nD,
    (Cert.Pre_pre_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))) = (fun _ => 1#1)

def Pre_DownIdeal [hPre_pre_down : Cert.Pre_pre_down.Facts] (m : (ℓ : Loc Cert.DownIdeal.nD Cert.DownIdeal.τ Cert.DownIdeal.sig) → Buf (Elt Ideal) ℓ) : Prop :=
  ∀ c : Dev Cert.DownIdeal.nD,
    (Cert.Pre_pre_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_pre_down [hPre_pre_down : Cert.Pre_pre_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_pre_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def quiescent_Up [hUp : Cert.Up.Facts] [hPre_pre_up : Cert.Pre_pre_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_pre_up : Cert.Pre_pre_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_pre_up [hUpRefIdeal : Cert.UpRefIdeal.Facts] [hPre_pre_up : Cert.Pre_pre_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_pre_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_pre_down : Cert.Pre_pre_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_pre_down : Cert.Pre_pre_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_pre_down [hDownRefIdeal : Cert.DownRefIdeal.Facts] [hPre_pre_down : Cert.Pre_pre_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_pre_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4)
      ∧ r.2.mem ((c.tc : Thread Cert.InprojSample.nD Cert.InprojSample.τ).loc Cert.InprojSample.main_arg5) = m ((c.tc : Thread Cert.InprojSample.nD Cert.InprojSample.τ).loc Cert.InprojSample.main_arg5)
      ∧ r.2.mem ((c.tc : Thread Cert.InprojSample.nD Cert.InprojSample.τ).loc Cert.InprojSample.main_arg6) = m ((c.tc : Thread Cert.InprojSample.nD Cert.InprojSample.τ).loc Cert.InprojSample.main_arg6))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
      ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
      ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3)
      ∧ r.2.mem ((c.tc : Thread Cert.InprojSampleRefIdeal.nD Cert.InprojSampleRefIdeal.τ).loc Cert.InprojSampleRefIdeal.main_arg4) = m ((c.tc : Thread Cert.InprojSampleRefIdeal.nD Cert.InprojSampleRefIdeal.τ).loc Cert.InprojSampleRefIdeal.main_arg4)
      ∧ r.2.mem ((c.tc : Thread Cert.InprojSampleRefIdeal.nD Cert.InprojSampleRefIdeal.τ).loc Cert.InprojSampleRefIdeal.main_arg5) = m ((c.tc : Thread Cert.InprojSampleRefIdeal.nD Cert.InprojSampleRefIdeal.τ).loc Cert.InprojSampleRefIdeal.main_arg5)
      ∧ r.2.mem ((c.tc : Thread Cert.InprojSampleRefIdeal.nD Cert.InprojSampleRefIdeal.τ).loc Cert.InprojSampleRefIdeal.main_arg6) = m ((c.tc : Thread Cert.InprojSampleRefIdeal.nD Cert.InprojSampleRefIdeal.τ).loc Cert.InprojSampleRefIdeal.main_arg6))
      ∧ r.2.sem = fun _ => 0)

def preserves_Up_UpIdeal : Prop :=
  True

def algebraic_UpIdeal_UpRefIdeal [hUpIdeal : Cert.UpIdeal.Facts] [hUpRefIdeal : Cert.UpRefIdeal.Facts] [hPre_pre_up : Cert.Pre_pre_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v43) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_pre_down : Cert.Pre_pre_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v30) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v15_0)) (v1 : (c : Dev Cert.InprojIdeal.nD) → Buf (Elt Ideal) ((c.tc : Thread Cert.InprojIdeal.nD Cert.InprojIdeal.τ).loc Cert.InprojIdeal.main_v15_1)) (v2 : (c : Dev Cert.InprojIdeal.nD) → Buf (Elt Ideal) ((c.tc : Thread Cert.InprojIdeal.nD Cert.InprojIdeal.τ).loc Cert.InprojIdeal.main_v15_2)) (v3 : (c : Dev Cert.InprojIdeal.nD) → Buf (Elt Ideal) ((c.tc : Thread Cert.InprojIdeal.nD Cert.InprojIdeal.τ).loc Cert.InprojIdeal.main_v15_3)) (v4 : (c : Dev Cert.InprojIdeal.nD) → Buf (Elt Ideal) ((c.tc : Thread Cert.InprojIdeal.nD Cert.InprojIdeal.τ).loc Cert.InprojIdeal.main_v15_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v15_0) = v0 c
          ∧ r.2.mem ((c.tc : Thread Cert.InprojIdeal.nD Cert.InprojIdeal.τ).loc Cert.InprojIdeal.main_v15_1) = v1 c
          ∧ r.2.mem ((c.tc : Thread Cert.InprojIdeal.nD Cert.InprojIdeal.τ).loc Cert.InprojIdeal.main_v15_2) = v2 c
          ∧ r.2.mem ((c.tc : Thread Cert.InprojIdeal.nD Cert.InprojIdeal.τ).loc Cert.InprojIdeal.main_v15_3) = v3 c
          ∧ r.2.mem ((c.tc : Thread Cert.InprojIdeal.nD Cert.InprojIdeal.τ).loc Cert.InprojIdeal.main_v15_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v44) = v1 c
          ∧ r.2.mem ((c.tc : Thread Cert.InprojRefIdeal.nD Cert.InprojRefIdeal.τ).loc Cert.InprojRefIdeal.main_v45) = v2 c
          ∧ r.2.mem ((c.tc : Thread Cert.InprojRefIdeal.nD Cert.InprojRefIdeal.τ).loc Cert.InprojRefIdeal.main_v24) = v3 c
          ∧ r.2.mem ((c.tc : Thread Cert.InprojRefIdeal.nD Cert.InprojRefIdeal.τ).loc Cert.InprojRefIdeal.main_v43) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_v90) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v17) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)
      ∧ m' ((c.tc : Thread Cert.FinalSampleRefIdeal.nD Cert.FinalSampleRefIdeal.τ).loc Cert.FinalSampleRefIdeal.main_arg3) = m ((c.tc : Thread Cert.FinalSampleIdeal.nD Cert.FinalSampleIdeal.τ).loc Cert.FinalSampleIdeal.main_arg3)) →
    ∃ (v0 : (c : Dev Cert.FinalSampleIdeal.nD) → Buf (Elt Ideal) ((c.tc : Thread Cert.FinalSampleIdeal.nD Cert.FinalSampleIdeal.τ).loc Cert.FinalSampleIdeal.main_v1)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v1) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v16) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2)
          ∧ r.2.mem ((c.tc : Thread Cert.FinalSampleRefIdeal.nD Cert.FinalSampleRefIdeal.τ).loc Cert.FinalSampleRefIdeal.main_arg3) = m' ((c.tc : Thread Cert.FinalSampleRefIdeal.nD Cert.FinalSampleRefIdeal.τ).loc Cert.FinalSampleRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v43) = v0 c
          ∧ r.2.mem ((c.tc : Thread Cert.WinRefIdeal.nD Cert.WinRefIdeal.τ).loc Cert.WinRefIdeal.main_v1) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)
      ∧ m' ((c.tc : Thread Cert.InprojSampleRefIdeal.nD Cert.InprojSampleRefIdeal.τ).loc Cert.InprojSampleRefIdeal.main_arg3) = m ((c.tc : Thread Cert.InprojSampleIdeal.nD Cert.InprojSampleIdeal.τ).loc Cert.InprojSampleIdeal.main_arg3)
      ∧ m' ((c.tc : Thread Cert.InprojSampleRefIdeal.nD Cert.InprojSampleRefIdeal.τ).loc Cert.InprojSampleRefIdeal.main_arg4) = m ((c.tc : Thread Cert.InprojSampleIdeal.nD Cert.InprojSampleIdeal.τ).loc Cert.InprojSampleIdeal.main_arg4)
      ∧ m' ((c.tc : Thread Cert.InprojSampleRefIdeal.nD Cert.InprojSampleRefIdeal.τ).loc Cert.InprojSampleRefIdeal.main_arg5) = m ((c.tc : Thread Cert.InprojSampleIdeal.nD Cert.InprojSampleIdeal.τ).loc Cert.InprojSampleIdeal.main_arg5)
      ∧ m' ((c.tc : Thread Cert.InprojSampleRefIdeal.nD Cert.InprojSampleRefIdeal.τ).loc Cert.InprojSampleRefIdeal.main_arg6) = m ((c.tc : Thread Cert.InprojSampleIdeal.nD Cert.InprojSampleIdeal.τ).loc Cert.InprojSampleIdeal.main_arg6)) →
    ∃ (v0 : (c : Dev Cert.InprojSampleIdeal.nD) → Buf (Elt Ideal) ((c.tc : Thread Cert.InprojSampleIdeal.nD Cert.InprojSampleIdeal.τ).loc Cert.InprojSampleIdeal.main_v15_0)) (v1 : (c : Dev Cert.InprojSampleIdeal.nD) → Buf (Elt Ideal) ((c.tc : Thread Cert.InprojSampleIdeal.nD Cert.InprojSampleIdeal.τ).loc Cert.InprojSampleIdeal.main_v15_1)) (v2 : (c : Dev Cert.InprojSampleIdeal.nD) → Buf (Elt Ideal) ((c.tc : Thread Cert.InprojSampleIdeal.nD Cert.InprojSampleIdeal.τ).loc Cert.InprojSampleIdeal.main_v15_2)) (v3 : (c : Dev Cert.InprojSampleIdeal.nD) → Buf (Elt Ideal) ((c.tc : Thread Cert.InprojSampleIdeal.nD Cert.InprojSampleIdeal.τ).loc Cert.InprojSampleIdeal.main_v15_3)) (v4 : (c : Dev Cert.InprojSampleIdeal.nD) → Buf (Elt Ideal) ((c.tc : Thread Cert.InprojSampleIdeal.nD Cert.InprojSampleIdeal.τ).loc Cert.InprojSampleIdeal.main_v15_4)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v15_0) = v0 c
          ∧ r.2.mem ((c.tc : Thread Cert.InprojSampleIdeal.nD Cert.InprojSampleIdeal.τ).loc Cert.InprojSampleIdeal.main_v15_1) = v1 c
          ∧ r.2.mem ((c.tc : Thread Cert.InprojSampleIdeal.nD Cert.InprojSampleIdeal.τ).loc Cert.InprojSampleIdeal.main_v15_2) = v2 c
          ∧ r.2.mem ((c.tc : Thread Cert.InprojSampleIdeal.nD Cert.InprojSampleIdeal.τ).loc Cert.InprojSampleIdeal.main_v15_3) = v3 c
          ∧ r.2.mem ((c.tc : Thread Cert.InprojSampleIdeal.nD Cert.InprojSampleIdeal.τ).loc Cert.InprojSampleIdeal.main_v15_4) = v4 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
          ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
          ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v40) = v0 c
          ∧ r.2.mem ((c.tc : Thread Cert.InprojSampleRefIdeal.nD Cert.InprojSampleRefIdeal.τ).loc Cert.InprojSampleRefIdeal.main_v42) = v1 c
          ∧ r.2.mem ((c.tc : Thread Cert.InprojSampleRefIdeal.nD Cert.InprojSampleRefIdeal.τ).loc Cert.InprojSampleRefIdeal.main_v43) = v2 c
          ∧ r.2.mem ((c.tc : Thread Cert.InprojSampleRefIdeal.nD Cert.InprojSampleRefIdeal.τ).loc Cert.InprojSampleRefIdeal.main_v22) = v3 c
          ∧ r.2.mem ((c.tc : Thread Cert.InprojSampleRefIdeal.nD Cert.InprojSampleRefIdeal.τ).loc Cert.InprojSampleRefIdeal.main_v41) = v4 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2)
          ∧ r.2.mem ((c.tc : Thread Cert.InprojSampleRefIdeal.nD Cert.InprojSampleRefIdeal.τ).loc Cert.InprojSampleRefIdeal.main_arg3) = m' ((c.tc : Thread Cert.InprojSampleRefIdeal.nD Cert.InprojSampleRefIdeal.τ).loc Cert.InprojSampleRefIdeal.main_arg3)
          ∧ r.2.mem ((c.tc : Thread Cert.InprojSampleRefIdeal.nD Cert.InprojSampleRefIdeal.τ).loc Cert.InprojSampleRefIdeal.main_arg4) = m' ((c.tc : Thread Cert.InprojSampleRefIdeal.nD Cert.InprojSampleRefIdeal.τ).loc Cert.InprojSampleRefIdeal.main_arg4)
          ∧ r.2.mem ((c.tc : Thread Cert.InprojSampleRefIdeal.nD Cert.InprojSampleRefIdeal.τ).loc Cert.InprojSampleRefIdeal.main_arg5) = m' ((c.tc : Thread Cert.InprojSampleRefIdeal.nD Cert.InprojSampleRefIdeal.τ).loc Cert.InprojSampleRefIdeal.main_arg5)
          ∧ r.2.mem ((c.tc : Thread Cert.InprojSampleRefIdeal.nD Cert.InprojSampleRefIdeal.τ).loc Cert.InprojSampleRefIdeal.main_arg6) = m' ((c.tc : Thread Cert.InprojSampleRefIdeal.nD Cert.InprojSampleRefIdeal.τ).loc Cert.InprojSampleRefIdeal.main_arg6))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hFinalSample : Cert.FinalSample.Facts) (hFinalSampleIdeal : Cert.FinalSampleIdeal.Facts) (hFinalSampleRefIdeal : Cert.FinalSampleRefIdeal.Facts) (hWin : Cert.Win.Facts) (hWinIdeal : Cert.WinIdeal.Facts) (hWinRefIdeal : Cert.WinRefIdeal.Facts) (hInprojSample : Cert.InprojSample.Facts) (hInprojSampleIdeal : Cert.InprojSampleIdeal.Facts) (hInprojSampleRefIdeal : Cert.InprojSampleRefIdeal.Facts) (hPre_pre_up : Cert.Pre_pre_up.Facts) (hPre_pre_down : Cert.Pre_pre_down.Facts),
    quiescent_Up (hUp := hUp) (hPre_pre_up := hPre_pre_up)
    ∧ quiescent_UpIdeal (hUpIdeal := hUpIdeal) (hPre_pre_up := hPre_pre_up)
    ∧ quiescent_UpRefIdeal (hUpRefIdeal := hUpRefIdeal)
    ∧ quiescent_UpRefIdeal_pre_pre_up (hUpRefIdeal := hUpRefIdeal) (hPre_pre_up := hPre_pre_up)
    ∧ quiescent_Down (hDown := hDown) (hPre_pre_down := hPre_pre_down)
    ∧ quiescent_DownIdeal (hDownIdeal := hDownIdeal) (hPre_pre_down := hPre_pre_down)
    ∧ quiescent_DownRefIdeal (hDownRefIdeal := hDownRefIdeal)
    ∧ quiescent_DownRefIdeal_pre_pre_down (hDownRefIdeal := hDownRefIdeal) (hPre_pre_down := hPre_pre_down)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_Win (hWin := hWin)
    ∧ quiescent_WinIdeal (hWinIdeal := hWinIdeal)
    ∧ quiescent_WinRefIdeal (hWinRefIdeal := hWinRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ preserves_Up_UpIdeal
    ∧ algebraic_UpIdeal_UpRefIdeal (hUpIdeal := hUpIdeal) (hUpRefIdeal := hUpRefIdeal) (hPre_pre_up := hPre_pre_up)
    ∧ preserves_Down_DownIdeal
    ∧ algebraic_DownIdeal_DownRefIdeal (hDownIdeal := hDownIdeal) (hDownRefIdeal := hDownRefIdeal) (hPre_pre_down := hPre_pre_down)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_Win_WinIdeal
    ∧ algebraic_WinIdeal_WinRefIdeal (hWinIdeal := hWinIdeal) (hWinRefIdeal := hWinRefIdeal)
    ∧ preserves_InprojSample_InprojSampleIdeal
    ∧ algebraic_InprojSampleIdeal_InprojSampleRefIdeal (hInprojSampleIdeal := hInprojSampleIdeal) (hInprojSampleRefIdeal := hInprojSampleRefIdeal)
-- ==== Pre_pre_down.lean ====
abbrev S289 : Shape := ⟨1, ![289]⟩
abbrev S1 : Shape := ⟨1, ![1]⟩
abbrev S147968x2048 : Shape := ⟨2, ![147968, 2048]⟩
abbrev S32x2048x2048 : Shape := ⟨3, ![32, 2048, 2048]⟩
abbrev S32x2048 : Shape := ⟨2, ![32, 2048]⟩
abbrev S147968 : Shape := ⟨1, ![147968]⟩
abbrev S_ : Shape := ⟨0, ![]⟩

class Facts : Prop where
  bcast_S_S289 : S_.BroadcastsInDim S289 (![] : Fin 0 → Fin S289.rank)

variable [Facts]

def fn {F : FTy → Type} [FloatOps F] (main_arg0 : IVec S289 32) (main_arg1 : IVec S1 32) (main_arg2 : FVec F S147968x2048 .bf16) (main_arg3 : FVec F S32x2048x2048 .f32) (main_arg4 : FVec F S32x2048 .f32) (main_arg5 : FVec F S147968 .f32) : IVec S289 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  main_v4
-- ==== Pre_pre_up.lean ====
abbrev S289 : Shape := ⟨1, ![289]⟩
abbrev S1 : Shape := ⟨1, ![1]⟩
abbrev S147968x2048 : Shape := ⟨2, ![147968, 2048]⟩
abbrev S32x2048x4096 : Shape := ⟨3, ![32, 2048, 4096]⟩
abbrev S32x4096 : Shape := ⟨2, ![32, 4096]⟩
abbrev S_ : Shape := ⟨0, ![]⟩

class Facts : Prop where
  bcast_S_S289 : S_.BroadcastsInDim S289 (![] : Fin 0 → Fin S289.rank)

variable [Facts]

def fn {F : FTy → Type} [FloatOps F] (main_arg0 : IVec S289 32) (main_arg1 : IVec S1 32) (main_arg2 : FVec F S147968x2048 .bf16) (main_arg3 : FVec F S32x2048x4096 .f32) (main_arg4 : FVec F S32x4096 .f32) : IVec S289 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  main_v4
-- ==== Up.lean ====
abbrev S289 : Shape := ⟨1, ![289]⟩
abbrev S1 : Shape := ⟨1, ![1]⟩
abbrev S147968x2048 : Shape := ⟨2, ![147968, 2048]⟩
abbrev S32x2048x4096 : Shape := ⟨3, ![32, 2048, 4096]⟩
abbrev S32x4096 : Shape := ⟨2, ![32, 4096]⟩
abbrev S32x1x4096 : Shape := ⟨3, ![32, 1, 4096]⟩
abbrev S512x2048 : Shape := ⟨2, ![512, 2048]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 5
  | .vmem => 14
  | .smem => 2
  | _ => 0

abbrev bufTy : (tb : Table) → Fin (tcTables nBuf tb) → BufTy
  | .hbm, ⟨0, _⟩ => ⟨S147968x2048, .bf16⟩
  | .hbm, ⟨1, _⟩ => ⟨S32x2048x4096, .f32⟩
  | .hbm, ⟨2, _⟩ => ⟨S32x4096, .f32⟩
  | .hbm, ⟨3, _⟩ => ⟨S32x1x4096, .f32⟩
  | .hbm, ⟨4, _⟩ => ⟨S147968x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S289, .i32⟩
  | .local _ .smem, ⟨1, _⟩ => ⟨S1, .i32⟩
  | _, _ => ⟨S147968x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 289], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S289 : Shape := ⟨1, ![289]⟩
abbrev S1 : Shape := ⟨1, ![1]⟩
abbrev S147968x2048 : Shape := ⟨2, ![147968, 2048]⟩
abbrev S32x2048x4096 : Shape := ⟨3, ![32, 2048, 4096]⟩
abbrev S32x4096 : Shape := ⟨2, ![32, 4096]⟩
abbrev S289x512x2048 : Shape := ⟨3, ![289, 512, 2048]⟩
abbrev S_ : Shape := ⟨0, ![]⟩
abbrev S289x1 : Shape := ⟨2, ![289, 1]⟩
abbrev S289x2048x4096 : Shape := ⟨3, ![289, 2048, 4096]⟩
abbrev S289x512x4096 : Shape := ⟨3, ![289, 512, 4096]⟩
abbrev S289x4096 : Shape := ⟨2, ![289, 4096]⟩
abbrev S289x1x4096 : Shape := ⟨3, ![289, 1, 4096]⟩
abbrev S289x1x1 : Shape := ⟨3, ![289, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S289, .i32⟩
  | .hbm, ⟨1, _⟩ => ⟨S1, .i32⟩
  | .hbm, ⟨2, _⟩ => ⟨S147968x2048, .bf16⟩
  | .hbm, ⟨3, _⟩ => ⟨S32x2048x4096, .f32⟩
  | .hbm, ⟨4, _⟩ => ⟨S32x4096, .f32⟩
  | .hbm, ⟨5, _⟩ => ⟨S147968x2048, .f32⟩
  | .hbm, ⟨6, _⟩ => ⟨S289x512x2048, .f32⟩
  | .hbm, ⟨7, _⟩ => ⟨S_, .i32⟩
  | .hbm, ⟨8, _⟩ => ⟨S289, .i32⟩
  | .hbm, ⟨9, _⟩ => ⟨S289, .i1⟩
  | .hbm, ⟨10, _⟩ => ⟨S_, .i32⟩
  | .hbm, ⟨11, _⟩ => ⟨S289, .i32⟩
  | .hbm, ⟨12, _⟩ => ⟨S289, .i32⟩
  | .hbm, ⟨13, _⟩ => ⟨S289, .i32⟩
  | .hbm, ⟨14, _⟩ => ⟨S289x1, .i32⟩
  | .hbm, ⟨15, _⟩ => ⟨S289x2048x4096, .f32⟩
  | .hbm, ⟨16, _⟩ => ⟨S289x512x4096, .f32⟩
  | .hbm, ⟨17, _⟩ => ⟨S_, .i32⟩
  | .hbm, ⟨18, _⟩ => ⟨S289, .i32⟩
  | .hbm, ⟨19, _⟩ => ⟨S289, .i1⟩
  | .hbm, ⟨20, _⟩ => ⟨S_, .i32⟩
  | .hbm, ⟨21, _⟩ => ⟨S289, .i32⟩
  | .hbm, ⟨22, _⟩ => ⟨S289, .i32⟩
  | .hbm, ⟨23, _⟩ => ⟨S289, .i32⟩
  | .hbm, ⟨24, _⟩ => ⟨S289x1, .i32⟩
  | .hbm, ⟨25, _⟩ => ⟨S289x4096, .f32⟩
  | .hbm, ⟨26, _⟩ => ⟨S289x1x4096, .f32⟩
  | .hbm, ⟨27, _⟩ => ⟨S289x512x4096, .f32⟩
  | .hbm, ⟨28, _⟩ => ⟨S289x512x4096, .f32⟩
  | .hbm, ⟨29, _⟩ => ⟨S289x512x2048, .f32⟩
  | .hbm, ⟨30, _⟩ => ⟨S_, .f32⟩
  | .hbm, ⟨31, _⟩ => ⟨S289x512x2048, .f32⟩
  | .hbm, ⟨32, _⟩ => ⟨S289x512x2048, .f32⟩
  | .hbm, ⟨33, _⟩ => ⟨S289x512x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S289x512x2048, .f32⟩
  | .hbm, ⟨38, _⟩ => ⟨S289x512x2048, .f32⟩
  | .hbm, ⟨39, _⟩ => ⟨S_, .f32⟩
  | .hbm, ⟨40, _⟩ => ⟨S289x512x2048, .f32⟩
  | .hbm, ⟨41, _⟩ => ⟨S289x512x2048, .f32⟩
  | .hbm, ⟨42, _⟩ => ⟨S_, .f32⟩
  | .hbm, ⟨43, _⟩ => ⟨S289x512x2048, .f32⟩
  | .hbm, ⟨44, _⟩ => ⟨S289x512x2048, .f32⟩
  | .hbm, ⟨45, _⟩ => ⟨S289x512x2048, .f32⟩
  | .hbm, ⟨46, _⟩ => ⟨S289x512x2048, .f32⟩
  | .hbm, ⟨47, _⟩ => ⟨S_, .f32⟩
  | .hbm, ⟨48, _⟩ => ⟨S289x512x2048, .f32⟩
  | .hbm, ⟨49, _⟩ => ⟨S289x512x2048, .f32⟩
  | .hbm, ⟨50, _⟩ => ⟨S_, .f32⟩
  | .hbm, ⟨51, _⟩ => ⟨S289x512x2048, .f32⟩
  | .hbm, ⟨52, _⟩ => ⟨S289x512x2048, .f32⟩
  | .hbm, ⟨53, _⟩ => ⟨S289x512x2048, .f32⟩
  | .hbm, ⟨54, _⟩ => ⟨S_, .f32⟩
  | .hbm, ⟨55, _⟩ => ⟨S289x512x2048, .f32⟩
  | .hbm, ⟨56, _⟩ => ⟨S289x512x2048, .f32⟩
  | .hbm, ⟨57, _⟩ => ⟨S289x512x2048, .f32⟩
  | .hbm, ⟨58, _⟩ => ⟨S289, .i32⟩
  | .hbm, ⟨59, _⟩ => ⟨S289, .i32⟩
  | .hbm, ⟨60, _⟩ => ⟨S289, .i1⟩
  | .hbm, ⟨61, _⟩ => ⟨S289x1x1, .i1⟩
  | .hbm, ⟨62, _⟩ => ⟨S_, .f32⟩
  | .hbm, ⟨63, _⟩ => ⟨S_, .f32⟩
  | .hbm, ⟨64, _⟩ => ⟨S289x512x2048, .i1⟩
  | .hbm, ⟨65, _⟩ => ⟨S289x512x2048, .f32⟩
  | .hbm, ⟨66, _⟩ => ⟨S289x512x2048, .f32⟩
  | .hbm, ⟨67, _⟩ => ⟨S147968x2048, .f32⟩
  | .hbm, ⟨68, _⟩ => ⟨S147968x2048, .bf16⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Down.lean ====
abbrev S289 : Shape := ⟨1, ![289]⟩
abbrev S1 : Shape := ⟨1, ![1]⟩
abbrev S147968x2048 : Shape := ⟨2, ![147968, 2048]⟩
abbrev S32x2048x2048 : Shape := ⟨3, ![32, 2048, 2048]⟩
abbrev S32x2048 : Shape := ⟨2, ![32, 2048]⟩
abbrev S147968 : Shape := ⟨1, ![147968]⟩
abbrev S32x1x2048 : Shape := ⟨3, ![32, 1, 2048]⟩
abbrev S147968x1 : Shape := ⟨2, ![147968, 1]⟩
abbrev S512x2048 : Shape := ⟨2, ![512, 2048]⟩
abbrev S1x2048x512 : Shape := ⟨3, ![1, 2048, 512]⟩
abbrev S1x1x512 : Shape := ⟨3, ![1, 1, 512]⟩
abbrev S512x1 : Shape := ⟨2, ![512, 1]⟩
abbrev S512x512 : Shape := ⟨2, ![512, 512]⟩
abbrev S2048x512 : Shape := ⟨2, ![2048, 512]⟩
abbrev S1x512 : Shape := ⟨2, ![1, 512]⟩

abbrev nBuf : Space → Nat
  | .hbm => 7
  | .vmem => 11
  | .smem => 2
  | _ => 0

abbrev bufTy : (tb : Table) → Fin (tcTables nBuf tb) → BufTy
  | .hbm, ⟨0, _⟩ => ⟨S147968x2048, .bf16⟩
  | .hbm, ⟨1, _⟩ => ⟨S32x2048x2048, .f32⟩
  | .hbm, ⟨2, _⟩ => ⟨S32x2048, .f32⟩
  | .hbm, ⟨3, _⟩ => ⟨S147968, .f32⟩
  | .hbm, ⟨4, _⟩ => ⟨S32x1x2048, .f32⟩
  | .hbm, ⟨5, _⟩ => ⟨S147968x1, .f32⟩
  | .hbm, ⟨6, _⟩ => ⟨S147968x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S512x1, .f32⟩
  | .local _ .vmem, ⟨7, _⟩ => ⟨S512x1, .f32⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .smem, ⟨0, _⟩ => ⟨S289, .i32⟩
  | .local _ .smem, ⟨1, _⟩ => ⟨S1, .i32⟩
  | _, _ => ⟨S147968x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 289], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S289) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S289 : Shape := ⟨1, ![289]⟩
abbrev S1 : Shape := ⟨1, ![1]⟩
abbrev S147968x2048 : Shape := ⟨2, ![147968, 2048]⟩
abbrev S32x2048x2048 : Shape := ⟨3, ![32, 2048, 2048]⟩
abbrev S32x2048 : Shape := ⟨2, ![32, 2048]⟩
abbrev S147968 : Shape := ⟨1, ![147968]⟩
abbrev S289x512x2048 : Shape := ⟨3, ![289, 512, 2048]⟩
abbrev S_ : Shape := ⟨0, ![]⟩
abbrev S289x1 : Shape := ⟨2, ![289, 1]⟩
abbrev S289x2048x2048 : Shape := ⟨3, ![289, 2048, 2048]⟩
abbrev S289x2048 : Shape := ⟨2, ![289, 2048]⟩
abbrev S289x1x2048 : Shape := ⟨3, ![289, 1, 2048]⟩
abbrev S289x512 : Shape := ⟨2, ![289, 512]⟩
abbrev S289x512x1 : Shape := ⟨3, ![289, 512, 1]⟩
abbrev S289x1x1 : Shape := ⟨3, ![289, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S289, .i32⟩
  | .hbm, ⟨1, _⟩ => ⟨S1, .i32⟩
  | .hbm, ⟨2, _⟩ => ⟨S147968x2048, .bf16⟩
  | .hbm, ⟨3, _⟩ => ⟨S32x2048x2048, .f32⟩
  | .hbm, ⟨4, _⟩ => ⟨S32x2048, .f32⟩
  | .hbm, ⟨5, _⟩ => ⟨S147968, .f32⟩
  | .hbm, ⟨6, _⟩ => ⟨S147968x2048, .f32⟩
  | .hbm, ⟨7, _⟩ => ⟨S289x512x2048, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x2048x2048, .f32⟩
  | .hbm, ⟨17, _⟩ => ⟨S289x512x2048, .f32⟩
  | .hbm, ⟨18, _⟩ => ⟨S_, .i32⟩
  | .hbm, ⟨19, _⟩ => ⟨S289, .i32⟩
  | .hbm, ⟨20, _⟩ => ⟨S289, .i1⟩
  | .hbm, ⟨21, _⟩ => ⟨S_, .i32⟩
  | .hbm, ⟨22, _⟩ => ⟨S289, .i32⟩
  | .hbm, ⟨23, _⟩ => ⟨S289, .i32⟩
  | .hbm, ⟨24, _⟩ => ⟨S289, .i32⟩
  | .hbm, ⟨25, _⟩ => ⟨S289x1, .i32⟩
  | .hbm, ⟨26, _⟩ => ⟨S289x2048, .f32⟩
  | .hbm, ⟨27, _⟩ => ⟨S289x1x2048, .f32⟩
  | .hbm, ⟨28, _⟩ => ⟨S289x512x2048, .f32⟩
  | .hbm, ⟨29, _⟩ => ⟨S289x512x2048, .f32⟩
  | .hbm, ⟨30, _⟩ => ⟨S289x512, .f32⟩
  | .hbm, ⟨31, _⟩ => ⟨S289x512x1, .f32⟩
  | .hbm, ⟨32, _⟩ => ⟨S289x512x2048, .f32⟩
  | .hbm, ⟨33, _⟩ => ⟨S289x512x2048, .f32⟩
  | .hbm, ⟨34, _⟩ => ⟨S289, .i32⟩
  | .hbm, ⟨35, _⟩ => ⟨S289, .i32⟩
  | .hbm, ⟨36, _⟩ => ⟨S289, .i1⟩
  | .hbm, ⟨37, _⟩ => ⟨S289x1x1, .i1⟩
  | .hbm, ⟨38, _⟩ => ⟨S_, .f32⟩
  | .hbm, ⟨39, _⟩ => ⟨S_, .f32⟩
  | .hbm, ⟨40, _⟩ => ⟨S289x512x2048, .i1⟩
  | .hbm, ⟨41, _⟩ => ⟨S289x512x2048, .f32⟩
  | .hbm, ⟨42, _⟩ => ⟨S289x512x2048, .f32⟩
  | .hbm, ⟨43, _⟩ => ⟨S147968x2048, .f32⟩
  | .hbm, ⟨44, _⟩ => ⟨S147968x2048, .bf16⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Inproj.lean ====
abbrev S16x2048x2048 : Shape := ⟨3, ![16, 2048, 2048]⟩
abbrev S2048 : Shape := ⟨1, ![2048]⟩
abbrev S16x1x2048 : Shape := ⟨3, ![16, 1, 2048]⟩
abbrev S2048x4640 : Shape := ⟨2, ![2048, 4640]⟩
abbrev S24 : Shape := ⟨1, ![24]⟩
abbrev S8 : Shape := ⟨1, ![8]⟩
abbrev S2048x1536 : Shape := ⟨2, ![2048, 1536]⟩
abbrev S2048x1024 : Shape := ⟨2, ![2048, 1024]⟩
abbrev S2048x4608 : Shape := ⟨2, ![2048, 4608]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S16x2048x4608 : Shape := ⟨3, ![16, 2048, 4608]⟩
abbrev S16x2048x1024 : Shape := ⟨3, ![16, 2048, 1024]⟩
abbrev S16x2048x512 : Shape := ⟨3, ![16, 2048, 512]⟩
abbrev S16x2048x128 : Shape := ⟨3, ![16, 2048, 128]⟩
abbrev S1x512x2048 : Shape := ⟨3, ![1, 512, 2048]⟩
abbrev S1x1x2048 : Shape := ⟨3, ![1, 1, 2048]⟩
abbrev S2048x512 : Shape := ⟨2, ![2048, 512]⟩
abbrev S1x512x512 : Shape := ⟨3, ![1, 512, 512]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S512x512 : Shape := ⟨2, ![512, 512]⟩

abbrev nBuf : Space → Nat
  | .hbm => 29
  | .vmem => 22
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x1x2048, .f32⟩
  | .hbm, ⟨3, _⟩ => ⟨S16x1x2048, .f32⟩
  | .hbm, ⟨4, _⟩ => ⟨S2048x4640, .f32⟩
  | .hbm, ⟨5, _⟩ => ⟨S24, .f32⟩
  | .hbm, ⟨6, _⟩ => ⟨S8, .f32⟩
  | .hbm, ⟨7, _⟩ => ⟨S2048x1536, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x4608, .f32⟩
  | .hbm, ⟨12, _⟩ => ⟨S2048x4608, .bf16⟩
  | .hbm, ⟨13, _⟩ => ⟨S2048x24, .f32⟩
  | .hbm, ⟨14, _⟩ => ⟨S2048x8, .f32⟩
  | .hbm, ⟨15, _⟩ => ⟨S_, .f32⟩
  | .hbm, ⟨16, _⟩ => ⟨S2048x96, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S96, .f32⟩
  | .hbm, ⟨21, _⟩ => ⟨S128, .f32⟩
  | .hbm, ⟨22, _⟩ => ⟨S1x128, .f32⟩
  | .hbm, ⟨23, _⟩ => ⟨S1x2048, .f32⟩
  | .hbm, ⟨24, _⟩ => ⟨S16x2048x4608, .bf16⟩
  | .hbm, ⟨25, _⟩ => ⟨S16x2048x1024, .f32⟩
  | .hbm, ⟨26, _⟩ => ⟨S16x2048x512, .f32⟩
  | .hbm, ⟨27, _⟩ => ⟨S16x2048x1024, .f32⟩
  | .hbm, ⟨28, _⟩ => ⟨S16x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x128, .bf16⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x128, .f32⟩
  | .local _ .vmem, ⟨20, _⟩ => ⟨S1x512x128, .f32⟩
  | .local _ .vmem, ⟨21, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![16, 4, 9], ![false, false, false]⟩

def k0_cond2 (i : grid0.Coords) : BitVec 1 :=
  let arg2 : BitVec 32 := BitVec.ofNat 32 (i 2).val
  let c2_i32 : BitVec 32 := 2#32
  let v11 : BitVec 1 := Scalar.cmpi .slt arg2 c2_i32
  let v12 : BitVec 32 := Scalar.extui v11
  let c0_i32_7 : BitVec 32 := 0#32
  let v13 : BitVec 1 := Scalar.cmpi .ne v12 c0_i32_7
  v13

def k0_cond3 (i : grid0.Coords) : BitVec 1 :=
  let arg2 : BitVec 32 := BitVec.ofNat 32 (i 2).val
  let c2_i32_8 : BitVec 32 := 2#32
  let v14 : BitVec 1 := Scalar.cmpi .eq arg2 c2_i32_8
  let v15 : BitVec 32 := Scalar.extui v14
  let c0_i32_9 : BitVec 32 := 0#32
  let v16 : BitVec 1 := Scalar.cmpi .ne v15 c0_i32_9
  v16

def k0_cond4 (i : grid0.Coords) : BitVec 1 :=
  let arg2 : BitVec 32 := BitVec.ofNat 32 (i 2).val
  let c3_i32 : BitVec 32 := 3#32
  let v17 : BitVec 1 := Scalar.cmpi .eq arg2 c3_i32
  let c4_i32 : BitVec 32 := 4#32
  let v18 : BitVec 1 := Scalar.cmpi .eq arg2 c4_i32
  let v19 : BitVec 1 := Scalar.ori v17 v18
  let v20 : BitVec 32 := Scalar.extui v19
  let c0_i32_10 : BitVec 32 := 0#32
  let v21 : BitVec 1 := Scalar.cmpi .ne v20 c0_i32_10
  v21

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== InprojRefIdeal.lean ====
abbrev S16x2048x2048 : Shape := ⟨3, ![16, 2048, 2048]⟩
abbrev S2048 : Shape := ⟨1, ![2048]⟩
abbrev S16x1x2048 : Shape := ⟨3, ![16, 1, 2048]⟩
abbrev S2048x4640 : Shape := ⟨2, ![2048, 4640]⟩
abbrev S24 : Shape := ⟨1, ![24]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x4640 : Shape := ⟨3, ![16, 2048, 4640]⟩
abbrev S16x2048x1024 : Shape := ⟨3, ![16, 2048, 1024]⟩
abbrev S16x2048x1536 : Shape := ⟨3, ![16, 2048, 1536]⟩
abbrev S16x2048x24 : Shape := ⟨3, ![16, 2048, 24]⟩
abbrev S16x2048x8 : Shape := ⟨3, ![16, 2048, 8]⟩
abbrev S1x1x24 : Shape := ⟨3, ![1, 1, 24]⟩
abbrev S1x1x8 : Shape := ⟨3, ![1, 1, 8]⟩
abbrev S16x2048x96 : Shape := ⟨3, ![16, 2048, 96]⟩
abbrev S16x2048x4608 : Shape := ⟨3, ![16, 2048, 4608]⟩
abbrev S16x2048x128 : Shape := ⟨3, ![16, 2048, 128]⟩
abbrev S16x2048x512 : Shape := ⟨3, ![16, 2048, 512]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S16x1x2048, .f32⟩
  | .hbm, ⟨3, _⟩ => ⟨S16x1x2048, .f32⟩
  | .hbm, ⟨4, _⟩ => ⟨S2048x4640, .f32⟩
  | .hbm, ⟨5, _⟩ => ⟨S24, .f32⟩
  | .hbm, ⟨6, _⟩ => ⟨S8, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x1x2048, .f32⟩
  | .hbm, ⟨25, _⟩ => ⟨S16x1x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x4640, .f32⟩
  | .hbm, ⟨31, _⟩ => ⟨S16x2048x1024, .f32⟩
  | .hbm, ⟨32, _⟩ => ⟨S16x2048x1536, .f32⟩
  | .hbm, ⟨33, _⟩ => ⟨S16x2048x24, .f32⟩
  | .hbm, ⟨34, _⟩ => ⟨S16x2048x1024, .f32⟩
  | .hbm, ⟨35, _⟩ => ⟨S16x2048x1024, .f32⟩
  | .hbm, ⟨36, _⟩ => ⟨S16x2048x8, .f32⟩
  | .hbm, ⟨37, _⟩ => ⟨S1x1x24, .f32⟩
  | .hbm, ⟨38, _⟩ => ⟨S16x2048x24, .f32⟩
  | .hbm, ⟨39, _⟩ => ⟨S16x2048x24, .f32⟩
  | .hbm, ⟨40, _⟩ => ⟨S16x2048x24, .f32⟩
  | .hbm, ⟨41, _⟩ => ⟨S16x2048x24, .f32⟩
  | .hbm, ⟨42, _⟩ => ⟨S_, .f32⟩
  | .hbm, ⟨43, _⟩ => ⟨S16x2048x24, .f32⟩
  | .hbm, ⟨44, _⟩ => ⟨S16x2048x24, .f32⟩
  | .hbm, ⟨45, _⟩ => ⟨S_, .f32⟩
  | .hbm, ⟨46, _⟩ => ⟨S16x2048x24, .f32⟩
  | .hbm, ⟨47, _⟩ => ⟨S16x2048x24, .f32⟩
  | .hbm, ⟨48, _⟩ => ⟨S1x1x8, .f32⟩
  | .hbm, ⟨49, _⟩ => ⟨S16x2048x8, .f32⟩
  | .hbm, ⟨50, _⟩ => ⟨S16x2048x8, .f32⟩
  | .hbm, ⟨51, _⟩ => ⟨S16x2048x8, .f32⟩
  | .hbm, ⟨52, _⟩ => ⟨S_, .f32⟩
  | .hbm, ⟨53, _⟩ => ⟨S16x2048x8, .f32⟩
  | .hbm, ⟨54, _⟩ => ⟨S16x2048x8, .f32⟩
  | .hbm, ⟨55, _⟩ => ⟨S16x2048x8, .f32⟩
  | .hbm, ⟨56, _⟩ => ⟨S16x2048x8, .f32⟩
  | .hbm, ⟨57, _⟩ => ⟨S16x2048x8, .i1⟩
  | .hbm, ⟨58, _⟩ => ⟨S16x2048x8, .f32⟩
  | .hbm, ⟨59, _⟩ => ⟨S16x2048x8, .f32⟩
  | .hbm, ⟨60, _⟩ => ⟨S16x2048x8, .f32⟩
  | .hbm, ⟨61, _⟩ => ⟨S16x2048x8, .f32⟩
  | .hbm, ⟨62, _⟩ => ⟨S16x2048x8, .f32⟩
  | .hbm, ⟨63, _⟩ => ⟨S16x2048x8, .f32⟩
  | .hbm, ⟨64, _⟩ => ⟨S16x2048x8, .f32⟩
  | .hbm, ⟨65, _⟩ => ⟨S16x2048x8, .f32⟩
  | .hbm, ⟨66, _⟩ => ⟨S16x2048x8, .f32⟩
  | .hbm, ⟨67, _⟩ => ⟨S_, .f32⟩
  | .hbm, ⟨68, _⟩ => ⟨S16x2048x96, .f32⟩
  | .hbm, ⟨69, _⟩ => ⟨S16x2048x96, .f32⟩
  | .hbm, ⟨70, _⟩ => ⟨S_, .f32⟩
  | .hbm, ⟨71, _⟩ => ⟨S16x2048x96, .f32⟩
  | .hbm, ⟨72, _⟩ => ⟨S16x2048x96, .f32⟩
  | .hbm, ⟨73, _⟩ => ⟨S16x2048x96, .f32⟩
  | .hbm, ⟨74, _⟩ => ⟨S16x2048x96, .f32⟩
  | .hbm, ⟨75, _⟩ => ⟨S16x2048x96, .i1⟩
  | .hbm, ⟨76, _⟩ => ⟨S16x2048x96, .f32⟩
  | .hbm, ⟨77, _⟩ => ⟨S16x2048x96, .f32⟩
  | .hbm, ⟨78, _⟩ => ⟨S16x2048x96, .f32⟩
  | .hbm, ⟨79, _⟩ => ⟨S16x2048x96, .f32⟩
  | .hbm, ⟨80, _⟩ => ⟨S16x2048x96, .f32⟩
  | .hbm, ⟨81, _⟩ => ⟨S16x2048x96, .f32⟩
  | .hbm, ⟨82, _⟩ => ⟨S16x2048x96, .f32⟩
  | .hbm, ⟨83, _⟩ => ⟨S16x2048x96, .f32⟩
  | .hbm, ⟨84, _⟩ => ⟨S16x2048x96, .f32⟩
  | .hbm, ⟨85, _⟩ => ⟨S16x2048x4608, .f32⟩
  | .hbm, ⟨86, _⟩ => ⟨S16x2048x4608, .bf16⟩
  | .hbm, ⟨87, _⟩ => ⟨S16x2048x128, .f32⟩
  | .hbm, ⟨88, _⟩ => ⟨S16x2048x1024, .f32⟩
  | .hbm, ⟨89, _⟩ => ⟨S16x2048x512, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x128 : Shape := ⟨3, ![16, 2048, 128]⟩
abbrev S16x2048x2048 : Shape := ⟨3, ![16, 2048, 2048]⟩
abbrev S2048 : Shape := ⟨1, ![2048]⟩
abbrev S2048x2048 : Shape := ⟨2, ![2048, 2048]⟩
abbrev S16x1x2048 : Shape := ⟨3, ![16, 1, 2048]⟩
abbrev S2048x32 : Shape := ⟨2, ![2048, 32]⟩
abbrev S32 : Shape := ⟨1, ![32]⟩
abbrev S_ : Shape := ⟨0, ![]⟩
abbrev S2048x96 : Shape := ⟨2, ![2048, 96]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S1x256x1024 : Shape := ⟨3, ![1, 256, 1024]⟩
abbrev S1x256x128 : Shape := ⟨3, ![1, 256, 128]⟩
abbrev S1x256x2048 : Shape := ⟨3, ![1, 256, 2048]⟩
abbrev S1x1x2048 : Shape := ⟨3, ![1, 1, 2048]⟩
abbrev S256x128 : Shape := ⟨2, ![256, 128]⟩
abbrev S256x1 : Shape := ⟨2, ![256, 1]⟩
abbrev S256x1024 : Shape := ⟨2, ![256, 1024]⟩
abbrev S1x1024 : Shape := ⟨2, ![1, 1024]⟩
abbrev S256 : Shape := ⟨1, ![256]⟩
abbrev S256x2048 : Shape := ⟨2, ![256, 2048]⟩

abbrev nBuf : Space → Nat
  | .hbm => 33
  | .vmem => 31
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S16x2048x128, .f32⟩
  | .hbm, ⟨5, _⟩ => ⟨S16x2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S16x1x2048, .f32⟩
  | .hbm, ⟨10, _⟩ => ⟨S2048, .f32⟩
  | .hbm, ⟨11, _⟩ => ⟨S16x1x2048, .f32⟩
  | .hbm, ⟨12, _⟩ => ⟨S16x1x2048, .f32⟩
  | .hbm, ⟨13, _⟩ => ⟨S2048x32, .f32⟩
  | .hbm, ⟨14, _⟩ => ⟨S32, .f32⟩
  | .hbm, ⟨15, _⟩ => ⟨S_, .f32⟩
  | .hbm, ⟨16, _⟩ => ⟨S2048x96, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S_, .f32⟩
  | .hbm, ⟨23, _⟩ => ⟨S96, .f32⟩
  | .hbm, ⟨24, _⟩ => ⟨S128, .f32⟩
  | .hbm, ⟨25, _⟩ => ⟨S1x128, .f32⟩
  | .hbm, ⟨26, _⟩ => ⟨S1x2048, .f32⟩
  | .hbm, ⟨27, _⟩ => ⟨S2048x2048, .bf16⟩
  | .hbm, ⟨28, _⟩ => ⟨S1x2048, .f32⟩
  | .hbm, ⟨29, _⟩ => ⟨S1x2048, .f32⟩
  | .hbm, ⟨30, _⟩ => ⟨S16x2048x2048, .f32⟩
  | .hbm, ⟨31, _⟩ => ⟨S16x2048x2048, .bf16⟩
  | .hbm, ⟨32, _⟩ => ⟨S16x2048x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x2048, .f32⟩
  | .local _ .vmem, ⟨11, _⟩ => ⟨S1x256x2048, .f32⟩
  | .local _ .vmem, ⟨12, _⟩ => ⟨S1x2048, .f32⟩
  | .local _ .vmem, ⟨13, _⟩ => ⟨S2048x2048, .bf16⟩
  | .local _ .vmem, ⟨14, _⟩ => ⟨S1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S2048x128, .bf16⟩
  | .local _ .vmem, ⟨23, _⟩ => ⟨S2048x128, .bf16⟩
  | .local _ .vmem, ⟨24, _⟩ => ⟨S1x128, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .bf16⟩
  | .local _ .vmem, ⟨28, _⟩ => ⟨S1x256x2048, .bf16⟩
  | .local _ .vmem, ⟨29, _⟩ => ⟨S1x256x128, .f32⟩
  | .local _ .vmem, ⟨30, _⟩ => ⟨S1x256x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeRefIdeal.lean ====
abbrev S16x2048x1024 : Shape := ⟨3, ![16, 2048, 1024]⟩
abbrev S16x2048x128 : Shape := ⟨3, ![16, 2048, 128]⟩
abbrev S16x2048x2048 : Shape := ⟨3, ![16, 2048, 2048]⟩
abbrev S2048 : Shape := ⟨1, ![2048]⟩
abbrev S2048x2048 : Shape := ⟨2, ![2048, 2048]⟩
abbrev S16x1x2048 : Shape := ⟨3, ![16, 1, 2048]⟩
abbrev S2048x32 : Shape := ⟨2, ![2048, 32]⟩
abbrev S32 : Shape := ⟨1, ![32]⟩
abbrev S16x2048x24 : Shape := ⟨3, ![16, 2048, 24]⟩
abbrev S16x2048x3x8 : Shape := ⟨4, ![16, 2048, 3, 8]⟩
abbrev S16x2048x3x8x1 : Shape := ⟨5, ![16, 2048, 3, 8, 1]⟩
abbrev S16x2048x1x8x1 : Shape := ⟨5, ![16, 2048, 1, 8, 1]⟩
abbrev S16x2048x8x1 : Shape := ⟨4, ![16, 2048, 8, 1]⟩
abbrev S16x2048x8x128 : Shape := ⟨4, ![16, 2048, 8, 128]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1x2048 : Shape := ⟨3, ![1, 1, 2048]⟩

abbrev nBuf : Space → Nat
  | .hbm => 119
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S16x2048x128, .f32⟩
  | .hbm, ⟨5, _⟩ => ⟨S16x2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S16x1x2048, .f32⟩
  | .hbm, ⟨10, _⟩ => ⟨S2048, .f32⟩
  | .hbm, ⟨11, _⟩ => ⟨S16x1x2048, .f32⟩
  | .hbm, ⟨12, _⟩ => ⟨S16x1x2048, .f32⟩
  | .hbm, ⟨13, _⟩ => ⟨S2048x32, .f32⟩
  | .hbm, ⟨14, _⟩ => ⟨S32, .f32⟩
  | .hbm, ⟨15, _⟩ => ⟨S16x2048x24, .f32⟩
  | .hbm, ⟨16, _⟩ => ⟨S16x2048x3x8, .f32⟩
  | .hbm, ⟨17, _⟩ => ⟨S16x2048x3x8x1, .f32⟩
  | .hbm, ⟨18, _⟩ => ⟨S16x2048x1x8x1, .f32⟩
  | .hbm, ⟨19, _⟩ => ⟨S16x2048x8x1, .f32⟩
  | .hbm, ⟨20, _⟩ => ⟨S16x2048x1024, .f32⟩
  | .hbm, ⟨21, _⟩ => ⟨S16x2048x8x128, .f32⟩
  | .hbm, ⟨22, _⟩ => ⟨S16x2048x8x128, .f32⟩
  | .hbm, ⟨23, _⟩ => ⟨S16x2048x8x128, .f32⟩
  | .hbm, ⟨24, _⟩ => ⟨S16x2048x1x8x1, .f32⟩
  | .hbm, ⟨25, _⟩ => ⟨S16x2048x8x1, .f32⟩
  | .hbm, ⟨26, _⟩ => ⟨S16x2048x1024, .f32⟩
  | .hbm, ⟨27, _⟩ => ⟨S16x2048x8x128, .f32⟩
  | .hbm, ⟨28, _⟩ => ⟨S16x2048x8x128, .f32⟩
  | .hbm, ⟨29, _⟩ => ⟨S16x2048x8x128, .f32⟩
  | .hbm, ⟨30, _⟩ => ⟨S16x2048x8x128, .f32⟩
  | .hbm, ⟨31, _⟩ => ⟨S16x2048x1x8x1, .f32⟩
  | .hbm, ⟨32, _⟩ => ⟨S16x2048x8x1, .f32⟩
  | .hbm, ⟨33, _⟩ => ⟨S16x2048x1024, .f32⟩
  | .hbm, ⟨34, _⟩ => ⟨S16x2048x8x128, .f32⟩
  | .hbm, ⟨35, _⟩ => ⟨S16x2048x8x128, .f32⟩
  | .hbm, ⟨36, _⟩ => ⟨S16x2048x8x128, .f32⟩
  | .hbm, ⟨37, _⟩ => ⟨S16x2048x8x128, .f32⟩
  | .hbm, ⟨38, _⟩ => ⟨S16x2048x1024, .f32⟩
  | .hbm, ⟨39, _⟩ => ⟨S1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S1024, .f32⟩
  | .hbm, ⟨58, _⟩ => ⟨S16x2048x1024, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x1, .f32⟩
  | .hbm, ⟨69, _⟩ => ⟨S16x2048x1024, .f32⟩
  | .hbm, ⟨70, _⟩ => ⟨S16x2048x1024, .f32⟩
  | .hbm, ⟨71, _⟩ => ⟨S1x1x1024, .f32⟩
  | .hbm, ⟨72, _⟩ => ⟨S16x2048x1024, .f32⟩
  | .hbm, ⟨73, _⟩ => ⟨S16x2048x1024, .f32⟩
  | .hbm, ⟨74, _⟩ => ⟨S16x2048x2048, .f32⟩
  | .hbm, ⟨75, _⟩ => ⟨S16x2048x2048, .f32⟩
  | .hbm, ⟨76, _⟩ => ⟨S16x2048x2048, .f32⟩
  | .hbm, ⟨77, _⟩ => ⟨S_, .f32⟩
  | .hbm, ⟨78, _⟩ => ⟨S16x2048, .f32⟩
  | .hbm, ⟨79, _⟩ => ⟨S16x2048x1, .f32⟩
  | .hbm, ⟨80, _⟩ => ⟨S_, .f32⟩
  | .hbm, ⟨81, _⟩ => ⟨S16x2048x1, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S16x2048x1, .f32⟩
  | .hbm, ⟨87, _⟩ => ⟨S16x2048x2048, .f32⟩
  | .hbm, ⟨88, _⟩ => ⟨S16x2048x2048, .f32⟩
  | .hbm, ⟨89, _⟩ => ⟨S1x1x2048, .f32⟩
  | .hbm, ⟨90, _⟩ => ⟨S16x2048x2048, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16x2048, .f32⟩
  | .hbm, ⟨98, _⟩ => ⟨S16x2048x1, .f32⟩
  | .hbm, ⟨99, _⟩ => ⟨S_, .f32⟩
  | .hbm, ⟨100, _⟩ => ⟨S16x2048x1, .f32⟩
  | .hbm, ⟨101, _⟩ => ⟨S16x2048x1, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1, .f32⟩
  | .hbm, ⟨106, _⟩ => ⟨S16x2048x2048, .f32⟩
  | .hbm, ⟨107, _⟩ => ⟨S16x2048x2048, .f32⟩
  | .hbm, ⟨108, _⟩ => ⟨S1x1x2048, .f32⟩
  | .hbm, ⟨109, _⟩ => ⟨S16x2048x2048, .f32⟩
  | .hbm, ⟨110, _⟩ => ⟨S16x2048x2048, .f32⟩
  | .hbm, ⟨111, _⟩ => ⟨S_, .f32⟩
  | .hbm, ⟨112, _⟩ => ⟨S16x1x2048, .f32⟩
  | .hbm, ⟨113, _⟩ => ⟨S16x1x2048, .f32⟩
  | .hbm, ⟨114, _⟩ => ⟨S16x2048x2048, .f32⟩
  | .hbm, ⟨115, _⟩ => ⟨S16x2048x2048, .f32⟩
  | .hbm, ⟨116, _⟩ => ⟨S16x2048x2048, .f32⟩
  | .hbm, ⟨117, _⟩ => ⟨S16x2048x2048, .f32⟩
  | .hbm, ⟨118, _⟩ => ⟨S16x2048x2048, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Final.lean ====
abbrev S4x16x2048x2048 : Shape := ⟨4, ![4, 16, 2048, 2048]⟩
abbrev S16x2048x2048 : Shape := ⟨3, ![16, 2048, 2048]⟩
abbrev S16x1x2048 : Shape := ⟨3, ![16, 1, 2048]⟩
abbrev S2048 : Shape := ⟨1, ![2048]⟩
abbrev S1x2048 : Shape := ⟨2, ![1, 2048]⟩
abbrev S4x1x512x2048 : Shape := ⟨4, ![4, 1, 512, 2048]⟩
abbrev S1x512x2048 : Shape := ⟨3, ![1, 512, 2048]⟩
abbrev S1x1x2048 : Shape := ⟨3, ![1, 1, 2048]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x16x2048x2048, .bf16⟩
  | .hbm, ⟨1, _⟩ => ⟨S16x2048x2048, .f32⟩
  | .hbm, ⟨2, _⟩ => ⟨S16x1x2048, .f32⟩
  | .hbm, ⟨3, _⟩ => ⟨S2048, .f32⟩
  | .hbm, ⟨4, _⟩ => ⟨S1x2048, .f32⟩
  | .hbm, ⟨5, _⟩ => ⟨S16x2048x2048, .f32⟩
  | .local _ .vmem, ⟨0, _⟩ => ⟨S4x1x512x2048, .bf16⟩
  | .local _ .vmem, ⟨1, _⟩ => ⟨S4x1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S4x16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S4x16x2048x2048 : Shape := ⟨4, ![4, 16, 2048, 2048]⟩
abbrev S16x2048x2048 : Shape := ⟨3, ![16, 2048, 2048]⟩
abbrev S16x1x2048 : Shape := ⟨3, ![16, 1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x16x2048x2048, .bf16⟩
  | .hbm, ⟨1, _⟩ => ⟨S16x2048x2048, .f32⟩
  | .hbm, ⟨2, _⟩ => ⟨S16x1x2048, .f32⟩
  | .hbm, ⟨3, _⟩ => ⟨S2048, .f32⟩
  | .hbm, ⟨4, _⟩ => ⟨S4x16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | _, _ => ⟨S4x16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== FinalSample.lean ====
abbrev S4x1x32x2048 : Shape := ⟨4, ![4, 1, 32, 2048]⟩
abbrev S1x32x2048 : Shape := ⟨3, ![1, 32, 2048]⟩
abbrev S2048 : Shape := ⟨1, ![2048]⟩
abbrev S1x2048 : Shape := ⟨2, ![1, 2048]⟩
abbrev S1x1x32x2048 : Shape := ⟨4, ![1, 1, 32, 2048]⟩
abbrev S32x2048 : Shape := ⟨2, ![32, 2048]⟩
abbrev S32 : Shape := ⟨1, ![32]⟩
abbrev S32x1 : Shape := ⟨2, ![32, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x1x32x2048, .bf16⟩
  | .hbm, ⟨1, _⟩ => ⟨S1x32x2048, .f32⟩
  | .hbm, ⟨2, _⟩ => ⟨S1x32x2048, .f32⟩
  | .hbm, ⟨3, _⟩ => ⟨S2048, .f32⟩
  | .hbm, ⟨4, _⟩ => ⟨S1x2048, .f32⟩
  | .hbm, ⟨5, _⟩ => ⟨S1x32x2048, .f32⟩
  | .local _ .vmem, ⟨0, _⟩ => ⟨S4x1x32x2048, .bf16⟩
  | .local _ .vmem, ⟨1, _⟩ => ⟨S1x32x2048, .f32⟩
  | .local _ .vmem, ⟨2, _⟩ => ⟨S1x32x2048, .f32⟩
  | .local _ .vmem, ⟨3, _⟩ => ⟨S1x2048, .f32⟩
  | .local _ .vmem, ⟨4, _⟩ => ⟨S1x32x2048, .f32⟩
  | _, _ => ⟨S4x1x32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x1x32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== FinalSampleRefIdeal.lean ====
abbrev S4x1x32x2048 : Shape := ⟨4, ![4, 1, 32, 2048]⟩
abbrev S1x32x2048 : Shape := ⟨3, ![1, 32, 2048]⟩
abbrev S2048 : Shape := ⟨1, ![2048]⟩
abbrev S_ : Shape := ⟨0, ![]⟩
abbrev S1x32 : Shape := ⟨2, ![1, 32]⟩
abbrev S1x32x1 : Shape := ⟨3, ![1, 32, 1]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x1x32x2048, .bf16⟩
  | .hbm, ⟨1, _⟩ => ⟨S1x32x2048, .f32⟩
  | .hbm, ⟨2, _⟩ => ⟨S1x32x2048, .f32⟩
  | .hbm, ⟨3, _⟩ => ⟨S2048, .f32⟩
  | .hbm, ⟨4, _⟩ => ⟨S4x1x32x2048, .f32⟩
  | .hbm, ⟨5, _⟩ => ⟨S_, .f32⟩
  | .hbm, ⟨6, _⟩ => ⟨S1x32x2048, .f32⟩
  | .hbm, ⟨7, _⟩ => ⟨S1x32x2048, .f32⟩
  | .hbm, ⟨8, _⟩ => ⟨S_, .f32⟩
  | .hbm, ⟨9, _⟩ => ⟨S1x32, .f32⟩
  | .hbm, ⟨10, _⟩ => ⟨S1x32x1, .f32⟩
  | .hbm, ⟨11, _⟩ => ⟨S_, .f32⟩
  | .hbm, ⟨12, _⟩ => ⟨S1x32x1, .f32⟩
  | .hbm, ⟨13, _⟩ => ⟨S1x32x1, .f32⟩
  | .hbm, ⟨14, _⟩ => ⟨S_, .f32⟩
  | .hbm, ⟨15, _⟩ => ⟨S1x32x1, .f32⟩
  | .hbm, ⟨16, _⟩ => ⟨S1x32x1, .f32⟩
  | .hbm, ⟨17, _⟩ => ⟨S1x32x1, .f32⟩
  | .hbm, ⟨18, _⟩ => ⟨S1x32x2048, .f32⟩
  | .hbm, ⟨19, _⟩ => ⟨S1x32x2048, .f32⟩
  | .hbm, ⟨20, _⟩ => ⟨S1x1x2048, .f32⟩
  | .hbm, ⟨21, _⟩ => ⟨S1x32x2048, .f32⟩
  | .hbm, ⟨22, _⟩ => ⟨S1x32x2048, .f32⟩
  | .hbm, ⟨23, _⟩ => ⟨S1x32x2048, .f32⟩
  | .hbm, ⟨24, _⟩ => ⟨S1x32x2048, .f32⟩
  | _, _ => ⟨S4x1x32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Win.lean ====
abbrev S32x1x1024 : Shape := ⟨3, ![32, 1, 1024]⟩
abbrev S32x512x512 : Shape := ⟨3, ![32, 512, 512]⟩
abbrev S32x1x512 : Shape := ⟨3, ![32, 1, 512]⟩
abbrev S1x1x1024 : Shape := ⟨3, ![1, 1, 1024]⟩
abbrev S1x512x512 : Shape := ⟨3, ![1, 512, 512]⟩
abbrev S1x1x512 : Shape := ⟨3, ![1, 1, 512]⟩
abbrev S512x512 : Shape := ⟨2, ![512, 512]⟩
abbrev S1x512 : Shape := ⟨2, ![1, 512]⟩
abbrev S1x1024 : Shape := ⟨2, ![1, 1024]⟩
abbrev S512x128 : Shape := ⟨2, ![512, 128]⟩
abbrev S1x128 : Shape := ⟨2, ![1, 128]⟩
abbrev S4x128 : Shape := ⟨2, ![4, 128]⟩
abbrev S8x128 : Shape := ⟨2, ![8, 128]⟩
abbrev S8x512 : Shape := ⟨2, ![8, 512]⟩
abbrev S8x1 : Shape := ⟨2, ![8, 1]⟩
abbrev S8 : Shape := ⟨1, ![8]⟩
abbrev S1x1x128 : Shape := ⟨3, ![1, 1, 128]⟩

abbrev nBuf : Space → Nat
  | .hbm => 5
  | .vmem => 10
  | .smem => 0
  | _ => 0

abbrev bufTy : (tb : Table) → Fin (tcTables nBuf tb) → BufTy
  | .hbm, ⟨0, _⟩ => ⟨S32x1x1024, .bf16⟩
  | .hbm, ⟨1, _⟩ => ⟨S32x512x512, .f32⟩
  | .hbm, ⟨2, _⟩ => ⟨S32x1x512, .f32⟩
  | .hbm, ⟨3, _⟩ => ⟨S32x1x1024, .bf16⟩
  | .hbm, ⟨4, _⟩ => ⟨S32x512x512, .f32⟩
  | .local _ .vmem, ⟨0, _⟩ => ⟨S1x1x1024, .bf16⟩
  | .local _ .vmem, ⟨1, _⟩ => ⟨S1x1x1024, .bf16⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1024, .bf16⟩
  | .local _ .vmem, ⟨7, _⟩ => ⟨S1x1x1024, .bf16⟩
  | .local _ .vmem, ⟨8, _⟩ => ⟨S1x512x512, .f32⟩
  | .local _ .vmem, ⟨9, _⟩ => ⟨S1x512x512, .f32⟩
  | _, _ => ⟨S32x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WinRefIdeal.lean ====
abbrev S32x1x1024 : Shape := ⟨3, ![32, 1, 1024]⟩
abbrev S32x512x512 : Shape := ⟨3, ![32, 512, 512]⟩
abbrev S32x1x512 : Shape := ⟨3, ![32, 1, 512]⟩
abbrev S32x513x512 : Shape := ⟨3, ![32, 513, 512]⟩
abbrev S32x512x2x2x128 : Shape := ⟨5, ![32, 512, 2, 2, 128]⟩
abbrev S32x2x4x128 : Shape := ⟨4, ![32, 2, 4, 128]⟩
abbrev S8 : Shape := ⟨1, ![8]⟩
abbrev S_ : Shape := ⟨0, ![]⟩
abbrev S2x4 : Shape := ⟨2, ![2, 4]⟩
abbrev S512 : Shape := ⟨1, ![512]⟩
abbrev S32x512x1x2x128 : Shape := ⟨5, ![32, 512, 1, 2, 128]⟩
abbrev S32x512x2x128 : Shape := ⟨4, ![32, 512, 2, 128]⟩
abbrev S32x2x4x512 : Shape := ⟨4, ![32, 2, 4, 512]⟩
abbrev S1x2x4x1 : Shape := ⟨4, ![1, 2, 4, 1]⟩
abbrev S1x1x1x512 : Shape := ⟨4, ![1, 1, 1, 512]⟩
abbrev S1x2x4x512 : Shape := ⟨4, ![1, 2, 4, 512]⟩
abbrev S32x2x4 : Shape := ⟨3, ![32, 2, 4]⟩
abbrev S32x2x4x1 : Shape := ⟨4, ![32, 2, 4, 1]⟩

abbrev nBuf : Space → Nat
  | .hbm => 54
  | .vmem => 0
  | .smem => 0
  | _ => 0

abbrev bufTy : (tb : Table) → Fin (tcTables nBuf tb) → BufTy
  | .hbm, ⟨0, _⟩ => ⟨S32x1x1024, .bf16⟩
  | .hbm, ⟨1, _⟩ => ⟨S32x512x512, .f32⟩
  | .hbm, ⟨2, _⟩ => ⟨S32x1x512, .f32⟩
  | .hbm, ⟨3, _⟩ => ⟨S32x513x512, .f32⟩
  | .hbm, ⟨4, _⟩ => ⟨S32x512x512, .f32⟩
  | .hbm, ⟨5, _⟩ => ⟨S32x512x2x2x128, .f32⟩
  | .hbm, ⟨6, _⟩ => ⟨S32x1x1024, .f32⟩
  | .hbm, ⟨7, _⟩ => ⟨S32x2x4x128, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2x4, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S32x512x1x2x128, .f32⟩
  | .hbm, ⟨22, _⟩ => ⟨S32x512x2x128, .f32⟩
  | .hbm, ⟨23, _⟩ => ⟨S32x2x4x512, .f32⟩
  | .hbm, ⟨24, _⟩ => ⟨S_, .f32⟩
  | .hbm, ⟨25, _⟩ => ⟨S32x2x4x512, .f32⟩
  | .hbm, ⟨26, _⟩ => ⟨S32x2x4x512, .f32⟩
  | .hbm, ⟨27, _⟩ => ⟨S1x2x4x1, .f32⟩
  | .hbm, ⟨28, _⟩ => ⟨S512, .f32⟩
  | .hbm, ⟨29, _⟩ => ⟨S1x1x1x512, .f32⟩
  | .hbm, ⟨30, _⟩ => ⟨S1x2x4x512, .f32⟩
  | .hbm, ⟨31, _⟩ => ⟨S1x2x4x512, .f32⟩
  | .hbm, ⟨32, _⟩ => ⟨S1x2x4x512, .f32⟩
  | .hbm, ⟨33, _⟩ => ⟨S32x2x4x512, .f32⟩
  | .hbm, ⟨34, _⟩ => ⟨S32x2x4x512, .f32⟩
  | .hbm, ⟨35, _⟩ => ⟨S_, .f32⟩
  | .hbm, ⟨36, _⟩ => ⟨S32x2x4, .f32⟩
  | .hbm, ⟨37, _⟩ => ⟨S32x2x4x1, .f32⟩
  | .hbm, ⟨38, _⟩ => ⟨S32x2x4x512, .f32⟩
  | .hbm, ⟨39, _⟩ => ⟨S32x2x4x512, .f32⟩
  | .hbm, ⟨40, _⟩ => ⟨S32x2x4x512, .f32⟩
  | .hbm, ⟨41, _⟩ => ⟨S_, .f32⟩
  | .hbm, ⟨42, _⟩ => ⟨S32x2x4, .f32⟩
  | .hbm, ⟨43, _⟩ => ⟨S32x2x4x1, .f32⟩
  | .hbm, ⟨44, _⟩ => ⟨S_, .f32⟩
  | .hbm, ⟨45, _⟩ => ⟨S32x2x4x1, .f32⟩
  | .hbm, ⟨46, _⟩ => ⟨S32x2x4x1, .f32⟩
  | .hbm, ⟨47, _⟩ => ⟨S32x2x4x512, .f32⟩
  | .hbm, ⟨48, _⟩ => ⟨S32x2x4x512, .f32⟩
  | .hbm, ⟨49, _⟩ => ⟨S32x512x1x2x128, .f32⟩
  | .hbm, ⟨50, _⟩ => ⟨S32x512x2x128, .f32⟩
  | .hbm, ⟨51, _⟩ => ⟨S32x2x4x128, .f32⟩
  | .hbm, ⟨52, _⟩ => ⟨S32x1x1024, .f32⟩
  | .hbm, ⟨53, _⟩ => ⟨S32x1x1024, .bf16⟩
  | _, _ => ⟨S32x1x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== InprojSample.lean ====
abbrev S1x32x2048 : Shape := ⟨3, ![1, 32, 2048]⟩
abbrev S2048 : Shape := ⟨1, ![2048]⟩
abbrev S2048x4640 : Shape := ⟨2, ![2048, 4640]⟩
abbrev S24 : Shape := ⟨1, ![24]⟩
abbrev S8 : Shape := ⟨1, ![8]⟩
abbrev S2048x1536 : Shape := ⟨2, ![2048, 1536]⟩
abbrev S2048x1024 : Shape := ⟨2, ![2048, 1024]⟩
abbrev S2048x4608 : Shape := ⟨2, ![2048, 4608]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S1x32x4608 : Shape := ⟨3, ![1, 32, 4608]⟩
abbrev S1x32x1024 : Shape := ⟨3, ![1, 32, 1024]⟩
abbrev S1x32x512 : Shape := ⟨3, ![1, 32, 512]⟩
abbrev S1x32x128 : Shape := ⟨3, ![1, 32, 128]⟩
abbrev S2048x512 : Shape := ⟨2, ![2048, 512]⟩
abbrev S32x2048 : Shape := ⟨2, ![32, 2048]⟩
abbrev S32 : Shape := ⟨1, ![32]⟩
abbrev S32x1 : Shape := ⟨2, ![32, 1]⟩
abbrev S32x128 : Shape := ⟨2, ![32, 128]⟩
abbrev S32x512 : Shape := ⟨2, ![32, 512]⟩

abbrev nBuf : Space → Nat
  | .hbm => 29
  | .vmem => 17
  | .smem => 0
  | _ => 0

abbrev bufTy : (tb : Table) → Fin (tcTables nBuf tb) → BufTy
  | .hbm, ⟨0, _⟩ => ⟨S1x32x2048, .f32⟩
  | .hbm, ⟨1, _⟩ => ⟨S2048, .f32⟩
  | .hbm, ⟨2, _⟩ => ⟨S1x32x2048, .f32⟩
  | .hbm, ⟨3, _⟩ => ⟨S1x32x2048, .f32⟩
  | .hbm, ⟨4, _⟩ => ⟨S2048x4640, .f32⟩
  | .hbm, ⟨5, _⟩ => ⟨S24, .f32⟩
  | .hbm, ⟨6, _⟩ => ⟨S8, .f32⟩
  | .hbm, ⟨7, _⟩ => ⟨S2048x1536, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x4608, .f32⟩
  | .hbm, ⟨12, _⟩ => ⟨S2048x4608, .bf16⟩
  | .hbm, ⟨13, _⟩ => ⟨S2048x24, .f32⟩
  | .hbm, ⟨14, _⟩ => ⟨S2048x8, .f32⟩
  | .hbm, ⟨15, _⟩ => ⟨S_, .f32⟩
  | .hbm, ⟨16, _⟩ => ⟨S2048x96, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S96, .f32⟩
  | .hbm, ⟨21, _⟩ => ⟨S128, .f32⟩
  | .hbm, ⟨22, _⟩ => ⟨S1x128, .f32⟩
  | .hbm, ⟨23, _⟩ => ⟨S1x2048, .f32⟩
  | .hbm, ⟨24, _⟩ => ⟨S1x32x4608, .bf16⟩
  | .hbm, ⟨25, _⟩ => ⟨S1x32x1024, .f32⟩
  | .hbm, ⟨26, _⟩ => ⟨S1x32x512, .f32⟩
  | .hbm, ⟨27, _⟩ => ⟨S1x32x1024, .f32⟩
  | .hbm, ⟨28, _⟩ => ⟨S1x32x128, .f32⟩
  | .local _ .vmem, ⟨0, _⟩ => ⟨S1x32x2048, .f32⟩
  | .local _ .vmem, ⟨1, _⟩ => ⟨S1x2048, .f32⟩
  | .local _ .vmem, ⟨2, _⟩ => ⟨S1x32x2048, .f32⟩
  | .local _ .vmem, ⟨3, _⟩ => ⟨S1x32x2048, .f32⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S1x128, .f32⟩
  | .local _ .vmem, ⟨8, _⟩ => ⟨S1x32x512, .bf16⟩
  | .local _ .vmem, ⟨9, _⟩ => ⟨S1x32x512, .bf16⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S1x32x512, .f32⟩
  | .local _ .vmem, ⟨15, _⟩ => ⟨S1x32x128, .f32⟩
  | .local _ .vmem, ⟨16, _⟩ => ⟨S32x2048, .bf16⟩
  | _, _ => ⟨S1x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c2_i32 : BitVec 32 := 2#32
  let v11 : BitVec 1 := Scalar.cmpi .slt arg2 c2_i32
  let v12 : BitVec 32 := Scalar.extui v11
  let c0_i32_7 : BitVec 32 := 0#32
  let v13 : BitVec 1 := Scalar.cmpi .ne v12 c0_i32_7
  v13

def k0_cond3 (i : grid0.Coords) : BitVec 1 :=
  let arg2 : BitVec 32 := BitVec.ofNat 32 (i 2).val
  let c2_i32_8 : BitVec 32 := 2#32
  let v14 : BitVec 1 := Scalar.cmpi .eq arg2 c2_i32_8
  let v15 : BitVec 32 := Scalar.extui v14
  let c0_i32_9 : BitVec 32 := 0#32
  let v16 : BitVec 1 := Scalar.cmpi .ne v15 c0_i32_9
  v16

def k0_cond4 (i : grid0.Coords) : BitVec 1 :=
  let arg2 : BitVec 32 := BitVec.ofNat 32 (i 2).val
  let c3_i32 : BitVec 32 := 3#32
  let v17 : BitVec 1 := Scalar.cmpi .eq arg2 c3_i32
  let c4_i32 : BitVec 32 := 4#32
  let v18 : BitVec 1 := Scalar.cmpi .eq arg2 c4_i32
  let v19 : BitVec 1 := Scalar.ori v17 v18
  let v20 : BitVec 32 := Scalar.extui v19
  let c0_i32_10 : BitVec 32 := 0#32
  let v21 : BitVec 1 := Scalar.cmpi .ne v20 c0_i32_10
  v21

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true, false]

abbrev stage0_10 : Fin 2 → Memref sig .tc .vmem S1x32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 1 → Memref sig .tc .vmem S1x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true, false]
-- ==== InprojSampleRefIdeal.lean ====
abbrev S1x32x2048 : Shape := ⟨3, ![1, 32, 2048]⟩
abbrev S2048 : Shape := ⟨1, ![2048]⟩
abbrev S2048x4640 : Shape := ⟨2, ![2048, 4640]⟩
abbrev S24 : Shape := ⟨1, ![24]⟩
abbrev S8 : Shape := ⟨1, ![8]⟩
abbrev S_ : Shape := ⟨0, ![]⟩
abbrev S1x32 : Shape := ⟨2, ![1, 32]⟩
abbrev S1x32x1 : Shape := ⟨3, ![1, 32, 1]⟩
abbrev S1x1x2048 : Shape := ⟨3, ![1, 1, 2048]⟩
abbrev S1x32x4640 : Shape := ⟨3, ![1, 32, 4640]⟩
abbrev S1x32x1024 : Shape := ⟨3, ![1, 32, 1024]⟩
abbrev S1x32x1536 : Shape := ⟨3, ![1, 32, 1536]⟩
abbrev S1x32x24 : Shape := ⟨3, ![1, 32, 24]⟩
abbrev S1x32x8 : Shape := ⟨3, ![1, 32, 8]⟩
abbrev S1x1x24 : Shape := ⟨3, ![1, 1, 24]⟩
abbrev S1x1x8 : Shape := ⟨3, ![1, 1, 8]⟩
abbrev S1x32x96 : Shape := ⟨3, ![1, 32, 96]⟩
abbrev S1x32x4608 : Shape := ⟨3, ![1, 32, 4608]⟩
abbrev S1x32x128 : Shape := ⟨3, ![1, 32, 128]⟩
abbrev S1x32x512 : Shape := ⟨3, ![1, 32, 512]⟩

abbrev nBuf : Space → Nat
  | .hbm => 88
  | .vmem => 0
  | .smem => 0
  | _ => 0

abbrev bufTy : (tb : Table) → Fin (tcTables nBuf tb) → BufTy
  | .hbm, ⟨0, _⟩ => ⟨S1x32x2048, .f32⟩
  | .hbm, ⟨1, _⟩ => ⟨S2048, .f32⟩
  | .hbm, ⟨2, _⟩ => ⟨S1x32x2048, .f32⟩
  | .hbm, ⟨3, _⟩ => ⟨S1x32x2048, .f32⟩
  | .hbm, ⟨4, _⟩ => ⟨S2048x4640, .f32⟩
  | .hbm, ⟨5, _⟩ => ⟨S24, .f32⟩
  | .hbm, ⟨6, _⟩ => ⟨S8, .f32⟩
  | .hbm, ⟨7, _⟩ => ⟨S1x32x2048, .f32⟩
  | .hbm, ⟨8, _⟩ => ⟨S_, .f32⟩
  | .hbm, ⟨9, _⟩ => ⟨S1x32, .f32⟩
  | .hbm, ⟨10, _⟩ => ⟨S1x32x1, .f32⟩
  | .hbm, ⟨11, _⟩ => ⟨S_, .f32⟩
  | .hbm, ⟨12, _⟩ => ⟨S1x32x1, .f32⟩
  | .hbm, ⟨13, _⟩ => ⟨S1x32x1, .f32⟩
  | .hbm, ⟨14, _⟩ => ⟨S_, .f32⟩
  | .hbm, ⟨15, _⟩ => ⟨S1x32x1, .f32⟩
  | .hbm, ⟨16, _⟩ => ⟨S1x32x1, .f32⟩
  | .hbm, ⟨17, _⟩ => ⟨S1x32x1, .f32⟩
  | .hbm, ⟨18, _⟩ => ⟨S1x32x2048, .f32⟩
  | .hbm, ⟨19, _⟩ => ⟨S1x32x2048, .f32⟩
  | .hbm, ⟨20, _⟩ => ⟨S1x1x2048, .f32⟩
  | .hbm, ⟨21, _⟩ => ⟨S1x32x2048, .f32⟩
  | .hbm, ⟨22, _⟩ => ⟨S1x32x2048, .f32⟩
  | .hbm, ⟨23, _⟩ => ⟨S_, .f32⟩
  | .hbm, ⟨24, _⟩ => ⟨S1x32x2048, .f32⟩
  | .hbm, ⟨25, _⟩ => ⟨S1x32x2048, .f32⟩
  | .hbm, ⟨26, _⟩ => ⟨S1x32x2048, .f32⟩
  | .hbm, ⟨27, _⟩ => ⟨S1x32x2048, .f32⟩
  | .hbm, ⟨28, _⟩ => ⟨S1x32x4640, .f32⟩
  | .hbm, ⟨29, _⟩ => ⟨S1x32x1024, .f32⟩
  | .hbm, ⟨30, _⟩ => ⟨S1x32x1536, .f32⟩
  | .hbm, ⟨31, _⟩ => ⟨S1x32x24, .f32⟩
  | .hbm, ⟨32, _⟩ => ⟨S1x32x1024, .f32⟩
  | .hbm, ⟨33, _⟩ => ⟨S1x32x1024, .f32⟩
  | .hbm, ⟨34, _⟩ => ⟨S1x32x8, .f32⟩
  | .hbm, ⟨35, _⟩ => ⟨S1x1x24, .f32⟩
  | .hbm, ⟨36, _⟩ => ⟨S1x32x24, .f32⟩
  | .hbm, ⟨37, _⟩ => ⟨S1x32x24, .f32⟩
  | .hbm, ⟨38, _⟩ => ⟨S1x32x24, .f32⟩
  | .hbm, ⟨39, _⟩ => ⟨S1x32x24, .f32⟩
  | .hbm, ⟨40, _⟩ => ⟨S_, .f32⟩
  | .hbm, ⟨41, _⟩ => ⟨S1x32x24, .f32⟩
  | .hbm, ⟨42, _⟩ => ⟨S1x32x24, .f32⟩
  | .hbm, ⟨43, _⟩ => ⟨S_, .f32⟩
  | .hbm, ⟨44, _⟩ => ⟨S1x32x24, .f32⟩
  | .hbm, ⟨45, _⟩ => ⟨S1x32x24, .f32⟩
  | .hbm, ⟨46, _⟩ => ⟨S1x1x8, .f32⟩
  | .hbm, ⟨47, _⟩ => ⟨S1x32x8, .f32⟩
  | .hbm, ⟨48, _⟩ => ⟨S1x32x8, .f32⟩
  | .hbm, ⟨49, _⟩ => ⟨S1x32x8, .f32⟩
  | .hbm, ⟨50, _⟩ => ⟨S_, .f32⟩
  | .hbm, ⟨51, _⟩ => ⟨S1x32x8, .f32⟩
  | .hbm, ⟨52, _⟩ => ⟨S1x32x8, .f32⟩
  | .hbm, ⟨53, _⟩ => ⟨S1x32x8, .f32⟩
  | .hbm, ⟨54, _⟩ => ⟨S1x32x8, .f32⟩
  | .hbm, ⟨55, _⟩ => ⟨S1x32x8, .i1⟩
  | .hbm, ⟨56, _⟩ => ⟨S1x32x8, .f32⟩
  | .hbm, ⟨57, _⟩ => ⟨S1x32x8, .f32⟩
  | .hbm, ⟨58, _⟩ => ⟨S1x32x8, .f32⟩
  | .hbm, ⟨59, _⟩ => ⟨S1x32x8, .f32⟩
  | .hbm, ⟨60, _⟩ => ⟨S1x32x8, .f32⟩
  | .hbm, ⟨61, _⟩ => ⟨S1x32x8, .f32⟩
  | .hbm, ⟨62, _⟩ => ⟨S1x32x8, .f32⟩
  | .hbm, ⟨63, _⟩ => ⟨S1x32x8, .f32⟩
  | .hbm, ⟨64, _⟩ => ⟨S1x32x8, .f32⟩
  | .hbm, ⟨65, _⟩ => ⟨S_, .f32⟩
  | .hbm, ⟨66, _⟩ => ⟨S1x32x96, .f32⟩
  | .hbm, ⟨67, _⟩ => ⟨S1x32x96, .f32⟩
  | .hbm, ⟨68, _⟩ => ⟨S_, .f32⟩
  | .hbm, ⟨69, _⟩ => ⟨S1x32x96, .f32⟩
  | .hbm, ⟨70, _⟩ => ⟨S1x32x96, .f32⟩
  | .hbm, ⟨71, _⟩ => ⟨S1x32x96, .f32⟩
  | .hbm, ⟨72, _⟩ => ⟨S1x32x96, .f32⟩
  | .hbm, ⟨73, _⟩ => ⟨S1x32x96, .i1⟩
  | .hbm, ⟨74, _⟩ => ⟨S1x32x96, .f32⟩
  | .hbm, ⟨75, _⟩ => ⟨S1x32x96, .f32⟩
  | .hbm, ⟨76, _⟩ => ⟨S1x32x96, .f32⟩
  | .hbm, ⟨77, _⟩ => ⟨S1x32x96, .f32⟩
  | .hbm, ⟨78, _⟩ => ⟨S1x32x96, .f32⟩
  | .hbm, ⟨79, _⟩ => ⟨S1x32x96, .f32⟩
  | .hbm, ⟨80, _⟩ => ⟨S1x32x96, .f32⟩
  | .hbm, ⟨81, _⟩ => ⟨S1x32x96, .f32⟩
  | .hbm, ⟨82, _⟩ => ⟨S1x32x96, .f32⟩
  | .hbm, ⟨83, _⟩ => ⟨S1x32x4608, .f32⟩
  | .hbm, ⟨84, _⟩ => ⟨S1x32x4608, .bf16⟩
  | .hbm, ⟨85, _⟩ => ⟨S1x32x128, .f32⟩
  | .hbm, ⟨86, _⟩ => ⟨S1x32x1024, .f32⟩
  | .hbm, ⟨87, _⟩ => ⟨S1x32x512, .f32⟩
  | _, _ => ⟨S1x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩

abbrev nD : Nat := 1
abbrev τ : Topo := Topo.v7x

variable {F : FTy → Type} [FloatOps F]
-- ==== Proof.Range.lean ====
module

public import Idealize.ShloMosaic.Lib.WordCmp

@[expose] public section

/-! # A word between zero and thirty-two, read as a natural number -/

namespace Cert.Range

open Idealize.ShloMosaic

/-- A 32-bit word that two signed comparisons put between `0` and `32` is below `32` as a natural number too. -/
theorem toNat_lt (x : BitVec 32) (h : IntOp.andi (IntOp.cmpi .sge x 0#32) (IntOp.cmpi .slt x 32#32) = 1#1) : x.toNat < 32 := by
  have e : IntOp.andi (BitVec.ofBool (decide ((0#32 : BitVec 32).toInt ≤ x.toInt))) (BitVec.ofBool (decide (x.toInt < (32#32 : BitVec 32).toInt))) = 1#1 := h
  rw [WordCmp.andi_ofBool, WordCmp.ofBool_eq_one_iff, Bool.and_eq_true, decide_eq_true_iff, decide_eq_true_iff] at e
  have h0 : (0#32 : BitVec 32).toInt = 0 := rfl
  have h1 : (32#32 : BitVec 32).toInt = 32 := rfl
  have hx := BitVec.toInt_eq_toNat_cond x
  have hlt := x.isLt
  rw [h0, h1] at e
  split at hx <;> omega

end Cert.Range

end
-- ==== Proof.UpSame.lean ====
module

public import proofs.«01_k».proof.Proof.Gen.Up
public import proofs.«01_k».proof.Proof.Gen.UpIdeal

@[expose] public section

set_option maxRecDepth 16384

noncomputable section

/-! # The routed gated product and its idealization are one program

No operation was rewritten, so that what holds of the idealized program at every kind of floats holds of the kernel. -/

namespace Cert.Up.Same

open Idealize.ShloMosaic

variable {F : FTy → Type} [FloatOps F]

/-- The bodies are equal, -/
theorem body_eq : @Up.cc0_moe_up F _ _ = @UpIdeal.cc0_moe_up F _ _ := rfl

/-- so are the tables of bodies -/
theorem defs₀_eq : Up.defs₀ (F := F) = UpIdeal.defs₀ (F := F) := by
  unfold Up.defs₀ UpIdeal.defs₀
  refine congrArg Defs.onTc ?_
  funext l x
  match l, x with
  | 0, (t, s) =>
    show @Up.cc0_moe_up F _ _ _ _ _ _ _ _ _ _ _ _ _ _ _ _ _ _ _ _ _ _ _ = _
    rw [body_eq]
    rfl

/-- and the tables with the calls' pipelines, -/
theorem defs_eq : Up.defs (F := F) = UpIdeal.defs (F := F) := congrArg (Pipeline.defs UpIdeal.pcfgs) defs₀_eq

/-- and the host code is the same. -/
theorem main_eq : Up.main (F := F) = UpIdeal.main (F := F) := rfl

end Cert.Up.Same

end
-- ==== Proof.UpIdeal.Points.lean ====
/- The call's grid and windows: at which points a window is fetched or written back where that depends on no table, and the
   body as the pipeline calls it at a point. -/
module

public import proofs.«01_k».proof.Proof.Gen.UpIdeal
public import Idealize.ShloMosaic.Lib.Pipeline.Kit

@[expose] public section

noncomputable section

namespace Cert.UpIdeal.Gen

open Idealize.ShloMosaic Idealize.ShloMosaic.TcCoe
open Idealize.SL Idealize.SL.Sem

variable {F : FTy → Type} [FloatOps F]
/-! ## custom_call 0 -/

/-! The memrefs and the body are stated over the pipeline at any admissible contents `a` of the prefetched tables. A window
    whose index map reads no table has the same schedule at every `a`. -/

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 5 (result 0 (%1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

end Cert.UpIdeal.Gen

end
-- ==== Proof.UpIdeal.Runs.lean ====
/- What the launch finds and hands over: the arrays when the region is entered, the prefetched tables, the windows' blocks,
   the scratch operands, and how the arguments are read off the final state. -/
module

public import proofs.«01_k».proof.Proof.Gen.UpIdeal.Launch
public import proofs.«01_k».proof.Proof.Gen.UpIdeal.Skeleton
public import proofs.«01_k».proof.Proof.UpIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the call, then the call's region at the contents they leave. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The side condition of the tables' contents: every window whose index map reads a table has its block inside the array at
    every point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S289 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c` held at half the full share at `f`: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves that the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point, fetched there or not, for any proof data whose array is the
    one found at entry and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, fetched there or not, for any proof data whose array is the
    one found at entry and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, fetched there or not, for any proof data whose array is the
    one found at entry and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, fetched there or not, for any proof data whose array is the
    one found at entry and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, fetched there or not, for any proof data whose array is the
    one found at entry and whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array at the proof data's contents to one that ends with the arguments unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 2).trans (((dats 0 c).arrAt_in 2 rfl _).trans ((hA c 2).trans (V_main_arg3 m c))),
      ((h c).2 main_arg4 (by decide : main_arg4 ∈ Pipeline.restRefs sig spec0)).trans (V_main_arg4 m c)⟩) h

/-! ## The body's branch conditions, of the words the body reads -/

/-- The first condition: the first block of a column sweep, or an expert other than the block before's. -/
abbrev Chg (i : grid0.Coords) (w w' : Elt F .i32) : Prop := Scalar.cmpi .ne (Scalar.extui (Scalar.ori (Scalar.cmpi .eq (BitVec.ofNat 32 (i 1).val) 0#32) (Scalar.cmpi .ne w w'))) 0#32 = 1#1

/-! ## No input window is ever idle -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-! ## The memrefs the body is given -/

/-- A staging buffer of output window 5, through which its contents are stated. -/
abbrev VO0_5 : View sig .tc .vmem S512x512 .bf16 := (Memref.whole cc0_stg5_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x512 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x512 .bf16 := Memref.whole cc0_scratch0
abbrev scM0_1 : Memref sig .tc .vmem S2048x512 .bf16 := Memref.whole cc0_scratch1
/-- The scratch `arg10` the kernel carries between points, as a view: what it holds is stated through it. -/
abbrev VS0_0 : View sig .tc .vmem S2048x512 .bf16 := scM0_0.view
/-- The scratch `arg11` the kernel carries between points, as a view: what it holds is stated through it. -/
abbrev VS0_1 : View sig .tc .vmem S2048x512 .bf16 := scM0_1.view

/-- The invariant between points with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.UpIdeal.Gen

end
-- ==== Proof.UpIdeal.Run.lean ====
module

public import proofs.«01_k».proof.Proof.UpIdeal.Runs
public import Idealize.ShloMosaic.Lib.VecWindow

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole buffer at `x` reads after a store of all of it that is made only under `p`. -/
theorem read_store_if {s : Shape} {e : EltTy} {sp : Space} (A : Memref sig .tc sp s e) (hA : A.IsWhole) (x : s.Idx → Elt F e)
    (p : Prop) [Decidable p] {off : Fin s.rank → ℕ} (inb : ∀ a, off a + s.size a ≤ s.size a) (w : s.Idx → Elt F e) :
    A.view.read (Elt F) (if hc : p then A.view.writes (Elt F) (hA.unread x) [⟨Rect.unit off s.size inb, w⟩] else hA.unread x)
      = if p then w else x := by
  split
  · exact View.read_writes_full _ _ inb w []
  · exact hA.read_unread x

/-- The word at the block's own place of the table of experts, -/
abbrev wordAt (c : Dev nD) (i : grid0.Coords) (xt0 : TbBuf0 (F := F) c tbM0_0) : Elt F .i32 :=
  View.readAt (Elt F) tbM0_0.view (Rect.unit (s := S289) (k0_off1 i) S1.size (k0_off1_inb i)).toLoadRect xt0 (Shape.Idx.first (show 0 < S1.numel by decide))
/-- at the place before it, -/
abbrev wordBefore (c : Dev nD) (i : grid0.Coords) (xt0 : TbBuf0 (F := F) c tbM0_0) : Elt F .i32 :=
  View.readAt (Elt F) tbM0_0.view (Rect.unit (s := S289) (k0_off2 i) S1.size (k0_off2_inb i)).toLoadRect xt0 (Shape.Idx.first (show 0 < S1.numel by decide))
/-- and the number of blocks in use. -/
abbrev usedWord (c : Dev nD) (xt1 : TbBuf0 (F := F) c tbM0_1) : Elt F .i32 :=
  View.readAt (Elt F) tbM0_1.view (Rect.unit (s := S1) ![0] S1.size inb_S1_S1_0).toLoadRect xt1 (Shape.Idx.first (show 0 < S1.numel by decide))

/-- A scratch after the body: the new weights where the expert changed, what it held otherwise. -/
def scr (c : Dev nD) (i : grid0.Coords) (xt0 : TbBuf0 (F := F) c tbM0_0) (w s : Vec F S2048x512 .bf16) : Vec F S2048x512 .bf16 :=
  if Chg (F := F) i (wordAt c i xt0) (wordBefore c i xt0) then w else s

/-- The output block after the body: the gated product at a block in use, zeros past the last. -/
def outv (c : Dev nD) (i : grid0.Coords) (xt1 : TbBuf0 (F := F) c tbM0_1) (x0 : Vec F S512x2048 .bf16) (x3 x4 : Vec F S1x1x512 .f32)
    (a b : Vec F S2048x512 .bf16) : Vec F S512x512 .bf16 :=
  if k0_cond3 i (usedWord c xt1) = 1#1 then k0_pay4 else k0_pay3 x0 a x3 b x4

/-- A one-bit word widened and compared with zero is itself. -/
theorem ne_zero_extui (b : BitVec 1) : Scalar.cmpi .ne (Scalar.extui b) 0#32 = b := by
  revert b; decide

/-- A block that is not past the last in use is before it: one of the two stores of the output is made. -/
theorem cond2_of_not_cond3 (i : grid0.Coords) (w : BitVec 32) (h : ¬k0_cond3 i w = 1#1) : k0_cond2 i w = 1#1 := by
  have h' : ¬Scalar.cmpi .sge (BitVec.ofNat 32 (i 1).val) w = 1#1 := fun e => h ((ne_zero_extui _).trans e)
  refine (ne_zero_extui _).trans ?_
  rw [show Scalar.cmpi .sge (BitVec.ofNat 32 (i 1).val) w = _ from WordCmp.cmpi_sge_eq _ _, WordCmp.ofBool_decide_eq_one_iff] at h'
  rw [show Scalar.cmpi .slt (BitVec.ofNat 32 (i 1).val) w = _ from WordCmp.cmpi_slt_eq _ _, WordCmp.ofBool_decide_eq_one_iff]
  omega

set_option maxHeartbeats 1000000 in
/-- The whole body at a point: from the input blocks, the two tables and what the scratch holds, to the scratch and the
    output block after it. -/
theorem kernel_run (c : Dev nD) (i : grid0.Coords) (arg4 : Memref sig .tc .vmem S512x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole)
    (x0 : Vec F S512x2048 .bf16) (x1 : Vec F S1x2048x512 .f32) (x2 : Vec F S1x2048x512 .f32) (x3 : Vec F S1x1x512 .f32) (x4 : Vec F S1x1x512 .f32) (xt0 : TbBuf0 (F := F) c tbM0_0) (xt1 : TbBuf0 (F := F) c tbM0_1)
    (s0 s1 : Vec F S2048x512 .bf16) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare s0 ∗ owns (c : Thread nD τ) arg11 fullShare s1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
                ∗ owns (c : Thread nD τ) arg9 fullShare (outv c i xt1 x0 x3 x4 (scr c i xt0 (k0_pay1 x1) s0) (scr c i xt0 (k0_pay2 x2) s1))
                ∗ owns (c : Thread nD τ) arg10 fullShare (scr c i xt0 (k0_pay1 x1) s0) ∗ owns (c : Thread nD τ) arg11 fullShare (scr c i xt0 (k0_pay2 x2) s1) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9 arg10 harg10 arg11 harg11) K := by
    simp only [cc0_moe_up_eq_skeleton]; unfold cc0_moe_up_skel
    have e1 : arg5.view.readAt (Elt F) (Rect.unit ![0, 0, 0] S1x2048x512.size inb_S1x2048x512_S1x2048x512_0_0_0).toLoadRect (harg5.unread x1) = x1 :=
      (View.readAt_full _ _ _).trans (harg5.read_unread x1)
    have e2 : arg6.view.readAt (Elt F) (Rect.unit ![0, 0, 0] S1x2048x512.size inb_S1x2048x512_S1x2048x512_0_0_0).toLoadRect (harg6.unread x2) = x2 :=
      (View.readAt_full _ _ _).trans (harg6.read_unread x2)
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr
      swap; · iexact H5
      ipureintro
      unfold outv
      split
      · rename_i h
        rw [if_pos (show k0_cond3 i (usedWord c xt1) = 1#1 from h)]
        exact View.read_writes_full _ _ _ _ _
      · rename_i h
        rw [if_neg (show ¬k0_cond3 i (usedWord c xt1) = 1#1 from h)]
        split
        · refine (View.read_writes_full _ _ _ _ _).trans ?_
          congr 1
          · exact (View.readAt_full _ _ _).trans (harg4.read_unread x0)
          · rw [← e1]; exact (View.readAt_full _ _ _).trans (read_store_if arg10 harg10 s0 _ _ _)
          · exact (View.readAt_full _ _ _).trans (harg7.read_unread x3)
          · rw [← e2]; exact (View.readAt_full _ _ _).trans (read_store_if arg11 harg11 s1 _ _ _)
          · exact (View.readAt_full _ _ _).trans (harg8.read_unread x4)
        · rename_i h2
          exact absurd (cond2_of_not_cond3 i _ h) h2
    isplitl [HS0]
    · iexists _; isplitr
      swap; · iexact HS0
      ipureintro; rw [← e1]; exact read_store_if arg10 harg10 s0 _ _ _
    isplitl [HS1]
    · iexists _; isplitr
      swap; · iexact HS1
      ipureintro; rw [← e2]; exact read_store_if arg11 harg11 s1 _ _ _
    isplitl [HT0]; · iexact HT0
    iexact HT1

end Cert.UpIdeal.Gen

end
-- ==== Proof.UpIdeal.Frame.lean ====
module

public import proofs.«01_k».proof.Proof.UpIdeal.Run
public import Idealize.ShloMosaic.Lib.Claim

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the scratch and the output hold after each point -/

/-- At the first block of a sweep the weights are taken whatever the table's words are. -/
theorem chg_first (i : grid0.Coords) (h : (i 1).val = 0) (w w' : Elt F .i32) : Chg (F := F) i w w' := by
  refine (ne_zero_extui _).trans ?_
  rw [h]
  rw [show Scalar.cmpi .eq (BitVec.ofNat 32 0) 0#32 = 1#1 from by decide]
  rw [show Scalar.cmpi .ne w w' = BitVec.ofBool (decide (w ≠ w')) from WordCmp.cmpi_ne_eq _ _]
  cases decide (w ≠ w') <;> decide

/-- What the two scratch buffers hold after the body at position `n`: by recursion on the position, each the weights' block
    where the expert changed and what the position before left otherwise. -/
def scrAt (hO : Ok m) (c : Dev nD) : (n : ℕ) → n < (cfgM m hO).N → Vec F S2048x512 .bf16 × Vec F S2048x512 .bf16
  | 0, hn => (k0_pay1 (iblk m hO c 1 ⟨0, hn⟩), k0_pay2 (iblk m hO c 2 ⟨0, hn⟩))
  | n + 1, hn => (scr c (grid0.coords ⟨n + 1, hn⟩) (tbl m 0) (k0_pay1 (iblk m hO c 1 ⟨n + 1, hn⟩)) (scrAt hO c n (Nat.lt_of_succ_lt hn)).1,
      scr c (grid0.coords ⟨n + 1, hn⟩) (tbl m 0) (k0_pay2 (iblk m hO c 2 ⟨n + 1, hn⟩)) (scrAt hO c n (Nat.lt_of_succ_lt hn)).2)

/-- At the first point the scratch holds the first weights, whatever it held before. -/
theorem scr_first (c : Dev nD) (t : Fin grid0.N) (h : t.val = 0) (xt0 : TbBuf0 (F := F) c tbM0_0) (w s : Vec F S2048x512 .bf16) :
    scr c (grid0.coords t) xt0 w s = w := by
  unfold scr
  have h0 : t = ⟨0, by decide⟩ := Fin.ext h
  exact if_pos (chg_first _ (by rw [h0]; decide) _ _)

/-- The scratch after a point that is not the first, from the point before. -/
theorem scrAt_pos (hO : Ok m) (c : Dev nD) (t : Fin (cfgM m hO).N) (hz : t.val ≠ 0) :
    scrAt m hO c t.val t.isLt = (scr c (grid0.coords t) (tbl m 0) (k0_pay1 (iblk m hO c 1 t)) (scrAt m hO c (t.val - 1) (Nat.lt_of_le_of_lt (Nat.sub_le _ _) t.isLt)).1,
      scr c (grid0.coords t) (tbl m 0) (k0_pay2 (iblk m hO c 2 t)) (scrAt m hO c (t.val - 1) (Nat.lt_of_le_of_lt (Nat.sub_le _ _) t.isLt)).2) := by
  obtain ⟨n, hn⟩ := t
  cases n with
  | zero => exact absurd rfl hz
  | succ n => rfl

/-- The scratch after the first point, over anything. -/
theorem scrAt_zero (hO : Ok m) (c : Dev nD) (t : Fin (cfgM m hO).N) (hz : t.val = 0) (d0 d1 : Vec F S2048x512 .bf16) :
    scrAt m hO c t.val t.isLt = (scr c (grid0.coords t) (tbl m 0) (k0_pay1 (iblk m hO c 1 t)) d0,
      scr c (grid0.coords t) (tbl m 0) (k0_pay2 (iblk m hO c 2 t)) d1) := by
  obtain ⟨n, hn⟩ := t
  obtain rfl : n = 0 := hz
  exact Prod.ext (scr_first c _ rfl _ _ _).symm (scr_first c _ rfl _ _ _).symm

/-- What the output's staging buffer holds after the body at point `t`. -/
def outAt (hO : Ok m) (c : Dev nD) (t : Fin (cfgM m hO).N) : Vec F S512x512 .bf16 :=
  outv c (grid0.coords t) (tbl m 1) (iblk m hO c 0 t) (iblk m hO c 3 t) (iblk m hO c 4 t) (scrAt m hO c t.val t.isLt).1 (scrAt m hO c t.val t.isLt).2

/-- One of the two stores of the output is made whatever the word: the two conditions are not both false. -/
theorem not_idle (i : grid0.Coords) (w : BitVec 32) : (!(k0_cond2 i w == 1#1) && !(k0_cond3 i w == 1#1)) = false := by
  by_cases h : k0_cond3 i w = 1#1
  · rw [h]; cases (k0_cond2 i w == 1#1) <;> rfl
  · rw [cond2_of_not_cond3 _ _ h]; rfl

/-- The output is never idle. -/
theorem liveAt0_5 (hO : Ok m) (t : Fin (cfgM m hO).N) : (cfgM m hO).idle 5 (grid0.coords t) = false :=
  not_idle (grid0.coords t) _

/-- The invariant before position `n`: at first every scratch holds anything; afterwards the scratch that is carried holds what
    the point before left in it. The generator register is at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scrAt m hO c n hn).1 ∗ owns (c : Thread nD τ) scM0_1 fullShare (scrAt m hO c n hn).2) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (scrAt m hO c n hn).1 ∗ owns (c : Thread nD τ) scM0_1 fullShare (scrAt m hO c n hn).2) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (scrAt m hO c (n - 1) (by omega)).1 ∗ owns (c : Thread nD τ) scM0_1 fullShare (scrAt m hO c (n - 1) (by omega)).2) ∗ (∃ r, prngReg c r)) ∗ Pipeline.ΦT pre0 (tbl m) c) := by
  cases n with
  | zero => exact absurd rfl hz
  | succ n => rfl

/-! ## The pipeline's proof data -/

/-- The proof data on core `c`: the arrays as found at entry; after the body at a point each input's buffer at its block and
    the output's at `outAt`; the invariant above; nothing owed; each input's share of its array. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

/-- The proof data's arrays are the contents at entry. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4000000 in
/-- The body at any point: the inputs' memrefs hold their blocks, the scratch what the point before left (anything at the
    first point), so `kernel_run` applies and leaves the scratch and the output at this point's contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  unfold outAt
  by_cases hz : t.val = 0
  · rw [PhiS_castSucc m hO c t, PhiS_zero m hO c _ _ hz, PhiT0_eq, PhiA0_eq]
    iintro ⟨⟨⟨⟨⟨%ds0, HS0⟩, ⟨%ds1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    rw [scrAt_zero m hO c t hz ds0 ds1]
    iapply (kernel_run c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m hO c t, PhiS_pos m hO c _ _ hz, PhiT0_eq]
    rw [scrAt_pos m hO c t hz]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (kernel_run c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1156 := N_0; omega)

/-! ## The run and the frame -/

set_option backward.isDefEq.respectTransparency.types false in
/-- The launch ends with every array at the proof data's contents and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The call terminates, its arguments end unchanged and every counter ends at zero, under the tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.UpIdeal.Gen

end
-- ==== Proof.UpIdeal.Words.lean ====
module

public import proofs.«01_k».proof.Proof.UpIdeal.Runs
public import Idealize.ShloMosaic.Lib.ValueIdx

@[expose] public section

set_option maxRecDepth 16384

noncomputable section

/-! # Where the table of experts puts the windows

The index maps of the weights and the biases read the prefetched table. Here they are as functions of its words, and the
condition that every block lies inside its array follows from the words being below 32. -/

namespace Cert.UpIdeal.Gen

open Idealize.ShloMosaic
open Idealize.ShloMosaic.TcCoe Idealize.ShloMosaic.ValueIdx
open Idealize.SL Idealize.SL.Sem

variable {F : FTy → Type} [FloatOps F] (m : (ℓ : Loc nD τ sig) → Buf (Elt F) ℓ)

/-- The table of experts on core `c`, as the launch finds it. -/
abbrev experts (c : Dev nD) : S289.Idx → BitVec 32 := m ((c : Thread nD τ).loc main_arg0)
/-- The number of blocks in use. -/
abbrev used (c : Dev nD) : S1.Idx → BitVec 32 := m ((c : Thread nD τ).loc main_arg1)

/-- The first prefetched table is the first argument, -/
theorem tbl_experts (c : Dev nD) : (tbl m 0 : S289.Idx → BitVec 32) = experts m c := (V_pre m c 0).symm.trans (V_main_arg0 m c)
/-- and the second the second. -/
theorem tbl_used (c : Dev nD) : (tbl m 1 : S1.Idx → BitVec 32) = used m c := (V_pre m c 1).symm.trans (V_main_arg1 m c)

/-- The word an index map reads is the table's at the block's place. -/
theorem word_at (c : Dev nD) (i : grid0.Coords) (h : ∀ a, (![(Scalar.indexCast (BitVec.ofNat 32 (i 1).val)).toNat] : Fin 1 → ℕ) a + S1.size a ≤ S289.size a) :
    ((tbl m).at 0 (Rect.unit (s := S289) ![(Scalar.indexCast (BitVec.ofNat 32 (i 1).val)).toNat] S1.size h) numel1_S1 : BitVec 32) = experts m c (ix1 (i 1)) := by
  refine (congrFun (tbl_experts m c) _).trans (congrArg (experts m c) (funext fun a => Fin.ext ?_))
  match a with
  | ⟨0, _⟩ =>
    have h1 : (i 1).val < 289 := (i 1).isLt
    show (BitVec.ofNat 32 (i 1).val).toNat + 1 * 0 = (i 1).val
    rw [BitVec.toNat_ofNat, Nat.mod_eq_of_lt (by omega)]; rfl

/-- Where each weights' window is: at the block's expert, and at the column tile in the first or the second half. -/
theorem index_1 (c : Dev nD) (i : grid0.Coords) : cc0_transform_1 k0_off1_inb numel1_S1 (tbl m) i = ![(experts m c (ix1 (i 1))).toNat, 0, (i 0).val] := by
  have h0 : (i 0).val < 4 := (i 0).isLt
  have e : ∀ w : BitVec 32, w = experts m c (ix1 (i 1)) →
      ![w.toNat, (0#32 : BitVec 32).toNat, (BitVec.ofNat 32 (i 0).val).toNat] = ![(experts m c (ix1 (i 1))).toNat, 0, (i 0).val] := fun w hw => by
    rw [hw, BitVec.toNat_ofNat, BitVec.toNat_ofNat, Nat.mod_eq_of_lt (show (i 0).val < 2 ^ 32 by omega)]
  exact e _ (word_at m c i _)
/-- The second half's weights. -/
theorem index_2 (c : Dev nD) (i : grid0.Coords) : cc0_transform_2 k0_off1_inb numel1_S1 (tbl m) i = ![(experts m c (ix1 (i 1))).toNat, 0, 4 + (i 0).val] := by
  have h0 : (i 0).val < 4 := (i 0).isLt
  have e : ∀ w : BitVec 32, w = experts m c (ix1 (i 1)) →
      ![w.toNat, (0#32 : BitVec 32).toNat, (4#32 + BitVec.ofNat 32 (i 0).val).toNat] = ![(experts m c (ix1 (i 1))).toNat, 0, 4 + (i 0).val] := fun w hw => by
    rw [hw, BitVec.toNat_add, BitVec.toNat_ofNat, BitVec.toNat_ofNat, BitVec.toNat_ofNat, Nat.mod_eq_of_lt (show (i 0).val < 2 ^ 32 by omega),
      Nat.mod_eq_of_lt (show 4 % 2 ^ 32 + (i 0).val < 2 ^ 32 by omega)]; rfl
  exact e _ (word_at m c i _)
/-- The first half's biases. -/
theorem index_3 (c : Dev nD) (i : grid0.Coords) : cc0_transform_3 k0_off1_inb numel1_S1 (tbl m) i = ![(experts m c (ix1 (i 1))).toNat, 0, (i 0).val] := index_1 m c i
/-- The second half's biases. -/
theorem index_4 (c : Dev nD) (i : grid0.Coords) : cc0_transform_4 k0_off1_inb numel1_S1 (tbl m) i = ![(experts m c (ix1 (i 1))).toNat, 0, 4 + (i 0).val] := index_2 m c i

/-- Where the table's words are below 32 every window's block lies inside its array. -/
theorem ok_of_experts (h : ∀ c s, (experts m c s).toNat < 32) : Ok m := by
  have hw : ∀ i : grid0.Coords, (experts m (0 : Dev nD) (ix1 (i 1))).toNat < 32 := fun i => h 0 _
  refine ⟨fun i => ⟨fun a => ?_, .inl rfl⟩, fun i => ⟨fun a => ?_, .inl rfl⟩, fun i => ⟨fun a => ?_, .inl rfl⟩, fun i => ⟨fun a => ?_, .inl rfl⟩⟩ <;>
  have hi := hw i <;> have h0 : (i 0).val < 4 := (i 0).isLt
  · rw [index_1 m 0 i]
    match a with
    | ⟨0, _⟩ => show ((experts m 0 (ix1 (i 1))).toNat + 1) * 1 ≤ 32; omega
    | ⟨1, _⟩ => show (0 + 1) * 2048 ≤ 2048; omega
    | ⟨2, _⟩ => show ((i 0).val + 1) * 512 ≤ 4096; omega
  · rw [index_2 m 0 i]
    match a with
    | ⟨0, _⟩ => show ((experts m 0 (ix1 (i 1))).toNat + 1) * 1 ≤ 32; omega
    | ⟨1, _⟩ => show (0 + 1) * 2048 ≤ 2048; omega
    | ⟨2, _⟩ => show (4 + (i 0).val + 1) * 512 ≤ 4096; omega
  · rw [index_3 m 0 i]
    match a with
    | ⟨0, _⟩ => show ((experts m 0 (ix1 (i 1))).toNat + 1) * 1 ≤ 32; omega
    | ⟨1, _⟩ => show (0 + 1) * 1 ≤ 1; omega
    | ⟨2, _⟩ => show ((i 0).val + 1) * 512 ≤ 4096; omega
  · rw [index_4 m 0 i]
    match a with
    | ⟨0, _⟩ => show ((experts m 0 (ix1 (i 1))).toNat + 1) * 1 ≤ 32; omega
    | ⟨1, _⟩ => show (0 + 1) * 1 ≤ 1; omega
    | ⟨2, _⟩ => show (4 + (i 0).val + 1) * 512 ≤ 4096; omega

end Cert.UpIdeal.Gen

end
-- ==== Proof.Plane.lean ====
module

public import Idealize.ShloMosaic.Lib.ValueIdx

@[expose] public section

/-! # A table of planes read at a list of plane numbers

`w[e]` for `w : [N, K, C]` and a list `e` of `R` plane numbers, and `b[e]` for `b : [N, C]`: the host gathers whole planes (rows),
the plane number read signed and clamped into `[0, N - 1]`. -/

namespace Cert.Plane

open Idealize.ShloMosaic Idealize.ShloMosaic.ValueIdx

variable {α : Type}

/-- The dimension numbers of `w[e]` for a rank-3 `w`. -/
abbrev planeDims (N K C R : Nat) (wf : GatherDims.WF ⟨3, ![N, K, C]⟩ ⟨2, ![R, 1]⟩ ⟨3, ![R, K, C]⟩ [1, 2] [0] [] [0] [] 1 ![1, K, C]) :
    GatherDims ⟨3, ![N, K, C]⟩ ⟨2, ![R, 1]⟩ ⟨3, ![R, K, C]⟩ where
  offsetDims := [1, 2]
  collapsedSliceDims := [0]
  operandBatchingDims := []
  startIndicesBatchingDims := []
  startIndexMap := [0]
  indexVectorDim := 1
  sliceSizes := ![1, K, C]
  wf := wf

/-- The dimension numbers of `b[e]` for a rank-2 `b`. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A plane of the gathered planes is the plane its number names. -/
theorem gather_plane {N K C R w : Nat} (wf) (x : (⟨3, ![N, K, C]⟩ : Shape).Idx → α) (idx : IVec ⟨2, ![R, 1]⟩ w)
    (s : Fin R) (k : Fin K) (n : Fin C) (e : Fin N) (he : min (idx (ix2 s 0)).toInt.toNat (N - 1) = e.val) :
    Host.gather (planeDims N K C R wf) x idx (ix3 s k n) = x (ix3 e k n) := by
  unfold Host.gather
  refine congrArg x (funext fun a => Fin.ext ?_)
  show (planeDims N K C R wf).start (ix3 s k n) idx a + (planeDims N K C R wf).batchCoord (ix3 s k n) a
    + (planeDims N K C R wf).offCoord (ix3 s k n) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 3) ∈ (planeDims N K C R wf).startIndexMap from List.mem_singleton.mpr rfl)]
    have hsi : (planeDims N K C R wf).siIdx (ix3 s k n) ⟨List.idxOf (0 : Fin 3) (planeDims N K C R wf).startIndexMap,
        List.idxOf_lt_length_iff.2 (List.mem_singleton.mpr rfl)⟩ = ix2 s (0 : Fin 1) := by
      funext b; refine Fin.ext ?_
      match b with
      | ⟨0, _⟩ => rfl
      | ⟨1, h⟩ => rfl
    exact (congrArg (fun q => min (idx q).toInt.toNat (N - 1)) hsi).trans he
  | ⟨1, h⟩ =>
    unfold GatherDims.start GatherDims.offCoord
    have out : ¬(⟨1, h⟩ : Fin 3) ∈ (planeDims N K C R wf).startIndexMap := show ¬(1 : Fin 3) ∈ ([0] : List (Fin 3)) by decide
    have kept : (⟨1, h⟩ : Fin 3) ∈ (planeDims N K C R wf).sKept :=
      (GatherDims.mem_sKept _ _).mpr ⟨show ¬(1 : Fin 3) ∈ ([0] : List (Fin 3)) by decide, List.not_mem_nil⟩
    rw [dif_neg out, dif_pos kept]
    exact (Nat.zero_add _).trans rfl
  | ⟨2, h⟩ =>
    unfold GatherDims.start GatherDims.offCoord
    have out : ¬(⟨2, h⟩ : Fin 3) ∈ (planeDims N K C R wf).startIndexMap := show ¬(2 : Fin 3) ∈ ([0] : List (Fin 3)) by decide
    have kept : (⟨2, h⟩ : Fin 3) ∈ (planeDims N K C R wf).sKept :=
      (GatherDims.mem_sKept _ _).mpr ⟨show ¬(2 : Fin 3) ∈ ([0] : List (Fin 3)) by decide, List.not_mem_nil⟩
    rw [dif_neg out, dif_pos kept]
    exact (Nat.zero_add _).trans rfl

/-- A row of the gathered rows is the row its number names. -/
theorem gather_row {N C R w : Nat} (wf) (x : (⟨2, ![N, C]⟩ : Shape).Idx → α) (idx : IVec ⟨2, ![R, 1]⟩ w)
    (s : Fin R) (n : Fin C) (e : Fin N) (he : min (idx (ix2 s 0)).toInt.toNat (N - 1) = e.val) :
    Host.gather (rowDims N C R wf) x idx (ix2 s n) = x (ix2 e n) := by
  unfold Host.gather
  refine congrArg x (funext fun a => Fin.ext ?_)
  show (rowDims N C R wf).start (ix2 s n) idx a + (rowDims N C R wf).batchCoord (ix2 s n) a
    + (rowDims N C R wf).offCoord (ix2 s n) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 2) ∈ (rowDims N C R wf).startIndexMap from List.mem_singleton.mpr rfl)]
    have hsi : (rowDims N C R wf).siIdx (ix2 s n) ⟨List.idxOf (0 : Fin 2) (rowDims N C R wf).startIndexMap,
        List.idxOf_lt_length_iff.2 (List.mem_singleton.mpr rfl)⟩ = ix2 s (0 : Fin 1) := by
      funext b; refine Fin.ext ?_
      match b with
      | ⟨0, _⟩ => rfl
      | ⟨1, h⟩ => rfl
    exact (congrArg (fun q => min (idx q).toInt.toNat (N - 1)) hsi).trans he
  | ⟨1, h⟩ =>
    unfold GatherDims.start GatherDims.offCoord
    have out : ¬(⟨1, h⟩ : Fin 2) ∈ (rowDims N C R wf).startIndexMap := show ¬(1 : Fin 2) ∈ ([0] : List (Fin 2)) by decide
    have kept : (⟨1, h⟩ : Fin 2) ∈ (rowDims N C R wf).sKept :=
      (GatherDims.mem_sKept _ _).mpr ⟨show ¬(1 : Fin 2) ∈ ([0] : List (Fin 2)) by decide, List.not_mem_nil⟩
    rw [dif_neg out, dif_pos kept]
    exact (Nat.zero_add _).trans rfl

end Cert.Plane
-- ==== Proof.UpSpec.lean ====
module

public import proofs.«01_k».proof.Proof.Gen.UpRefIdeal.Read
public import proofs.«01_k».proof.Proof.Plane
public import Idealize.ShloMosaic.Lib.IdealHost
public import Idealize.ShloMosaic.Lib.WordCmp

@[expose] public section

set_option maxRecDepth 16384

noncomputable section

/-! # The routed gated product, as one formula

`gatedUp` says what each element of the experts' first layer is, over the extended reals: row `r` belongs to block `r / 512`,
the block to an expert, and the element is the gated product of two inner products with that expert's weights, or zero past
the last block in use. The reference is shown equal to it here, the kernel in its own module. -/

namespace Cert.UpSpec

open Idealize.ShloMosaic Idealize.ShloMosaic.ValueIdx

/-- The expert of block `s`: the table's word, which is below 32. -/
def expert (be : (⟨1, ![289]⟩ : Shape).Idx → BitVec 32) (s : Fin 289) : Fin 32 := ⟨min (be (ix1 s)).toNat 31, by omega⟩

/-- The block of a row. -/
abbrev blockOf (r : Fin 147968) : Fin 289 := ⟨r.val / 512, by omega⟩

/-- Row `r` against column `n` of its expert's weights, plus the bias. -/
def linear (be : (⟨1, ![289]⟩ : Shape).Idx → BitVec 32) (x : (⟨2, ![147968, 2048]⟩ : Shape).Idx → EReal)
    (w : (⟨3, ![32, 2048, 4096]⟩ : Shape).Idx → EReal) (b : (⟨2, ![32, 4096]⟩ : Shape).Idx → EReal) (r : Fin 147968) (n : Fin 4096) : EReal :=
  (∑ k : Fin 2048, x (ix2 r k) * w (ix3 (expert be (blockOf r)) k n)) + b (ix2 (expert be (blockOf r)) n)

/-- The gate: `u`, bounded above by 7, times the logistic function of 1.702 times itself, times one more than `v` clipped to
    between -7 and 7. -/
def gate (u v : EReal) : EReal :=
  min u (Ideal.ofBits .f32 0x40E00000#32) * Ideal.logistic (Ideal.ofBits .f32 0x3FD9DB23#32 * min u (Ideal.ofBits .f32 0x40E00000#32))
    * (min (Ideal.ofBits .f32 0x40E00000#32) (max (Ideal.ofBits .f32 0xC0E00000#32) v) + 1)

/-- The first layer of the experts at row `r` and column `n`. -/
def gatedUp (be : (⟨1, ![289]⟩ : Shape).Idx → BitVec 32) (nu : (⟨1, ![1]⟩ : Shape).Idx → BitVec 32) (x : (⟨2, ![147968, 2048]⟩ : Shape).Idx → EReal)
    (w : (⟨3, ![32, 2048, 4096]⟩ : Shape).Idx → EReal) (b : (⟨2, ![32, 4096]⟩ : Shape).Idx → EReal) (r : Fin 147968) (n : Fin 2048) : EReal :=
  if (BitVec.ofNat 32 (r.val / 512)).slt (nu (ix1 0)) then
    gate (linear be x w b r ⟨n.val, by omega⟩) (linear be x w b r ⟨2048 + n.val, by omega⟩)
  else 0

end Cert.UpSpec

namespace Cert.UpRefIdeal.Read

open Idealize.ShloMosaic Idealize.ShloMosaic.ValueIdx Cert.UpSpec

variable (be : S289.Idx → BitVec 32)

/-- Where the table's words are in range, the reference's wrapped index is the word. -/
theorem wrapped (hbe : ∀ s, (be s).toNat < 32) (s : S289.Idx) : val_main_v6 (F := Ideal) be s = be s := by
  rw [val_main_v6_apply, val_main_v3_apply, val_main_v2_apply, val_main_c_apply, WordCmp.cmpi_slt_eq]
  have h : ¬(be s).toInt < (0#32 : BitVec 32).toInt := by
    have := hbe s
    rw [BitVec.toInt_eq_toNat_of_lt (by omega)]; simp
  rw [decide_eq_false h]; rfl

/-- The plane number the gathers clamp is the block's expert. -/
theorem clamped (hbe : ∀ s, (be s).toNat < 32) (s : Fin 289) (q : S289x1.Idx) (hq : (q 0).val = s.val) :
    min (val_main_v7 (F := Ideal) be q).toInt.toNat (32 - 1) = (expert be s).val := by
  have hs : idx_main_v7 q = ix1 s := funext fun a => match a with | ⟨0, _⟩ => Fin.ext hq
  rw [val_main_v7_apply, wrapped be hbe, hs, BitVec.toInt_eq_toNat_of_lt (by have := hbe (ix1 s); omega)]
  rfl

/-- The gathered weights: block `s` of them is its expert's. -/
theorem weights_apply (hbe : ∀ s, (be s).toNat < 32) (w : S32x2048x4096.Idx → EReal) (s : Fin 289) (k : Fin 2048) (n : Fin 4096) :
    val_main_v8 (F := Ideal) be w (ix3 s k n) = w (ix3 (expert be s) k n) :=
  Plane.gather_plane _ w _ s k n _ (clamped be hbe s _ rfl)

/-- The gathered biases: block `s` of them is its expert's. -/
theorem biases_apply (hbe : ∀ s, (be s).toNat < 32) (b : S32x4096.Idx → EReal) (s : Fin 289) (n : Fin 4096) :
    val_main_v16 (F := Ideal) be b (ix2 s n) = b (ix2 (expert be s) n) :=
  Plane.gather_row _ b _ s n _ (clamped be hbe s _ rfl)

/-- The product plus the bias, at block `s`, row `i` of it and column `n`. -/
theorem linear_apply (hbe : ∀ s, (be s).toNat < 32) (x : S147968x2048.Idx → EReal) (w : S32x2048x4096.Idx → EReal) (b : S32x4096.Idx → EReal)
    (r : Fin 147968) (i : Fin 512) (hi : i.val = r.val % 512) (n : Fin 4096) :
    val_main_v19 (F := Ideal) be x w b (ix3 (blockOf r) i n) = linear be x w b r n := by
  rw [val_main_v19_apply, val_main_v9_apply, val_main_v18_apply, val_main_v17_apply]
  refine congrArg₂ (· + ·) (Finset.sum_congr rfl fun k _ => ?_) ?_
  · rw [val_main_v1_apply, val_main_v0_apply]
    refine congrArg₂ (· * ·) (congrArg x (funext fun a => Fin.ext ?_)) ((congrArg _ ?_).trans (weights_apply be hbe w (blockOf r) k n))
    · have := k.isLt
      match a with
      | ⟨0, _⟩ => show ((r.val / 512 * 512 + i.val) * 2048 + k.val) / 2048 = r.val; omega
      | ⟨1, _⟩ => show ((r.val / 512 * 512 + i.val) * 2048 + k.val) % 2048 = k.val; omega
    · funext a; match a with | ⟨0, _⟩ => rfl | ⟨1, _⟩ => rfl | ⟨2, _⟩ => rfl
  · refine (congrArg _ ?_).trans (biases_apply be hbe b (blockOf r) n)
    funext a; match a with | ⟨0, _⟩ => rfl | ⟨1, _⟩ => rfl

/-- THE REFERENCE IS THE FORMULA. -/
theorem ref_apply (hbe : ∀ s, (be s).toNat < 32) (nu : S1.Idx → BitVec 32) (x : S147968x2048.Idx → EReal) (w : S32x2048x4096.Idx → EReal) (b : S32x4096.Idx → EReal)
    (r : Fin 147968) (n : Fin 2048) : val_main_v43 (F := Ideal) be nu x w b (ix2 r n) = gatedUp be nu x w b r n := by
  have hr := r.isLt
  have hn := n.isLt
  have hidx : idx_main_v42 (ix2 r n) = ix3 (blockOf r) ⟨r.val % 512, Nat.mod_lt _ (by decide)⟩ n := by
    funext a; refine Fin.ext ?_
    match a with
    | ⟨0, _⟩ => show (r.val * 2048 + n.val) / 1048576 = r.val / 512; omega
    | ⟨1, _⟩ => show (r.val * 2048 + n.val) / 2048 % 512 = r.val % 512; omega
    | ⟨2, _⟩ => show (r.val * 2048 + n.val) % 2048 = n.val; omega
  rw [val_main_v43_apply, val_main_v42_apply, hidx, val_main_v41_apply]
  rw [val_main_call1_v1_apply, val_main_v40_apply, val_main_v39_apply, val_main_v38_apply, val_main_v37_apply, WordCmp.cmpi_slt_eq]
  rw [val_main_v36_apply, val_main_v35_apply, val_main_v34_apply, val_main_cst_8_apply, val_main_v33_apply, val_main_v32_apply, val_main_v31_apply,
    val_main_cst_7_apply, val_main_v30_apply, val_main_v29_apply, val_main_cst_6_apply, val_main_v28_apply, val_main_v27_apply, val_main_v26_apply,
    val_main_v25_apply, val_main_cst_5_apply, val_main_v24_apply, val_main_call0_v4_apply, val_main_call0_v3_apply, val_main_cst_4_apply,
    val_main_call0_v2_apply, val_main_call0_v1_apply, val_main_call0_v0_apply, val_main_cst_3_apply, val_main_v23_apply, val_main_v22_apply,
    val_main_v21_apply, val_main_cst_apply, val_main_v20_apply, val_main_call1_v2_apply, val_main_call1_v0_apply, val_main_cst_9_apply]
  have e20 : idx_main_v20 (ix3 (blockOf r) ⟨r.val % 512, Nat.mod_lt _ (by decide)⟩ n) = ix3 (blockOf r) ⟨r.val % 512, Nat.mod_lt _ (by decide)⟩ ⟨n.val, by omega⟩ := by
    funext a; refine Fin.ext ?_
    match a with | ⟨0, _⟩ => rfl | ⟨1, _⟩ => rfl | ⟨2, _⟩ => rfl
  have e23 : idx_main_v23 (ix3 (blockOf r) ⟨r.val % 512, Nat.mod_lt _ (by decide)⟩ n) = ix3 (blockOf r) ⟨r.val % 512, Nat.mod_lt _ (by decide)⟩ ⟨2048 + n.val, by omega⟩ := by
    funext a; refine Fin.ext ?_
    match a with | ⟨0, _⟩ => rfl | ⟨1, _⟩ => rfl | ⟨2, _⟩ => rfl
  rw [e20, e23, linear_apply be hbe x w b r _ rfl, linear_apply be hbe x w b r _ rfl]
  have one : Ideal.ofBits .f32 0x3F800000#32 = 1 := Ideal.ofBits_one_f32
  have zero : Ideal.ofBits .f32 0x00000000#32 = 0 := Ideal.ofBits_zero_f32
  unfold gatedUp
  have hnu : idx_main_v38 (idx_main_v40 (idx_main_call1_v1 (ix3 (blockOf r) ⟨r.val % 512, Nat.mod_lt _ (by decide)⟩ n))) = ix1 0 := by
    funext a; match a with | ⟨0, _⟩ => rfl
  rw [hnu]
  generalize linear be x w b r ⟨n.val, by omega⟩ = u
  generalize linear be x w b r ⟨2048 + n.val, by omega⟩ = v
  show (if BitVec.ofBool (decide ((BitVec.ofNat 32 (r.val / 512)).toInt < (nu (ix1 0)).toInt)) = 1#1 then _ else Ideal.ofBits .f32 0x00000000#32) = _
  refine Eq.trans (if_congr (WordCmp.ofBool_decide_eq_one_iff _) ?_ zero) (if_congr (by rw [BitVec.slt, decide_eq_true_iff]) rfl rfl)
  show min u (Ideal.ofBits .f32 0x40E00000#32) * Ideal.div (Ideal.ofBits .f32 0x3F800000#32) (Ideal.ofBits .f32 0x3F800000#32
      + Ideal.exp (-(Ideal.ofBits .f32 0x3FD9DB23#32 * min u (Ideal.ofBits .f32 0x40E00000#32))))
    * (min (Ideal.ofBits .f32 0x40E00000#32) (max (Ideal.ofBits .f32 0xC0E00000#32) v) + Ideal.ofBits .f32 0x3F800000#32) = gate u v
  rw [one]; rfl

end Cert.UpRefIdeal.Read

end
-- ==== Proof.UpIdeal.Value.lean ====
module

public import proofs.«01_k».proof.Proof.UpIdeal.Frame
public import proofs.«01_k».proof.Proof.UpIdeal.Words
public import proofs.«01_k».proof.Proof.UpSpec
public import Idealize.ShloMosaic.Lib.ValueLayout
public import Idealize.ShloMosaic.Lib.MatmulPlain
public import Idealize.ShloMosaic.Lib.Pipeline.ValueKit

@[expose] public section

set_option maxRecDepth 16384

noncomputable section

/-! # What the routed gated product's kernel computes -/

namespace Cert.UpIdeal.Gen

open Idealize.ShloMosaic hiding ix1 ix2 ix3
open Idealize.ShloMosaic.TcCoe Idealize.ShloMosaic.ValueIdx
open Idealize.SL Idealize.SL.Sem
open Idealize.ShloMosaic.Pipeline (Dat Cfg Window)

/-! ## The blocks at coordinates -/

variable {F : FTy → Type} [FloatOps F] (m : (ℓ : Loc nD τ sig) → Buf (Elt F) ℓ) (hO : Ok m) (c : Dev nD)

/-- The row block and the column tile of a point. -/
abbrev rowB (t : Fin grid0.N) : Fin 289 := grid0.coords t 1
/-- The column tile at a point. -/
abbrev colT (t : Fin grid0.N) : Fin 4 := grid0.coords t 0

open Cert.UpSpec (expert)

/-- A block's expert, when it is one of the 32, is the table's word. -/
theorem expert_val (s : Fin 289) (h : (experts m c (ix1 s)).toNat < 32) : (expert (experts m c) s).val = (experts m c (ix1 s)).toNat := by
  show min _ 31 = _; omega

/-- The rows' block. -/
theorem rows_apply (t : Fin (cfgM m hO).N) (p : Fin 512) (k : Fin 2048) :
    (iblk m hO c 0 t : S512x2048.Idx → F .bf16) (ix2 p k)
      = m ((c : Thread nD τ).loc main_arg2) (ix2 ⟨(rowB t).val * 512 + p.val, by have := (rowB t).isLt; omega⟩ k) := by
  refine (congrFun (V_main_arg2 m c) _).trans (congrArg (m ((c : Thread nD τ).loc main_arg2)) (funext fun a => Fin.ext ?_))
  have h1 : (rowB t).val < 289 := (rowB t).isLt
  match a with
  | ⟨0, _⟩ =>
    show (BitVec.ofNat 32 (rowB t).val).toNat * 512 + 1 * p.val = _
    rw [BitVec.toNat_ofNat, Nat.mod_eq_of_lt (by omega), Nat.one_mul]
  | ⟨1, _⟩ => show (0#32 : BitVec 32).toNat * 2048 + 1 * k.val = k.val; rw [Nat.one_mul]; exact Nat.zero_add _

/-- The weights' first block. -/
theorem weights1_apply (hx : ∀ s, (experts m c s).toNat < 32) (t : Fin (cfgM m hO).N) (k : Fin 2048) (q : Fin 512) :
    (iblk m hO c 1 t : S1x2048x512.Idx → F .f32) (ix3 0 k q)
      = m ((c : Thread nD τ).loc main_arg3) (ix3 (expert (experts m c) (rowB t)) k ⟨(colT t).val * 512 + q.val, by have := (colT t).isLt; omega⟩) := by
  refine (congrFun (V_main_arg3 m c) _).trans (congrArg (m ((c : Thread nD τ).loc main_arg3)) (funext fun a => Fin.ext ?_))
  have e := index_1 m c (grid0.coords t)
  match a with
  | ⟨0, _⟩ =>
    refine Eq.trans ?_ (expert_val m c (rowB t) (hx _)).symm
    show cc0_transform_1 k0_off1_inb numel1_S1 (tbl m) (grid0.coords t) 0 * 1 + 1 * 0 = _
    rw [e]; exact Nat.mul_one _
  | ⟨1, _⟩ =>
    show cc0_transform_1 k0_off1_inb numel1_S1 (tbl m) (grid0.coords t) 1 * 2048 + 1 * k.val = k.val
    rw [e, Nat.one_mul]; exact Nat.zero_add _
  | ⟨2, _⟩ =>
    show cc0_transform_1 k0_off1_inb numel1_S1 (tbl m) (grid0.coords t) 2 * 512 + 1 * q.val = (colT t).val * 512 + q.val
    rw [e, Nat.one_mul]; rfl

/-- The weights' second block. -/
theorem weights2_apply (hx : ∀ s, (experts m c s).toNat < 32) (t : Fin (cfgM m hO).N) (k : Fin 2048) (q : Fin 512) :
    (iblk m hO c 2 t : S1x2048x512.Idx → F .f32) (ix3 0 k q)
      = m ((c : Thread nD τ).loc main_arg3) (ix3 (expert (experts m c) (rowB t)) k ⟨2048 + ((colT t).val * 512 + q.val), by have := (colT t).isLt; omega⟩) := by
  refine (congrFun (V_main_arg3 m c) _).trans (congrArg (m ((c : Thread nD τ).loc main_arg3)) (funext fun a => Fin.ext ?_))
  have e := index_2 m c (grid0.coords t)
  match a with
  | ⟨0, _⟩ =>
    refine Eq.trans ?_ (expert_val m c (rowB t) (hx _)).symm
    show cc0_transform_2 k0_off1_inb numel1_S1 (tbl m) (grid0.coords t) 0 * 1 + 1 * 0 = _
    rw [e]; exact Nat.mul_one _
  | ⟨1, _⟩ =>
    show cc0_transform_2 k0_off1_inb numel1_S1 (tbl m) (grid0.coords t) 1 * 2048 + 1 * k.val = k.val
    rw [e, Nat.one_mul]; exact Nat.zero_add _
  | ⟨2, _⟩ =>
    show cc0_transform_2 k0_off1_inb numel1_S1 (tbl m) (grid0.coords t) 2 * 512 + 1 * q.val = 2048 + ((colT t).val * 512 + q.val)
    rw [e]; show (4 + (colT t).val) * 512 + 1 * q.val = _; omega

/-- The biases as the region finds them: a unit axis in the middle. -/
theorem V_main_v0 (j : S32x1x4096.Idx) : (V m c main_v0 : S32x1x4096.Idx → F .f32) j = m ((c : Thread nD τ).loc main_arg4) (ix2 (j 0) (j 2)) := by
  have e : V m c main_v0 = broadcastInDim S32x1x4096 ![0, 2] bcast_S32x4096_S32x1x4096_0_2 (m ((c : Thread nD τ).loc main_arg4)) := rfl
  rw [e]
  show m _ _ = _
  refine congrArg (m ((c : Thread nD τ).loc main_arg4)) (funext fun a => ?_)
  match a with | ⟨0, _⟩ => rfl | ⟨1, _⟩ => rfl

/-- The biases' first block. -/
theorem bias1_apply (hx : ∀ s, (experts m c s).toNat < 32) (t : Fin (cfgM m hO).N) (q : Fin 512) :
    (iblk m hO c 3 t : S1x1x512.Idx → F .f32) (ix3 0 0 q)
      = m ((c : Thread nD τ).loc main_arg4) (ix2 (expert (experts m c) (rowB t)) ⟨(colT t).val * 512 + q.val, by have := (colT t).isLt; omega⟩) := by
  refine (V_main_v0 m c _).trans (congrArg (m ((c : Thread nD τ).loc main_arg4)) (funext fun a => Fin.ext ?_))
  have e := index_3 m c (grid0.coords t)
  match a with
  | ⟨0, _⟩ =>
    refine Eq.trans ?_ (expert_val m c (rowB t) (hx _)).symm
    show cc0_transform_3 k0_off1_inb numel1_S1 (tbl m) (grid0.coords t) 0 * 1 + 1 * 0 = _
    rw [e]; exact Nat.mul_one _
  | ⟨1, _⟩ =>
    show cc0_transform_3 k0_off1_inb numel1_S1 (tbl m) (grid0.coords t) 2 * 512 + 1 * q.val = (colT t).val * 512 + q.val
    rw [e, Nat.one_mul]; rfl

/-- The biases' second block. -/
theorem bias2_apply (hx : ∀ s, (experts m c s).toNat < 32) (t : Fin (cfgM m hO).N) (q : Fin 512) :
    (iblk m hO c 4 t : S1x1x512.Idx → F .f32) (ix3 0 0 q)
      = m ((c : Thread nD τ).loc main_arg4) (ix2 (expert (experts m c) (rowB t)) ⟨2048 + ((colT t).val * 512 + q.val), by have := (colT t).isLt; omega⟩) := by
  refine (V_main_v0 m c _).trans (congrArg (m ((c : Thread nD τ).loc main_arg4)) (funext fun a => Fin.ext ?_))
  have e := index_4 m c (grid0.coords t)
  match a with
  | ⟨0, _⟩ =>
    refine Eq.trans ?_ (expert_val m c (rowB t) (hx _)).symm
    show cc0_transform_4 k0_off1_inb numel1_S1 (tbl m) (grid0.coords t) 0 * 1 + 1 * 0 = _
    rw [e]; exact Nat.mul_one _
  | ⟨1, _⟩ =>
    show cc0_transform_4 k0_off1_inb numel1_S1 (tbl m) (grid0.coords t) 2 * 512 + 1 * q.val = 2048 + ((colT t).val * 512 + q.val)
    rw [e]; show (4 + (colT t).val) * 512 + 1 * q.val = _; omega

/-! ## The scratch: the weights of the point's expert -/

/-- The coordinates of a point: column tiles outside, row blocks inside. -/
theorem coords_val : ∀ t : Fin grid0.N, (grid0.coords t 0).val = t.val / 289 ∧ (grid0.coords t 1).val = t.val % 289 := by decide +kernel
/-- Where the body reads the table a second time: at the place before the block's. -/
theorem off2_val : ∀ t : Fin grid0.N, k0_off2 (grid0.coords t) 0 = (grid0.coords t 1).val - 1 := by decide +kernel

/-- The word the body reads at the block's place, -/
theorem wordAt_eq (t : Fin grid0.N) : wordAt c (grid0.coords t) (tbl m 0) = experts m c (ix1 (rowB t)) := by
  refine (congrFun (tbl_experts m c) _).trans (congrArg (experts m c) (funext fun a => Fin.ext ?_))
  match a with
  | ⟨0, _⟩ =>
    show k0_off1 (grid0.coords t) 0 + 1 * 0 = (rowB t).val
    rw [k0_off1_eq]; rfl
/-- and at the place before it. -/
theorem wordBefore_eq (t : Fin grid0.N) (s : Fin 289) (hs : s.val = (rowB t).val - 1) : wordBefore c (grid0.coords t) (tbl m 0) = experts m c (ix1 s) := by
  refine (congrFun (tbl_experts m c) _).trans (congrArg (experts m c) (funext fun a => Fin.ext ?_))
  match a with
  | ⟨0, _⟩ =>
    show k0_off2 (grid0.coords t) 0 + 1 * 0 = s.val
    rw [off2_val, hs]; rfl
/-- The word of the second table that the body reads is the number of blocks in use. -/
theorem usedWord_eq : usedWord c (tbl m 1) = used m c (ix1 0) := by
  refine (congrFun (tbl_used m c) _).trans (congrArg (used m c) (funext fun a => Fin.ext ?_))
  match a with | ⟨0, _⟩ => rfl

/-- Where the scratch keeps what it held the point is not the first of its sweep, and the block before has the same expert. -/
theorem kept (t : Fin grid0.N) (h : ¬Chg (F := F) (grid0.coords t) (wordAt c (grid0.coords t) (tbl m 0)) (wordBefore c (grid0.coords t) (tbl m 0))) :
    (rowB t).val ≠ 0 ∧ wordAt c (grid0.coords t) (tbl m 0) = wordBefore c (grid0.coords t) (tbl m 0) := by
  refine ⟨fun h0 => h (chg_first _ h0 _ _), Classical.byContradiction fun hne => h ((ne_zero_extui _).trans ?_)⟩
  rw [show Scalar.cmpi .ne (wordAt c (grid0.coords t) (tbl m 0)) (wordBefore c (grid0.coords t) (tbl m 0)) = BitVec.ofBool (decide _) from WordCmp.cmpi_ne_eq _ _, decide_eq_true hne]
  generalize Scalar.cmpi .eq (BitVec.ofNat 32 (grid0.coords t 1).val) 0#32 = u
  revert u; decide

end Cert.UpIdeal.Gen

namespace Cert.UpIdeal.Gen

open Idealize.ShloMosaic hiding ix1 ix2 ix3
open Idealize.ShloMosaic.TcCoe Idealize.ShloMosaic.ValueIdx
open Idealize.SL Idealize.SL.Sem
open Cert.UpSpec

variable (m : (ℓ : Loc nD τ sig) → Buf (Elt Ideal) ℓ) (hO : Ok m) (c : Dev nD)

/-- A weights' block stripped of its unit axis and rounded, which over the extended reals changes nothing. -/
theorem pay1_apply (x : S1x2048x512.Idx → EReal) (k : Fin 2048) (q : Fin 512) : k0_pay1 (F := Ideal) x (ix2 k q) = x (ix3 0 k q) := by
  unfold k0_pay1
  rw [shapeCast_self]
  exact shapeCast_1ab_ab_apply _ _ _ _
/-- The second half's scratch likewise. -/
theorem pay2_apply (x : S1x2048x512.Idx → EReal) (k : Fin 2048) (q : Fin 512) : k0_pay2 (F := Ideal) x (ix2 k q) = x (ix3 0 k q) := pay1_apply x k q

/-- The first half's weights at a point, -/
def wHalf1 (t : Fin grid0.N) (k : Fin 2048) (q : Fin 512) : EReal :=
  m ((c : Thread nD τ).loc main_arg3) (ix3 (expert (experts m c) (rowB t)) k ⟨(colT t).val * 512 + q.val, by have := (colT t).isLt; omega⟩)
/-- and the second half's. -/
def wHalf2 (t : Fin grid0.N) (k : Fin 2048) (q : Fin 512) : EReal :=
  m ((c : Thread nD τ).loc main_arg3) (ix3 (expert (experts m c) (rowB t)) k ⟨2048 + ((colT t).val * 512 + q.val), by have := (colT t).isLt; omega⟩)

/-- The rounded blocks are those. -/
theorem pay1_at (hx : ∀ s, (experts m c s).toNat < 32) (t : Fin (cfgM m hO).N) (k : Fin 2048) (q : Fin 512) :
    k0_pay1 (F := Ideal) (iblk m hO c 1 t) (ix2 k q) = wHalf1 m c t k q :=
  (pay1_apply (iblk m hO c 1 t) k q).trans (weights1_apply m hO c hx t k q)
/-- The second half's weights that a point would store. -/
theorem pay2_at (hx : ∀ s, (experts m c s).toNat < 32) (t : Fin (cfgM m hO).N) (k : Fin 2048) (q : Fin 512) :
    k0_pay2 (F := Ideal) (iblk m hO c 2 t) (ix2 k q) = wHalf2 m c t k q :=
  (pay2_apply (iblk m hO c 2 t) k q).trans (weights2_apply m hO c hx t k q)

/-- The scratch one point on. -/
theorem scrAt_succ (n : ℕ) (hn : n + 1 < (cfgM m hO).N) : scrAt m hO c (n + 1) hn
    = (scr c (grid0.coords ⟨n + 1, hn⟩) (tbl m 0) (k0_pay1 (iblk m hO c 1 ⟨n + 1, hn⟩)) (scrAt m hO c n (Nat.lt_of_succ_lt hn)).1,
      scr c (grid0.coords ⟨n + 1, hn⟩) (tbl m 0) (k0_pay2 (iblk m hO c 2 ⟨n + 1, hn⟩)) (scrAt m hO c n (Nat.lt_of_succ_lt hn)).2) := rfl

/-- Equal words are equal experts. -/
theorem expert_congr (be : S289.Idx → BitVec 32) (s s' : Fin 289) (h : be (ix1 s) = be (ix1 s')) : expert be s = expert be s' :=
  Fin.ext (by show min _ 31 = min _ 31; rw [h])

/-- Where the scratch keeps what it held, the point before had the same weights. -/
theorem half_kept (n : ℕ) (hn : n + 1 < grid0.N)
    (hc : ¬Chg (F := Ideal) (grid0.coords ⟨n + 1, hn⟩) (wordAt c (grid0.coords ⟨n + 1, hn⟩) (tbl m 0)) (wordBefore c (grid0.coords ⟨n + 1, hn⟩) (tbl m 0)))
    (k : Fin 2048) (q : Fin 512) :
    wHalf1 m c ⟨n, Nat.lt_of_succ_lt hn⟩ k q = wHalf1 m c ⟨n + 1, hn⟩ k q ∧ wHalf2 m c ⟨n, Nat.lt_of_succ_lt hn⟩ k q = wHalf2 m c ⟨n + 1, hn⟩ k q := by
  obtain ⟨hr, hw⟩ := kept m c ⟨n + 1, hn⟩ hc
  obtain ⟨a0, a1⟩ := coords_val ⟨n, Nat.lt_of_succ_lt hn⟩
  obtain ⟨b0, b1⟩ := coords_val ⟨n + 1, hn⟩
  have hr' : (n + 1) % 289 ≠ 0 := fun h => hr (b1.trans h)
  have ecol : colT ⟨n, Nat.lt_of_succ_lt hn⟩ = colT ⟨n + 1, hn⟩ := Fin.ext (a0.trans (Eq.trans (by show n / 289 = (n + 1) / 289; omega) b0.symm))
  have erow : (rowB ⟨n, Nat.lt_of_succ_lt hn⟩).val = (rowB ⟨n + 1, hn⟩).val - 1 := a1.trans (Eq.trans (by show n % 289 = (n + 1) % 289 - 1; omega) (congrArg (· - 1) b1.symm))
  have ee : expert (experts m c) (rowB ⟨n, Nat.lt_of_succ_lt hn⟩) = expert (experts m c) (rowB ⟨n + 1, hn⟩) := by
    apply expert_congr
    rw [← wordBefore_eq m c ⟨n + 1, hn⟩ _ erow, ← hw, wordAt_eq]
  unfold wHalf1 wHalf2
  rw [ee]
  have ec := congrArg Fin.val ecol
  constructor
  · refine congrArg (m ((c : Thread nD τ).loc main_arg3)) (congrArg (ix3 _ k) (Fin.ext ?_))
    show (colT ⟨n, _⟩).val * 512 + q.val = (colT ⟨n + 1, _⟩).val * 512 + q.val
    rw [ec]
  · refine congrArg (m ((c : Thread nD τ).loc main_arg3)) (congrArg (ix3 _ k) (Fin.ext ?_))
    show 2048 + ((colT ⟨n, _⟩).val * 512 + q.val) = 2048 + ((colT ⟨n + 1, _⟩).val * 512 + q.val)
    rw [ec]

/-- THE SCRATCH HOLDS THE WEIGHTS OF THE POINT'S OWN EXPERT, fetched at this point or kept since an earlier one of the same
    expert and column tile. -/
theorem scrAt_apply (hx : ∀ s, (experts m c s).toNat < 32) (n : ℕ) : ∀ (hn : n < (cfgM m hO).N) (k : Fin 2048) (q : Fin 512),
    ((scrAt m hO c n hn).1 : S2048x512.Idx → EReal) (ix2 k q) = wHalf1 m c ⟨n, hn⟩ k q
      ∧ ((scrAt m hO c n hn).2 : S2048x512.Idx → EReal) (ix2 k q) = wHalf2 m c ⟨n, hn⟩ k q := by
  induction n with
  | zero =>
    intro hn k q
    exact ⟨pay1_at m hO c hx ⟨0, hn⟩ k q, pay2_at m hO c hx ⟨0, hn⟩ k q⟩
  | succ n ih =>
    intro hn k q
    obtain ⟨i1, i2⟩ := ih (Nat.lt_of_succ_lt hn) k q
    rw [scrAt_succ]
    dsimp only [scr]
    by_cases hc : Chg (F := Ideal) (grid0.coords ⟨n + 1, hn⟩) (wordAt c (grid0.coords ⟨n + 1, hn⟩) (tbl m 0)) (wordBefore c (grid0.coords ⟨n + 1, hn⟩) (tbl m 0))
    · rw [if_pos hc, if_pos hc]
      exact ⟨pay1_at m hO c hx ⟨n + 1, hn⟩ k q, pay2_at m hO c hx ⟨n + 1, hn⟩ k q⟩
    · rw [if_neg hc, if_neg hc, i1, i2]
      exact half_kept m c n hn hc k q

/-! ## The output block -/

/-- A block product with its bias, at an entry. -/
theorem product_apply (x : FVec Ideal S512x2048 .bf16) (a : FVec Ideal S2048x512 .bf16) (b : FVec Ideal S1x1x512 .f32) (p q : Fin 512) :
    addf (F := Ideal) (matmul dot_S512x2048_S2048x512_S512x512_1_0_0_1_n_n none x a (constant S512x512 .f32 0x00000000#32))
        (broadcastTo S512x512 (shapeCast S1x512 b shapeCasts_S1x1x512_S1x512) broadcasts_S1x512_S512x512) (ix2 p q)
      = (∑ k : Fin 2048, x (ix2 p k) * a (ix2 k q)) + b (ix3 0 0 q) := by
  refine congrArg₂ (· + ·) ((Ideal.matmul_plain_apply none x a _ p q).trans ?_) ?_
  · show Ideal.ofBits .f32 0x00000000#32 + _ = _
    rw [Ideal.ofBits_zero_f32, zero_add]
  · refine (broadcastTo_apply _ _ _ (ix2 0 q) fun a => ?_).trans (shapeCast_1ab_ab_apply _ _ _ _)
    match a with | ⟨0, _⟩ => rfl | ⟨1, _⟩ => rfl

/-- The stored block at an entry: the gate of the two products. -/
theorem pay3_apply (x : FVec Ideal S512x2048 .bf16) (a : FVec Ideal S2048x512 .bf16) (b : FVec Ideal S1x1x512 .f32) (a' : FVec Ideal S2048x512 .bf16) (b' : FVec Ideal S1x1x512 .f32) (p q : Fin 512) :
    k0_pay3 (F := Ideal) x a b a' b' (ix2 p q)
      = gate ((∑ k : Fin 2048, x (ix2 p k) * a (ix2 k q)) + b (ix3 0 0 q)) ((∑ k : Fin 2048, x (ix2 p k) * a' (ix2 k q)) + b' (ix3 0 0 q)) := by
  rw [← product_apply x a b p q, ← product_apply x a' b' p q]
  unfold gate
  rw [← Ideal.ofBits_one_f32]
  rfl

/-- The last condition fails exactly at the blocks in use. -/
theorem cond3_iff (i : grid0.Coords) (w : BitVec 32) : k0_cond3 i w = 1#1 ↔ ¬(BitVec.ofNat 32 (i 1).val).slt w = true := by
  have e : k0_cond3 i w = Scalar.cmpi .sge (BitVec.ofNat 32 (i 1).val) w := ne_zero_extui _
  rw [e, show Scalar.cmpi .sge (BitVec.ofNat 32 (i 1).val) w = _ from WordCmp.cmpi_sge_eq _ _, WordCmp.ofBool_decide_eq_one_iff, BitVec.slt, decide_eq_true_iff]
  omega

/-- WHAT THE BODY LEAVES IN THE OUTPUT BLOCK: the gated product of the block's rows and columns. -/
theorem outAt_apply (hx : ∀ s, (experts m c s).toNat < 32) (t : Fin (cfgM m hO).N) (p q : Fin 512) :
    (outAt m hO c t : S512x512.Idx → EReal) (ix2 p q)
      = gatedUp (experts m c) (used m c) (m ((c : Thread nD τ).loc main_arg2)) (m ((c : Thread nD τ).loc main_arg3)) (m ((c : Thread nD τ).loc main_arg4))
          ⟨(rowB t).val * 512 + p.val, by have := (rowB t).isLt; omega⟩ ⟨(colT t).val * 512 + q.val, by have := (colT t).isLt; omega⟩ := by
  have hblk : blockOf ⟨(rowB t).val * 512 + p.val, by have := (rowB t).isLt; omega⟩ = rowB t := Fin.ext (by show ((rowB t).val * 512 + p.val) / 512 = _; omega)
  unfold outAt outv gatedUp linear
  rw [usedWord_eq, hblk]
  rw [show ((rowB t).val * 512 + p.val) / 512 = (rowB t).val by omega]
  by_cases h : (BitVec.ofNat 32 (rowB t).val).slt (used m c (ix1 0)) = true
  · rw [if_neg (fun e => (cond3_iff _ _).mp e h), if_pos h]
    refine (pay3_apply _ _ _ _ _ p q).trans ?_
    refine congrArg₂ gate (congrArg₂ (· + ·) (Finset.sum_congr rfl fun k _ => congrArg₂ (· * ·) (rows_apply m hO c _ p k) (scrAt_apply m hO c hx _ _ k q).1) (bias1_apply m hO c hx _ q))
      (congrArg₂ (· + ·) (Finset.sum_congr rfl fun k _ => congrArg₂ (· * ·) (rows_apply m hO c _ p k) (scrAt_apply m hO c hx _ _ k q).2) (bias2_apply m hO c hx _ q))
  · rw [if_pos ((cond3_iff _ _).mpr h), if_neg h]
    exact Ideal.ofBits_zero_bf16

/-- The result as one array. -/
def result : S147968x2048.Idx → EReal := fun i =>
  gatedUp (experts m c) (used m c) (m ((c : Thread nD τ).loc main_arg2)) (m ((c : Thread nD τ).loc main_arg3)) (m ((c : Thread nD τ).loc main_arg4)) (i 0) (i 1)

/-- Row `r` and column `n` are in the block of the point of column tile `n / 512` and row block `r / 512`. -/
theorem covered (i : S147968x2048.Idx) : ∃ t : Fin (cfgM m hO).N, ((cfgM m hO).win 5).flush t = true ∧ i ∈ (((cfgM m hO).win 5).blk t).view.set := by
  have h0 : (i 0).val < 147968 := (i 0).isLt
  have h1 : (i 1).val < 2048 := (i 1).isLt
  have hN : (cfgM m hO).N = 1156 := N_0
  have ht : (i 1).val / 512 * 289 + (i 0).val / 512 < 1156 := by omega
  obtain ⟨a0, a1⟩ := coords_val ⟨(i 1).val / 512 * 289 + (i 0).val / 512, ht⟩
  refine ⟨⟨(i 1).val / 512 * 289 + (i 0).val / 512, hN.symm ▸ ht⟩, flush0_5 _ _, ?_⟩
  refine (ValueKit.mem_set_slice_whole_iff _ _ _ Iff.rfl).mpr (Rect.mem_set_unit.mpr fun a => ?_)
  match a with
  | ⟨0, _⟩ =>
    show (BitVec.ofNat 32 (grid0.coords _ 1).val).toNat * 512 ≤ (i 0).val ∧ (i 0).val < (BitVec.ofNat 32 (grid0.coords _ 1).val).toNat * 512 + 512
    rw [a1, BitVec.toNat_ofNat]; dsimp only; omega
  | ⟨1, _⟩ =>
    show (BitVec.ofNat 32 (grid0.coords _ 0).val).toNat * 512 ≤ (i 1).val ∧ (i 1).val < (BitVec.ofNat 32 (grid0.coords _ 0).val).toNat * 512 + 512
    rw [a0, BitVec.toNat_ofNat]; dsimp only; omega

/-- THE RESULT ARRAY after the last point. -/
theorem final (hx : ∀ s, (experts m c s).toNat < 32) : (dats m hO 0 c).arrAt 5 (cfgM m hO).N = result m c := by
  refine (dats m hO 0 c).arrAt_eq_of_emb 5 (result m c) (fun t _ y => ?_) (fun i => ?_)
  · have hy : ∀ y : S512x512.Idx, ∃ p q : Fin 512, y = ix2 p q := fun y => ⟨y 0, y 1, ValueIdx.eq_ix2 y⟩
    obtain ⟨p, q, rfl⟩ := hy y
    refine Eq.trans (b := (outAt m hO c t : S512x512.Idx → EReal) (ix2 p q)) ?_ ?_
    · rw [after0_5]; rfl
    · rw [outAt_apply m hO c hx t p q]
      have h0 : (colT t).val < 4 := (colT t).isLt
      have h1 : (rowB t).val < 289 := (rowB t).isLt
      refine congrArg₂ (gatedUp (experts m c) (used m c) _ _ _) (Fin.ext ?_) (Fin.ext ?_)
      · show _ = (BitVec.ofNat 32 (rowB t).val).toNat * 512 + 1 * p.val
        rw [BitVec.toNat_ofNat, Nat.mod_eq_of_lt (by omega), Nat.one_mul]
      · show _ = (BitVec.ofNat 32 (colT t).val).toNat * 512 + 1 * q.val
        rw [BitVec.toNat_ofNat, Nat.mod_eq_of_lt (by omega), Nat.one_mul]
  · exact covered m hO i

end Cert.UpIdeal.Gen

end
-- ==== Proof.UpClaim.lean ====
module

public import proofs.«01_k».proof.Defs
public import proofs.«01_k».proof.Proof.Range
public import proofs.«01_k».proof.Proof.UpSame
public import proofs.«01_k».proof.Proof.UpIdeal.Value
public import proofs.«01_k».proof.Proof.Gen.Pre_pre_up
public import proofs.«01_k».proof.Proof.Gen.UpRefIdeal.Run
public import proofs.«01_k».proof.Proof.Gen.UpRefIdeal.Read
public import Idealize.ShloMosaic.Lib.Quiescent

@[expose] public section

set_option maxRecDepth 16384

noncomputable section

/-! # The claims about the routed gated product -/

namespace Cert.UpClaim

open Idealize.ShloMosaic hiding ix1 ix2 ix3
open Idealize.ShloMosaic.TcCoe Idealize.ShloMosaic.ValueIdx
open Idealize.SL Idealize.SL.Sem

/-- What the precondition says of the machine words: every block's expert is one of the 32. -/
theorem experts_lt (m : (ℓ : Loc Up.nD Up.τ Up.sig) → Buf (Elt Bits) ℓ) (h : Pre_Up m) (c : Dev Up.nD) (s : Up.S289.Idx) : (UpIdeal.Gen.experts (F := Bits) m c s).toNat < 32 :=
  Range.toNat_lt _ (congrFun (h c) s)

/-- The same of the idealized program's words. -/
theorem experts_lt_ideal (m : (ℓ : Loc UpIdeal.nD UpIdeal.τ UpIdeal.sig) → Buf (Elt Ideal) ℓ) (h : Pre_UpIdeal m) (c : Dev UpIdeal.nD) (s : UpIdeal.S289.Idx) :
    (UpIdeal.Gen.experts m c s).toNat < 32 :=
  Range.toNat_lt _ (congrFun (h c) s)

/-- The kernel runs, leaves its arguments and every counter as they were. -/
theorem kernel_frame : quiescent_Up := fun m g h => by
  rw [Up.Same.defs_eq, Up.Same.main_eq]
  exact UpIdeal.Gen.frame (F := Bits) m g (UpIdeal.Gen.ok_of_experts m (experts_lt m h))

/-- The idealized kernel too. -/
theorem ideal_frame : quiescent_UpIdeal := fun m g h => UpIdeal.Gen.frame m g (UpIdeal.Gen.ok_of_experts m (experts_lt_ideal m h))

/-- The reference has no counters, so that its run leaves all of them at zero. -/
theorem ref_frame : quiescent_UpRefIdeal := fun m g _ =>
  (θ_run UpRefIdeal.defs _ _).mono (fun r h => ⟨fun c => (h c).2, sem_eq_zero_of_no_sems (by decide) r.2⟩) (UpRefIdeal.Value.run (F := Ideal) m g)

/-- The reference from the arguments the precondition admits. -/
theorem ref_frame_pre : quiescent_UpRefIdeal_pre_pre_up := fun m g _ => ref_frame m g trivial

/-- The run of the idealized kernel leaves `result` in its result array. -/
theorem kernel_value (m : (ℓ : Loc UpIdeal.nD UpIdeal.τ UpIdeal.sig) → Buf (Elt Ideal) ℓ) (g : Dev UpIdeal.nD → PrngReg)
    (hx : ∀ c s, (UpIdeal.Gen.experts m c s).toNat < 32) :
    θ_run (UpIdeal.defs (F := Ideal)) (onTc (τ := UpIdeal.τ) (UpIdeal.main (F := Ideal))) ⟨m, fun _ => 0, g⟩
      (fun r => ∀ c : Dev UpIdeal.nD, r.2.mem ((c.tc : Thread UpIdeal.nD UpIdeal.τ).loc UpIdeal.main_v1) = UpIdeal.Gen.result m c) :=
  (θ_run UpIdeal.defs _ _).mono
    (fun r h c => ((h c).1 5).trans (UpIdeal.Gen.final m (UpIdeal.Gen.ok_of_experts m hx) c (hx c)))
    (UpIdeal.Gen.run_main m g (UpIdeal.Gen.ok_of_experts m hx))

/-- The kernel and the reference leave equal results over the extended reals. -/
theorem values : algebraic_UpIdeal_UpRefIdeal := fun m g m' g' h he => by
  have hx := experts_lt_ideal m h
  refine ⟨fun c => UpIdeal.Gen.result m c, ?_, ?_⟩
  · exact (θ_run UpIdeal.defs _ _).mono (fun r hr c => ⟨hr.1 c, hr.2 c⟩)
      (θ_run_and (kernel_value m g hx) (UpIdeal.Gen.unchanged m g (UpIdeal.Gen.ok_of_experts m hx)))
  · refine (θ_run UpRefIdeal.defs _ _).mono (fun r hr c => ⟨(hr c).1.trans ?_, (hr c).2⟩) (UpRefIdeal.Value.run (F := Ideal) m' g')
    obtain ⟨e0, e1, e2, e3, e4⟩ := he c
    refine (UpRefIdeal.Read.val_main_v43_eq m' c).trans ?_
    rw [e0, e1, e2, e3, e4]
    funext i
    obtain ⟨r, n, rfl⟩ : ∃ (r : Fin 147968) (n : Fin 2048), i = ix2 r n := ⟨i 0, i 1, ValueIdx.eq_ix2 i⟩
    exact UpRefIdeal.Read.ref_apply _ (hx c) _ _ _ _ r n

end Cert.UpClaim

end
-- ==== Proof.DownSame.lean ====
module

public import proofs.«01_k».proof.Proof.Gen.Down
public import proofs.«01_k».proof.Proof.Gen.DownIdeal

@[expose] public section

set_option maxRecDepth 16384

noncomputable section

/-! # The routed product back and its idealization are one program

No operation was rewritten, so that what holds of the idealized program at every kind of floats holds of the kernel. -/

namespace Cert.Down.Same

open Idealize.ShloMosaic

variable {F : FTy → Type} [FloatOps F]

/-- The bodies are equal, -/
theorem body_eq : @Down.cc0_moe_down F _ _ = @DownIdeal.cc0_moe_down F _ _ := rfl

/-- so are the tables of bodies -/
theorem defs₀_eq : Down.defs₀ (F := F) = DownIdeal.defs₀ (F := F) := by
  unfold Down.defs₀ DownIdeal.defs₀
  refine congrArg Defs.onTc ?_
  funext l x
  match l, x with
  | 0, (t, s) =>
    show @Down.cc0_moe_down F _ _ _ _ _ _ _ _ _ _ _ _ _ _ _ _ _ _ _ = _
    rw [body_eq]
    rfl

/-- and the tables with the calls' pipelines, -/
theorem defs_eq : Down.defs (F := F) = DownIdeal.defs (F := F) := congrArg (Pipeline.defs DownIdeal.pcfgs) defs₀_eq

/-- and the host code is the same. -/
theorem main_eq : Down.main (F := F) = DownIdeal.main (F := F) := rfl

end Cert.Down.Same

end
-- ==== Proof.DownIdeal.Points.lean ====
/- The call's grid and windows: at which points a window is fetched or written back where that depends on no table, and the
   body as the pipeline calls it at a point. -/
module

public import proofs.«01_k».proof.Proof.Gen.DownIdeal
public import Idealize.ShloMosaic.Lib.Pipeline.Kit

@[expose] public section

noncomputable section

namespace Cert.DownIdeal.Gen

open Idealize.ShloMosaic Idealize.ShloMosaic.TcCoe
open Idealize.SL Idealize.SL.Sem

variable {F : FTy → Type} [FloatOps F]
/-! ## custom_call 0 -/

/-! The memrefs and the body are stated over the pipeline at any admissible contents `a` of the prefetched tables. A window
    whose index map reads no table has the same schedule at every `a`. -/

/-- Window 0 (the rows) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 4 (the result) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

end Cert.DownIdeal.Gen

end
-- ==== Proof.DownIdeal.Runs.lean ====
/- What the launch finds and hands over: the arrays when the region is entered, the prefetched tables, the windows' blocks,
   the scratch operands, and how the arguments are read off the final state. -/
module

public import proofs.«01_k».proof.Proof.Gen.DownIdeal.Launch
public import proofs.«01_k».proof.Proof.Gen.DownIdeal.Skeleton
public import proofs.«01_k».proof.Proof.DownIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the call, then the call's region at the contents they leave. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The side condition of the tables' contents: every window whose index map reads a table has its block inside the array at
    every point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S289 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c` held at half the full share at `f`: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves that the region hands the body, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point, fetched there or not, for any proof data whose array is the
    one found at entry and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, fetched there or not, for any proof data whose array is the
    one found at entry and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, fetched there or not, for any proof data whose array is the
    one found at entry and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, fetched there or not, for any proof data whose array is the
    one found at entry and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every array at the proof data's contents to one that ends with the arguments unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The body's branch conditions, of the words the body reads -/

/-- The first condition: the first block of a column sweep, or an expert other than the block before's. -/
abbrev Chg (i : grid0.Coords) (w w' : Elt F .i32) : Prop := Scalar.cmpi .ne (Scalar.extui (Scalar.ori (Scalar.cmpi .eq (BitVec.ofNat 32 (i 1).val) 0#32) (Scalar.cmpi .ne w w'))) 0#32 = 1#1

/-! ## No input window is ever idle -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-! ## The memrefs the body is given -/

/-- A staging buffer of output window 4, through which its contents are stated. -/
abbrev VO0_4 : View sig .tc .vmem S512x512 .bf16 := (Memref.whole cc0_stg4_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x512 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2048x512 .bf16 := Memref.whole cc0_scratch0
/-- The scratch `arg9` the kernel carries between points, as a view: what it holds is stated through it. -/
abbrev VS0_0 : View sig .tc .vmem S2048x512 .bf16 := scM0_0.view

/-- The invariant between points with the scratch operands as memrefs owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.DownIdeal.Gen

end
-- ==== Proof.DownIdeal.Run.lean ====
module

public import proofs.«01_k».proof.Proof.DownIdeal.Runs
public import Idealize.ShloMosaic.Lib.VecWindow

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole buffer at `x` reads after a store of all of it that is made only under `p`. -/
theorem read_store_if {s : Shape} {e : EltTy} {sp : Space} (A : Memref sig .tc sp s e) (hA : A.IsWhole) (x : s.Idx → Elt F e)
    (p : Prop) [Decidable p] {off : Fin s.rank → ℕ} (inb : ∀ a, off a + s.size a ≤ s.size a) (w : s.Idx → Elt F e) :
    A.view.read (Elt F) (if hc : p then A.view.writes (Elt F) (hA.unread x) [⟨Rect.unit off s.size inb, w⟩] else hA.unread x)
      = if p then w else x := by
  split
  · exact View.read_writes_full _ _ inb w []
  · exact hA.read_unread x

/-- The word at the block's own place of the table of experts, -/
abbrev wordAt (c : Dev nD) (i : grid0.Coords) (xt0 : TbBuf0 (F := F) c tbM0_0) : Elt F .i32 :=
  View.readAt (Elt F) tbM0_0.view (Rect.unit (s := S289) (k0_off1 i) S1.size (k0_off1_inb i)).toLoadRect xt0 (Shape.Idx.first (show 0 < S1.numel by decide))
/-- at the place before it, -/
abbrev wordBefore (c : Dev nD) (i : grid0.Coords) (xt0 : TbBuf0 (F := F) c tbM0_0) : Elt F .i32 :=
  View.readAt (Elt F) tbM0_0.view (Rect.unit (s := S289) (k0_off2 i) S1.size (k0_off2_inb i)).toLoadRect xt0 (Shape.Idx.first (show 0 < S1.numel by decide))
/-- and the number of blocks in use. -/
abbrev usedWord (c : Dev nD) (xt1 : TbBuf0 (F := F) c tbM0_1) : Elt F .i32 :=
  View.readAt (Elt F) tbM0_1.view (Rect.unit (s := S1) ![0] S1.size inb_S1_S1_0).toLoadRect xt1 (Shape.Idx.first (show 0 < S1.numel by decide))

/-- A scratch after the body: the new weights where the expert changed, what it held otherwise. -/
def scr (c : Dev nD) (i : grid0.Coords) (xt0 : TbBuf0 (F := F) c tbM0_0) (w s : Vec F S2048x512 .bf16) : Vec F S2048x512 .bf16 :=
  if Chg (F := F) i (wordAt c i xt0) (wordBefore c i xt0) then w else s

/-- The output block after the body: the weighted product at a block in use, zeros past the last. -/
def outv (c : Dev nD) (i : grid0.Coords) (xt1 : TbBuf0 (F := F) c tbM0_1) (x0 : Vec F S512x2048 .bf16) (x2 : Vec F S1x1x512 .f32) (x3 : Vec F S512x1 .f32)
    (a : Vec F S2048x512 .bf16) : Vec F S512x512 .bf16 :=
  if k0_cond3 i (usedWord c xt1) = 1#1 then k0_pay3 else k0_pay2 x0 a x2 x3

/-- A one-bit word widened and compared with zero is itself. -/
theorem ne_zero_extui (b : BitVec 1) : Scalar.cmpi .ne (Scalar.extui b) 0#32 = b := by
  revert b; decide

/-- A block that is not past the last in use is before it: one of the two stores of the output is made. -/
theorem cond2_of_not_cond3 (i : grid0.Coords) (w : BitVec 32) (h : ¬k0_cond3 i w = 1#1) : k0_cond2 i w = 1#1 := by
  have h' : ¬Scalar.cmpi .sge (BitVec.ofNat 32 (i 1).val) w = 1#1 := fun e => h ((ne_zero_extui _).trans e)
  refine (ne_zero_extui _).trans ?_
  rw [show Scalar.cmpi .sge (BitVec.ofNat 32 (i 1).val) w = _ from WordCmp.cmpi_sge_eq _ _, WordCmp.ofBool_decide_eq_one_iff] at h'
  rw [show Scalar.cmpi .slt (BitVec.ofNat 32 (i 1).val) w = _ from WordCmp.cmpi_slt_eq _ _, WordCmp.ofBool_decide_eq_one_iff]
  omega

set_option maxHeartbeats 1000000 in
/-- The whole body at a point: from the input blocks, the two tables and what the scratch holds, to the scratch and the
    output block after it. -/
theorem kernel_run (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x1x512 .f32) (harg6 : arg6.IsWhole) (arg7 : Memref sig .tc .vmem S512x1 .f32) (harg7 : arg7.IsWhole) (arg8 : Memref sig .tc .vmem S512x512 .bf16) (harg8 : arg8.IsWhole)
    (arg9 : Memref sig .tc .vmem S2048x512 .bf16) (harg9 : arg9.IsWhole)
    (x0 : Vec F S512x2048 .bf16) (x1 : Vec F S1x2048x512 .f32) (x2 : Vec F S1x1x512 .f32) (x3 : Vec F S512x1 .f32) (xt0 : TbBuf0 (F := F) c tbM0_0) (xt1 : TbBuf0 (F := F) c tbM0_1)
    (s0 : Vec F S2048x512 .bf16) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare s0 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare (outv c i xt1 x0 x2 x3 (scr c i xt0 (k0_pay1 x1) s0))
                ∗ owns (c : Thread nD τ) arg9 fullShare (scr c i xt0 (k0_pay1 x1) s0) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7 arg8 harg8 arg9 harg9) K := by
    simp only [cc0_moe_down_eq_skeleton]; unfold cc0_moe_down_skel
    have e1 : arg5.view.readAt (Elt F) (Rect.unit ![0, 0, 0] S1x2048x512.size inb_S1x2048x512_S1x2048x512_0_0_0).toLoadRect (harg5.unread x1) = x1 :=
      (View.readAt_full _ _ _).trans (harg5.read_unread x1)
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, HT0, HT1, Hk⟩
    obtain rfl := harg4.eq_unread hf0; obtain rfl := harg5.eq_unread hf1; obtain rfl := harg6.eq_unread hf2; obtain rfl := harg7.eq_unread hf3
    obtain rfl := harg9.eq_unread hs0
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      unfold outv
      split
      · rename_i h
        rw [if_pos (show k0_cond3 i (usedWord c xt1) = 1#1 from h)]
        exact View.read_writes_full _ _ _ _ _
      · rename_i h
        rw [if_neg (show ¬k0_cond3 i (usedWord c xt1) = 1#1 from h)]
        split
        · refine (View.read_writes_full _ _ _ _ _).trans ?_
          congr 1
          · exact (View.readAt_full _ _ _).trans (harg4.read_unread x0)
          · rw [← e1]; exact (View.readAt_full _ _ _).trans (read_store_if arg9 harg9 s0 _ _ _)
          · exact (View.readAt_full _ _ _).trans (harg6.read_unread x2)
          · exact (View.readAt_full _ _ _).trans (harg7.read_unread x3)
        · rename_i h2
          exact absurd (cond2_of_not_cond3 i _ h) h2
    isplitl [HS0]
    · iexists _; isplitr
      swap; · iexact HS0
      ipureintro; rw [← e1]; exact read_store_if arg9 harg9 s0 _ _ _
    isplitl [HT0]; · iexact HT0
    iexact HT1

end Cert.DownIdeal.Gen

end
-- ==== Proof.DownIdeal.Frame.lean ====
module

public import proofs.«01_k».proof.Proof.DownIdeal.Run
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the scratch and the output hold after each point -/

/-- At the first block of a sweep the weights are taken whatever the table's words are. -/
theorem chg_first (i : grid0.Coords) (h : (i 1).val = 0) (w w' : Elt F .i32) : Chg (F := F) i w w' := by
  refine (ne_zero_extui _).trans ?_
  rw [h]
  rw [show Scalar.cmpi .eq (BitVec.ofNat 32 0) 0#32 = 1#1 from by decide]
  rw [show Scalar.cmpi .ne w w' = BitVec.ofBool (decide (w ≠ w')) from WordCmp.cmpi_ne_eq _ _]
  cases decide (w ≠ w') <;> decide

/-- What the scratch holds after the body at position `n`: by recursion on the position, the weights' block where the expert
    changed and what the position before left otherwise. -/
def scrAt (hO : Ok m) (c : Dev nD) : (n : ℕ) → n < (cfgM m hO).N → Vec F S2048x512 .bf16
  | 0, hn => k0_pay1 (iblk m hO c 1 ⟨0, hn⟩)
  | n + 1, hn => scr c (grid0.coords ⟨n + 1, hn⟩) (tbl m 0) (k0_pay1 (iblk m hO c 1 ⟨n + 1, hn⟩)) (scrAt hO c n (Nat.lt_of_succ_lt hn))

/-- At the first point the scratch holds the first weights, whatever it held before. -/
theorem scr_first (c : Dev nD) (t : Fin grid0.N) (h : t.val = 0) (xt0 : TbBuf0 (F := F) c tbM0_0) (w s : Vec F S2048x512 .bf16) :
    scr c (grid0.coords t) xt0 w s = w := by
  unfold scr
  have h0 : t = ⟨0, by decide⟩ := Fin.ext h
  exact if_pos (chg_first _ (by rw [h0]; decide) _ _)

/-- The scratch after a point that is not the first, from the point before. -/
theorem scrAt_pos (hO : Ok m) (c : Dev nD) (t : Fin (cfgM m hO).N) (hz : t.val ≠ 0) :
    scrAt m hO c t.val t.isLt = scr c (grid0.coords t) (tbl m 0) (k0_pay1 (iblk m hO c 1 t)) (scrAt m hO c (t.val - 1) (Nat.lt_of_le_of_lt (Nat.sub_le _ _) t.isLt)) := by
  obtain ⟨n, hn⟩ := t
  cases n with
  | zero => exact absurd rfl hz
  | succ n => rfl

/-- The scratch after the first point, over anything. -/
theorem scrAt_zero (hO : Ok m) (c : Dev nD) (t : Fin (cfgM m hO).N) (hz : t.val = 0) (d0 : Vec F S2048x512 .bf16) :
    scrAt m hO c t.val t.isLt = scr c (grid0.coords t) (tbl m 0) (k0_pay1 (iblk m hO c 1 t)) d0 := by
  obtain ⟨n, hn⟩ := t
  obtain rfl : n = 0 := hz
  exact (scr_first c _ rfl _ _ _).symm

/-- What the output's staging buffer holds after the body at point `t`. -/
def outAt (hO : Ok m) (c : Dev nD) (t : Fin (cfgM m hO).N) : Vec F S512x512 .bf16 :=
  outv c (grid0.coords t) (tbl m 1) (iblk m hO c 0 t) (iblk m hO c 2 t) (iblk m hO c 3 t) (scrAt m hO c t.val t.isLt)

/-- One of the two stores of the output is made whatever the word: the two conditions are not both false. -/
theorem not_idle (i : grid0.Coords) (w : BitVec 32) : (!(k0_cond2 i w == 1#1) && !(k0_cond3 i w == 1#1)) = false := by
  by_cases h : k0_cond3 i w = 1#1
  · rw [h]; cases (k0_cond2 i w == 1#1) <;> rfl
  · rw [cond2_of_not_cond3 _ _ h]; rfl

/-- The output is never idle. -/
theorem liveAt0_4 (hO : Ok m) (t : Fin (cfgM m hO).N) : (cfgM m hO).idle 4 (grid0.coords t) = false :=
  not_idle (grid0.coords t) _

/-- The invariant before position `n`: at first every scratch holds anything; afterwards the scratch that is carried holds what
    the point before left in it. The generator register is at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare (scrAt m hO c n hn) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(owns (c : Thread nD τ) scM0_0 fullShare (scrAt m hO c n hn) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(owns (c : Thread nD τ) scM0_0 fullShare (scrAt m hO c (n - 1) (by omega)) ∗ (∃ r, prngReg c r)) ∗ Pipeline.ΦT pre0 (tbl m) c) := by
  cases n with
  | zero => exact absurd rfl hz
  | succ n => rfl

/-! ## The pipeline's proof data -/

/-- The proof data on core `c`: the arrays as found at entry; after the body at a point each input's buffer at its block and
    the output's at `outAt`; the invariant above; nothing owed; each input's share of its array. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q w := Pipeline.shareOf spec0 w
  owed _ := 0

/-- The proof data's arrays are the contents at entry. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 4000000 in
/-- The body at any point: the inputs' memrefs hold their blocks, the scratch what the point before left (anything at the
    first point), so `kernel_run` applies and leaves the scratch and the output at this point's contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  unfold outAt
  by_cases hz : t.val = 0
  · rw [PhiS_castSucc m hO c t, PhiS_zero m hO c _ _ hz, PhiT0_eq, PhiA0_eq]
    iintro ⟨⟨⟨⟨%ds0, HS0⟩, Hg⟩, ⟨HT0, HT1⟩⟩, Ho, ⟨%d0, H0⟩, ⟨%d1, H1⟩, ⟨%d2, H2⟩, ⟨%d3, H3⟩, ⟨%d4, H4⟩⟩
    rw [scrAt_zero m hO c t hz ds0]
    iapply (kernel_run c (grid0.coords t) _ _ _ _ _ _ _ _ _ _ _ _ (iblk m hO c 0 t) (iblk m hO c 1 t) (iblk m hO c 2 t) (iblk m hO c 3 t) (tbl m 0) (tbl m 1) _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [PhiS_castSucc m hO c t, PhiS_pos m hO c _ _ hz, PhiT0_eq]
    rw [scrAt_pos m hO c t hz]
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply (kernel_run c (grid0.coords t) _ _ _ _ _ _ _ _ _ _ _ _ (iblk m hO c 0 t) (iblk m hO c 1 t) (iblk m hO c 2 t) (iblk m hO c 3 t) (tbl m 0) (tbl m 1) _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1156 := N_0; omega)

/-! ## The run and the frame -/

set_option backward.isDefEq.respectTransparency.types false in
/-- The launch ends with every array at the proof data's contents and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch0.to₀ defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The call terminates, its arguments end unchanged and every counter ends at zero, under the tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.DownIdeal.Gen

end
-- ==== Proof.DownIdeal.Words.lean ====
module

public import proofs.«01_k».proof.Proof.DownIdeal.Runs
public import Idealize.ShloMosaic.Lib.ValueIdx

@[expose] public section

set_option maxRecDepth 16384

noncomputable section

/-! # Where the table of experts puts the windows

The index maps of the weights and the biases read the prefetched table. Here they are as functions of its words, and the
condition that every block lies inside its array follows from the words being below 32. -/

namespace Cert.DownIdeal.Gen

open Idealize.ShloMosaic
open Idealize.ShloMosaic.TcCoe Idealize.ShloMosaic.ValueIdx
open Idealize.SL Idealize.SL.Sem

variable {F : FTy → Type} [FloatOps F] (m : (ℓ : Loc nD τ sig) → Buf (Elt F) ℓ)

/-- The table of experts on core `c`, as the launch finds it. -/
abbrev experts (c : Dev nD) : S289.Idx → BitVec 32 := m ((c : Thread nD τ).loc main_arg0)
/-- The number of blocks in use. -/
abbrev used (c : Dev nD) : S1.Idx → BitVec 32 := m ((c : Thread nD τ).loc main_arg1)

/-- The first prefetched table is the first argument, -/
theorem tbl_experts (c : Dev nD) : (tbl m 0 : S289.Idx → BitVec 32) = experts m c := (V_pre m c 0).symm.trans (V_main_arg0 m c)
/-- and the second the second. -/
theorem tbl_used (c : Dev nD) : (tbl m 1 : S1.Idx → BitVec 32) = used m c := (V_pre m c 1).symm.trans (V_main_arg1 m c)

/-- The word an index map reads is the table's at the block's place. -/
theorem word_at (c : Dev nD) (i : grid0.Coords) (h : ∀ a, (![(Scalar.indexCast (BitVec.ofNat 32 (i 1).val)).toNat] : Fin 1 → ℕ) a + S1.size a ≤ S289.size a) :
    ((tbl m).at 0 (Rect.unit (s := S289) ![(Scalar.indexCast (BitVec.ofNat 32 (i 1).val)).toNat] S1.size h) numel1_S1 : BitVec 32) = experts m c (ix1 (i 1)) := by
  refine (congrFun (tbl_experts m c) _).trans (congrArg (experts m c) (funext fun a => Fin.ext ?_))
  match a with
  | ⟨0, _⟩ =>
    have h1 : (i 1).val < 289 := (i 1).isLt
    show (BitVec.ofNat 32 (i 1).val).toNat + 1 * 0 = (i 1).val
    rw [BitVec.toNat_ofNat, Nat.mod_eq_of_lt (by omega)]; rfl

/-- Where each weights' window is: at the block's expert, and at the column tile. -/
theorem index_1 (c : Dev nD) (i : grid0.Coords) : cc0_transform_1 k0_off1_inb numel1_S1 (tbl m) i = ![(experts m c (ix1 (i 1))).toNat, 0, (i 0).val] := by
  have h0 : (i 0).val < 4 := (i 0).isLt
  have e : ∀ w : BitVec 32, w = experts m c (ix1 (i 1)) →
      ![w.toNat, (0#32 : BitVec 32).toNat, (BitVec.ofNat 32 (i 0).val).toNat] = ![(experts m c (ix1 (i 1))).toNat, 0, (i 0).val] := fun w hw => by
    rw [hw, BitVec.toNat_ofNat, BitVec.toNat_ofNat, Nat.mod_eq_of_lt (show (i 0).val < 2 ^ 32 by omega)]
  exact e _ (word_at m c i _)
/-- The biases'. -/
theorem index_2 (c : Dev nD) (i : grid0.Coords) : cc0_transform_2 k0_off1_inb numel1_S1 (tbl m) i = ![(experts m c (ix1 (i 1))).toNat, 0, (i 0).val] := index_1 m c i

/-- Where the table's words are below 32 every window's block lies inside its array. -/
theorem ok_of_experts (h : ∀ c s, (experts m c s).toNat < 32) : Ok m := by
  have hw : ∀ i : grid0.Coords, (experts m (0 : Dev nD) (ix1 (i 1))).toNat < 32 := fun i => h 0 _
  refine ⟨fun i => ⟨fun a => ?_, .inl rfl⟩, fun i => ⟨fun a => ?_, .inl rfl⟩⟩ <;>
  have hi := hw i <;> have h0 : (i 0).val < 4 := (i 0).isLt
  · rw [index_1 m 0 i]
    match a with
    | ⟨0, _⟩ => show ((experts m 0 (ix1 (i 1))).toNat + 1) * 1 ≤ 32; omega
    | ⟨1, _⟩ => show (0 + 1) * 2048 ≤ 2048; omega
    | ⟨2, _⟩ => show ((i 0).val + 1) * 512 ≤ 2048; omega
  · rw [index_2 m 0 i]
    match a with
    | ⟨0, _⟩ => show ((experts m 0 (ix1 (i 1))).toNat + 1) * 1 ≤ 32; omega
    | ⟨1, _⟩ => show (0 + 1) * 1 ≤ 1; omega
    | ⟨2, _⟩ => show ((i 0).val + 1) * 512 ≤ 2048; omega

end Cert.DownIdeal.Gen

end
-- ==== Proof.DownSpec.lean ====
module

public import proofs.«01_k».proof.Proof.Gen.DownRefIdeal.Read
public import proofs.«01_k».proof.Proof.UpSpec
public import Idealize.ShloMosaic.Lib.IdealHost
public import Idealize.ShloMosaic.Lib.WordCmp

@[expose] public section

set_option maxRecDepth 16384

noncomputable section

/-! # The weighted product of the experts' second layer, as one formula

`weightedDown` says what each element of the experts' second layer is, over the extended reals: row `r` belongs to block
`r / 512`, the block to an expert, and the element is the inner product with that expert's weights, plus the bias, times the
row's own weight, or zero past the last block in use. The reference is shown equal to it here, the kernel in its own module. -/

namespace Cert.DownSpec

open Idealize.ShloMosaic Idealize.ShloMosaic.ValueIdx Cert.UpSpec

/-- The second layer of the experts at row `r` and column `n`, weighted. -/
def weightedDown (be : (⟨1, ![289]⟩ : Shape).Idx → BitVec 32) (nu : (⟨1, ![1]⟩ : Shape).Idx → BitVec 32) (x : (⟨2, ![147968, 2048]⟩ : Shape).Idx → EReal)
    (w : (⟨3, ![32, 2048, 2048]⟩ : Shape).Idx → EReal) (b : (⟨2, ![32, 2048]⟩ : Shape).Idx → EReal) (sw : (⟨1, ![147968]⟩ : Shape).Idx → EReal)
    (r : Fin 147968) (n : Fin 2048) : EReal :=
  if (BitVec.ofNat 32 (r.val / 512)).slt (nu (ix1 0)) then
    ((∑ k : Fin 2048, x (ix2 r k) * w (ix3 (expert be (blockOf r)) k n)) + b (ix2 (expert be (blockOf r)) n)) * sw (ix1 r)
  else 0

end Cert.DownSpec

namespace Cert.DownRefIdeal.Read

open Idealize.ShloMosaic Idealize.ShloMosaic.ValueIdx Cert.UpSpec Cert.DownSpec

variable (be : S289.Idx → BitVec 32)

/-- Where the table's words are in range, the reference's wrapped index is the word. -/
theorem wrapped (hbe : ∀ s, (be s).toNat < 32) (s : S289.Idx) : val_main_v6 (F := Ideal) be s = be s := by
  rw [val_main_v6_apply, val_main_v3_apply, val_main_v2_apply, val_main_c_apply, WordCmp.cmpi_slt_eq]
  have h : ¬(be s).toInt < (0#32 : BitVec 32).toInt := by
    have := hbe s
    rw [BitVec.toInt_eq_toNat_of_lt (by omega)]; simp
  rw [decide_eq_false h]; rfl

/-- The plane number the gathers clamp is the block's expert. -/
theorem clamped (hbe : ∀ s, (be s).toNat < 32) (s : Fin 289) (q : S289x1.Idx) (hq : (q 0).val = s.val) :
    min (val_main_v7 (F := Ideal) be q).toInt.toNat (32 - 1) = (expert be s).val := by
  have hs : idx_main_v7 q = ix1 s := funext fun a => match a with | ⟨0, _⟩ => Fin.ext hq
  rw [val_main_v7_apply, wrapped be hbe, hs, BitVec.toInt_eq_toNat_of_lt (by have := hbe (ix1 s); omega)]
  rfl

/-- The gathered weights: block `s` of them is its expert's. -/
theorem weights_apply (hbe : ∀ s, (be s).toNat < 32) (w : S32x2048x2048.Idx → EReal) (s : Fin 289) (k : Fin 2048) (n : Fin 2048) :
    val_main_v8 (F := Ideal) be w (ix3 s k n) = w (ix3 (expert be s) k n) :=
  Plane.gather_plane _ w _ s k n _ (clamped be hbe s _ rfl)

/-- The gathered biases: block `s` of them is its expert's. -/
theorem biases_apply (hbe : ∀ s, (be s).toNat < 32) (b : S32x2048.Idx → EReal) (s : Fin 289) (n : Fin 2048) :
    val_main_v16 (F := Ideal) be b (ix2 s n) = b (ix2 (expert be s) n) :=
  Plane.gather_row _ b _ s n _ (clamped be hbe s _ rfl)

/-- The product plus the bias, at block `s`, row `i` of it and column `n`. -/
theorem linear_apply (hbe : ∀ s, (be s).toNat < 32) (x : S147968x2048.Idx → EReal) (w : S32x2048x2048.Idx → EReal) (b : S32x2048.Idx → EReal)
    (r : Fin 147968) (i : Fin 512) (hi : i.val = r.val % 512) (n : Fin 2048) :
    val_main_v19 (F := Ideal) be x w b (ix3 (blockOf r) i n) = (∑ k : Fin 2048, x (ix2 r k) * w (ix3 (expert be (blockOf r)) k n)) + b (ix2 (expert be (blockOf r)) n) := by
  rw [val_main_v19_apply, val_main_v9_apply, val_main_v18_apply, val_main_v17_apply]
  refine congrArg₂ (· + ·) (Finset.sum_congr rfl fun k _ => ?_) ?_
  · rw [val_main_v1_apply, val_main_v0_apply]
    refine congrArg₂ (· * ·) (congrArg x (funext fun a => Fin.ext ?_)) ((congrArg _ ?_).trans (weights_apply be hbe w (blockOf r) k n))
    · have := k.isLt
      match a with
      | ⟨0, _⟩ => show ((r.val / 512 * 512 + i.val) * 2048 + k.val) / 2048 = r.val; omega
      | ⟨1, _⟩ => show ((r.val / 512 * 512 + i.val) * 2048 + k.val) % 2048 = k.val; omega
    · funext a; match a with | ⟨0, _⟩ => rfl | ⟨1, _⟩ => rfl | ⟨2, _⟩ => rfl
  · refine (congrArg _ ?_).trans (biases_apply be hbe b (blockOf r) n)
    funext a; match a with | ⟨0, _⟩ => rfl | ⟨1, _⟩ => rfl

/-- THE REFERENCE IS THE FORMULA. -/
theorem ref_apply (hbe : ∀ s, (be s).toNat < 32) (nu : S1.Idx → BitVec 32) (x : S147968x2048.Idx → EReal) (w : S32x2048x2048.Idx → EReal) (b : S32x2048.Idx → EReal)
    (sw : S147968.Idx → EReal) (r : Fin 147968) (n : Fin 2048) : val_main_v30 (F := Ideal) be nu x w b sw (ix2 r n) = weightedDown be nu x w b sw r n := by
  have hr := r.isLt
  have hn := n.isLt
  have hidx : idx_main_v29 (ix2 r n) = ix3 (blockOf r) ⟨r.val % 512, Nat.mod_lt _ (by decide)⟩ n := by
    funext a; refine Fin.ext ?_
    match a with
    | ⟨0, _⟩ => show (r.val * 2048 + n.val) / 1048576 = r.val / 512; omega
    | ⟨1, _⟩ => show (r.val * 2048 + n.val) / 2048 % 512 = r.val % 512; omega
    | ⟨2, _⟩ => show (r.val * 2048 + n.val) % 2048 = n.val; omega
  rw [val_main_v30_apply, val_main_v29_apply, hidx, val_main_v28_apply]
  rw [val_main_call0_v1_apply, val_main_v27_apply, val_main_v26_apply, val_main_v25_apply, val_main_v24_apply, WordCmp.cmpi_slt_eq]
  rw [val_main_v23_apply, val_main_v22_apply, val_main_v21_apply, val_main_v20_apply, val_main_call0_v2_apply, val_main_call0_v0_apply, val_main_cst_apply]
  rw [linear_apply be hbe x w b r _ rfl]
  have zero : Ideal.ofBits .f32 0x00000000#32 = 0 := Ideal.ofBits_zero_f32
  have hsw : idx_main_v20 (idx_main_v21 (idx_main_v22 (ix3 (blockOf r) ⟨r.val % 512, Nat.mod_lt _ (by decide)⟩ n))) = ix1 r := by
    funext a; refine Fin.ext ?_
    match a with | ⟨0, _⟩ => show r.val / 512 * 512 + r.val % 512 = r.val; omega
  have hnu : idx_main_v25 (idx_main_v27 (idx_main_call0_v1 (ix3 (blockOf r) ⟨r.val % 512, Nat.mod_lt _ (by decide)⟩ n))) = ix1 0 := by
    funext a; match a with | ⟨0, _⟩ => rfl
  rw [hsw, hnu]
  unfold weightedDown
  show (if BitVec.ofBool (decide ((BitVec.ofNat 32 (r.val / 512)).toInt < (nu (ix1 0)).toInt)) = 1#1 then _ else Ideal.ofBits .f32 0x00000000#32) = _
  exact Eq.trans (if_congr (WordCmp.ofBool_decide_eq_one_iff _) rfl zero) (if_congr (by rw [BitVec.slt, decide_eq_true_iff]) rfl rfl)

end Cert.DownRefIdeal.Read

end
-- ==== Proof.DownIdeal.Value.lean ====
module

public import proofs.«01_k».proof.Proof.DownIdeal.Frame
public import proofs.«01_k».proof.Proof.DownIdeal.Words
public import proofs.«01_k».proof.Proof.DownSpec
public import Idealize.ShloMosaic.Lib.ValueLayout
public import Idealize.ShloMosaic.Lib.MatmulPlain
public import Idealize.ShloMosaic.Lib.Pipeline.ValueKit

@[expose] public section

set_option maxRecDepth 16384

noncomputable section

/-! # What the kernel of the weighted product computes -/

namespace Cert.DownIdeal.Gen

open Idealize.ShloMosaic hiding ix1 ix2 ix3
open Idealize.ShloMosaic.TcCoe Idealize.ShloMosaic.ValueIdx
open Idealize.SL Idealize.SL.Sem
open Idealize.ShloMosaic.Pipeline (Dat Cfg Window)

/-! ## The blocks at coordinates -/

variable {F : FTy → Type} [FloatOps F] (m : (ℓ : Loc nD τ sig) → Buf (Elt F) ℓ) (hO : Ok m) (c : Dev nD)

/-- The row block and the column tile of a point. -/
abbrev rowB (t : Fin grid0.N) : Fin 289 := grid0.coords t 1
/-- The column tile at a point. -/
abbrev colT (t : Fin grid0.N) : Fin 4 := grid0.coords t 0

open Cert.UpSpec (expert)

/-- A block's expert, when it is one of the 32, is the table's word. -/
theorem expert_val (s : Fin 289) (h : (experts m c (ix1 s)).toNat < 32) : (expert (experts m c) s).val = (experts m c (ix1 s)).toNat := by
  show min _ 31 = _; omega

/-- The rows' block. -/
theorem rows_apply (t : Fin (cfgM m hO).N) (p : Fin 512) (k : Fin 2048) :
    (iblk m hO c 0 t : S512x2048.Idx → F .bf16) (ix2 p k)
      = m ((c : Thread nD τ).loc main_arg2) (ix2 ⟨(rowB t).val * 512 + p.val, by have := (rowB t).isLt; omega⟩ k) := by
  refine (congrFun (V_main_arg2 m c) _).trans (congrArg (m ((c : Thread nD τ).loc main_arg2)) (funext fun a => Fin.ext ?_))
  have h1 : (rowB t).val < 289 := (rowB t).isLt
  match a with
  | ⟨0, _⟩ =>
    show (BitVec.ofNat 32 (rowB t).val).toNat * 512 + 1 * p.val = _
    rw [BitVec.toNat_ofNat, Nat.mod_eq_of_lt (by omega), Nat.one_mul]
  | ⟨1, _⟩ => show (0#32 : BitVec 32).toNat * 2048 + 1 * k.val = k.val; rw [Nat.one_mul]; exact Nat.zero_add _

/-- The weights' block. -/
theorem weights_apply (hx : ∀ s, (experts m c s).toNat < 32) (t : Fin (cfgM m hO).N) (k : Fin 2048) (q : Fin 512) :
    (iblk m hO c 1 t : S1x2048x512.Idx → F .f32) (ix3 0 k q)
      = m ((c : Thread nD τ).loc main_arg3) (ix3 (expert (experts m c) (rowB t)) k ⟨(colT t).val * 512 + q.val, by have := (colT t).isLt; omega⟩) := by
  refine (congrFun (V_main_arg3 m c) _).trans (congrArg (m ((c : Thread nD τ).loc main_arg3)) (funext fun a => Fin.ext ?_))
  have e := index_1 m c (grid0.coords t)
  match a with
  | ⟨0, _⟩ =>
    refine Eq.trans ?_ (expert_val m c (rowB t) (hx _)).symm
    show cc0_transform_1 k0_off1_inb numel1_S1 (tbl m) (grid0.coords t) 0 * 1 + 1 * 0 = _
    rw [e]; exact Nat.mul_one _
  | ⟨1, _⟩ =>
    show cc0_transform_1 k0_off1_inb numel1_S1 (tbl m) (grid0.coords t) 1 * 2048 + 1 * k.val = k.val
    rw [e, Nat.one_mul]; exact Nat.zero_add _
  | ⟨2, _⟩ =>
    show cc0_transform_1 k0_off1_inb numel1_S1 (tbl m) (grid0.coords t) 2 * 512 + 1 * q.val = (colT t).val * 512 + q.val
    rw [e, Nat.one_mul]; rfl

/-- The biases as the region finds them: a unit axis in the middle. -/
theorem V_main_v0 (j : S32x1x2048.Idx) : (V m c main_v0 : S32x1x2048.Idx → F .f32) j = m ((c : Thread nD τ).loc main_arg4) (ix2 (j 0) (j 2)) := by
  have e : V m c main_v0 = broadcastInDim S32x1x2048 ![0, 2] bcast_S32x2048_S32x1x2048_0_2 (m ((c : Thread nD τ).loc main_arg4)) := rfl
  rw [e]
  show m _ _ = _
  refine congrArg (m ((c : Thread nD τ).loc main_arg4)) (funext fun a => ?_)
  match a with | ⟨0, _⟩ => rfl | ⟨1, _⟩ => rfl

/-- The biases' block. -/
theorem bias_apply (hx : ∀ s, (experts m c s).toNat < 32) (t : Fin (cfgM m hO).N) (q : Fin 512) :
    (iblk m hO c 2 t : S1x1x512.Idx → F .f32) (ix3 0 0 q)
      = m ((c : Thread nD τ).loc main_arg4) (ix2 (expert (experts m c) (rowB t)) ⟨(colT t).val * 512 + q.val, by have := (colT t).isLt; omega⟩) := by
  refine (V_main_v0 m c _).trans (congrArg (m ((c : Thread nD τ).loc main_arg4)) (funext fun a => Fin.ext ?_))
  have e := index_2 m c (grid0.coords t)
  match a with
  | ⟨0, _⟩ =>
    refine Eq.trans ?_ (expert_val m c (rowB t) (hx _)).symm
    show cc0_transform_2 k0_off1_inb numel1_S1 (tbl m) (grid0.coords t) 0 * 1 + 1 * 0 = _
    rw [e]; exact Nat.mul_one _
  | ⟨1, _⟩ =>
    show cc0_transform_2 k0_off1_inb numel1_S1 (tbl m) (grid0.coords t) 2 * 512 + 1 * q.val = (colT t).val * 512 + q.val
    rw [e, Nat.one_mul]; rfl

/-- The slots' weights as the region finds them: a unit axis at the end. -/
theorem V_main_v1 (j : S147968x1.Idx) : (V m c main_v1 : S147968x1.Idx → F .f32) j = m ((c : Thread nD τ).loc main_arg5) (ix1 (j 0)) := by
  have e : V m c main_v1 = broadcastInDim S147968x1 ![0] bcast_S147968_S147968x1_0 (m ((c : Thread nD τ).loc main_arg5)) := rfl
  rw [e]
  show m _ _ = _
  refine congrArg (m ((c : Thread nD τ).loc main_arg5)) (funext fun a => ?_)
  match a with | ⟨0, _⟩ => rfl

/-- The slots' weights of the block. -/
theorem slots_apply (t : Fin (cfgM m hO).N) (p : Fin 512) :
    (iblk m hO c 3 t : S512x1.Idx → F .f32) (ix2 p 0)
      = m ((c : Thread nD τ).loc main_arg5) (ix1 ⟨(rowB t).val * 512 + p.val, by have := (rowB t).isLt; omega⟩) := by
  refine (V_main_v1 m c _).trans (congrArg (m ((c : Thread nD τ).loc main_arg5)) (funext fun a => Fin.ext ?_))
  have h1 : (rowB t).val < 289 := (rowB t).isLt
  match a with
  | ⟨0, _⟩ =>
    show (BitVec.ofNat 32 (rowB t).val).toNat * 512 + 1 * p.val = _
    rw [BitVec.toNat_ofNat, Nat.mod_eq_of_lt (by omega), Nat.one_mul]

/-! ## The scratch: the weights of the point's expert -/

/-- The coordinates of a point: column tiles outside, row blocks inside. -/
theorem coords_val : ∀ t : Fin grid0.N, (grid0.coords t 0).val = t.val / 289 ∧ (grid0.coords t 1).val = t.val % 289 := by decide +kernel
/-- Where the body reads the table a second time: at the place before the block's. -/
theorem off2_val : ∀ t : Fin grid0.N, k0_off2 (grid0.coords t) 0 = (grid0.coords t 1).val - 1 := by decide +kernel

/-- The word the body reads at the block's place, -/
theorem wordAt_eq (t : Fin grid0.N) : wordAt c (grid0.coords t) (tbl m 0) = experts m c (ix1 (rowB t)) := by
  refine (congrFun (tbl_experts m c) _).trans (congrArg (experts m c) (funext fun a => Fin.ext ?_))
  match a with
  | ⟨0, _⟩ =>
    show k0_off1 (grid0.coords t) 0 + 1 * 0 = (rowB t).val
    rw [k0_off1_eq]; rfl
/-- and at the place before it. -/
theorem wordBefore_eq (t : Fin grid0.N) (s : Fin 289) (hs : s.val = (rowB t).val - 1) : wordBefore c (grid0.coords t) (tbl m 0) = experts m c (ix1 s) := by
  refine (congrFun (tbl_experts m c) _).trans (congrArg (experts m c) (funext fun a => Fin.ext ?_))
  match a with
  | ⟨0, _⟩ =>
    show k0_off2 (grid0.coords t) 0 + 1 * 0 = s.val
    rw [off2_val, hs]; rfl
/-- The word of the second table that the body reads is the number of blocks in use. -/
theorem usedWord_eq : usedWord c (tbl m 1) = used m c (ix1 0) := by
  refine (congrFun (tbl_used m c) _).trans (congrArg (used m c) (funext fun a => Fin.ext ?_))
  match a with | ⟨0, _⟩ => rfl

/-- Where the scratch keeps what it held the point is not the first of its sweep, and the block before has the same expert. -/
theorem kept (t : Fin grid0.N) (h : ¬Chg (F := F) (grid0.coords t) (wordAt c (grid0.coords t) (tbl m 0)) (wordBefore c (grid0.coords t) (tbl m 0))) :
    (rowB t).val ≠ 0 ∧ wordAt c (grid0.coords t) (tbl m 0) = wordBefore c (grid0.coords t) (tbl m 0) := by
  refine ⟨fun h0 => h (chg_first _ h0 _ _), Classical.byContradiction fun hne => h ((ne_zero_extui _).trans ?_)⟩
  rw [show Scalar.cmpi .ne (wordAt c (grid0.coords t) (tbl m 0)) (wordBefore c (grid0.coords t) (tbl m 0)) = BitVec.ofBool (decide _) from WordCmp.cmpi_ne_eq _ _, decide_eq_true hne]
  generalize Scalar.cmpi .eq (BitVec.ofNat 32 (grid0.coords t 1).val) 0#32 = u
  revert u; decide

end Cert.DownIdeal.Gen

namespace Cert.DownIdeal.Gen

open Idealize.ShloMosaic hiding ix1 ix2 ix3
open Idealize.ShloMosaic.TcCoe Idealize.ShloMosaic.ValueIdx
open Idealize.SL Idealize.SL.Sem
open Cert.UpSpec (expert blockOf)
open Cert.DownSpec

variable (m : (ℓ : Loc nD τ sig) → Buf (Elt Ideal) ℓ) (hO : Ok m) (c : Dev nD)

/-- A weights' block stripped of its unit axis and rounded, which over the extended reals changes nothing. -/
theorem pay1_apply (x : S1x2048x512.Idx → EReal) (k : Fin 2048) (q : Fin 512) : k0_pay1 (F := Ideal) x (ix2 k q) = x (ix3 0 k q) := by
  unfold k0_pay1
  rw [shapeCast_self]
  exact shapeCast_1ab_ab_apply _ _ _ _
/-- The weights at a point. -/
def wAt (t : Fin grid0.N) (k : Fin 2048) (q : Fin 512) : EReal :=
  m ((c : Thread nD τ).loc main_arg3) (ix3 (expert (experts m c) (rowB t)) k ⟨(colT t).val * 512 + q.val, by have := (colT t).isLt; omega⟩)

/-- The rounded block is that. -/
theorem pay1_at (hx : ∀ s, (experts m c s).toNat < 32) (t : Fin (cfgM m hO).N) (k : Fin 2048) (q : Fin 512) :
    k0_pay1 (F := Ideal) (iblk m hO c 1 t) (ix2 k q) = wAt m c t k q :=
  (pay1_apply (iblk m hO c 1 t) k q).trans (weights_apply m hO c hx t k q)

/-- The scratch one point on. -/
theorem scrAt_succ (n : ℕ) (hn : n + 1 < (cfgM m hO).N) : scrAt m hO c (n + 1) hn
    = scr c (grid0.coords ⟨n + 1, hn⟩) (tbl m 0) (k0_pay1 (iblk m hO c 1 ⟨n + 1, hn⟩)) (scrAt m hO c n (Nat.lt_of_succ_lt hn)) := rfl

/-- Equal words are equal experts. -/
theorem expert_congr (be : S289.Idx → BitVec 32) (s s' : Fin 289) (h : be (ix1 s) = be (ix1 s')) : expert be s = expert be s' :=
  Fin.ext (by show min _ 31 = min _ 31; rw [h])

/-- Where the scratch keeps what it held, the point before had the same weights. -/
theorem weights_kept (n : ℕ) (hn : n + 1 < grid0.N)
    (hc : ¬Chg (F := Ideal) (grid0.coords ⟨n + 1, hn⟩) (wordAt c (grid0.coords ⟨n + 1, hn⟩) (tbl m 0)) (wordBefore c (grid0.coords ⟨n + 1, hn⟩) (tbl m 0)))
    (k : Fin 2048) (q : Fin 512) :
    wAt m c ⟨n, Nat.lt_of_succ_lt hn⟩ k q = wAt m c ⟨n + 1, hn⟩ k q := by
  obtain ⟨hr, hw⟩ := kept m c ⟨n + 1, hn⟩ hc
  obtain ⟨a0, a1⟩ := coords_val ⟨n, Nat.lt_of_succ_lt hn⟩
  obtain ⟨b0, b1⟩ := coords_val ⟨n + 1, hn⟩
  have hr' : (n + 1) % 289 ≠ 0 := fun h => hr (b1.trans h)
  have ecol : colT ⟨n, Nat.lt_of_succ_lt hn⟩ = colT ⟨n + 1, hn⟩ := Fin.ext (a0.trans (Eq.trans (by show n / 289 = (n + 1) / 289; omega) b0.symm))
  have erow : (rowB ⟨n, Nat.lt_of_succ_lt hn⟩).val = (rowB ⟨n + 1, hn⟩).val - 1 := a1.trans (Eq.trans (by show n % 289 = (n + 1) % 289 - 1; omega) (congrArg (· - 1) b1.symm))
  have ee : expert (experts m c) (rowB ⟨n, Nat.lt_of_succ_lt hn⟩) = expert (experts m c) (rowB ⟨n + 1, hn⟩) := by
    apply expert_congr
    rw [← wordBefore_eq m c ⟨n + 1, hn⟩ _ erow, ← hw, wordAt_eq]
  unfold wAt
  rw [ee]
  have ec := congrArg Fin.val ecol
  refine congrArg (m ((c : Thread nD τ).loc main_arg3)) (congrArg (ix3 _ k) (Fin.ext ?_))
  show (colT ⟨n, _⟩).val * 512 + q.val = (colT ⟨n + 1, _⟩).val * 512 + q.val
  rw [ec]

/-- THE SCRATCH HOLDS THE WEIGHTS OF THE POINT'S OWN EXPERT, fetched at this point or kept since an earlier one of the same
    expert and column tile. -/
theorem scrAt_apply (hx : ∀ s, (experts m c s).toNat < 32) (n : ℕ) : ∀ (hn : n < (cfgM m hO).N) (k : Fin 2048) (q : Fin 512),
    (scrAt m hO c n hn : S2048x512.Idx → EReal) (ix2 k q) = wAt m c ⟨n, hn⟩ k q := by
  induction n with
  | zero =>
    intro hn k q
    exact pay1_at m hO c hx ⟨0, hn⟩ k q
  | succ n ih =>
    intro hn k q
    have i1 := ih (Nat.lt_of_succ_lt hn) k q
    rw [scrAt_succ]
    dsimp only [scr]
    by_cases hc : Chg (F := Ideal) (grid0.coords ⟨n + 1, hn⟩) (wordAt c (grid0.coords ⟨n + 1, hn⟩) (tbl m 0)) (wordBefore c (grid0.coords ⟨n + 1, hn⟩) (tbl m 0))
    · rw [if_pos hc]
      exact pay1_at m hO c hx ⟨n + 1, hn⟩ k q
    · rw [if_neg hc, i1]
      exact weights_kept m c n hn hc k q

/-! ## The output block -/

/-- A block product with its bias, at an entry. -/
theorem product_apply (x : FVec Ideal S512x2048 .bf16) (a : FVec Ideal S2048x512 .bf16) (b : FVec Ideal S1x1x512 .f32) (p q : Fin 512) :
    addf (F := Ideal) (matmul dot_S512x2048_S2048x512_S512x512_1_0_0_1_n_n none x a (constant S512x512 .f32 0x00000000#32))
        (broadcastTo S512x512 (shapeCast S1x512 b shapeCasts_S1x1x512_S1x512) broadcasts_S1x512_S512x512) (ix2 p q)
      = (∑ k : Fin 2048, x (ix2 p k) * a (ix2 k q)) + b (ix3 0 0 q) := by
  refine congrArg₂ (· + ·) ((Ideal.matmul_plain_apply none x a _ p q).trans ?_) ?_
  · show Ideal.ofBits .f32 0x00000000#32 + _ = _
    rw [Ideal.ofBits_zero_f32, zero_add]
  · refine (broadcastTo_apply _ _ _ (ix2 0 q) fun a => ?_).trans (shapeCast_1ab_ab_apply _ _ _ _)
    match a with | ⟨0, _⟩ => rfl | ⟨1, _⟩ => rfl

/-- The stored block at an entry: the product, times the row's weight. -/
theorem pay2_apply (x : FVec Ideal S512x2048 .bf16) (a : FVec Ideal S2048x512 .bf16) (b : FVec Ideal S1x1x512 .f32) (w : FVec Ideal S512x1 .f32) (p q : Fin 512) :
    k0_pay2 (F := Ideal) x a b w (ix2 p q) = ((∑ k : Fin 2048, x (ix2 p k) * a (ix2 k q)) + b (ix3 0 0 q)) * w (ix2 p 0) := by
  rw [← product_apply x a b p q]
  have e : broadcastTo S512x512 (shapeCast S512x1 w shapeCasts_S512x1_S512x1) broadcasts_S512x1_S512x512 (ix2 p q) = w (ix2 p 0) := by
    rw [shapeCast_self]
    refine broadcastTo_apply _ _ _ (ix2 p 0) fun a => ?_
    match a with | ⟨0, _⟩ => rfl | ⟨1, _⟩ => rfl
  rw [← e]; rfl

/-- The last condition fails exactly at the blocks in use. -/
theorem cond3_iff (i : grid0.Coords) (w : BitVec 32) : k0_cond3 i w = 1#1 ↔ ¬(BitVec.ofNat 32 (i 1).val).slt w = true := by
  have e : k0_cond3 i w = Scalar.cmpi .sge (BitVec.ofNat 32 (i 1).val) w := ne_zero_extui _
  rw [e, show Scalar.cmpi .sge (BitVec.ofNat 32 (i 1).val) w = _ from WordCmp.cmpi_sge_eq _ _, WordCmp.ofBool_decide_eq_one_iff, BitVec.slt, decide_eq_true_iff]
  omega

/-- WHAT THE BODY LEAVES IN THE OUTPUT BLOCK: the weighted product of the block's rows and columns. -/
theorem outAt_apply (hx : ∀ s, (experts m c s).toNat < 32) (t : Fin (cfgM m hO).N) (p q : Fin 512) :
    (outAt m hO c t : S512x512.Idx → EReal) (ix2 p q)
      = weightedDown (experts m c) (used m c) (m ((c : Thread nD τ).loc main_arg2)) (m ((c : Thread nD τ).loc main_arg3)) (m ((c : Thread nD τ).loc main_arg4)) (m ((c : Thread nD τ).loc main_arg5))
          ⟨(rowB t).val * 512 + p.val, by have := (rowB t).isLt; omega⟩ ⟨(colT t).val * 512 + q.val, by have := (colT t).isLt; omega⟩ := by
  have hblk : blockOf ⟨(rowB t).val * 512 + p.val, by have := (rowB t).isLt; omega⟩ = rowB t := Fin.ext (by show ((rowB t).val * 512 + p.val) / 512 = _; omega)
  unfold outAt outv weightedDown
  rw [usedWord_eq, hblk]
  rw [show ((rowB t).val * 512 + p.val) / 512 = (rowB t).val by omega]
  by_cases h : (BitVec.ofNat 32 (rowB t).val).slt (used m c (ix1 0)) = true
  · rw [if_neg (fun e => (cond3_iff _ _).mp e h), if_pos h]
    refine (pay2_apply _ _ _ _ p q).trans ?_
    exact congrArg₂ (· * ·) (congrArg₂ (· + ·) (Finset.sum_congr rfl fun k _ => congrArg₂ (· * ·) (rows_apply m hO c _ p k) (scrAt_apply m hO c hx _ _ k q)) (bias_apply m hO c hx _ q))
      (slots_apply m hO c _ p)
  · rw [if_pos ((cond3_iff _ _).mpr h), if_neg h]
    exact Ideal.ofBits_zero_bf16

/-- The result as one array. -/
def result : S147968x2048.Idx → EReal := fun i =>
  weightedDown (experts m c) (used m c) (m ((c : Thread nD τ).loc main_arg2)) (m ((c : Thread nD τ).loc main_arg3)) (m ((c : Thread nD τ).loc main_arg4)) (m ((c : Thread nD τ).loc main_arg5)) (i 0) (i 1)

/-- Row `r` and column `n` are in the block of the point of column tile `n / 512` and row block `r / 512`. -/
theorem covered (i : S147968x2048.Idx) : ∃ t : Fin (cfgM m hO).N, ((cfgM m hO).win 4).flush t = true ∧ i ∈ (((cfgM m hO).win 4).blk t).view.set := by
  have h0 : (i 0).val < 147968 := (i 0).isLt
  have h1 : (i 1).val < 2048 := (i 1).isLt
  have hN : (cfgM m hO).N = 1156 := N_0
  have ht : (i 1).val / 512 * 289 + (i 0).val / 512 < 1156 := by omega
  obtain ⟨a0, a1⟩ := coords_val ⟨(i 1).val / 512 * 289 + (i 0).val / 512, ht⟩
  refine ⟨⟨(i 1).val / 512 * 289 + (i 0).val / 512, hN.symm ▸ ht⟩, flush0_4 _ _, ?_⟩
  refine (ValueKit.mem_set_slice_whole_iff _ _ _ Iff.rfl).mpr (Rect.mem_set_unit.mpr fun a => ?_)
  match a with
  | ⟨0, _⟩ =>
    show (BitVec.ofNat 32 (grid0.coords _ 1).val).toNat * 512 ≤ (i 0).val ∧ (i 0).val < (BitVec.ofNat 32 (grid0.coords _ 1).val).toNat * 512 + 512
    rw [a1, BitVec.toNat_ofNat]; dsimp only; omega
  | ⟨1, _⟩ =>
    show (BitVec.ofNat 32 (grid0.coords _ 0).val).toNat * 512 ≤ (i 1).val ∧ (i 1).val < (BitVec.ofNat 32 (grid0.coords _ 0).val).toNat * 512 + 512
    rw [a0, BitVec.toNat_ofNat]; dsimp only; omega

/-- THE RESULT ARRAY after the last point. -/
theorem final (hx : ∀ s, (experts m c s).toNat < 32) : (dats m hO 0 c).arrAt 4 (cfgM m hO).N = result m c := by
  refine (dats m hO 0 c).arrAt_eq_of_emb 4 (result m c) (fun t _ y => ?_) (fun i => ?_)
  · have hy : ∀ y : S512x512.Idx, ∃ p q : Fin 512, y = ix2 p q := fun y => ⟨y 0, y 1, ValueIdx.eq_ix2 y⟩
    obtain ⟨p, q, rfl⟩ := hy y
    refine Eq.trans (b := (outAt m hO c t : S512x512.Idx → EReal) (ix2 p q)) ?_ ?_
    · rw [after0_4]; rfl
    · rw [outAt_apply m hO c hx t p q]
      have h0 : (colT t).val < 4 := (colT t).isLt
      have h1 : (rowB t).val < 289 := (rowB t).isLt
      refine congrArg₂ (weightedDown (experts m c) (used m c) _ _ _ _) (Fin.ext ?_) (Fin.ext ?_)
      · show _ = (BitVec.ofNat 32 (rowB t).val).toNat * 512 + 1 * p.val
        rw [BitVec.toNat_ofNat, Nat.mod_eq_of_lt (by omega), Nat.one_mul]
      · show _ = (BitVec.ofNat 32 (colT t).val).toNat * 512 + 1 * q.val
        rw [BitVec.toNat_ofNat, Nat.mod_eq_of_lt (by omega), Nat.one_mul]
  · exact covered m hO i

end Cert.DownIdeal.Gen

end
-- ==== Proof.DownClaim.lean ====
module

public import proofs.«01_k».proof.Defs
public import proofs.«01_k».proof.Proof.Range
public import proofs.«01_k».proof.Proof.DownSame
public import proofs.«01_k».proof.Proof.DownIdeal.Value
public import proofs.«01_k».proof.Proof.Gen.Pre_pre_down
public import proofs.«01_k».proof.Proof.Gen.DownRefIdeal.Run
public import proofs.«01_k».proof.Proof.Gen.DownRefIdeal.Read
public import Idealize.ShloMosaic.Lib.Quiescent

@[expose] public section

set_option maxRecDepth 16384

noncomputable section

/-! # The claims about the weighted product -/

namespace Cert.DownClaim

open Idealize.ShloMosaic hiding ix1 ix2 ix3
open Idealize.ShloMosaic.TcCoe Idealize.ShloMosaic.ValueIdx
open Idealize.SL Idealize.SL.Sem

/-- What the precondition says of the machine words: every block's expert is one of the 32. -/
theorem experts_lt (m : (ℓ : Loc Down.nD Down.τ Down.sig) → Buf (Elt Bits) ℓ) (h : Pre_Down m) (c : Dev Down.nD) (s : Down.S289.Idx) : (DownIdeal.Gen.experts (F := Bits) m c s).toNat < 32 :=
  Range.toNat_lt _ (congrFun (h c) s)

/-- The same of the idealized program's words. -/
theorem experts_lt_ideal (m : (ℓ : Loc DownIdeal.nD DownIdeal.τ DownIdeal.sig) → Buf (Elt Ideal) ℓ) (h : Pre_DownIdeal m) (c : Dev DownIdeal.nD) (s : DownIdeal.S289.Idx) :
    (DownIdeal.Gen.experts m c s).toNat < 32 :=
  Range.toNat_lt _ (congrFun (h c) s)

/-- The kernel runs, leaves its arguments and every counter as they were. -/
theorem kernel_frame : quiescent_Down := fun m g h => by
  rw [Down.Same.defs_eq, Down.Same.main_eq]
  exact DownIdeal.Gen.frame (F := Bits) m g (DownIdeal.Gen.ok_of_experts m (experts_lt m h))

/-- The idealized kernel too. -/
theorem ideal_frame : quiescent_DownIdeal := fun m g h => DownIdeal.Gen.frame m g (DownIdeal.Gen.ok_of_experts m (experts_lt_ideal m h))

/-- The reference has no counters, so that its run leaves all of them at zero. -/
theorem ref_frame : quiescent_DownRefIdeal := fun m g _ =>
  (θ_run DownRefIdeal.defs _ _).mono (fun r h => ⟨fun c => (h c).2, sem_eq_zero_of_no_sems (by decide) r.2⟩) (DownRefIdeal.Value.run (F := Ideal) m g)

/-- The reference from the arguments the precondition admits. -/
theorem ref_frame_pre : quiescent_DownRefIdeal_pre_pre_down := fun m g _ => ref_frame m g trivial

/-- The run of the idealized kernel leaves `result` in its result array. -/
theorem kernel_value (m : (ℓ : Loc DownIdeal.nD DownIdeal.τ DownIdeal.sig) → Buf (Elt Ideal) ℓ) (g : Dev DownIdeal.nD → PrngReg)
    (hx : ∀ c s, (DownIdeal.Gen.experts m c s).toNat < 32) :
    θ_run (DownIdeal.defs (F := Ideal)) (onTc (τ := DownIdeal.τ) (DownIdeal.main (F := Ideal))) ⟨m, fun _ => 0, g⟩
      (fun r => ∀ c : Dev DownIdeal.nD, r.2.mem ((c.tc : Thread DownIdeal.nD DownIdeal.τ).loc DownIdeal.main_v2) = DownIdeal.Gen.result m c) :=
  (θ_run DownIdeal.defs _ _).mono
    (fun r h c => ((h c).1 4).trans (DownIdeal.Gen.final m (DownIdeal.Gen.ok_of_experts m hx) c (hx c)))
    (DownIdeal.Gen.run_main m g (DownIdeal.Gen.ok_of_experts m hx))

/-- The kernel and the reference leave equal results over the extended reals. -/
theorem values : algebraic_DownIdeal_DownRefIdeal := fun m g m' g' h he => by
  have hx := experts_lt_ideal m h
  refine ⟨fun c => DownIdeal.Gen.result m c, ?_, ?_⟩
  · exact (θ_run DownIdeal.defs _ _).mono (fun r hr c => ⟨hr.1 c, hr.2 c⟩)
      (θ_run_and (kernel_value m g hx) (DownIdeal.Gen.unchanged m g (DownIdeal.Gen.ok_of_experts m hx)))
  · refine (θ_run DownRefIdeal.defs _ _).mono (fun r hr c => ⟨(hr c).1.trans ?_, (hr c).2⟩) (DownRefIdeal.Value.run (F := Ideal) m' g')
    obtain ⟨e0, e1, e2, e3, e4, e5⟩ := he c
    refine (DownRefIdeal.Read.val_main_v30_eq _ _ _ _ _ _).trans ?_
    rw [e0, e1, e2, e3, e4, e5]
    funext i
    obtain ⟨r, n, rfl⟩ : ∃ (r : Fin 147968) (n : Fin 2048), i = ix2 r n := ⟨i 0, i 1, ValueIdx.eq_ix2 i⟩
    exact DownRefIdeal.Read.ref_apply _ (hx c) _ _ _ _ _ r n

end Cert.DownClaim

end
-- ==== Proof.InprojSame.lean ====
module

public import proofs.«01_k».proof.Proof.Gen.Inproj
public import proofs.«01_k».proof.Proof.Gen.InprojIdeal

@[expose] public section

set_option maxRecDepth 16384

noncomputable section

/-! # The projection and its idealization are one program

No operation was rewritten, so that what holds of the idealized program at every kind of floats holds of the kernel. -/

namespace Cert.Inproj.Same

open Idealize.ShloMosaic

variable {F : FTy → Type} [FloatOps F]

/-- The bodies are equal, -/
theorem body_eq : @Inproj.cc0_inproj F _ _ = @InprojIdeal.cc0_inproj F _ _ := rfl

set_option maxHeartbeats 2000000 in
/-- so are the tables of bodies -/
theorem defs₀_eq : Inproj.defs₀ (F := F) = InprojIdeal.defs₀ (F := F) := by
  unfold Inproj.defs₀ InprojIdeal.defs₀
  refine congrArg Defs.onTc ?_
  funext l x
  match l, x with
  | 0, (t, s) =>
    show @Inproj.cc0_inproj F _ _ _ _ _ _ _ _ _ _ _ _ _ _ _ _ _ _ _ _ _ _ _ _ _ _ _ _ _ = _
    rw [body_eq]
    rfl

/-- and the tables with the calls' pipelines, -/
theorem defs_eq : Inproj.defs (F := F) = InprojIdeal.defs (F := F) := congrArg (Pipeline.defs InprojIdeal.pcfgs) defs₀_eq

/-- and the host code is the same. -/
theorem main_eq : Inproj.main (F := F) = InprojIdeal.main (F := F) := rfl

end Cert.Inproj.Same

end
-- ==== Proof.InprojIdeal.Runs.lean ====
module

public import proofs.«01_k».proof.Proof.Gen.InprojIdeal.Frame
public import proofs.«01_k».proof.Proof.Gen.InprojIdeal.Skeleton
public import Idealize.ShloMosaic.Lib.Pipeline.DatRel
public import Idealize.ShloMosaic.Lib.Pipeline.ArrRel

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 576 := Nat.lt_of_lt_of_eq t.isLt N_0
    have e0 : (grid0.coords t 0).val = t.val / 36 % 16 := Pipeline.Grid.coords_val t 0 (by decide) rfl
    have e1 : (grid0.coords t 1).val = t.val / 9 % 4 := Pipeline.Grid.coords_val t 1 (by decide) rfl
    have e2 : (grid0.coords t 2).val = t.val / 1 % 9 := Pipeline.Grid.coords_val t 2 (by decide) rfl
    simp only [cond0_0, k0_cond1, e0, e1, e2]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points whose coordinates have i2 ≤ 1 — decided over the grid. -/
theorem hcond0_1 : ∀ t : Fin cfg0.N, cond0_1 (grid0.coords t) ↔ t.val % 9 ≤ 1 :=
  (by decide +kernel : ∀ t : Fin grid0.N, cond0_1 (grid0.coords t) ↔ t.val % 9 ≤ 1)

/-- The condition of the body's `scf.if` 2 (`k0_h3`), from the grid coordinates (the skeleton's scalar
    chain substituted). -/
abbrev cond0_2 (i : grid0.Coords) : Prop := k0_cond3 i = 1#1
/-- It holds at the points ≡ 2 (mod 9) — by arithmetic of the point. -/
theorem hcond0_2 : ∀ t : Fin cfg0.N, cond0_2 (grid0.coords t) ↔ t.val % 9 = 2 :=
  (fun t => by
    have ht : t.val < 576 := Nat.lt_of_lt_of_eq t.isLt N_0
    have e0 : (grid0.coords t 0).val = t.val / 36 % 16 := Pipeline.Grid.coords_val t 0 (by decide) rfl
    have e1 : (grid0.coords t 1).val = t.val / 9 % 4 := Pipeline.Grid.coords_val t 1 (by decide) rfl
    have e2 : (grid0.coords t 2).val = t.val / 1 % 9 := Pipeline.Grid.coords_val t 2 (by decide) rfl
    simp only [cond0_2, k0_cond3, e0, e1, e2]
    word_cmp
   : ∀ t : Fin grid0.N, cond0_2 (grid0.coords t) ↔ t.val % 9 = 2)

/-- The condition of the body's `scf.if` 3 (`k0_h4`), from the grid coordinates (the skeleton's scalar
    chain substituted). -/
abbrev cond0_3 (i : grid0.Coords) : Prop := k0_cond4 i = 1#1
/-- It holds at the points whose coordinates have 3 ≤ i2 and i2 ≤ 4 — by arithmetic of the point. -/
theorem hcond0_3 : ∀ t : Fin cfg0.N, cond0_3 (grid0.coords t) ↔ (3 ≤ t.val % 9 ∧ t.val % 9 ≤ 4) :=
  (fun t => by
    have ht : t.val < 576 := Nat.lt_of_lt_of_eq t.isLt N_0
    have e0 : (grid0.coords t 0).val = t.val / 36 % 16 := Pipeline.Grid.coords_val t 0 (by decide) rfl
    have e1 : (grid0.coords t 1).val = t.val / 9 % 4 := Pipeline.Grid.coords_val t 1 (by decide) rfl
    have e2 : (grid0.coords t 2).val = t.val / 1 % 9 := Pipeline.Grid.coords_val t 2 (by decide) rfl
    simp only [cond0_3, k0_cond4, e0, e1, e2]
    word_cmp
   : ∀ t : Fin grid0.N, cond0_3 (grid0.coords t) ↔ (3 ≤ t.val % 9 ∧ t.val % 9 ≤ 4))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InprojIdeal.Gen

end
-- ==== Proof.InprojIdeal.Run.lean ====
module

public import proofs.«01_k».proof.Proof.InprojIdeal.Runs
public import Idealize.ShloMosaic.Lib.VecWindow

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole buffer at `x` reads after a store of all of it that is made only under `p`. -/
theorem read_store_if {s : Shape} {e : EltTy} {sp : Space} (A : Memref sig .tc sp s e) (hA : A.IsWhole) (x : s.Idx → Elt F e)
    (p : Prop) [Decidable p] {off : Fin s.rank → ℕ} (inb : ∀ a, off a + s.size a ≤ s.size a) (w : s.Idx → Elt F e) :
    A.view.read (Elt F) (if hc : p then A.view.writes (Elt F) (hA.unread x) [⟨Rect.unit off s.size inb, w⟩] else hA.unread x)
      = if p then w else x := by
  split
  · exact View.read_writes_full _ _ inb w []
  · exact hA.read_unread x

/-- The scratch after the body: the modulated input of the row tile at the tile's first point, what it held otherwise. -/
def scr (i : grid0.Coords) (x0 : Vec F S1x512x2048 .f32) (x1 : Vec F S1x2048 .f32) (x2 x3 : Vec F S1x1x2048 .f32) (s : Vec F S512x2048 .bf16) : Vec F S512x2048 .bf16 :=
  if cond0_0 i then k0_pay8 x0 x1 x2 x3 else s
/-- The block of the first keys and values after the body: the product at the first two points of the tile. -/
def kvv (i : grid0.Coords) (h : Vec F S512x2048 .bf16) (x4 : Vec F S2048x512 .bf16) (y : Vec F S1x512x512 .f32) : Vec F S1x512x512 .f32 :=
  if cond0_1 i then k0_pay4 h x4 else y
/-- The block of the window's keys and values after the body: the product at the third point of the tile. -/
def wnv (i : grid0.Coords) (h : Vec F S512x2048 .bf16) (x4 : Vec F S2048x512 .bf16) (y : Vec F S1x512x512 .f32) : Vec F S1x512x512 .f32 :=
  if cond0_2 i then k0_pay5 h x4 else y
/-- The block of the last keys and values after the body: the product at the fourth and fifth points of the tile. -/
def kfv (i : grid0.Coords) (h : Vec F S512x2048 .bf16) (x4 : Vec F S2048x512 .bf16) (y : Vec F S1x512x512 .f32) : Vec F S1x512x512 .f32 :=
  if cond0_3 i then k0_pay6 h x4 else y
/-- The block of gates and logits after the body: written at the first point of the tile. -/
def smv (i : grid0.Coords) (x0 : Vec F S1x512x2048 .f32) (x1 : Vec F S1x2048 .f32) (x2 x3 : Vec F S1x1x2048 .f32) (x5 : Vec F S2048x128 .bf16) (x6 : Vec F S1x128 .f32) (y : Vec F S1x512x128 .f32) : Vec F S1x512x128 .f32 :=
  if cond0_0 i then k0_pay1 (k0_pay9 x0 x1 x2 x3 x5 x6) else y

set_option maxHeartbeats 2000000 in
/-- The whole body at a point: from the input blocks and what the output blocks and the scratch hold, to what they hold
    after it. -/
theorem kernel_run (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1x512x512 .bf16) (harg10 : arg10.IsWhole) (arg11 : Memref sig .tc .vmem S1x512x512 .f32) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x128 .f32) (harg14 : arg14.IsWhole) (arg15 : Memref sig .tc .vmem S512x2048 .bf16) (harg15 : arg15.IsWhole)
    (x0 : Vec F S1x512x2048 .f32) (x1 : Vec F S1x2048 .f32) (x2 : Vec F S1x1x2048 .f32) (x3 : Vec F S1x1x2048 .f32) (x4 : Vec F S2048x512 .bf16) (x5 : Vec F S2048x128 .bf16) (x6 : Vec F S1x128 .f32)
    (y7 : Vec F S1x512x512 .bf16) (y8 : Vec F S1x512x512 .f32) (y9 : Vec F S1x512x512 .f32) (y10 : Vec F S1x512x512 .f32) (y11 : Vec F S1x512x128 .f32) (s0 : Vec F S512x2048 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare s0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay3 (scr i x0 x1 x2 x3 s0) x4) ∗ owns (c : Thread nD τ) arg11 fullShare (kvv i (scr i x0 x1 x2 x3 s0) x4 y8) ∗ owns (c : Thread nD τ) arg12 fullShare (wnv i (scr i x0 x1 x2 x3 s0) x4 y9) ∗ owns (c : Thread nD τ) arg13 fullShare (kfv i (scr i x0 x1 x2 x3 s0) x4 y10) ∗ owns (c : Thread nD τ) arg14 fullShare (smv i x0 x1 x2 x3 x5 x6 y11) ∗ owns (c : Thread nD τ) arg15 fullShare (scr i x0 x1 x2 x3 s0)) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
    simp only [cc0_inproj_eq_skeleton]; unfold cc0_inproj_skel
    simp only [k0_part1_eq_skeleton]; unfold k0_part1_skel
    have e0 : arg3.view.readAt (Elt F) (Rect.unit ![0, 0, 0] S1x512x2048.size inb_S1x512x2048_S1x512x2048_0_0_0).toLoadRect (harg3.unread x0) = x0 :=
      (View.readAt_full _ _ _).trans (harg3.read_unread x0)
    have e1 : arg4.view.readAt (Elt F) (Rect.unit ![0, 0] S1x2048.size inb_S1x2048_S1x2048_0_0).toLoadRect (harg4.unread x1) = x1 :=
      (View.readAt_full _ _ _).trans (harg4.read_unread x1)
    have e2 : arg5.view.readAt (Elt F) (Rect.unit ![0, 0, 0] S1x1x2048.size inb_S1x1x2048_S1x1x2048_0_0_0).toLoadRect (harg5.unread x2) = x2 :=
      (View.readAt_full _ _ _).trans (harg5.read_unread x2)
    have e3 : arg6.view.readAt (Elt F) (Rect.unit ![0, 0, 0] S1x1x2048.size inb_S1x1x2048_S1x1x2048_0_0_0).toLoadRect (harg6.unread x3) = x3 :=
      (View.readAt_full _ _ _).trans (harg6.read_unread x3)
    have e4 : arg7.view.readAt (Elt F) (Rect.unit ![0, 0] S2048x512.size inb_S2048x512_S2048x512_0_0).toLoadRect (harg7.unread x4) = x4 :=
      (View.readAt_full _ _ _).trans (harg7.read_unread x4)
    have e5 : arg8.view.readAt (Elt F) (Rect.unit ![0, 0] S2048x128.size inb_S2048x128_S2048x128_0_0).toLoadRect (harg8.unread x5) = x5 :=
      (View.readAt_full _ _ _).trans (harg8.read_unread x5)
    have e6 : arg9.view.readAt (Elt F) (Rect.unit ![0, 0] S1x128.size inb_S1x128_S1x128_0_0).toLoadRect (harg9.unread x6) = x6 :=
      (View.readAt_full _ _ _).trans (harg9.read_unread x6)
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    obtain rfl := harg15.eq_unread hs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr
      swap; · iexact H7
      ipureintro
      refine (View.read_writes_full _ _ _ _ _).trans ?_
      congr 1
      exact (View.readAt_full _ _ _).trans ((read_store_if arg15 harg15 s0 _ _ _).trans (by first | rfl | (rw [e0, e1, e2, e3]; rfl)))
    isplitl [H8]
    · iexists _; isplitr
      swap; · iexact H8
      ipureintro
      refine (read_store_if arg11 harg11 y8 _ _ _).trans ?_
      refine if_congr Iff.rfl ?_ rfl
      congr 1
      exact (View.readAt_full _ _ _).trans ((read_store_if arg15 harg15 s0 _ _ _).trans (by first | rfl | (rw [e0, e1, e2, e3]; rfl)))
    isplitl [H9]
    · iexists _; isplitr
      swap; · iexact H9
      ipureintro
      refine (read_store_if arg12 harg12 y9 _ _ _).trans ?_
      refine if_congr Iff.rfl ?_ rfl
      congr 1
      exact (View.readAt_full _ _ _).trans ((read_store_if arg15 harg15 s0 _ _ _).trans (by first | rfl | (rw [e0, e1, e2, e3]; rfl)))
    isplitl [H10]
    · iexists _; isplitr
      swap; · iexact H10
      ipureintro
      refine (read_store_if arg13 harg13 y10 _ _ _).trans ?_
      refine if_congr Iff.rfl ?_ rfl
      congr 1
      exact (View.readAt_full _ _ _).trans ((read_store_if arg15 harg15 s0 _ _ _).trans (by first | rfl | (rw [e0, e1, e2, e3]; rfl)))
    isplitl [H11]
    · iexists _; isplitr
      swap; · iexact H11
      ipureintro
      refine (read_store_if arg14 harg14 y11 _ _ _).trans ?_
      first | rfl | (rw [e0, e1, e2, e3, e5, e6]; rfl)
    iexists _; isplitr
    swap; · iexact HS0
    ipureintro
    exact (read_store_if arg15 harg15 s0 _ _ _).trans (by first | rfl | (rw [e0, e1, e2, e3]; rfl))

end Cert.InprojIdeal.Gen

end
-- ==== Proof.InprojIdeal.Frame.lean ====
module

public import proofs.«01_k».proof.Proof.InprojIdeal.Run
public import Idealize.ShloMosaic.Lib.Claim

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the outputs hold after each point -/

/-- The point of number `j` of the nine of the row tile of point `t`. -/
def pt (t : Fin cfg0.N) (j : ℕ) (hj : j < 9) : Fin cfg0.N :=
  ⟨9 * (t.val / 9) + j, by have h : t.val < 576 := Nat.lt_of_lt_of_eq t.isLt N_0; exact Nat.lt_of_lt_of_eq (by omega) N_0.symm⟩

/-- A point is the one of its own number in its tile. -/
theorem pt_self (t : Fin cfg0.N) (j : ℕ) (hj : j < 9) (h : t.val % 9 = j) : pt t j hj = t :=
  Fin.ext (by show 9 * (t.val / 9) + j = t.val; omega)

/-- Points of one tile have the same points. -/
theorem pt_congr (t u : Fin cfg0.N) (j : ℕ) (hj : j < 9) (h : t.val / 9 = u.val / 9) : pt t j hj = pt u j hj :=
  Fin.ext (by show 9 * (t.val / 9) + j = 9 * (u.val / 9) + j; rw [h])

/-- The point before a point. -/
abbrev before (t : Fin cfg0.N) : Fin cfg0.N := ⟨t.val - 1, Nat.lt_of_le_of_lt (Nat.sub_le _ _) t.isLt⟩

/-- What the scratch holds after the body at point `t`: the modulated input of the row tile. -/
def hAt (c : Dev nD) (t : Fin cfg0.N) : Vec F S512x2048 .bf16 :=
  k0_pay8 (iblk m c 0 (pt t 0 (by decide))) (iblk m c 1 (pt t 0 (by decide))) (iblk m c 2 (pt t 0 (by decide))) (iblk m c 3 (pt t 0 (by decide)))
/-- The product written in the main result at point `t`. -/
def pbAt (c : Dev nD) (t : Fin cfg0.N) : Vec F S1x512x512 .bf16 := k0_pay3 (hAt m c t) (iblk m c 4 t)
/-- The same as the first keys and values, -/
def kvAt (c : Dev nD) (t : Fin cfg0.N) : Vec F S1x512x512 .f32 := k0_pay4 (hAt m c t) (iblk m c 4 t)
/-- as the window's, -/
def wnAt (c : Dev nD) (t : Fin cfg0.N) : Vec F S1x512x512 .f32 := k0_pay5 (hAt m c t) (iblk m c 4 t)
/-- as the last. -/
def kfAt (c : Dev nD) (t : Fin cfg0.N) : Vec F S1x512x512 .f32 := k0_pay6 (hAt m c t) (iblk m c 4 t)
/-- The gates and logits written at the first point of a tile. -/
def smAt (c : Dev nD) (t : Fin cfg0.N) : Vec F S1x512x128 .f32 :=
  k0_pay1 (k0_pay9 (iblk m c 0 t) (iblk m c 1 t) (iblk m c 2 t) (iblk m c 3 t) (iblk m c 5 t) (iblk m c 6 t))

/-- At the first point of a tile the scratch is replaced, whatever it held. -/
theorem scr_first (c : Dev nD) (t : Fin cfg0.N) (h : t.val % 9 = 0) (s : Vec F S512x2048 .bf16) :
    scr (grid0.coords t) (iblk m c 0 t) (iblk m c 1 t) (iblk m c 2 t) (iblk m c 3 t) s = hAt m c t := by
  unfold scr hAt
  rw [if_pos ((hcond0_0 t).mpr h), pt_self t 0 (by decide) h]

/-- At the others it is kept. -/
theorem scr_kept (c : Dev nD) (t : Fin cfg0.N) (h : t.val % 9 ≠ 0) :
    scr (grid0.coords t) (iblk m c 0 t) (iblk m c 1 t) (iblk m c 2 t) (iblk m c 3 t) (hAt m c (before t)) = hAt m c t := by
  unfold scr hAt
  rw [if_neg (fun e => h ((hcond0_0 t).mp e)), pt_congr (before t) t 0 (by decide) (by show (t.val - 1) / 9 = t.val / 9; omega)]

/-- The output windows, of which only a condition on what the body leaves is stated. -/
def fgt : Fin 12 → Bool := fun w => w.val == 7 || w.val == 8 || w.val == 9 || w.val == 10 || w.val == 11

/-- The condition on what the body leaves in an output's buffer at point `t`: the main result's block of the point; of the
    others the block of the last point of the tile that wrote one, and nothing before the first that does. -/
def Rl (c : Dev nD) (w : Fin cfg0.W) (t : Fin cfg0.N) : ((cfg0.win w).block.Idx → Elt F (cfg0.win w).elt) → Prop :=
  match w with
  | ⟨7, _⟩ => fun X => X = pbAt m c t
  | ⟨8, _⟩ => fun X => X = kvAt m c (pt t (min (t.val % 9) 1) (by omega))
  | ⟨9, _⟩ => fun X => 2 ≤ t.val % 9 → X = wnAt m c (pt t 2 (by decide))
  | ⟨10, _⟩ => fun X => 3 ≤ t.val % 9 → X = kfAt m c (pt t (min (t.val % 9) 4) (by omega))
  | ⟨11, _⟩ => fun X => X = smAt m c (pt t 0 (by decide))
  | _ => fun _ => True

/-- The invariant before position `n`: at first the scratch holds anything; afterwards what the point before left in it. The
    generator register is at some state. -/
def PhiS (c : Dev nD) : (n : ℕ) → n ≤ cfg0.N → sProp 𝕄
  | 0, _ => Pipeline.ΦA spec0 c
  | n + 1, hn => iprop(owns (c : Thread nD τ) scM0_0 fullShare (hAt m c ⟨n, hn⟩) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(owns (c : Thread nD τ) scM0_0 fullShare (hAt m c ⟨n, hn⟩) ∗ (∃ r, prngReg c r)) := rfl

/-- Before a point that is not the first: the scratch at what the point before left. -/
theorem PhiS_pos (c : Dev nD) (n : ℕ) (h : n ≤ cfg0.N) (hz : n ≠ 0) :
    PhiS m c n h = iprop(owns (c : Thread nD τ) scM0_0 fullShare (hAt m c ⟨n - 1, by omega⟩) ∗ (∃ r, prngReg c r)) := by
  cases n with
  | zero => exact absurd rfl hz
  | succ n => rfl

/-! ## The pipeline's proof data -/

/-- The proof data on core `c`: the arrays as found at entry; after the body at a point each input's buffer at its block and
    the outputs' not named; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data with the outputs held to the conditions above. -/
abbrev rdat (c : Dev nD) : Pipeline.RDat τ (Elt F) Unit ℕ (UR sig nD τ) ℕ cfg0 c := (dats m 0 c).toRRel fgt (Rl m c)

/-- The proof data's arrays are the contents at entry. -/
theorem A_eq (c : Dev nD) (w : Fin cfg0.W) : (dats m 0 c).A w = V m c (Pipeline.arrRef spec0 w) := by
  dsimp only [dats]

/-- The invariant at a point's start, restated at its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-! Each input's current staging buffer holds its block at every point, fetched there or not. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## When the outputs are written back -/

/-- The first keys and values are written back after the first and the last point of a tile. -/
theorem flush0_8 : ∀ t : Fin cfg0.N, (cfg0.win 8).flush t = true ↔ (t.val % 9 = 0 ∨ t.val % 9 = 8) :=
  (by decide +kernel : ∀ t : Fin grid0.N, win0_8.flush t = true ↔ (t.val % 9 = 0 ∨ t.val % 9 = 8))

/-- The last keys and values after the fourth and the last. -/
theorem flush0_10 : ∀ t : Fin cfg0.N, (cfg0.win 10).flush t = true ↔ (t.val % 9 = 3 ∨ t.val % 9 = 8) :=
  (by decide +kernel : ∀ t : Fin grid0.N, win0_10.flush t = true ↔ (t.val % 9 = 3 ∨ t.val % 9 = 8))

/-- What is found in a conditioned buffer that was not written back at the point before meets the condition of that point. -/
theorem rl_of_finds (c : Dev nD) (w : Fin cfg0.W) (hw : fgt w = true) (hout : (cfg0.win w).isOut = true) (t : Fin cfg0.N) (ht : t.val ≠ 0)
    (hfl : (cfg0.win w).flush (before t) ≠ true) (Y : (cfg0.win w).block.Idx → Elt F (cfg0.win w).elt) (h : (rdat m c).Finds w t Y) :
    Rl m c w (before t) Y := by
  rcases ((rdat m c).finds_of_pos (Pipeline.Window.fetch_out _ hout t) ht Y).mp h with h1 | h1
  · exact absurd h1 hfl
  · exact (dats m 0 c).toRRel_leaves hw h1

/-! ## The body keeps the conditions -/

theorem step_8 (c : Dev nD) (t : Fin cfg0.N) (Y : Vec F S1x512x512 .f32) (h : (rdat m c).Finds 8 t Y) :
    kvv (grid0.coords t) (hAt m c t) (iblk m c 4 t) Y = kvAt m c (pt t (min (t.val % 9) 1) (by omega)) := by
  unfold kvv
  by_cases hc : t.val % 9 ≤ 1
  · rw [if_pos ((hcond0_1 t).mpr hc), pt_self t (min (t.val % 9) 1) (by omega) (by omega)]; rfl
  · rw [if_neg (fun e => hc ((hcond0_1 t).mp e))]
    have e : Y = kvAt m c (pt (before t) (min ((before t).val % 9) 1) (by omega)) :=
      rl_of_finds m c 8 rfl rfl t (by omega) (fun e => by have := (flush0_8 _).mp e; simp only at this; omega) Y h
    refine e.trans (congrArg (kvAt m c) (Fin.ext ?_))
    show 9 * ((t.val - 1) / 9) + min ((t.val - 1) % 9) 1 = 9 * (t.val / 9) + min (t.val % 9) 1
    omega

theorem step_9 (c : Dev nD) (t : Fin cfg0.N) (Y : Vec F S1x512x512 .f32) (h : (rdat m c).Finds 9 t Y) (h2 : 2 ≤ t.val % 9) :
    wnv (grid0.coords t) (hAt m c t) (iblk m c 4 t) Y = wnAt m c (pt t 2 (by decide)) := by
  unfold wnv
  by_cases hc : t.val % 9 = 2
  · rw [if_pos ((hcond0_2 t).mpr hc), pt_self t 2 (by omega) (by omega)]; rfl
  · rw [if_neg (fun e => hc ((hcond0_2 t).mp e))]
    have e : 2 ≤ (before t).val % 9 → Y = wnAt m c (pt (before t) 2 (by omega)) :=
      rl_of_finds m c 9 rfl rfl t (by omega) (fun e => by have := (flush0_9 _).mp e; simp only at this; omega) Y h
    refine (e (by show 2 ≤ (t.val - 1) % 9; omega)).trans (congrArg (wnAt m c) (pt_congr _ _ _ _ ?_))
    show (t.val - 1) / 9 = t.val / 9
    omega

theorem step_10 (c : Dev nD) (t : Fin cfg0.N) (Y : Vec F S1x512x512 .f32) (h : (rdat m c).Finds 10 t Y) (h2 : 3 ≤ t.val % 9) :
    kfv (grid0.coords t) (hAt m c t) (iblk m c 4 t) Y = kfAt m c (pt t (min (t.val % 9) 4) (by omega)) := by
  unfold kfv
  by_cases hc : t.val % 9 ≤ 4
  · rw [if_pos ((hcond0_3 t).mpr ⟨h2, hc⟩), pt_self t (min (t.val % 9) 4) (by omega) (by omega)]; rfl
  · rw [if_neg (fun e => hc ((hcond0_3 t).mp e).2)]
    have e : 3 ≤ (before t).val % 9 → Y = kfAt m c (pt (before t) (min ((before t).val % 9) 4) (by omega)) :=
      rl_of_finds m c 10 rfl rfl t (by omega) (fun e => by have := (flush0_10 _).mp e; simp only at this; omega) Y h
    refine (e (by show 3 ≤ (t.val - 1) % 9; omega)).trans (congrArg (kfAt m c) (Fin.ext ?_))
    show 9 * ((t.val - 1) / 9) + min ((t.val - 1) % 9) 4 = 9 * (t.val / 9) + min (t.val % 9) 4
    omega

theorem step_11 (c : Dev nD) (t : Fin cfg0.N) (Y : Vec F S1x512x128 .f32) (h : (rdat m c).Finds 11 t Y) :
    smv (grid0.coords t) (iblk m c 0 t) (iblk m c 1 t) (iblk m c 2 t) (iblk m c 3 t) (iblk m c 5 t) (iblk m c 6 t) Y = smAt m c (pt t 0 (by decide)) := by
  unfold smv
  by_cases hc : t.val % 9 = 0
  · rw [if_pos ((hcond0_0 t).mpr hc), pt_self t 0 (by omega) (by omega)]; rfl
  · rw [if_neg (fun e => hc ((hcond0_0 t).mp e))]
    have e : Y = smAt m c (pt (before t) 0 (by omega)) :=
      rl_of_finds m c 11 rfl rfl t (by omega) (fun e => by have := (flush0_11 _).mp e; simp only at this; omega) Y h
    refine e.trans (congrArg (smAt m c) (pt_congr _ _ _ _ ?_))
    show (t.val - 1) / 9 = t.val / 9
    omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

set_option maxHeartbeats 8000000 in
/-- The body at any point: the inputs' memrefs hold their blocks, the outputs' what meets the conditions, the scratch what the
    point before left (anything at the first point), so `kernel_run` applies and leaves what meets this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6]
  rw [show (dats m 0 c).owesAt () t.succ = (dats m 0 c).owesAt () t.castSucc from rfl]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩⟩
    have e := scr_first m c t (by omega) ds0
    rw [← e]
    iapply (kernel_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr
      swap; · iexact H7
      ipureintro; rw [e]; exact rfl
    isplitl [H8]
    · iexists _; isplitr
      swap; · iexact H8
      ipureintro; rw [e]; exact step_8 m c t Y8 h8
    isplitl [H9]
    · iexists _; isplitr
      swap; · iexact H9
      ipureintro; rw [e]; exact step_9 m c t Y9 h9
    isplitl [H10]
    · iexists _; isplitr
      swap; · iexact H10
      ipureintro; rw [e]; exact step_10 m c t Y10 h10
    iexists _; isplitr
    swap; · iexact H11
    ipureintro; exact step_11 m c t Y11 h11
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩⟩
    have e : scr (grid0.coords t) (iblk m c 0 t) (iblk m c 1 t) (iblk m c 2 t) (iblk m c 3 t) (hAt m c (before t)) = hAt m c t := by
      by_cases h9 : t.val % 9 = 0
      · exact scr_first m c t h9 _
      · exact scr_kept m c t h9
    rw [← e]
    iapply (kernel_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr
      swap; · iexact H7
      ipureintro; rw [e]; exact rfl
    isplitl [H8]
    · iexists _; isplitr
      swap; · iexact H8
      ipureintro; rw [e]; exact step_8 m c t Y8 h8
    isplitl [H9]
    · iexists _; isplitr
      swap; · iexact H9
      ipureintro; rw [e]; exact step_9 m c t Y9 h9
    isplitl [H10]
    · iexists _; isplitr
      swap; · iexact H10
      ipureintro; rw [e]; exact step_10 m c t Y10 h10
    iexists _; isplitr
    swap; · iexact H11
    ipureintro; exact step_11 m c t Y11 h11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives the region's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 576 := N_0; omega)

/-! ## The run and the frame -/

set_option backward.isDefEq.respectTransparency.types false in
/-- The run of any proof data with output windows held to conditions. -/
theorem run_rel (d : (p : Fin 1) → (c : Dev nD) → Dat τ (Elt F) Unit ℕ (UR sig nD τ) ℕ (cfgs p) c) (g : Fin 12 → Bool)
    (R : (c : Dev nD) → (w : Fin (cfgs 0).W) → Fin (cfgs 0).N → (((cfgs 0).win w).block.Idx → Elt F ((cfgs 0).win w).elt) → Prop)
    (hbody : ∀ c, Pipeline.BodyObligationRel (d 0 c) (defs₀ (F := F)) Variants.none () Set.univ g (R c))
    (hshare : ∀ c w, (d 0 c).share w = fullShare) (howed : ∀ c t, (d 0 c).owed t = 0)
    (hA : ∀ c w, (d 0 c).A w = V m c (Pipeline.arrRef spec0 w))
    (hin : ∀ c, Pipeline.ΦA spec0 c ⊢ (d 0 c).Φ 0) (hout : ∀ c, (d 0 c).Φ (Fin.last (cfgs 0).N) ⊢ Pipeline.ΦA spec0 c) :
    θ_run defs (onTc (τ := τ) (main (F := F))) (s₀ m ρ) (fun r => (Pipeline.RDat.FramePost (cfgs 0) (fun c => (d 0 c).toRRel g (R c)) (V m)) r ∧ r.2.sem = fun _ => 0) :=
  Pipeline.RDat.θ_run_frame_track (Q' := _) cfgs (0 : Fin 1) launch0 defs₀ Variants.none (fun c => (d 0 c).toRRel g (R c)) m ρ main
    (hbody := fun c => (hbody c).toRRel) (hshare := hshare)
    (howed := howed) (V := V m) (hmain := hmain m Variants.none) (hA := hA) (hin := hin) (hout := hout)

/-- The launch ends with every array as the proof data allow and every counter at zero. -/
theorem run_main_quiescent : θ_run defs (onTc (τ := τ) (main (F := F))) (s₀ m ρ) (fun r => (Pipeline.RDat.FramePost (cfgs 0) (fun c => rdat m c) (V m)) r ∧ r.2.sem = fun _ => 0) :=
  run_rel m ρ (dats m) fgt (Rl m) (body_obligation m) (fun c => (dats m 0 c).share_full fun _ => rfl) (fun _ _ => rfl) (A_eq m) (hin m) (hout m)

/-- The same without the counters. -/
theorem run_main : θ_run defs (onTc (τ := τ) (main (F := F))) (s₀ m ρ) (Pipeline.RDat.FramePost (cfgs 0) (fun c => rdat m c) (V m)) :=
  (θ_run defs _ _).mono (fun _ h => h.1) (run_main_quiescent m ρ)

/-- Of such a run the argument arrays end unchanged. -/
theorem args_of (rd : (c : Dev nD) → Pipeline.RDat τ (Elt F) Unit ℕ (UR sig nD τ) ℕ (cfgs 0) c)
    (hA : ∀ c w, (rd c).A w = V m c (Pipeline.arrRef spec0 w)) (r : PUnit × MemSt nD τ sig (Elt F))
    (h : Pipeline.RDat.FramePost (cfgs 0) rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans ((hA c 0).trans (V_main_arg0 m c)),
    ((h c).2 main_arg1 (Pipeline.mem_restRefs_of main_arg1 (by decide) (by decide))).trans (V_main_arg1 m c),
    (h.arr_in c 2 rfl).trans ((hA c 2).trans (V_main_arg2 m c)),
    (h.arr_in c 3 rfl).trans ((hA c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The call terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m (fun c => rdat m c) (A_eq m) r h.1, h.2⟩) (run_main_quiescent m ρ)

end Cert.InprojIdeal.Gen

end
-- ==== Proof.InprojSpec.lean ====
module

public import proofs.«01_k».proof.Proof.Gen.InprojRefIdeal.Read
public import Idealize.ShloMosaic.Lib.IdealHost
public import Idealize.ShloMosaic.Lib.Pipeline.ValueKit

@[expose] public section

set_option maxRecDepth 16384

noncomputable section

/-! # The projection of the modulated rows, as one formula

`modul` is a row normalised, scaled and modulated, over the extended reals; `proj` is its inner product with a column of the
weights. The five results are columns of that product: `mainCol` says which columns the first holds, and `small` is the gates.
The reference is shown equal to these formulas here, the kernel in its own module. -/

namespace Cert.InprojSpec

open Idealize.ShloMosaic hiding ix1 ix2 ix3
open Idealize.ShloMosaic.ValueIdx

section
variable (x : (⟨3, ![16, 2048, 2048]⟩ : Shape).Idx → EReal) (g : (⟨1, ![2048]⟩ : Shape).Idx → EReal) (sc sh : (⟨3, ![16, 1, 2048]⟩ : Shape).Idx → EReal)
  (w : (⟨2, ![2048, 4640]⟩ : Shape).Idx → EReal) (bg : (⟨1, ![24]⟩ : Shape).Idx → EReal) (bf : (⟨1, ![8]⟩ : Shape).Idx → EReal)

/-- The reciprocal root of a row's mean square. -/
def scale (b : Fin 16) (t : Fin 2048) : EReal :=
  Ideal.rsqrt (Ideal.div (∑ k : Fin 2048, x (ix3 b t k) * x (ix3 b t k)) (Ideal.ofBits .f32 0x45000000#32) + Ideal.ofBits .f32 0x358637BD#32)

/-- A row normalised, scaled and modulated, at column `k`. -/
def modul (b : Fin 16) (t k : Fin 2048) : EReal :=
  x (ix3 b t k) * scale x b t * g (ix1 k) * (Ideal.ofBits .f32 0x3F800000#32 + sc (ix3 b 0 k)) + sh (ix3 b 0 k)

/-- Its product with column `n` of the weights. -/
def proj (b : Fin 16) (t : Fin 2048) (n : Fin 4640) : EReal := ∑ k : Fin 2048, modul x g sc sh b t k * w (ix2 k n)

/-- The weights' column that column `n` of the first result holds. -/
def mainCol (n : Fin 4608) : Fin 4640 :=
  if h1 : n.val < 1536 then ⟨1024 + n.val, by omega⟩
  else if h2 : n.val < 2560 then ⟨3608 + (n.val - 1536), by omega⟩
  else if h3 : n.val < 3584 then ⟨n.val - 2560, by omega⟩
  else ⟨2584 + (n.val - 3584), by omega⟩

/-- The logarithm of the logistic function, in the form that does not overflow. -/
def logSig (z : EReal) : EReal := -(max (-z) 0 + Ideal.log1p (Ideal.exp (-(max (-z) (-(-z))))))

/-- The gates: 24 logistic ones, 8 logarithms of logistic ones, and padding that holds the logarithm's value at zero. -/
def small (b : Fin 16) (t : Fin 2048) (l : Fin 128) : EReal :=
  if h1 : l.val < 24 then Ideal.logistic (proj x g sc sh w b t ⟨2560 + l.val, by omega⟩ + bg (ix1 ⟨l.val, h1⟩))
  else if h2 : l.val < 32 then logSig (proj x g sc sh w b t ⟨4632 + (l.val - 24), by omega⟩ + bf (ix1 ⟨l.val - 24, by omega⟩))
  else logSig 0
end

/-- A comparison of a number with itself for being different picks the second of two. -/
theorem select_une_self (d u v : EReal) : Scalar.select (Ideal.cmp .une d d) u v = v := by
  have e : Ideal.cmp .une d d = 0#1 := by
    show BitVec.ofBool (decide (d ≠ d)) = 0#1
    rw [decide_eq_false (fun h => h rfl)]; rfl
  rw [e]; rfl

end Cert.InprojSpec

namespace Cert.InprojRefIdeal.Read

open Idealize.ShloMosaic hiding ix1 ix2 ix3
open Idealize.ShloMosaic.ValueIdx Cert.InprojSpec

variable (x0 : S16x2048x2048.Idx → EReal) (x1 : S2048.Idx → EReal) (x2 x3 : S16x1x2048.Idx → EReal) (x4 : S2048x4640.Idx → EReal)
  (x5 : S24.Idx → EReal) (x6 : S8.Idx → EReal)

/-- The reference's reciprocal root. -/
theorem scale_apply (b : Fin 16) (t : Fin 2048) : val_main_v7 (F := Ideal) x0 (ix3 b t 0) = scale x0 b t := by
  rw [val_main_v7_apply, val_main_v6_apply, val_main_v4_apply, val_main_v2_apply, val_main_v1_apply, val_main_v3_apply, val_main_v5_apply]
  have e : ∀ j, val_main_cst (F := Ideal) j + ∑ k : Fin 2048, (val_main_v0 (F := Ideal) x0) (idx_main_v1 (idx_main_v2 (ix3 b t 0)) k)
      = ∑ k : Fin 2048, x0 (ix3 b t k) * x0 (ix3 b t k) := by
    intro j
    refine Eq.trans (congrArg₂ (· + ·) (Ideal.ofBits_zero_f32) (Finset.sum_congr rfl fun k _ => ?_)) (zero_add _)
    have i : idx_main_v1 (idx_main_v2 (ix3 b t 0)) k = ix3 b t k := by
      funext a; match a with | ⟨0, _⟩ => rfl | ⟨1, _⟩ => rfl | ⟨2, _⟩ => rfl
    rw [val_main_v0_apply, i]; rfl
  rw [e]; rfl

/-- The reference's modulated row. -/
theorem modul_apply (b : Fin 16) (t k : Fin 2048) : val_main_v18 (F := Ideal) x0 x1 x2 x3 (ix3 b t k) = modul x0 x1 x2 x3 b t k := by
  rw [val_main_v18_apply, val_main_v16_apply, val_main_v12_apply, val_main_v9_apply, val_main_v8_apply, val_main_v11_apply, val_main_v10_apply,
    val_main_v15_apply, val_main_v14_apply, val_main_v13_apply, val_main_v17_apply]
  have i8 : idx_main_v8 (ix3 b t k) = ix3 b t 0 := by funext a; match a with | ⟨0, _⟩ => rfl | ⟨1, _⟩ => rfl | ⟨2, _⟩ => rfl
  have i10 : idx_main_v10 (idx_main_v11 (ix3 b t k)) = ix1 k := by funext a; match a with | ⟨0, _⟩ => rfl
  have i15 : idx_main_v15 (ix3 b t k) = ix3 b 0 k := by funext a; match a with | ⟨0, _⟩ => rfl | ⟨1, _⟩ => rfl | ⟨2, _⟩ => rfl
  have i17 : idx_main_v17 (ix3 b t k) = ix3 b 0 k := by funext a; match a with | ⟨0, _⟩ => rfl | ⟨1, _⟩ => rfl | ⟨2, _⟩ => rfl
  rw [i8, i10, i15, i17, scale_apply]; rfl

/-- The reference's product. -/
theorem proj_apply (b : Fin 16) (t : Fin 2048) (n : Fin 4640) : val_main_v19 (F := Ideal) x0 x1 x2 x3 x4 (ix3 b t n) = proj x0 x1 x2 x3 x4 b t n := by
  rw [val_main_v19_apply]
  refine Finset.sum_congr rfl fun k _ => congrArg₂ (· * ·) ((congrArg _ ?_).trans (modul_apply x0 x1 x2 x3 b t k)) (congrArg x4 ?_)
  · funext a; match a with | ⟨0, _⟩ => rfl | ⟨1, _⟩ => rfl | ⟨2, _⟩ => rfl
  · funext a; match a with | ⟨0, _⟩ => rfl | ⟨1, _⟩ => rfl

/-- Its columns from 0, -/
theorem v20_apply (b : Fin 16) (t : Fin 2048) (n : Fin 1024) : val_main_v20 (F := Ideal) x0 x1 x2 x3 x4 (ix3 b t n) = proj x0 x1 x2 x3 x4 b t ⟨n.val, by omega⟩ := by
  rw [val_main_v20_apply]
  refine (congrArg _ ?_).trans (proj_apply x0 x1 x2 x3 x4 b t _)
  funext a; match a with | ⟨0, _⟩ => rfl | ⟨1, _⟩ => rfl | ⟨2, _⟩ => rfl
/-- from 1024, -/
theorem v21_apply (b : Fin 16) (t : Fin 2048) (n : Fin 1536) : val_main_v21 (F := Ideal) x0 x1 x2 x3 x4 (ix3 b t n) = proj x0 x1 x2 x3 x4 b t ⟨1024 + n.val, by omega⟩ := by
  rw [val_main_v21_apply]
  refine (congrArg _ ?_).trans (proj_apply x0 x1 x2 x3 x4 b t _)
  funext a; match a with | ⟨0, _⟩ => rfl | ⟨1, _⟩ => rfl | ⟨2, _⟩ => rfl
/-- from 2560, -/
theorem v22_apply (b : Fin 16) (t : Fin 2048) (n : Fin 24) : val_main_v22 (F := Ideal) x0 x1 x2 x3 x4 (ix3 b t n) = proj x0 x1 x2 x3 x4 b t ⟨2560 + n.val, by omega⟩ := by
  rw [val_main_v22_apply]
  refine (congrArg _ ?_).trans (proj_apply x0 x1 x2 x3 x4 b t _)
  funext a; match a with | ⟨0, _⟩ => rfl | ⟨1, _⟩ => rfl | ⟨2, _⟩ => rfl
/-- from 2584, -/
theorem v23_apply (b : Fin 16) (t : Fin 2048) (n : Fin 1024) : val_main_v23 (F := Ideal) x0 x1 x2 x3 x4 (ix3 b t n) = proj x0 x1 x2 x3 x4 b t ⟨2584 + n.val, by omega⟩ := by
  rw [val_main_v23_apply]
  refine (congrArg _ ?_).trans (proj_apply x0 x1 x2 x3 x4 b t _)
  funext a; match a with | ⟨0, _⟩ => rfl | ⟨1, _⟩ => rfl | ⟨2, _⟩ => rfl
/-- from 3608: the fourth result, -/
theorem v24_apply (b : Fin 16) (t : Fin 2048) (n : Fin 1024) : val_main_v24 (F := Ideal) x0 x1 x2 x3 x4 (ix3 b t n) = proj x0 x1 x2 x3 x4 b t ⟨3608 + n.val, by omega⟩ := by
  rw [val_main_v24_apply]
  refine (congrArg _ ?_).trans (proj_apply x0 x1 x2 x3 x4 b t _)
  funext a; match a with | ⟨0, _⟩ => rfl | ⟨1, _⟩ => rfl | ⟨2, _⟩ => rfl
/-- and from 4632. -/
theorem v25_apply (b : Fin 16) (t : Fin 2048) (n : Fin 8) : val_main_v25 (F := Ideal) x0 x1 x2 x3 x4 (ix3 b t n) = proj x0 x1 x2 x3 x4 b t ⟨4632 + n.val, by omega⟩ := by
  rw [val_main_v25_apply]
  refine (congrArg _ ?_).trans (proj_apply x0 x1 x2 x3 x4 b t _)
  funext a; match a with | ⟨0, _⟩ => rfl | ⟨1, _⟩ => rfl | ⟨2, _⟩ => rfl

/-- The second result. -/
theorem v44_apply (b : Fin 16) (t : Fin 2048) (n : Fin 1024) : val_main_v44 (F := Ideal) x0 x1 x2 x3 x4 (ix3 b t n) = proj x0 x1 x2 x3 x4 b t ⟨1024 + n.val, by omega⟩ := by
  rw [val_main_v44_apply]
  refine (congrArg _ ?_).trans (v21_apply x0 x1 x2 x3 x4 b t ⟨n.val, by omega⟩)
  funext a; match a with | ⟨0, _⟩ => rfl | ⟨1, _⟩ => rfl | ⟨2, _⟩ => rfl
/-- The third result. -/
theorem v45_apply (b : Fin 16) (t : Fin 2048) (n : Fin 512) : val_main_v45 (F := Ideal) x0 x1 x2 x3 x4 (ix3 b t n) = proj x0 x1 x2 x3 x4 b t ⟨2048 + n.val, by omega⟩ := by
  rw [val_main_v45_apply]
  refine (congrArg _ ?_).trans ((v21_apply x0 x1 x2 x3 x4 b t ⟨1024 + n.val, by omega⟩).trans (congrArg (proj x0 x1 x2 x3 x4 b t) (Fin.ext ?_)))
  · funext a; match a with | ⟨0, _⟩ => rfl | ⟨1, _⟩ => rfl | ⟨2, _⟩ => rfl
  · show 1024 + (1024 + n.val) = 2048 + n.val; omega

/-- The first result. -/
theorem v42_apply (b : Fin 16) (t : Fin 2048) (n : Fin 4608) : val_main_v42 (F := Ideal) x0 x1 x2 x3 x4 (ix3 b t n) = proj x0 x1 x2 x3 x4 b t (mainCol n) := by
  have hn := n.isLt
  rw [val_main_v42_apply]
  show val_main_v41 (F := Ideal) x0 x1 x2 x3 x4 (ix3 b t n) = _
  unfold val_main_v41 mainCol
  split
  · next h =>
    exact (concatenate_apply_piece (t := S16x2048x4608) 2 _ _ (ix3 b t n) 0 (by exact (show 0 < 4 by decide)) S16x2048x1536 _ rfl rfl 0 rfl (ix3 b t ⟨n.val, h⟩)
      (fun a ha => by match a with | ⟨0, _⟩ => rfl | ⟨1, _⟩ => rfl | ⟨2, _⟩ => exact absurd rfl ha) (Nat.zero_add _)).trans (v21_apply x0 x1 x2 x3 x4 b t _)
  split
  · next h0 h =>
    exact (concatenate_apply_piece (t := S16x2048x4608) 2 _ _ (ix3 b t n) 1 (by exact (show 1 < 4 by decide)) S16x2048x1024 _ rfl rfl 1536 rfl (ix3 b t ⟨n.val - 1536, by omega⟩)
      (fun a ha => by match a with | ⟨0, _⟩ => rfl | ⟨1, _⟩ => rfl | ⟨2, _⟩ => exact absurd rfl ha) (by show 1536 + (n.val - 1536) = n.val; omega)).trans (v24_apply x0 x1 x2 x3 x4 b t _)
  split
  · next h0 h1 h =>
    exact (concatenate_apply_piece (t := S16x2048x4608) 2 _ _ (ix3 b t n) 2 (by exact (show 2 < 4 by decide)) S16x2048x1024 _ rfl rfl 2560 rfl (ix3 b t ⟨n.val - 2560, by omega⟩)
      (fun a ha => by match a with | ⟨0, _⟩ => rfl | ⟨1, _⟩ => rfl | ⟨2, _⟩ => exact absurd rfl ha) (by show 2560 + (n.val - 2560) = n.val; omega)).trans (v20_apply x0 x1 x2 x3 x4 b t _)
  · next h0 h1 h =>
    exact (concatenate_apply_piece (t := S16x2048x4608) 2 _ _ (ix3 b t n) 3 (by exact (show 3 < 4 by decide)) S16x2048x1024 _ rfl rfl 3584 rfl (ix3 b t ⟨n.val - 3584, by omega⟩)
      (fun a ha => by match a with | ⟨0, _⟩ => rfl | ⟨1, _⟩ => rfl | ⟨2, _⟩ => exact absurd rfl ha) (by show 3584 + (n.val - 3584) = n.val; omega)).trans (v23_apply x0 x1 x2 x3 x4 b t _)

/-- The logistic gates. -/
theorem v34_apply (b : Fin 16) (t : Fin 2048) (l : Fin 24) :
    val_main_v34 (F := Ideal) x0 x1 x2 x3 x4 x5 (ix3 b t l) = Ideal.logistic (proj x0 x1 x2 x3 x4 b t ⟨2560 + l.val, by omega⟩ + x5 (ix1 l)) := by
  have e : val_main_v28 (F := Ideal) x0 x1 x2 x3 x4 x5 (ix3 b t l) = proj x0 x1 x2 x3 x4 b t ⟨2560 + l.val, by omega⟩ + x5 (ix1 l) := by
    rw [val_main_v28_apply, v22_apply, val_main_v27_apply, val_main_v26_apply]
    refine congrArg (fun z => _ + x5 z) ?_
    funext a; match a with | ⟨0, _⟩ => rfl
  rw [val_main_v34_apply, val_main_v33_apply, val_main_v32_apply, val_main_v31_apply, val_main_v30_apply, val_main_v29_apply, e]
  show Ideal.div (Ideal.ofBits .f32 0x3F800000#32) (Ideal.ofBits .f32 0x3F800000#32 + _) = _
  rw [Ideal.ofBits_one_f32]; rfl

/-- The logarithmic gates. -/
theorem v38_apply (b : Fin 16) (t : Fin 2048) (l : Fin 8) :
    val_main_v38 (F := Ideal) x0 x1 x2 x3 x4 x6 (ix3 b t l) = logSig (proj x0 x1 x2 x3 x4 b t ⟨4632 + l.val, by omega⟩ + x6 (ix1 l)) := by
  have e : val_main_v37 (F := Ideal) x0 x1 x2 x3 x4 x6 (ix3 b t l) = proj x0 x1 x2 x3 x4 b t ⟨4632 + l.val, by omega⟩ + x6 (ix1 l) := by
    rw [val_main_v37_apply, v25_apply, val_main_v36_apply, val_main_v35_apply]
    refine congrArg (fun z => _ + x6 z) ?_
    funext a; match a with | ⟨0, _⟩ => rfl
  rw [val_main_v38_apply, val_main_call0_v1_apply, val_main_call0_call0_v4_apply, show ∀ d : EReal, FloatOps.cmpf (F := Ideal) (φ := .f32) .une d d = Ideal.cmp .une d d from fun _ => rfl, select_une_self,
    val_main_call0_call0_v11_apply, val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply, val_main_call0_v0_apply, e]
  generalize proj x0 x1 x2 x3 x4 b t ⟨4632 + l.val, by omega⟩ + x6 (ix1 l) = z
  show -(max (-z) (Ideal.ofBits .f32 0x00000000#32) + Ideal.log1p (Ideal.exp (-(max (-z - Ideal.ofBits .f32 0x00000000#32) (-(-z - Ideal.ofBits .f32 0x00000000#32)))))) = _
  rw [Ideal.ofBits_zero_f32, sub_zero]; rfl

/-- The padding. -/
theorem v40_apply (b : Fin 16) (t : Fin 2048) (l : Fin 96) : val_main_v40 (F := Ideal) (ix3 b t l) = logSig 0 := by
  rw [val_main_v40_apply, val_main_call1_v1_apply, val_main_call1_call0_v4_apply, show ∀ d : EReal, FloatOps.cmpf (F := Ideal) (φ := .f32) .une d d = Ideal.cmp .une d d from fun _ => rfl, select_une_self,
    val_main_call1_call0_v11_apply, val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply, val_main_call1_v0_apply, val_main_v39_apply]
  show -(max (-Ideal.ofBits .f32 0x00000000#32) (Ideal.ofBits .f32 0x00000000#32) + Ideal.log1p (Ideal.exp (-(max (-Ideal.ofBits .f32 0x00000000#32 - Ideal.ofBits .f32 0x00000000#32) (-(-Ideal.ofBits .f32 0x00000000#32 - Ideal.ofBits .f32 0x00000000#32)))))) = _
  rw [Ideal.ofBits_zero_f32, sub_zero]; rfl

/-- The fifth result. -/
theorem v43_apply (b : Fin 16) (t : Fin 2048) (l : Fin 128) : val_main_v43 (F := Ideal) x0 x1 x2 x3 x4 x5 x6 (ix3 b t l) = small x0 x1 x2 x3 x4 x5 x6 b t l := by
  have hl := l.isLt
  unfold val_main_v43 small
  split
  · next h =>
    exact (concatenate_apply_piece (t := S16x2048x128) 2 _ _ (ix3 b t l) 0 (by exact (show 0 < 3 by decide)) S16x2048x24 _ rfl rfl 0 rfl (ix3 b t ⟨l.val, h⟩)
      (fun a ha => by match a with | ⟨0, _⟩ => rfl | ⟨1, _⟩ => rfl | ⟨2, _⟩ => exact absurd rfl ha) (Nat.zero_add _)).trans (v34_apply x0 x1 x2 x3 x4 x5 b t _)
  split
  · next h0 h =>
    exact (concatenate_apply_piece (t := S16x2048x128) 2 _ _ (ix3 b t l) 1 (by exact (show 1 < 3 by decide)) S16x2048x8 _ rfl rfl 24 rfl (ix3 b t ⟨l.val - 24, by omega⟩)
      (fun a ha => by match a with | ⟨0, _⟩ => rfl | ⟨1, _⟩ => rfl | ⟨2, _⟩ => exact absurd rfl ha) (by show 24 + (l.val - 24) = l.val; omega)).trans (v38_apply x0 x1 x2 x3 x4 x6 b t _)
  · next h0 h =>
    exact (concatenate_apply_piece (t := S16x2048x128) 2 _ _ (ix3 b t l) 2 (by exact (show 2 < 3 by decide)) S16x2048x96 _ rfl rfl 32 rfl (ix3 b t ⟨l.val - 32, by omega⟩)
      (fun a ha => by match a with | ⟨0, _⟩ => rfl | ⟨1, _⟩ => rfl | ⟨2, _⟩ => exact absurd rfl ha) (by show 32 + (l.val - 32) = l.val; omega)).trans (v40_apply b t _)

end Cert.InprojRefIdeal.Read

end
-- ==== Proof.InprojIdeal.Blocks.lean ====
module

public import proofs.«01_k».proof.Proof.InprojIdeal.Frame
public import proofs.«01_k».proof.Proof.InprojSpec
public import Idealize.ShloMosaic.Lib.ValueLayout
public import Idealize.ShloMosaic.Lib.ValueLayoutCasts
public import Idealize.ShloMosaic.Lib.MatmulPlain
public import Idealize.ShloMosaic.Lib.Pipeline.ValueKit

@[expose] public section

set_option maxRecDepth 16384

noncomputable section

/-! # What the body of the projection computes at a point, element by element -/

namespace Cert.InprojIdeal.Gen

open Idealize.ShloMosaic hiding ix1 ix2 ix3
open Idealize.ShloMosaic.TcCoe Idealize.ShloMosaic.ValueIdx
open Idealize.SL Idealize.SL.Sem
open Cert.InprojSpec

variable (m : (ℓ : Loc nD τ sig) → Buf (Elt Ideal) ℓ) (c : Dev nD)

/-! ## The arguments -/

/-- The rows, -/
abbrev a0 : S16x2048x2048.Idx → EReal := m ((c : Thread nD τ).loc main_arg0)
/-- their gains, -/
abbrev a1 : S2048.Idx → EReal := m ((c : Thread nD τ).loc main_arg1)
/-- the modulation's scale -/
abbrev a2 : S16x1x2048.Idx → EReal := m ((c : Thread nD τ).loc main_arg2)
/-- and shift, -/
abbrev a3 : S16x1x2048.Idx → EReal := m ((c : Thread nD τ).loc main_arg3)
/-- the weights -/
abbrev a4 : S2048x4640.Idx → EReal := m ((c : Thread nD τ).loc main_arg4)
/-- and the gates' biases. -/
abbrev a5 : S24.Idx → EReal := m ((c : Thread nD τ).loc main_arg5)
/-- The last of them. -/
abbrev a6 : S8.Idx → EReal := m ((c : Thread nD τ).loc main_arg6)

/-! ## What the host's operations hand the call -/

/-- A cut of the weights' columns from `o` on, at an entry. -/
theorem cut_apply {n : ℕ} (x : S2048x4640.Idx → EReal) (o : ℕ) (h : S2048x4640.Slices ![0, o] ⟨2, ![2048, n]⟩) (k : Fin 2048) (q : Fin n) (r : Fin 4640)
    (hr : r.val = o + q.val) : extractStridedSlice ⟨2, ![2048, n]⟩ ![0, o] x h (ix2 k q) = x (ix2 k r) :=
  extractStridedSlice_apply ![0, o] x h (ix2 k q) (ix2 k r) (fun a => match a with
    | ⟨0, _⟩ => by show k.val = 0 + k.val; omega
    | ⟨1, _⟩ => hr)

/-- The gains get a unit axis. -/
theorem V_main_v14 (k : Fin 2048) : (V m c main_v14 : S1x2048.Idx → EReal) (ix2 0 k) = a1 m c (ix1 k) := by
  have e : V m c main_v14 = broadcastInDim S1x2048 ![1] bcast_S2048_S1x2048_1 (m ((c : Thread nD τ).loc main_arg1)) := rfl
  rw [e]
  exact broadcastInDim_apply _ _ _ _ (ix1 k) fun a => match a with | ⟨0, _⟩ => rfl

/-- The weights of the products, at the columns `mainCol` says. -/
theorem V_main_v5 (k : Fin 2048) (n : Fin 4608) : (V m c main_v5 : S2048x4608.Idx → EReal) (ix2 k n) = a4 m c (ix2 k (mainCol n)) := by
  have hn := n.isLt
  have e : (V m c main_v5 : S2048x4608.Idx → EReal) = (concatenate S2048x4608 1
    [⟨S2048x1536, extractStridedSlice S2048x1536 ![0, 1024] (a4 m c) slices_S2048x4640_S2048x1536_0_1024⟩,
     ⟨S2048x1024, extractStridedSlice S2048x1024 ![0, 3608] (a4 m c) slices_S2048x4640_S2048x1024_0_3608⟩,
     ⟨S2048x1024, extractStridedSlice S2048x1024 ![0, 0] (a4 m c) slices_S2048x4640_S2048x1024_0_0⟩,
     ⟨S2048x1024, extractStridedSlice S2048x1024 ![0, 2584] (a4 m c) slices_S2048x4640_S2048x1024_0_2584⟩] concatenates_S2048x1536_S2048x1024_S2048x1024_S2048x1024_S2048x4608_d1 : S2048x4608.Idx → EReal) := rfl
  rw [e]
  unfold mainCol
  split
  · next h =>
    exact (concatenate_apply_piece (t := S2048x4608) 1 _ _ (ix2 k n) 0 (by exact (show 0 < 4 by decide)) S2048x1536 _ rfl rfl 0 rfl (ix2 k ⟨n.val, h⟩)
      (fun a ha => by match a with | ⟨0, _⟩ => rfl | ⟨1, _⟩ => exact absurd rfl ha) (Nat.zero_add _)).trans (cut_apply _ _ _ _ _ _ rfl)
  split
  · next h0 h =>
    exact (concatenate_apply_piece (t := S2048x4608) 1 _ _ (ix2 k n) 1 (by exact (show 1 < 4 by decide)) S2048x1024 _ rfl rfl 1536 rfl (ix2 k ⟨n.val - 1536, by omega⟩)
      (fun a ha => by match a with | ⟨0, _⟩ => rfl | ⟨1, _⟩ => exact absurd rfl ha) (by show 1536 + (n.val - 1536) = n.val; omega)).trans (cut_apply _ _ _ _ _ _ rfl)
  split
  · next h0 h1 h =>
    exact (concatenate_apply_piece (t := S2048x4608) 1 _ _ (ix2 k n) 2 (by exact (show 2 < 4 by decide)) S2048x1024 _ rfl rfl 2560 rfl (ix2 k ⟨n.val - 2560, by omega⟩)
      (fun a ha => by match a with | ⟨0, _⟩ => rfl | ⟨1, _⟩ => exact absurd rfl ha) (by show 2560 + (n.val - 2560) = n.val; omega)).trans (cut_apply _ _ _ _ _ _ (Nat.zero_add _).symm)
  · next h0 h1 h =>
    exact (concatenate_apply_piece (t := S2048x4608) 1 _ _ (ix2 k n) 3 (by exact (show 3 < 4 by decide)) S2048x1024 _ rfl rfl 3584 rfl (ix2 k ⟨n.val - 3584, by omega⟩)
      (fun a ha => by match a with | ⟨0, _⟩ => rfl | ⟨1, _⟩ => exact absurd rfl ha) (by show 3584 + (n.val - 3584) = n.val; omega)).trans (cut_apply _ _ _ _ _ _ rfl)

/-- The weights of the gates: 24 columns, 8 columns and zeros. -/
def gateW (k : Fin 2048) (l : Fin 128) : EReal :=
  if h1 : l.val < 24 then a4 m c (ix2 k ⟨2560 + l.val, by omega⟩)
  else if h2 : l.val < 32 then a4 m c (ix2 k ⟨4632 + (l.val - 24), by omega⟩)
  else 0

/-- The call's array of them. -/
theorem V_main_v10 (k : Fin 2048) (l : Fin 128) : (V m c main_v10 : S2048x128.Idx → EReal) (ix2 k l) = gateW m c k l := by
  have hl := l.isLt
  have e : (V m c main_v10 : S2048x128.Idx → EReal) = (concatenate S2048x128 1
    [⟨S2048x24, extractStridedSlice S2048x24 ![0, 2560] (a4 m c) slices_S2048x4640_S2048x24_0_2560⟩,
     ⟨S2048x8, extractStridedSlice S2048x8 ![0, 4632] (a4 m c) slices_S2048x4640_S2048x8_0_4632⟩,
     ⟨S2048x96, broadcastInDim S2048x96 ![] bcast_S_S2048x96 (constant (F := Ideal) S_ .f32 0x00000000#32)⟩] concatenates_S2048x24_S2048x8_S2048x96_S2048x128_d1 : S2048x128.Idx → EReal) := rfl
  rw [e]
  unfold gateW
  split
  · next h =>
    exact (concatenate_apply_piece (t := S2048x128) 1 _ _ (ix2 k l) 0 (by exact (show 0 < 3 by decide)) S2048x24 _ rfl rfl 0 rfl (ix2 k ⟨l.val, h⟩)
      (fun a ha => by match a with | ⟨0, _⟩ => rfl | ⟨1, _⟩ => exact absurd rfl ha) (Nat.zero_add _)).trans (cut_apply _ _ _ _ _ _ rfl)
  split
  · next h0 h =>
    exact (concatenate_apply_piece (t := S2048x128) 1 _ _ (ix2 k l) 1 (by exact (show 1 < 3 by decide)) S2048x8 _ rfl rfl 24 rfl (ix2 k ⟨l.val - 24, by omega⟩)
      (fun a ha => by match a with | ⟨0, _⟩ => rfl | ⟨1, _⟩ => exact absurd rfl ha) (by show 24 + (l.val - 24) = l.val; omega)).trans (cut_apply _ _ _ _ _ _ rfl)
  · next h0 h =>
    exact (concatenate_apply_piece (t := S2048x128) 1 _ _ (ix2 k l) 2 (by exact (show 2 < 3 by decide)) S2048x96 _ rfl rfl 32 rfl (ix2 k ⟨l.val - 32, by omega⟩)
      (fun a ha => by match a with | ⟨0, _⟩ => rfl | ⟨1, _⟩ => exact absurd rfl ha) (by show 32 + (l.val - 32) = l.val; omega)).trans Ideal.ofBits_zero_f32

/-- The gates' biases: 24, 8 and zeros. -/
def gateB (l : Fin 128) : EReal :=
  if h1 : l.val < 24 then a5 m c (ix1 ⟨l.val, h1⟩)
  else if h2 : l.val < 32 then a6 m c (ix1 ⟨l.val - 24, by omega⟩)
  else 0

/-- The call's array of them. -/
theorem V_main_v13 (l : Fin 128) : (V m c main_v13 : S1x128.Idx → EReal) (ix2 0 l) = gateB m c l := by
  have hl := l.isLt
  have e : (V m c main_v13 : S1x128.Idx → EReal) = broadcastInDim S1x128 ![1] bcast_S128_S1x128_1 (concatenate S128 0
    [⟨S24, a5 m c⟩, ⟨S8, a6 m c⟩,
     ⟨S96, broadcastInDim S96 ![] bcast_S_S96 (constant (F := Ideal) S_ .f32 0x00000000#32)⟩] concatenates_S24_S8_S96_S128_d0 : S128.Idx → EReal) := rfl
  rw [e]
  refine (broadcastInDim_apply _ _ _ _ (ix1 l) fun a => match a with | ⟨0, _⟩ => rfl).trans ?_
  unfold gateB
  split
  · next h =>
    exact concatenate_apply_piece (t := S128) 0 _ _ (ix1 l) 0 (by exact (show 0 < 3 by decide)) S24 _ rfl rfl 0 rfl (ix1 ⟨l.val, h⟩)
      (fun a ha => by match a with | ⟨0, _⟩ => exact absurd rfl ha) (Nat.zero_add _)
  split
  · next h0 h =>
    exact concatenate_apply_piece (t := S128) 0 _ _ (ix1 l) 1 (by exact (show 1 < 3 by decide)) S8 _ rfl rfl 24 rfl (ix1 ⟨l.val - 24, by omega⟩)
      (fun a ha => by match a with | ⟨0, _⟩ => exact absurd rfl ha) (by show 24 + (l.val - 24) = l.val; omega)
  · next h0 h =>
    exact (concatenate_apply_piece (t := S128) 0 _ _ (ix1 l) 2 (by exact (show 2 < 3 by decide)) S96 _ rfl rfl 32 rfl (ix1 ⟨l.val - 32, by omega⟩)
      (fun a ha => by match a with | ⟨0, _⟩ => exact absurd rfl ha) (by show 32 + (l.val - 32) = l.val; omega)).trans Ideal.ofBits_zero_f32

/-! ## The blocks at coordinates -/

/-- A point's batch, row tile and column tile. -/
theorem coords_at : ∀ t : Fin grid0.N, (grid0.coords t 0).val = t.val / 36 ∧ (grid0.coords t 1).val = t.val / 9 % 4 ∧ (grid0.coords t 2).val = t.val % 9 := by
  decide +kernel

/-- The batch of a point, -/
def bat (t : Fin cfg0.N) : Fin 16 := ⟨t.val / 36, by have h : t.val < 576 := Nat.lt_of_lt_of_eq t.isLt N_0; omega⟩
/-- row `p` of its row tile, -/
def row (t : Fin cfg0.N) (p : Fin 512) : Fin 2048 := ⟨t.val / 9 % 4 * 512 + p.val, by omega⟩
/-- and column `q` of its column tile. -/
def col (t : Fin cfg0.N) (q : Fin 512) : Fin 4608 := ⟨t.val % 9 * 512 + q.val, by omega⟩

/-- Points of one tile have one batch and the same rows. -/
theorem bat_pt (t : Fin cfg0.N) (j : ℕ) (hj : j < 9) : bat (pt t j hj) = bat t :=
  Fin.ext (by show (9 * (t.val / 9) + j) / 36 = t.val / 36; omega)
theorem row_pt (t : Fin cfg0.N) (j : ℕ) (hj : j < 9) (p : Fin 512) : row (pt t j hj) p = row t p :=
  Fin.ext (by show (9 * (t.val / 9) + j) / 9 % 4 * 512 + p.val = t.val / 9 % 4 * 512 + p.val; omega)

/-- The rows' block. -/
theorem x_apply (t : Fin cfg0.N) (p : Fin 512) (k : Fin 2048) : (iblk m c 0 t : S1x512x2048.Idx → EReal) (ix3 0 p k) = a0 m c (ix3 (bat t) (row t p) k) := by
  obtain ⟨e0, e1, -⟩ := coords_at t
  have h : t.val < 576 := Nat.lt_of_lt_of_eq t.isLt N_0
  refine (congrFun (V_main_arg0 m c) _).trans (congrArg (a0 m c) (funext fun a => Fin.ext ?_))
  match a with
  | ⟨0, _⟩ =>
    show (BitVec.ofNat 32 (grid0.coords t 0).val).toNat * 1 + 1 * 0 = t.val / 36
    rw [e0, BitVec.toNat_ofNat, Nat.mod_eq_of_lt (by omega)]; omega
  | ⟨1, _⟩ =>
    show (BitVec.ofNat 32 (grid0.coords t 1).val).toNat * 512 + 1 * p.val = t.val / 9 % 4 * 512 + p.val
    rw [e1, BitVec.toNat_ofNat, Nat.mod_eq_of_lt (by omega)]; omega
  | ⟨2, _⟩ => show (0#32 : BitVec 32).toNat * 2048 + 1 * k.val = k.val; rw [Nat.one_mul]; exact Nat.zero_add _

/-- The gains' block. -/
theorem g_apply (t : Fin cfg0.N) (k : Fin 2048) : (iblk m c 1 t : S1x2048.Idx → EReal) (ix2 0 k) = a1 m c (ix1 k) := by
  refine Eq.trans (congrArg (V m c main_v14 : S1x2048.Idx → EReal) (funext fun a => Fin.ext ?_)) (V_main_v14 m c k)
  match a with
  | ⟨0, _⟩ => rfl
  | ⟨1, _⟩ => show (0#32 : BitVec 32).toNat * 2048 + 1 * k.val = k.val; rw [Nat.one_mul]; exact Nat.zero_add _

/-- The modulation's scale at the point's batch, -/
theorem sc_apply (t : Fin cfg0.N) (k : Fin 2048) : (iblk m c 2 t : S1x1x2048.Idx → EReal) (ix3 0 0 k) = a2 m c (ix3 (bat t) 0 k) := by
  obtain ⟨e0, -, -⟩ := coords_at t
  have h : t.val < 576 := Nat.lt_of_lt_of_eq t.isLt N_0
  refine (congrFun (V_main_arg2 m c) _).trans (congrArg (a2 m c) (funext fun a => Fin.ext ?_))
  match a with
  | ⟨0, _⟩ =>
    show (BitVec.ofNat 32 (grid0.coords t 0).val).toNat * 1 + 1 * 0 = t.val / 36
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-- and its shift. -/
theorem sh_apply (t : Fin cfg0.N) (k : Fin 2048) : (iblk m c 3 t : S1x1x2048.Idx → EReal) (ix3 0 0 k) = a3 m c (ix3 (bat t) 0 k) := by
  obtain ⟨e0, -, -⟩ := coords_at t
  have h : t.val < 576 := Nat.lt_of_lt_of_eq t.isLt N_0
  refine (congrFun (V_main_arg3 m c) _).trans (congrArg (a3 m c) (funext fun a => Fin.ext ?_))
  match a with
  | ⟨0, _⟩ =>
    show (BitVec.ofNat 32 (grid0.coords t 0).val).toNat * 1 + 1 * 0 = t.val / 36
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-- The weights' block. -/
theorem w_apply (t : Fin cfg0.N) (k : Fin 2048) (q : Fin 512) : (iblk m c 4 t : S2048x512.Idx → EReal) (ix2 k q) = a4 m c (ix2 k (mainCol (col t q))) := by
  obtain ⟨-, -, e2⟩ := coords_at t
  refine Eq.trans (congrArg (V m c main_v5 : S2048x4608.Idx → EReal) (funext fun a => Fin.ext ?_)) (V_main_v5 m c k (col t q))
  match a with
  | ⟨0, _⟩ => show (0#32 : BitVec 32).toNat * 2048 + 1 * k.val = k.val; rw [Nat.one_mul]; exact Nat.zero_add _
  | ⟨1, _⟩ =>
    show (BitVec.ofNat 32 (grid0.coords t 2).val).toNat * 512 + 1 * q.val = t.val % 9 * 512 + q.val
    rw [e2, BitVec.toNat_ofNat, Nat.mod_eq_of_lt (by omega)]; omega

/-- The gates' weights -/
theorem ws_apply (t : Fin cfg0.N) (k : Fin 2048) (l : Fin 128) : (iblk m c 5 t : S2048x128.Idx → EReal) (ix2 k l) = gateW m c k l := by
  refine Eq.trans (congrArg (V m c main_v10 : S2048x128.Idx → EReal) (funext fun a => Fin.ext ?_)) (V_main_v10 m c k l)
  match a with
  | ⟨0, _⟩ => show (0#32 : BitVec 32).toNat * 2048 + 1 * k.val = k.val; rw [Nat.one_mul]; exact Nat.zero_add _
  | ⟨1, _⟩ => show (0#32 : BitVec 32).toNat * 128 + 1 * l.val = l.val; rw [Nat.one_mul]; exact Nat.zero_add _

/-- and biases. -/
theorem bs_apply (t : Fin cfg0.N) (l : Fin 128) : (iblk m c 6 t : S1x128.Idx → EReal) (ix2 0 l) = gateB m c l := by
  refine Eq.trans (congrArg (V m c main_v13 : S1x128.Idx → EReal) (funext fun a => Fin.ext ?_)) (V_main_v13 m c l)
  match a with
  | ⟨0, _⟩ => rfl
  | ⟨1, _⟩ => show (0#32 : BitVec 32).toNat * 128 + 1 * l.val = l.val; rw [Nat.one_mul]; exact Nat.zero_add _

end Cert.InprojIdeal.Gen

end
-- ==== Proof.InprojIdeal.Payloads.lean ====
module

public import proofs.«01_k».proof.Proof.InprojIdeal.Blocks

@[expose] public section

set_option maxRecDepth 16384

noncomputable section

/-! # The values the body of the projection stores -/

namespace Cert.InprojIdeal.Gen

open Idealize.ShloMosaic hiding ix1 ix2 ix3
open Idealize.ShloMosaic.TcCoe Idealize.ShloMosaic.ValueIdx
open Idealize.SL Idealize.SL.Sem
open Cert.InprojSpec

/-! ## The payloads at an entry -/

/-- A row's sum of squares. -/
theorem squares_apply (y : FVec Ideal S512x2048 .f32) (p : Fin 512) :
    multiReduction (F := Ideal) .add [1] S512 (mulf y y) 0x00000000#32 reduces_S512x2048_S512 (.inl rfl) rfl (ix1 p) = ∑ k : Fin 2048, y (ix2 p k) * y (ix2 p k) := by
  refine (Ideal.multiReduction_add_single _ _ _ _ _ _).trans (Finset.sum_congr rfl fun k _ => ?_)
  have e : reduces_S512x2048_S512.lift (ix1 p) k = ix2 p k := funext fun a => Fin.ext (by match a with | ⟨0, _⟩ => rfl | ⟨1, _⟩ => rfl)
  exact congrArg (fun i => y i * y i) e

/-- A row repeated down a block. -/
theorem rowOf_apply {n : ℕ} (y : (⟨2, ![1, n]⟩ : Shape).Idx → EReal) (h : (⟨2, ![1, n]⟩ : Shape).Broadcasts ⟨2, ![512, n]⟩) (hn : n ≠ 1) (p : Fin 512) (k : Fin n) :
    broadcastTo ⟨2, ![512, n]⟩ y h (ix2 p k) = y (ix2 0 k) :=
  broadcastTo_apply _ _ _ (ix2 0 k) fun a => match a with
    | ⟨0, _⟩ => rfl
    | ⟨1, _⟩ => (if_neg hn).symm

/-- The modulated rows, at an entry. -/
theorem pay7_apply (x : FVec Ideal S1x512x2048 .f32) (g : FVec Ideal S1x2048 .f32) (sc sh : FVec Ideal S1x1x2048 .f32) (p : Fin 512) (k : Fin 2048) :
    k0_pay7 (F := Ideal) x g sc sh (ix2 p k)
      = x (ix3 0 p k) * Ideal.rsqrt (Ideal.div (∑ k : Fin 2048, x (ix3 0 p k) * x (ix3 0 p k)) (Ideal.ofBits .f32 0x45000000#32) + Ideal.ofBits .f32 0x358637BD#32)
          * g (ix2 0 k) * (Ideal.ofBits .f32 0x3F800000#32 + sc (ix3 0 0 k)) + sh (ix3 0 0 k) := by
  have ex : ∀ k, shapeCast S512x2048 x shapeCasts_S1x512x2048_S512x2048 (ix2 p k) = x (ix3 0 p k) := fun k => shapeCast_1ab_ab_apply _ _ _ _
  have es : ∀ (y : FVec Ideal S1x1x2048 .f32), shapeCast S1x2048 y shapeCasts_S1x1x2048_S1x2048 (ix2 0 k) = y (ix3 0 0 k) := fun y => shapeCast_1ab_ab_apply _ _ _ _
  unfold k0_pay7
  rw [shapeCast_self]
  refine congrArg₂ (· + ·) (congrArg₂ (· * ·) (congrArg₂ (· * ·) (congrArg₂ (· * ·) (ex k) ?_) ?_) ?_) ?_
  · refine (broadcastTo_apply _ _ _ (ix2 p 0) fun a => by match a with | ⟨0, _⟩ => rfl | ⟨1, _⟩ => rfl).trans ?_
    refine congrArg Ideal.rsqrt (congrArg (fun z => Ideal.div z (Ideal.ofBits .f32 0x45000000#32) + Ideal.ofBits .f32 0x358637BD#32) ?_)
    refine (shapeCast_a_a1_apply _ _ _ _).trans ((squares_apply _ p).trans (Finset.sum_congr rfl fun k _ => ?_))
    rw [ex k]
  · exact rowOf_apply _ _ (by decide) p k
  · refine (rowOf_apply _ _ (by decide) p k).trans ?_
    exact congrArg (Ideal.ofBits .f32 0x3F800000#32 + ·) (es sc)
  · exact (rowOf_apply _ _ (by decide) p k).trans (es sh)

/-- A product block, at an entry. -/
theorem pay2_apply (h : FVec Ideal S512x2048 .bf16) (w : FVec Ideal S2048x512 .bf16) (p q : Fin 512) :
    k0_pay2 (F := Ideal) h w (ix2 p q) = ∑ k : Fin 2048, h (ix2 p k) * w (ix2 k q) := by
  unfold k0_pay2
  rw [shapeCast_self]
  refine (Ideal.matmul_plain_apply none h w _ p q).trans ?_
  show Ideal.ofBits .f32 0x00000000#32 + _ = _
  rw [Ideal.ofBits_zero_f32, zero_add]

/-- The gates before their functions, at an entry. -/
theorem pay9_apply (x : FVec Ideal S1x512x2048 .f32) (g : FVec Ideal S1x2048 .f32) (sc sh : FVec Ideal S1x1x2048 .f32) (w : FVec Ideal S2048x128 .bf16) (b : FVec Ideal S1x128 .f32)
    (p : Fin 512) (l : Fin 128) :
    k0_pay9 (F := Ideal) x g sc sh w b (ix2 p l) = (∑ k : Fin 2048, k0_pay7 (F := Ideal) x g sc sh (ix2 p k) * w (ix2 k l)) + b (ix2 0 l) := by
  unfold k0_pay9
  rw [shapeCast_self, shapeCast_self]
  refine congrArg₂ (· + ·) ((Ideal.matmul_plain_apply none _ _ _ p l).trans ?_) (rowOf_apply _ _ (by decide) p l)
  show Ideal.ofBits .f32 0x00000000#32 + _ = _
  rw [Ideal.ofBits_zero_f32, zero_add]

/-- Which lanes take the logistic function. -/
theorem lane_slt : ∀ l : Fin 128, Scalar.cmpi .slt (BitVec.ofNat 32 l.val) 24#32 = if l.val < 24 then 1#1 else 0#1 := by decide

/-- The gates, at an entry. -/
theorem pay1_apply (z : FVec Ideal S512x128 .f32) (p : Fin 512) (l : Fin 128) :
    k0_pay1 (F := Ideal) z (ix3 0 p l) = if l.val < 24 then Ideal.logistic (z (ix2 p l)) else logSig (z (ix2 p l)) := by
  unfold k0_pay1
  refine (shapeCast_ab_1ab_apply _ _ _ _ _).trans ?_
  have ei : iota .tc S512x128 32 [1] iota_S512x128_d1_w32 (ix2 p l) = BitVec.ofNat 32 l.val := iota_single_apply _ _ _ _ _ _
  show Scalar.select (Scalar.cmpi .slt (iota .tc S512x128 32 [1] iota_S512x128_d1_w32 (ix2 p l)) 24#32) (Ideal.logistic (z (ix2 p l)))
    (Ideal.ofBits .f32 0x00000000#32 - Scalar.select
      (Ideal.cmp .une (Ideal.ofBits .f32 0x00000000#32 - z (ix2 p l) - Ideal.ofBits .f32 0x00000000#32) (Ideal.ofBits .f32 0x00000000#32 - z (ix2 p l) - Ideal.ofBits .f32 0x00000000#32))
      (Ideal.ofBits .f32 0x00000000#32 - z (ix2 p l) + Ideal.ofBits .f32 0x00000000#32)
      (max (Ideal.ofBits .f32 0x00000000#32 - z (ix2 p l)) (Ideal.ofBits .f32 0x00000000#32)
        + Ideal.log1p (Ideal.exp (Ideal.ofBits .f32 0x00000000#32
          - max (Ideal.ofBits .f32 0x00000000#32 - z (ix2 p l) - Ideal.ofBits .f32 0x00000000#32) (-(Ideal.ofBits .f32 0x00000000#32 - z (ix2 p l) - Ideal.ofBits .f32 0x00000000#32)))))) = _
  rw [select_une_self, ei, lane_slt, Ideal.ofBits_zero_f32]
  generalize z (ix2 p l) = y
  simp only [sub_zero, zero_sub]
  by_cases h : l.val < 24
  · rw [if_pos h, if_pos h]; rfl
  · rw [if_neg h, if_neg h]; rfl

/-! ## At a point -/

variable (m : (ℓ : Loc nD τ sig) → Buf (Elt Ideal) ℓ) (c : Dev nD)

/-- The projection of the arguments. -/
abbrev projOf (b : Fin 16) (t : Fin 2048) (n : Fin 4640) : EReal := proj (a0 m c) (a1 m c) (a2 m c) (a3 m c) (a4 m c) b t n

/-- The modulated rows of a point. -/
theorem pay7_at (t : Fin cfg0.N) (p : Fin 512) (k : Fin 2048) :
    k0_pay7 (F := Ideal) (iblk m c 0 t) (iblk m c 1 t) (iblk m c 2 t) (iblk m c 3 t) (ix2 p k) = modul (a0 m c) (a1 m c) (a2 m c) (a3 m c) (bat t) (row t p) k := by
  refine (pay7_apply (iblk m c 0 t) (iblk m c 1 t) (iblk m c 2 t) (iblk m c 3 t) p k).trans ?_
  exact congrArg₂ (· + ·) (congrArg₂ (· * ·) (congrArg₂ (· * ·) (congrArg₂ (· * ·) (x_apply m c t p k)
    (congrArg Ideal.rsqrt (congrArg (fun z => Ideal.div z (Ideal.ofBits .f32 0x45000000#32) + Ideal.ofBits .f32 0x358637BD#32)
      (Finset.sum_congr rfl fun k _ => congrArg₂ (· * ·) (x_apply m c t p k) (x_apply m c t p k)))))
    (g_apply m c t k)) (congrArg (Ideal.ofBits .f32 0x3F800000#32 + ·) (sc_apply m c t k))) (sh_apply m c t k)

/-- What the scratch holds. -/
theorem hAt_apply (t : Fin cfg0.N) (p : Fin 512) (k : Fin 2048) :
    (hAt m c t : S512x2048.Idx → EReal) (ix2 p k) = modul (a0 m c) (a1 m c) (a2 m c) (a3 m c) (bat t) (row t p) k := by
  unfold hAt k0_pay8
  rw [shapeCast_self]
  refine (pay7_at m c (pt t 0 (by decide)) p k).trans ?_
  rw [bat_pt, row_pt]

/-- The product of a point. -/
theorem prodAt_apply (t : Fin cfg0.N) (p q : Fin 512) :
    k0_pay2 (F := Ideal) (hAt m c t) (iblk m c 4 t) (ix2 p q) = projOf m c (bat t) (row t p) (mainCol (col t q)) :=
  (pay2_apply (hAt m c t) (iblk m c 4 t) p q).trans (Finset.sum_congr rfl fun k _ => congrArg₂ (· * ·) (hAt_apply m c t p k) (w_apply m c t k q))

/-- What is stored of it in the first result, -/
theorem pbAt_apply (t : Fin cfg0.N) (p q : Fin 512) : (pbAt m c t : S1x512x512.Idx → EReal) (ix3 0 p q) = projOf m c (bat t) (row t p) (mainCol (col t q)) := by
  unfold pbAt k0_pay3
  exact (shapeCast_ab_1ab_apply _ _ _ _ _).trans (prodAt_apply m c t p q)
/-- the second, -/
theorem kvAt_apply (t : Fin cfg0.N) (p q : Fin 512) : (kvAt m c t : S1x512x512.Idx → EReal) (ix3 0 p q) = projOf m c (bat t) (row t p) (mainCol (col t q)) := by
  unfold kvAt k0_pay4
  exact (shapeCast_ab_1ab_apply _ _ _ _ _).trans (prodAt_apply m c t p q)
/-- the third -/
theorem wnAt_apply (t : Fin cfg0.N) (p q : Fin 512) : (wnAt m c t : S1x512x512.Idx → EReal) (ix3 0 p q) = projOf m c (bat t) (row t p) (mainCol (col t q)) := by
  unfold wnAt k0_pay5
  exact (shapeCast_ab_1ab_apply _ _ _ _ _).trans (prodAt_apply m c t p q)
/-- and the fourth. -/
theorem kfAt_apply (t : Fin cfg0.N) (p q : Fin 512) : (kfAt m c t : S1x512x512.Idx → EReal) (ix3 0 p q) = projOf m c (bat t) (row t p) (mainCol (col t q)) := by
  unfold kfAt k0_pay6
  exact (shapeCast_ab_1ab_apply _ _ _ _ _).trans (prodAt_apply m c t p q)

/-- The gates of a point before their functions. -/
theorem pay9_at (t : Fin cfg0.N) (p : Fin 512) (l : Fin 128) :
    k0_pay9 (F := Ideal) (iblk m c 0 t) (iblk m c 1 t) (iblk m c 2 t) (iblk m c 3 t) (iblk m c 5 t) (iblk m c 6 t) (ix2 p l)
      = (∑ k : Fin 2048, modul (a0 m c) (a1 m c) (a2 m c) (a3 m c) (bat t) (row t p) k * gateW m c k l) + gateB m c l :=
  (pay9_apply (iblk m c 0 t) (iblk m c 1 t) (iblk m c 2 t) (iblk m c 3 t) (iblk m c 5 t) (iblk m c 6 t) p l).trans
    (congrArg₂ (· + ·) (Finset.sum_congr rfl fun k _ => congrArg₂ (· * ·) (pay7_at m c t p k) (ws_apply m c t k l)) (bs_apply m c t l))

/-- What is stored of them. -/
theorem smAt_apply (t : Fin cfg0.N) (p : Fin 512) (l : Fin 128) :
    (smAt m c t : S1x512x128.Idx → EReal) (ix3 0 p l) = small (a0 m c) (a1 m c) (a2 m c) (a3 m c) (a4 m c) (a5 m c) (a6 m c) (bat t) (row t p) l := by
  unfold smAt
  refine (pay1_apply _ p l).trans ?_
  rw [pay9_at]
  unfold gateW gateB small
  by_cases h1 : l.val < 24
  · simp only [dif_pos h1, if_pos h1]; rfl
  · by_cases h2 : l.val < 32
    · simp only [dif_neg h1, if_neg h1, dif_pos h2]; rfl
    · simp only [dif_neg h1, if_neg h1, dif_neg h2, mul_zero, Finset.sum_const_zero, add_zero]

end Cert.InprojIdeal.Gen

end
-- ==== Proof.InprojIdeal.Value.lean ====
module

public import proofs.«01_k».proof.Proof.InprojIdeal.Payloads

@[expose] public section

set_option maxRecDepth 16384

noncomputable section

/-! # The projection's result arrays -/

namespace Cert.InprojIdeal.Gen

open Idealize.ShloMosaic hiding ix1 ix2 ix3
open Idealize.ShloMosaic.TcCoe Idealize.ShloMosaic.ValueIdx
open Idealize.SL Idealize.SL.Sem
open Cert.InprojSpec

/-! ## Where the blocks are written -/

/-- The block index of the first result is the batch, the row tile and the column tile; -/
theorem at_7 : ∀ t : Fin grid0.N, cc0_transform_7 (grid0.coords t) 0 = t.val / 36 ∧ cc0_transform_7 (grid0.coords t) 1 = t.val / 9 % 4 ∧ cc0_transform_7 (grid0.coords t) 2 = t.val % 9 := by
  decide +kernel
/-- of the second, the batch, the row tile and the lesser of the column tile and 1; -/
theorem at_8 : ∀ t : Fin grid0.N, cc0_transform_8 (grid0.coords t) 0 = t.val / 36 ∧ cc0_transform_8 (grid0.coords t) 1 = t.val / 9 % 4 ∧ cc0_transform_8 (grid0.coords t) 2 = min (t.val % 9) 1 := by
  decide +kernel
/-- of the third, the batch and the row tile; -/
theorem at_9 : ∀ t : Fin grid0.N, cc0_transform_9 (grid0.coords t) 0 = t.val / 36 ∧ cc0_transform_9 (grid0.coords t) 1 = t.val / 9 % 4 ∧ cc0_transform_9 (grid0.coords t) 2 = 0 := by
  decide +kernel
/-- of the fourth, the batch, the row tile, and 1 from the fifth column tile on; -/
theorem at_10 : ∀ t : Fin grid0.N, cc0_transform_10 (grid0.coords t) 0 = t.val / 36 ∧ cc0_transform_10 (grid0.coords t) 1 = t.val / 9 % 4 ∧ cc0_transform_10 (grid0.coords t) 2 = min (t.val % 9 - 3) 1 := by
  decide +kernel
/-- of the fifth, the batch and the row tile. -/
theorem at_11 : ∀ t : Fin grid0.N, cc0_transform_11 (grid0.coords t) 0 = t.val / 36 ∧ cc0_transform_11 (grid0.coords t) 1 = t.val / 9 % 4 ∧ cc0_transform_11 (grid0.coords t) 2 = 0 := by
  decide +kernel

/-- The `j`-th point of the tile that holds row `r` of batch `b`. -/
def ptOf (b : Fin 16) (r : Fin 2048) (j : ℕ) (hj : j < 9) : Fin cfg0.N :=
  ⟨36 * b.val + 9 * (r.val / 512) + j, Nat.lt_of_lt_of_eq (by omega) N_0.symm⟩

variable (m : (ℓ : Loc nD τ sig) → Buf (Elt Ideal) ℓ) (c : Dev nD)

/-! ## The columns -/

/-- The columns of the keys and values of the compressed branch lie in the first two column tiles, -/
theorem mainCol_kv (t : Fin cfg0.N) (j : ℕ) (hj : j < 2) (q : Fin 512) : (mainCol (col (pt t j (by omega)) q)).val = 1024 + (j * 512 + q.val) := by
  have e : (col (pt t j (by omega)) q).val = j * 512 + q.val := by show (9 * (t.val / 9) + j) % 9 * 512 + q.val = _; omega
  unfold mainCol
  rw [dif_pos (by omega)]
  show 1024 + (col (pt t j (by omega)) q).val = _
  rw [e]
/-- those of the window in the third, -/
theorem mainCol_wn (t : Fin cfg0.N) (q : Fin 512) : (mainCol (col (pt t 2 (by decide)) q)).val = 2048 + q.val := by
  have e : (col (pt t 2 (by decide)) q).val = 2 * 512 + q.val := by show (9 * (t.val / 9) + 2) % 9 * 512 + q.val = _; omega
  unfold mainCol
  rw [dif_pos (by omega)]
  show 1024 + (col (pt t 2 (by decide)) q).val = _
  rw [e]; omega
/-- those of the forgetting branch in the fourth and fifth. -/
theorem mainCol_kf (t : Fin cfg0.N) (j : ℕ) (h3 : 3 ≤ j) (h4 : j ≤ 4) (q : Fin 512) : (mainCol (col (pt t j (by omega)) q)).val = 3608 + ((j - 3) * 512 + q.val) := by
  have e : (col (pt t j (by omega)) q).val = j * 512 + q.val := by show (9 * (t.val / 9) + j) % 9 * 512 + q.val = _; omega
  unfold mainCol
  rw [dif_neg (by omega), dif_pos (by omega)]
  show 3608 + ((col (pt t j (by omega)) q).val - 1536) = _
  rw [e]; omega

/-! ## The result arrays -/

/-- The first result, -/
def res0 : S16x2048x4608.Idx → EReal := fun i => projOf m c (i 0) (i 1) (mainCol (i 2))
/-- the second, -/
def res1 : S16x2048x1024.Idx → EReal := fun i => projOf m c (i 0) (i 1) ⟨1024 + (i 2).val, by have h : (i 2).val < 1024 := (i 2).isLt; omega⟩
/-- the third, -/
def res2 : S16x2048x512.Idx → EReal := fun i => projOf m c (i 0) (i 1) ⟨2048 + (i 2).val, by have h : (i 2).val < 512 := (i 2).isLt; omega⟩
/-- the fourth -/
def res3 : S16x2048x1024.Idx → EReal := fun i => projOf m c (i 0) (i 1) ⟨3608 + (i 2).val, by have h : (i 2).val < 1024 := (i 2).isLt; omega⟩
/-- and the fifth. -/
def res4 : S16x2048x128.Idx → EReal := fun i => small (a0 m c) (a1 m c) (a2 m c) (a3 m c) (a4 m c) (a5 m c) (a6 m c) (i 0) (i 1) (i 2)

/-- A projection at an entry whose numbers are known. -/
theorem projOf_congr {b b' : Fin 16} {r r' : Fin 2048} {n n' : Fin 4640} (hb : b.val = b'.val) (hr : r.val = r'.val) (hn : n.val = n'.val) : projOf m c b r n = projOf m c b' r' n' := by
  rw [Fin.ext hb, Fin.ext hr, Fin.ext hn]

variable (after : (w : Fin cfg0.W) → Fin cfg0.N → (cfg0.win w).block.Idx → Elt Ideal (cfg0.win w).elt)

/-! ## The arrays after the last point -/

/-- Every entry of the first result is in a block that is written back. -/
theorem covered_7 (i : S16x2048x4608.Idx) : ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 4608 := (i 2).isLt
  have hj : ((i 2).val / 512 : ℕ) < 9 := by omega
  obtain ⟨e0, e1, e2⟩ := at_7 (ptOf (i 0) (i 1) ((i 2).val / 512) hj)
  have ev : (ptOf (i 0) (i 1) ((i 2).val / 512) hj).val = 36 * (i 0).val + 9 * ((i 1).val / 512) + ((i 2).val / 512) := rfl
  rw [ev] at e0 e1 e2
  refine ⟨ptOf (i 0) (i 1) ((i 2).val / 512) hj, flush0_7 _, ?_⟩
  refine (ValueKit.mem_set_slice_whole_iff _ _ _ Iff.rfl).mpr (Rect.mem_set_unit.mpr fun a => ?_)
  match a with
  | ⟨0, _⟩ =>
    show cc0_transform_7 (grid0.coords _) 0 * 1 ≤ (i 0).val ∧ (i 0).val < cc0_transform_7 (grid0.coords _) 0 * 1 + 1
    rw [e0]; omega
  | ⟨1, _⟩ =>
    show cc0_transform_7 (grid0.coords _) 1 * 512 ≤ (i 1).val ∧ (i 1).val < cc0_transform_7 (grid0.coords _) 1 * 512 + 512
    rw [e1]; omega
  | ⟨2, _⟩ =>
    show cc0_transform_7 (grid0.coords (ptOf (i 0) (i 1) ((i 2).val / 512) hj)) 2 * 512 ≤ (i 2).val ∧ (i 2).val < cc0_transform_7 (grid0.coords (ptOf (i 0) (i 1) ((i 2).val / 512) hj)) 2 * 512 + 512
    rw [e2]; omega

/-- THE FIRST RESULT after the last point. -/
theorem final_7 (h : ∀ t, (cfg0.win 7).flush t = true → Rl m c 7 t (after 7 t)) : ((rdat m c).withAfter after).arrAt 7 cfg0.N = res0 m c := by
  refine ((rdat m c).withAfter after).arrAt_eq_of_emb 7 (res0 m c) (fun t hf y => ?_) covered_7
  have hy : ∀ y : S1x512x512.Idx, ∃ (p : Fin 512) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_7 t
  have i0 : bat t = (((cfg0.win 7).blk t).view.emb (ix3 0 p q) : S16x2048x4608.Idx) 0 := Fin.ext (by
    show t.val / 36 = cc0_transform_7 (grid0.coords t) 0 * 1 + 1 * 0
    rw [e0]; omega)
  have i1 : row t p = (((cfg0.win 7).blk t).view.emb (ix3 0 p q) : S16x2048x4608.Idx) 1 := Fin.ext (by
    show t.val / 9 % 4 * 512 + p.val = cc0_transform_7 (grid0.coords t) 1 * 512 + 1 * p.val
    rw [e1]; omega)
  have i2 : cc0_transform_7 (grid0.coords t) 2 * 512 + 1 * q.val = ((((cfg0.win 7).blk t).view.emb (ix3 0 p q) : S16x2048x4608.Idx) 2).val := rfl
  rw [e2] at i2
  refine Eq.trans (b := (after 7 t : S1x512x512.Idx → EReal) (ix3 0 p q)) rfl ?_
  refine (congrFun (h t hf) (ix3 0 p q)).trans ((pbAt_apply m c t p q).trans ?_)
  refine projOf_congr m c (congrArg Fin.val i0) (congrArg Fin.val i1) (congrArg (fun n => (mainCol n).val) (Fin.ext ?_))
  refine Eq.trans ?_ i2
  show t.val % 9 * 512 + q.val = _
  omega

/-- Every entry of the second result is in a block that is written back. -/
theorem covered_8 (i : S16x2048x1024.Idx) : ∃ t : Fin cfg0.N, (cfg0.win 8).flush t = true ∧ i ∈ ((cfg0.win 8).blk t).view.set := by
  have h0 : (i 0).val < 16 := (i 0).isLt
  have h1 : (i 1).val < 2048 := (i 1).isLt
  have h2 : (i 2).val < 1024 := (i 2).isLt
  have hj : (if (i 2).val < 512 then 0 else 8 : ℕ) < 9 := by split <;> decide
  obtain ⟨e0, e1, e2⟩ := at_8 (ptOf (i 0) (i 1) (if (i 2).val < 512 then 0 else 8) hj)
  have ev : (ptOf (i 0) (i 1) (if (i 2).val < 512 then 0 else 8) hj).val = 36 * (i 0).val + 9 * ((i 1).val / 512) + (if (i 2).val < 512 then 0 else 8) := rfl
  rw [ev] at e0 e1 e2
  refine ⟨ptOf (i 0) (i 1) (if (i 2).val < 512 then 0 else 8) hj, (flush0_8 _).mpr (by rw [ev]; split <;> omega), ?_⟩
  refine (ValueKit.mem_set_slice_whole_iff _ _ _ Iff.rfl).mpr (Rect.mem_set_unit.mpr fun a => ?_)
  match a with
  | ⟨0, _⟩ =>
    show cc0_transform_8 (grid0.coords _) 0 * 1 ≤ (i 0).val ∧ (i 0).val < cc0_transform_8 (grid0.coords _) 0 * 1 + 1
    rw [e0]; omega
  | ⟨1, _⟩ =>
    show cc0_transform_8 (grid0.coords _) 1 * 512 ≤ (i 1).val ∧ (i 1).val < cc0_transform_8 (grid0.coords _) 1 * 512 + 512
    rw [e1]; omega
  | ⟨2, _⟩ =>
    show cc0_transform_8 (grid0.coords (ptOf (i 0) (i 1) (if (i 2).val < 512 then 0 else 8) hj)) 2 * 512 ≤ (i 2).val ∧ (i 2).val < cc0_transform_8 (grid0.coords (ptOf (i 0) (i 1) (if (i 2).val < 512 then 0 else 8) hj)) 2 * 512 + 512
    rw [e2]; split <;> omega

/-- THE SECOND RESULT after the last point. -/
theorem final_8 (h : ∀ t, (cfg0.win 8).flush t = true → Rl m c 8 t (after 8 t)) : ((rdat m c).withAfter after).arrAt 8 cfg0.N = res1 m c := by
  refine ((rdat m c).withAfter after).arrAt_eq_of_emb 8 (res1 m c) (fun t hf y => ?_) covered_8
  have hy : ∀ y : S1x512x512.Idx, ∃ (p : Fin 512) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_8 t
  have i0 : bat t = (((cfg0.win 8).blk t).view.emb (ix3 0 p q) : S16x2048x1024.Idx) 0 := Fin.ext (by
    show t.val / 36 = cc0_transform_8 (grid0.coords t) 0 * 1 + 1 * 0
    rw [e0]; omega)
  have i1 : row t p = (((cfg0.win 8).blk t).view.emb (ix3 0 p q) : S16x2048x1024.Idx) 1 := Fin.ext (by
    show t.val / 9 % 4 * 512 + p.val = cc0_transform_8 (grid0.coords t) 1 * 512 + 1 * p.val
    rw [e1]; omega)
  have i2 : cc0_transform_8 (grid0.coords t) 2 * 512 + 1 * q.val = ((((cfg0.win 8).blk t).view.emb (ix3 0 p q) : S16x2048x1024.Idx) 2).val := rfl
  rw [e2] at i2
  refine Eq.trans (b := (after 8 t : S1x512x512.Idx → EReal) (ix3 0 p q)) rfl ?_
  refine (congrFun (h t hf) (ix3 0 p q)).trans ((kvAt_apply m c _ p q).trans ?_)
  rw [bat_pt, row_pt]
  refine projOf_congr m c (congrArg Fin.val i0) (congrArg Fin.val i1) ((mainCol_kv t _ (by omega) q).trans ?_)
  refine congrArg (1024 + ·) (Eq.trans ?_ i2)
  omega

/-- Every entry of the third result is in a block that is written back. -/
theorem covered_9 (i : S16x2048x512.Idx) : ∃ t : Fin cfg0.N, (cfg0.win 9).flush t = true ∧ i ∈ ((cfg0.win 9).blk t).view.set := by
  have h0 : (i 0).val < 16 := (i 0).isLt
  have h1 : (i 1).val < 2048 := (i 1).isLt
  have h2 : (i 2).val < 512 := (i 2).isLt
  have hj : (8 : ℕ) < 9 := by decide
  obtain ⟨e0, e1, e2⟩ := at_9 (ptOf (i 0) (i 1) (8) hj)
  have ev : (ptOf (i 0) (i 1) (8) hj).val = 36 * (i 0).val + 9 * ((i 1).val / 512) + (8) := rfl
  rw [ev] at e0 e1
  refine ⟨ptOf (i 0) (i 1) (8) hj, (flush0_9 _).mpr (by rw [ev]; omega), ?_⟩
  refine (ValueKit.mem_set_slice_whole_iff _ _ _ Iff.rfl).mpr (Rect.mem_set_unit.mpr fun a => ?_)
  match a with
  | ⟨0, _⟩ =>
    show cc0_transform_9 (grid0.coords _) 0 * 1 ≤ (i 0).val ∧ (i 0).val < cc0_transform_9 (grid0.coords _) 0 * 1 + 1
    rw [e0]; omega
  | ⟨1, _⟩ =>
    show cc0_transform_9 (grid0.coords _) 1 * 512 ≤ (i 1).val ∧ (i 1).val < cc0_transform_9 (grid0.coords _) 1 * 512 + 512
    rw [e1]; omega
  | ⟨2, _⟩ =>
    show cc0_transform_9 (grid0.coords (ptOf (i 0) (i 1) (8) hj)) 2 * 512 ≤ (i 2).val ∧ (i 2).val < cc0_transform_9 (grid0.coords (ptOf (i 0) (i 1) (8) hj)) 2 * 512 + 512
    rw [e2]; omega

/-- THE THIRD RESULT after the last point. -/
theorem final_9 (h : ∀ t, (cfg0.win 9).flush t = true → Rl m c 9 t (after 9 t)) : ((rdat m c).withAfter after).arrAt 9 cfg0.N = res2 m c := by
  refine ((rdat m c).withAfter after).arrAt_eq_of_emb 9 (res2 m c) (fun t hf y => ?_) covered_9
  have hy : ∀ y : S1x512x512.Idx, ∃ (p : Fin 512) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_9 t
  have i0 : bat t = (((cfg0.win 9).blk t).view.emb (ix3 0 p q) : S16x2048x512.Idx) 0 := Fin.ext (by
    show t.val / 36 = cc0_transform_9 (grid0.coords t) 0 * 1 + 1 * 0
    rw [e0]; omega)
  have i1 : row t p = (((cfg0.win 9).blk t).view.emb (ix3 0 p q) : S16x2048x512.Idx) 1 := Fin.ext (by
    show t.val / 9 % 4 * 512 + p.val = cc0_transform_9 (grid0.coords t) 1 * 512 + 1 * p.val
    rw [e1]; omega)
  have i2 : cc0_transform_9 (grid0.coords t) 2 * 512 + 1 * q.val = ((((cfg0.win 9).blk t).view.emb (ix3 0 p q) : S16x2048x512.Idx) 2).val := rfl
  rw [e2] at i2
  refine Eq.trans (b := (after 9 t : S1x512x512.Idx → EReal) (ix3 0 p q)) rfl ?_
  have h8 : t.val % 9 = 8 := (flush0_9 t).mp hf
  refine (congrFun (h t hf (by omega)) (ix3 0 p q)).trans ((wnAt_apply m c _ p q).trans ?_)
  rw [bat_pt, row_pt]
  refine projOf_congr m c (congrArg Fin.val i0) (congrArg Fin.val i1) ((mainCol_wn t q).trans ?_)
  refine congrArg (2048 + ·) (Eq.trans ?_ i2)
  omega

/-- Every entry of the fourth result is in a block that is written back. -/
theorem covered_10 (i : S16x2048x1024.Idx) : ∃ t : Fin cfg0.N, (cfg0.win 10).flush t = true ∧ i ∈ ((cfg0.win 10).blk t).view.set := by
  have h0 : (i 0).val < 16 := (i 0).isLt
  have h1 : (i 1).val < 2048 := (i 1).isLt
  have h2 : (i 2).val < 1024 := (i 2).isLt
  have hj : (if (i 2).val < 512 then 3 else 8 : ℕ) < 9 := by split <;> decide
  obtain ⟨e0, e1, e2⟩ := at_10 (ptOf (i 0) (i 1) (if (i 2).val < 512 then 3 else 8) hj)
  have ev : (ptOf (i 0) (i 1) (if (i 2).val < 512 then 3 else 8) hj).val = 36 * (i 0).val + 9 * ((i 1).val / 512) + (if (i 2).val < 512 then 3 else 8) := rfl
  rw [ev] at e0 e1 e2
  refine ⟨ptOf (i 0) (i 1) (if (i 2).val < 512 then 3 else 8) hj, (flush0_10 _).mpr (by rw [ev]; split <;> omega), ?_⟩
  refine (ValueKit.mem_set_slice_whole_iff _ _ _ Iff.rfl).mpr (Rect.mem_set_unit.mpr fun a => ?_)
  match a with
  | ⟨0, _⟩ =>
    show cc0_transform_10 (grid0.coords _) 0 * 1 ≤ (i 0).val ∧ (i 0).val < cc0_transform_10 (grid0.coords _) 0 * 1 + 1
    rw [e0]; omega
  | ⟨1, _⟩ =>
    show cc0_transform_10 (grid0.coords _) 1 * 512 ≤ (i 1).val ∧ (i 1).val < cc0_transform_10 (grid0.coords _) 1 * 512 + 512
    rw [e1]; omega
  | ⟨2, _⟩ =>
    show cc0_transform_10 (grid0.coords (ptOf (i 0) (i 1) (if (i 2).val < 512 then 3 else 8) hj)) 2 * 512 ≤ (i 2).val ∧ (i 2).val < cc0_transform_10 (grid0.coords (ptOf (i 0) (i 1) (if (i 2).val < 512 then 3 else 8) hj)) 2 * 512 + 512
    rw [e2]; split <;> omega

/-- THE FOURTH RESULT after the last point. -/
theorem final_10 (h : ∀ t, (cfg0.win 10).flush t = true → Rl m c 10 t (after 10 t)) : ((rdat m c).withAfter after).arrAt 10 cfg0.N = res3 m c := by
  refine ((rdat m c).withAfter after).arrAt_eq_of_emb 10 (res3 m c) (fun t hf y => ?_) covered_10
  have hy : ∀ y : S1x512x512.Idx, ∃ (p : Fin 512) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_10 t
  have i0 : bat t = (((cfg0.win 10).blk t).view.emb (ix3 0 p q) : S16x2048x1024.Idx) 0 := Fin.ext (by
    show t.val / 36 = cc0_transform_10 (grid0.coords t) 0 * 1 + 1 * 0
    rw [e0]; omega)
  have i1 : row t p = (((cfg0.win 10).blk t).view.emb (ix3 0 p q) : S16x2048x1024.Idx) 1 := Fin.ext (by
    show t.val / 9 % 4 * 512 + p.val = cc0_transform_10 (grid0.coords t) 1 * 512 + 1 * p.val
    rw [e1]; omega)
  have i2 : cc0_transform_10 (grid0.coords t) 2 * 512 + 1 * q.val = ((((cfg0.win 10).blk t).view.emb (ix3 0 p q) : S16x2048x1024.Idx) 2).val := rfl
  rw [e2] at i2
  refine Eq.trans (b := (after 10 t : S1x512x512.Idx → EReal) (ix3 0 p q)) rfl ?_
  have h8 : t.val % 9 = 3 ∨ t.val % 9 = 8 := (flush0_10 t).mp hf
  refine (congrFun (h t hf (by omega)) (ix3 0 p q)).trans ((kfAt_apply m c _ p q).trans ?_)
  rw [bat_pt, row_pt]
  refine projOf_congr m c (congrArg Fin.val i0) (congrArg Fin.val i1) ((mainCol_kf t _ (by omega) (by omega) q).trans ?_)
  refine congrArg (3608 + ·) (Eq.trans ?_ i2)
  omega

/-- Every entry of the fifth result is in a block that is written back. -/
theorem covered_11 (i : S16x2048x128.Idx) : ∃ t : Fin cfg0.N, (cfg0.win 11).flush t = true ∧ i ∈ ((cfg0.win 11).blk t).view.set := by
  have h0 : (i 0).val < 16 := (i 0).isLt
  have h1 : (i 1).val < 2048 := (i 1).isLt
  have h2 : (i 2).val < 128 := (i 2).isLt
  have hj : (8 : ℕ) < 9 := by decide
  obtain ⟨e0, e1, e2⟩ := at_11 (ptOf (i 0) (i 1) (8) hj)
  have ev : (ptOf (i 0) (i 1) (8) hj).val = 36 * (i 0).val + 9 * ((i 1).val / 512) + (8) := rfl
  rw [ev] at e0 e1
  refine ⟨ptOf (i 0) (i 1) (8) hj, (flush0_11 _).mpr (by rw [ev]; omega), ?_⟩
  refine (ValueKit.mem_set_slice_whole_iff _ _ _ Iff.rfl).mpr (Rect.mem_set_unit.mpr fun a => ?_)
  match a with
  | ⟨0, _⟩ =>
    show cc0_transform_11 (grid0.coords _) 0 * 1 ≤ (i 0).val ∧ (i 0).val < cc0_transform_11 (grid0.coords _) 0 * 1 + 1
    rw [e0]; omega
  | ⟨1, _⟩ =>
    show cc0_transform_11 (grid0.coords _) 1 * 512 ≤ (i 1).val ∧ (i 1).val < cc0_transform_11 (grid0.coords _) 1 * 512 + 512
    rw [e1]; omega
  | ⟨2, _⟩ =>
    show cc0_transform_11 (grid0.coords (ptOf (i 0) (i 1) (8) hj)) 2 * 128 ≤ (i 2).val ∧ (i 2).val < cc0_transform_11 (grid0.coords (ptOf (i 0) (i 1) (8) hj)) 2 * 128 + 128
    rw [e2]; omega

/-- THE FIFTH RESULT after the last point. -/
theorem final_11 (h : ∀ t, (cfg0.win 11).flush t = true → Rl m c 11 t (after 11 t)) : ((rdat m c).withAfter after).arrAt 11 cfg0.N = res4 m c := by
  refine ((rdat m c).withAfter after).arrAt_eq_of_emb 11 (res4 m c) (fun t hf y => ?_) covered_11
  have hy : ∀ y : S1x512x128.Idx, ∃ (p : Fin 512) (q : Fin 128), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_11 t
  have i0 : bat t = (((cfg0.win 11).blk t).view.emb (ix3 0 p q) : S16x2048x128.Idx) 0 := Fin.ext (by
    show t.val / 36 = cc0_transform_11 (grid0.coords t) 0 * 1 + 1 * 0
    rw [e0]; omega)
  have i1 : row t p = (((cfg0.win 11).blk t).view.emb (ix3 0 p q) : S16x2048x128.Idx) 1 := Fin.ext (by
    show t.val / 9 % 4 * 512 + p.val = cc0_transform_11 (grid0.coords t) 1 * 512 + 1 * p.val
    rw [e1]; omega)
  have i2 : cc0_transform_11 (grid0.coords t) 2 * 128 + 1 * q.val = ((((cfg0.win 11).blk t).view.emb (ix3 0 p q) : S16x2048x128.Idx) 2).val := rfl
  rw [e2] at i2
  refine Eq.trans (b := (after 11 t : S1x512x128.Idx → EReal) (ix3 0 p q)) rfl ?_
  refine (congrFun (h t hf) (ix3 0 p q)).trans ((smAt_apply m c _ p q).trans ?_)
  rw [bat_pt, row_pt]
  unfold res4
  rw [← i0, ← i1]
  refine congrArg _ (Fin.ext (Eq.trans ?_ i2))
  omega

/-! ## The run -/

/-- THE RUN of the idealized kernel leaves the five results and the arguments. -/
theorem run_values (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = res0 m c
      ∧ r.2.mem ((c.tc : Thread nD τ).loc main_v15_1) = res1 m c
      ∧ r.2.mem ((c.tc : Thread nD τ).loc main_v15_2) = res2 m c
      ∧ r.2.mem ((c.tc : Thread nD τ).loc main_v15_3) = res3 m c
      ∧ r.2.mem ((c.tc : Thread nD τ).loc main_v15_4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m g)
  obtain ⟨after, hL, hA⟩ := Pipeline.RDat.FramePost.exists_exact h c
  have hR : ∀ (w : Fin cfg0.W), fgt w = true → ∀ t, (cfg0.win w).flush t = true → Rl m c w t (after w t) :=
    fun w hw t hf => (dats m 0 c).toRRel_leaves hw (hL w t hf)
  exact ⟨(hA 7).trans (final_7 m c after (hR 7 rfl)), (hA 8).trans (final_8 m c after (hR 8 rfl)), (hA 9).trans (final_9 m c after (hR 9 rfl)),
    (hA 10).trans (final_10 m c after (hR 10 rfl)), (hA 11).trans (final_11 m c after (hR 11 rfl)), args_of m (fun c => rdat m c) (A_eq m) r h c⟩

end Cert.InprojIdeal.Gen

end
-- ==== Proof.InprojClaim.lean ====
module

public import proofs.«01_k».proof.Defs
public import proofs.«01_k».proof.Proof.InprojSame
public import proofs.«01_k».proof.Proof.InprojIdeal.Value
public import proofs.«01_k».proof.Proof.Gen.InprojRefIdeal.Run
public import proofs.«01_k».proof.Proof.Gen.InprojRefIdeal.Read
public import Idealize.ShloMosaic.Lib.Quiescent

@[expose] public section

set_option maxRecDepth 16384

noncomputable section

/-! # The claims about the projection -/

namespace Cert.InprojClaim

open Idealize.ShloMosaic hiding ix1 ix2 ix3
open Idealize.ShloMosaic.TcCoe Idealize.ShloMosaic.ValueIdx
open Idealize.SL Idealize.SL.Sem

/-- The kernel runs, leaves its arguments and every counter as they were. -/
theorem kernel_frame : quiescent_Inproj := fun m g _ => by
  rw [Inproj.Same.defs_eq, Inproj.Same.main_eq]
  exact InprojIdeal.Gen.frame (F := Bits) m g

/-- The idealized kernel too. -/
theorem ideal_frame : quiescent_InprojIdeal := fun m g _ => InprojIdeal.Gen.frame m g

/-- The reference has no counters, so that its run leaves all of them at zero. -/
theorem ref_frame : quiescent_InprojRefIdeal := fun m g _ =>
  (θ_run InprojRefIdeal.defs _ _).mono (fun r h => ⟨fun c => (h c).2.2.2.2.2, sem_eq_zero_of_no_sems (by decide) r.2⟩) (InprojRefIdeal.Value.run (F := Ideal) m g)

/-- The kernel and the reference leave equal results over the extended reals. -/
theorem values : algebraic_InprojIdeal_InprojRefIdeal := fun m g m' g' _ he => by
  refine ⟨fun c => InprojIdeal.Gen.res0 m c, fun c => InprojIdeal.Gen.res1 m c, fun c => InprojIdeal.Gen.res2 m c, fun c => InprojIdeal.Gen.res3 m c, fun c => InprojIdeal.Gen.res4 m c,
    InprojIdeal.Gen.run_values m g, ?_⟩
  refine (θ_run InprojRefIdeal.defs _ _).mono (fun r hr c => ?_) (InprojRefIdeal.Value.run (F := Ideal) m' g')
  obtain ⟨h0, h1, h2, h3, h4, hargs⟩ := hr c
  obtain ⟨e0, e1, e2, e3, e4, e5, e6⟩ := he c
  refine ⟨h0.trans ?_, h1.trans ?_, h2.trans ?_, h3.trans ?_, h4.trans ?_, hargs⟩
  · refine (InprojRefIdeal.Read.val_main_v42_eq m' c).trans ?_
    rw [e0, e1, e2, e3, e4]
    funext i
    obtain ⟨b, t, n, rfl⟩ : ∃ (b : Fin 16) (t : Fin 2048) (n : Fin 4608), i = ix3 b t n := ⟨i 0, i 1, i 2, ValueIdx.eq_ix3 i⟩
    exact InprojRefIdeal.Read.v42_apply _ _ _ _ _ b t n
  · refine (InprojRefIdeal.Read.val_main_v44_eq _ _ _ _ _).trans ?_
    rw [e0, e1, e2, e3, e4]
    funext i
    obtain ⟨b, t, n, rfl⟩ : ∃ (b : Fin 16) (t : Fin 2048) (n : Fin 1024), i = ix3 b t n := ⟨i 0, i 1, i 2, ValueIdx.eq_ix3 i⟩
    exact InprojRefIdeal.Read.v44_apply _ _ _ _ _ b t n
  · refine (InprojRefIdeal.Read.val_main_v45_eq _ _ _ _ _).trans ?_
    rw [e0, e1, e2, e3, e4]
    funext i
    obtain ⟨b, t, n, rfl⟩ : ∃ (b : Fin 16) (t : Fin 2048) (n : Fin 512), i = ix3 b t n := ⟨i 0, i 1, i 2, ValueIdx.eq_ix3 i⟩
    exact InprojRefIdeal.Read.v45_apply _ _ _ _ _ b t n
  · refine (InprojRefIdeal.Read.val_main_v24_eq _ _ _ _ _).trans ?_
    rw [e0, e1, e2, e3, e4]
    funext i
    obtain ⟨b, t, n, rfl⟩ : ∃ (b : Fin 16) (t : Fin 2048) (n : Fin 1024), i = ix3 b t n := ⟨i 0, i 1, i 2, ValueIdx.eq_ix3 i⟩
    exact InprojRefIdeal.Read.v24_apply _ _ _ _ _ b t n
  · refine (InprojRefIdeal.Read.val_main_v43_eq m' c).trans ?_
    rw [e0, e1, e2, e3, e4, e5, e6]
    funext i
    obtain ⟨b, t, n, rfl⟩ : ∃ (b : Fin 16) (t : Fin 2048) (n : Fin 128), i = ix3 b t n := ⟨i 0, i 1, i 2, ValueIdx.eq_ix3 i⟩
    exact InprojRefIdeal.Read.v43_apply _ _ _ _ _ _ _ b t n

end Cert.InprojClaim

end
-- ==== Proof.Rows.lean ====
module

public import Idealize.ShloMosaic.Lib.IdealHost
public import Idealize.ShloMosaic.Lib.ValueLayout
public import Idealize.ShloMosaic.Lib.ValueLayoutCasts
public import Idealize.ShloMosaic.Lib.Pipeline.ValueKit

@[expose] public section

noncomputable section

/-! # Operations on the rows of a block, at an entry -/

namespace Cert.Rows

open Idealize.ShloMosaic hiding ix1 ix2 ix3
open Idealize.ShloMosaic.ValueIdx

/-- The reciprocal root of the mean square of the numbers `z`, the count of them given as an f32 pattern. -/
def scale {n : ℕ} (z : Fin n → EReal) (count : BitVec 32) : EReal :=
  Ideal.rsqrt (Ideal.div (∑ k, z k * z k) (Ideal.ofBits .f32 count) + Ideal.ofBits .f32 0x358637BD#32)

variable {R C : ℕ}

/-- A row's sum of squares. -/
theorem squares_apply (y : FVec Ideal ⟨2, ![R, C]⟩ .f32) (h : (⟨2, ![R, C]⟩ : Shape).Reduces [1] ⟨1, ![R]⟩) (hC) (hφ) (p : Fin R) :
    multiReduction (F := Ideal) .add [1] ⟨1, ![R]⟩ (mulf y y) 0x00000000#32 h hC hφ (ix1 p) = ∑ k : Fin C, y (ix2 p k) * y (ix2 p k) := by
  refine (Ideal.multiReduction_add_single _ _ _ _ _ _).trans (Finset.sum_congr rfl fun k _ => ?_)
  have e : h.lift (ix1 p) k = ix2 p k := funext fun a => Fin.ext (by match a with | ⟨0, _⟩ => rfl | ⟨1, _⟩ => rfl)
  exact congrArg (fun i => y i * y i) e

/-- The reciprocal root of each row's mean square, repeated along the row. -/
theorem scale_apply (y : FVec Ideal ⟨2, ![R, C]⟩ .f32) (h : (⟨2, ![R, C]⟩ : Shape).Reduces [1] ⟨1, ![R]⟩) (hC) (hφ) (hs : (⟨1, ![R]⟩ : Shape).ShapeCasts ⟨2, ![R, 1]⟩)
    (hb : (⟨2, ![R, 1]⟩ : Shape).Broadcasts ⟨2, ![R, C]⟩) (hR : R ≠ 1) (count : BitVec 32) (p : Fin R) (k : Fin C) :
    broadcastTo ⟨2, ![R, C]⟩ (rsqrt (addf (divf (shapeCast ⟨2, ![R, 1]⟩ (multiReduction (F := Ideal) .add [1] ⟨1, ![R]⟩ (mulf y y) 0x00000000#32 h hC hφ) hs)
        (broadcast ⟨2, ![R, 1]⟩ (Scalar.ofBits .f32 count))) (broadcast ⟨2, ![R, 1]⟩ (Scalar.ofBits .f32 0x358637BD#32)))) hb (ix2 p k)
      = scale (fun k => y (ix2 p k)) count := by
  refine (broadcastTo_apply _ _ _ (ix2 p 0) fun a => match a with | ⟨0, _⟩ => (if_neg hR).symm | ⟨1, _⟩ => rfl).trans ?_
  refine congrArg Ideal.rsqrt (congrArg (fun z => Ideal.div z (Ideal.ofBits .f32 count) + Ideal.ofBits .f32 0x358637BD#32) ?_)
  exact (shapeCast_a_a1_apply _ _ _ _).trans (squares_apply y h hC hφ p)

/-- One row repeated down a block. -/
theorem down_apply (y : (⟨2, ![1, C]⟩ : Shape).Idx → EReal) (h : (⟨2, ![1, C]⟩ : Shape).Broadcasts ⟨2, ![R, C]⟩) (hC : C ≠ 1) (p : Fin R) (k : Fin C) :
    broadcastTo ⟨2, ![R, C]⟩ y h (ix2 p k) = y (ix2 0 k) :=
  broadcastTo_apply _ _ _ (ix2 0 k) fun a => match a with
    | ⟨0, _⟩ => rfl
    | ⟨1, _⟩ => (if_neg hC).symm

/-- Equal numbers have equal mean squares. -/
theorem scale_congr {n : ℕ} {z z' : Fin n → EReal} (h : ∀ k, z k = z' k) (count : BitVec 32) : scale z count = scale z' count := by
  rw [funext h]

end Cert.Rows

end
-- ==== Proof.MergeSpec.lean ====
module

public import proofs.«01_k».proof.Proof.Gen.MergeRefIdeal.Read
public import proofs.«01_k».proof.Proof.Rows

@[expose] public section

set_option maxRecDepth 16384

noncomputable section

/-! # The merge call as formulas on one token's rows

The three sparse branches of a head are weighted by the token's gates and added. This and the other attention's output are
normalised, put side by side and multiplied with the output matrix. The product, normalised and modulated, is added to the residual; and
this again is normalised and modulated for the experts. The reference is shown equal to these formulas here, the kernel in its own module. -/

namespace Cert.MergeSpec

open Idealize.ShloMosaic hiding ix1 ix2 ix3 ix4 ix5
open Idealize.ShloMosaic.ValueIdx

/-- The gated sum of the branches at column `k`: a head has 128 columns, a gate three groups of eight heads. -/
def nsa (c s w : Fin 1024 → EReal) (g : Fin 128 → EReal) (k : Fin 1024) : EReal :=
  g ⟨k.val / 128, by have := k.isLt; omega⟩ * c k + g ⟨8 + k.val / 128, by have := k.isLt; omega⟩ * s k
    + g ⟨16 + k.val / 128, by have := k.isLt; omega⟩ * w k

/-- The two attention outputs, each normalised and weighted, side by side. -/
def pair (n f : Fin 1024 → EReal) (g : Fin 2048 → EReal) (j : Fin 2048) : EReal :=
  if h : j.val < 1024 then n ⟨j.val, h⟩ * Rows.scale n 0x44800000#32 * g j
  else f ⟨j.val - 1024, by have := j.isLt; omega⟩ * Rows.scale f 0x44800000#32 * g j

/-- A row times the output matrix. -/
def mm (y : Fin 2048 → EReal) (w : Fin 2048 → Fin 2048 → EReal) (k : Fin 2048) : EReal := ∑ j : Fin 2048, y j * w j k

/-- The residual with the product's modulated norm added. -/
def res (z x gt g : Fin 2048 → EReal) (k : Fin 2048) : EReal := x k + gt k * (z k * Rows.scale z 0x45000000#32 * g k)

/-- The experts' input: the residual's norm, modulated. -/
def inp (r g sc sh : Fin 2048 → EReal) (k : Fin 2048) : EReal :=
  r k * Rows.scale r 0x45000000#32 * g k * (Ideal.ofBits .f32 0x3F800000#32 + sc k) + sh k

variable (x0 x1 x2 x3 : (⟨3, ![16, 2048, 1024]⟩ : Shape).Idx → EReal) (x4 : (⟨3, ![16, 2048, 128]⟩ : Shape).Idx → EReal)
  (x5 : (⟨3, ![16, 2048, 2048]⟩ : Shape).Idx → EReal) (x6 : (⟨1, ![2048]⟩ : Shape).Idx → EReal) (x7 : (⟨2, ![2048, 2048]⟩ : Shape).Idx → EReal)
  (x8 : (⟨1, ![2048]⟩ : Shape).Idx → EReal) (x9 : (⟨3, ![16, 1, 2048]⟩ : Shape).Idx → EReal) (x10 : (⟨1, ![2048]⟩ : Shape).Idx → EReal)
  (x11 x12 : (⟨3, ![16, 1, 2048]⟩ : Shape).Idx → EReal)

/-- A token's gated sum. -/
def tNsa (b : Fin 16) (t : Fin 2048) : Fin 1024 → EReal :=
  nsa (fun k => x0 (ix3 b t k)) (fun k => x1 (ix3 b t k)) (fun k => x2 (ix3 b t k)) fun k => x4 (ix3 b t k)

/-- A token's row of the product. -/
def tMm (b : Fin 16) (t : Fin 2048) : Fin 2048 → EReal :=
  mm (pair (tNsa x0 x1 x2 x4 b t) (fun k => x3 (ix3 b t k)) fun k => x6 (ix1 k)) fun j k => x7 (ix2 j k)

/-- A token's row of the first result. -/
def tRes (b : Fin 16) (t : Fin 2048) : Fin 2048 → EReal :=
  res (tMm x0 x1 x2 x3 x4 x6 x7 b t) (fun k => x5 (ix3 b t k)) (fun k => x9 (ix3 b 0 k)) fun k => x8 (ix1 k)

/-- A token's row of the second result. -/
def tInp (b : Fin 16) (t : Fin 2048) : Fin 2048 → EReal :=
  inp (tRes x0 x1 x2 x3 x4 x5 x6 x7 x8 x9 b t) (fun k => x10 (ix1 k)) (fun k => x11 (ix3 b 0 k)) fun k => x12 (ix3 b 0 k)

end Cert.MergeSpec

namespace Cert.MergeRefIdeal.Read

open Idealize.ShloMosaic hiding ix1 ix2 ix3 ix4 ix5
open Idealize.ShloMosaic.ValueIdx Cert.MergeSpec

variable (x0 x1 x2 x3 : S16x2048x1024.Idx → EReal) (x4 : S16x2048x128.Idx → EReal) (x5 : S16x2048x2048.Idx → EReal) (x6 : S2048.Idx → EReal)
  (x7 : S2048x2048.Idx → EReal) (x8 : S2048.Idx → EReal) (x9 : S16x1x2048.Idx → EReal) (x10 : S2048.Idx → EReal) (x11 x12 : S16x1x2048.Idx → EReal)

/-- The gates as laid out: entry `(s, h)` of the three by eight is column `8 s + h`. -/
theorem gates_apply (b : Fin 16) (t : Fin 2048) (s : Fin 3) (h : Fin 8) (i : S16x2048x3x8x1.Idx) (hi : i = ix5 b t s h 0) :
    val_main_v2 (F := Ideal) x4 i = x4 (ix3 b t ⟨8 * s.val + h.val, by have := s.isLt; have := h.isLt; omega⟩) := by
  subst hi
  rw [val_main_v2_apply, val_main_v1_apply, val_main_v0_apply]
  have hb := b.isLt; have ht := t.isLt; have hs := s.isLt; have hh := h.isLt
  refine congrArg x4 (funext fun a => Fin.ext ?_)
  match a with
  | ⟨0, _⟩ => show (((b.val * 2048 + t.val) * 3 + s.val) * 8 + h.val) / 49152 = b.val; omega
  | ⟨1, _⟩ => show (((b.val * 2048 + t.val) * 3 + s.val) * 8 + h.val) / 24 % 2048 = t.val; omega
  | ⟨2, _⟩ => show (((b.val * 2048 + t.val) * 3 + s.val) * 8 + h.val) % 24 = 8 * s.val + h.val; omega

/-- Branch 0's gates, repeated along the head. -/
theorem gate0_apply (b : Fin 16) (t : Fin 2048) (h : Fin 8) (d : Fin 128) :
    val_main_v7 (F := Ideal) x4 (ix4 b t h d) = x4 (ix3 b t ⟨8 * 0 + h.val, by have := h.isLt; omega⟩) := by
  rw [val_main_v7_apply, val_main_v4_apply, val_main_v3_apply]
  refine gates_apply x4 b t 0 h _ (funext fun a => Fin.ext ?_)
  have hb := b.isLt; have ht := t.isLt; have hh := h.isLt
  match a with
  | ⟨0, _⟩ => show (((b.val * 2048 + t.val) * 8 + h.val) * 1 + 0) / 16384 = b.val; omega
  | ⟨1, _⟩ => show (((b.val * 2048 + t.val) * 8 + h.val) * 1 + 0) / 8 % 2048 = t.val; omega
  | ⟨2, _⟩ => rfl
  | ⟨3, _⟩ => show (((b.val * 2048 + t.val) * 8 + h.val) * 1 + 0) / 1 % 8 = h.val; omega
  | ⟨4, _⟩ => rfl

/-- Branch 1's gates, repeated along the head. -/
theorem gate1_apply (b : Fin 16) (t : Fin 2048) (h : Fin 8) (d : Fin 128) :
    val_main_v13 (F := Ideal) x4 (ix4 b t h d) = x4 (ix3 b t ⟨8 * 1 + h.val, by have := h.isLt; omega⟩) := by
  rw [val_main_v13_apply, val_main_v10_apply, val_main_v9_apply]
  refine gates_apply x4 b t 1 h _ (funext fun a => Fin.ext ?_)
  have hb := b.isLt; have ht := t.isLt; have hh := h.isLt
  match a with
  | ⟨0, _⟩ => show (((b.val * 2048 + t.val) * 8 + h.val) * 1 + 0) / 16384 = b.val; omega
  | ⟨1, _⟩ => show (((b.val * 2048 + t.val) * 8 + h.val) * 1 + 0) / 8 % 2048 = t.val; omega
  | ⟨2, _⟩ => rfl
  | ⟨3, _⟩ => show (((b.val * 2048 + t.val) * 8 + h.val) * 1 + 0) / 1 % 8 = h.val; omega
  | ⟨4, _⟩ => rfl

/-- Branch 2's gates, repeated along the head. -/
theorem gate2_apply (b : Fin 16) (t : Fin 2048) (h : Fin 8) (d : Fin 128) :
    val_main_v20 (F := Ideal) x4 (ix4 b t h d) = x4 (ix3 b t ⟨8 * 2 + h.val, by have := h.isLt; omega⟩) := by
  rw [val_main_v20_apply, val_main_v17_apply, val_main_v16_apply]
  refine gates_apply x4 b t 2 h _ (funext fun a => Fin.ext ?_)
  have hb := b.isLt; have ht := t.isLt; have hh := h.isLt
  match a with
  | ⟨0, _⟩ => show (((b.val * 2048 + t.val) * 8 + h.val) * 1 + 0) / 16384 = b.val; omega
  | ⟨1, _⟩ => show (((b.val * 2048 + t.val) * 8 + h.val) * 1 + 0) / 8 % 2048 = t.val; omega
  | ⟨2, _⟩ => rfl
  | ⟨3, _⟩ => show (((b.val * 2048 + t.val) * 8 + h.val) * 1 + 0) / 1 % 8 = h.val; omega
  | ⟨4, _⟩ => rfl

/-- The reshape to heads of `x0`. -/
theorem x0_heads (b : Fin 16) (t : Fin 2048) (k : Fin 1024) :
    val_main_v6 (F := Ideal) x0 (ix4 b t ⟨k.val / 128, by have := k.isLt; omega⟩ ⟨k.val % 128, Nat.mod_lt _ (by decide)⟩) = x0 (ix3 b t k) := by
  rw [val_main_v6_apply, val_main_v5_apply]
  have hb := b.isLt; have ht := t.isLt; have hk := k.isLt
  refine congrArg x0 (funext fun a => Fin.ext ?_)
  match a with
  | ⟨0, _⟩ => show (((b.val * 2048 + t.val) * 8 + k.val / 128) * 128 + k.val % 128) / 2097152 = b.val; omega
  | ⟨1, _⟩ => show (((b.val * 2048 + t.val) * 8 + k.val / 128) * 128 + k.val % 128) / 1024 % 2048 = t.val; omega
  | ⟨2, _⟩ => show (((b.val * 2048 + t.val) * 8 + k.val / 128) * 128 + k.val % 128) % 1024 = k.val; omega

/-- The reshape to heads of `x1`. -/
theorem x1_heads (b : Fin 16) (t : Fin 2048) (k : Fin 1024) :
    val_main_v12 (F := Ideal) x1 (ix4 b t ⟨k.val / 128, by have := k.isLt; omega⟩ ⟨k.val % 128, Nat.mod_lt _ (by decide)⟩) = x1 (ix3 b t k) := by
  rw [val_main_v12_apply, val_main_v11_apply]
  have hb := b.isLt; have ht := t.isLt; have hk := k.isLt
  refine congrArg x1 (funext fun a => Fin.ext ?_)
  match a with
  | ⟨0, _⟩ => show (((b.val * 2048 + t.val) * 8 + k.val / 128) * 128 + k.val % 128) / 2097152 = b.val; omega
  | ⟨1, _⟩ => show (((b.val * 2048 + t.val) * 8 + k.val / 128) * 128 + k.val % 128) / 1024 % 2048 = t.val; omega
  | ⟨2, _⟩ => show (((b.val * 2048 + t.val) * 8 + k.val / 128) * 128 + k.val % 128) % 1024 = k.val; omega

/-- The reshape to heads of `x2`. -/
theorem x2_heads (b : Fin 16) (t : Fin 2048) (k : Fin 1024) :
    val_main_v19 (F := Ideal) x2 (ix4 b t ⟨k.val / 128, by have := k.isLt; omega⟩ ⟨k.val % 128, Nat.mod_lt _ (by decide)⟩) = x2 (ix3 b t k) := by
  rw [val_main_v19_apply, val_main_v18_apply]
  have hb := b.isLt; have ht := t.isLt; have hk := k.isLt
  refine congrArg x2 (funext fun a => Fin.ext ?_)
  match a with
  | ⟨0, _⟩ => show (((b.val * 2048 + t.val) * 8 + k.val / 128) * 128 + k.val % 128) / 2097152 = b.val; omega
  | ⟨1, _⟩ => show (((b.val * 2048 + t.val) * 8 + k.val / 128) * 128 + k.val % 128) / 1024 % 2048 = t.val; omega
  | ⟨2, _⟩ => show (((b.val * 2048 + t.val) * 8 + k.val / 128) * 128 + k.val % 128) % 1024 = k.val; omega

/-- The reference's gated sum. -/
theorem nsa_apply (b : Fin 16) (t : Fin 2048) (k : Fin 1024) : val_main_v23 (F := Ideal) x0 x1 x2 x4 (ix3 b t k) = tNsa x0 x1 x2 x4 b t k := by
  rw [val_main_v23_apply]
  have i : idx_main_v23 (ix3 b t k) = ix4 b t ⟨k.val / 128, by have := k.isLt; omega⟩ ⟨k.val % 128, Nat.mod_lt _ (by decide)⟩ := by
    have hb := b.isLt; have ht := t.isLt; have hk := k.isLt
    refine funext fun a => Fin.ext ?_
    match a with
    | ⟨0, _⟩ => show ((b.val * 2048 + t.val) * 1024 + k.val) / 2097152 = b.val; omega
    | ⟨1, _⟩ => show ((b.val * 2048 + t.val) * 1024 + k.val) / 1024 % 2048 = t.val; omega
    | ⟨2, _⟩ => show ((b.val * 2048 + t.val) * 1024 + k.val) / 128 % 8 = k.val / 128; omega
    | ⟨3, _⟩ => show ((b.val * 2048 + t.val) * 1024 + k.val) % 128 = k.val % 128; omega
  rw [i, val_main_v22_apply, val_main_v15_apply, val_main_v8_apply, val_main_v14_apply, val_main_v21_apply, gate0_apply, gate1_apply, gate2_apply,
    x0_heads, x1_heads, x2_heads]
  have e : (⟨8 * 0 + k.val / 128, by have := k.isLt; omega⟩ : Fin 128) = ⟨k.val / 128, by have := k.isLt; omega⟩ := Fin.ext (by show 8 * 0 + k.val / 128 = k.val / 128; omega)
  exact congrArg (fun q => x4 (ix3 b t q) * x0 (ix3 b t k) + _ + _) e

/-- The reference's reciprocal root of the gated sum. -/
theorem nsa_scale (b : Fin 16) (t : Fin 2048) : val_main_v32 (F := Ideal) x0 x1 x2 x4 (ix3 b t 0) = Rows.scale (tNsa x0 x1 x2 x4 b t) 0x44800000#32 := by
  rw [val_main_v32_apply, val_main_v31_apply, val_main_v29_apply, val_main_v27_apply, val_main_v26_apply, val_main_v28_apply, val_main_v30_apply]
  have e : ∀ j, val_main_cst (F := Ideal) j + ∑ k : Fin 1024, (val_main_v25 (F := Ideal) x0 x1 x2 x4) (idx_main_v26 (idx_main_v27 (ix3 b t 0)) k)
      = ∑ k : Fin 1024, (tNsa x0 x1 x2 x4 b t) k * (tNsa x0 x1 x2 x4 b t) k := by
    intro j
    refine Eq.trans (congrArg₂ (· + ·) (Ideal.ofBits_zero_f32) (Finset.sum_congr rfl fun k _ => ?_)) (zero_add _)
    have i : idx_main_v26 (idx_main_v27 (ix3 b t 0)) k = ix3 b t k := by
      funext a; match a with | ⟨0, _⟩ => rfl | ⟨1, _⟩ => rfl | ⟨2, _⟩ => rfl
    rw [val_main_v25_apply, i, nsa_apply]; rfl
  rw [e]; rfl

/-- The reference's reciprocal root of the other attention. -/
theorem fox_scale (b : Fin 16) (t : Fin 2048) : val_main_v47 (F := Ideal) x3 (ix3 b t 0) = Rows.scale (fun k => x3 (ix3 b t k)) 0x44800000#32 := by
  rw [val_main_v47_apply, val_main_v46_apply, val_main_v44_apply, val_main_v42_apply, val_main_v41_apply, val_main_v43_apply, val_main_v45_apply]
  have e : ∀ j, val_main_cst_2 (F := Ideal) j + ∑ k : Fin 1024, (val_main_v40 (F := Ideal) x3) (idx_main_v41 (idx_main_v42 (ix3 b t 0)) k)
      = ∑ k : Fin 1024, (fun k => x3 (ix3 b t k)) k * (fun k => x3 (ix3 b t k)) k := by
    intro j
    refine Eq.trans (congrArg₂ (· + ·) (Ideal.ofBits_zero_f32) (Finset.sum_congr rfl fun k _ => ?_)) (zero_add _)
    have i : idx_main_v41 (idx_main_v42 (ix3 b t 0)) k = ix3 b t k := by
      funext a; match a with | ⟨0, _⟩ => rfl | ⟨1, _⟩ => rfl | ⟨2, _⟩ => rfl
    rw [val_main_v40_apply, i, val_main_v38_apply]; rfl
  rw [e]; rfl

/-- The first half of the pair. -/
theorem left_apply (b : Fin 16) (t : Fin 2048) (k : Fin 1024) (j : Fin 2048) (hj : k.val = j.val) : val_main_v37 (F := Ideal) x0 x1 x2 x4 x6 (ix3 b t k)
    = tNsa x0 x1 x2 x4 b t k * Rows.scale (tNsa x0 x1 x2 x4 b t) 0x44800000#32 * x6 (ix1 j) := by
  rw [val_main_v37_apply, val_main_v34_apply, val_main_v33_apply, val_main_v36_apply, val_main_v35_apply, val_main_v24_apply]
  have i33 : idx_main_v33 (ix3 b t k) = ix3 b t 0 := by funext a; match a with | ⟨0, _⟩ => rfl | ⟨1, _⟩ => rfl | ⟨2, _⟩ => rfl
  have i36 : idx_main_v24 (idx_main_v35 (idx_main_v36 (ix3 b t k))) = ix1 j := by funext a; match a with | ⟨0, _⟩ => exact Fin.ext hj
  rw [i33, i36, nsa_scale, nsa_apply]; rfl

/-- The second half of the pair. -/
theorem right_apply (b : Fin 16) (t : Fin 2048) (k : Fin 1024) (j : Fin 2048) (hj : 1024 + k.val = j.val) : val_main_v52 (F := Ideal) x3 x6 (ix3 b t k)
    = x3 (ix3 b t k) * Rows.scale (fun k => x3 (ix3 b t k)) 0x44800000#32 * x6 (ix1 j) := by
  rw [val_main_v52_apply, val_main_v49_apply, val_main_v48_apply, val_main_v51_apply, val_main_v50_apply, val_main_v39_apply, val_main_v38_apply]
  have i48 : idx_main_v48 (ix3 b t k) = ix3 b t 0 := by funext a; match a with | ⟨0, _⟩ => rfl | ⟨1, _⟩ => rfl | ⟨2, _⟩ => rfl
  have i51 : idx_main_v39 (idx_main_v50 (idx_main_v51 (ix3 b t k))) = ix1 j := by funext a; match a with | ⟨0, _⟩ => exact Fin.ext hj
  rw [i48, i51, fox_scale]; rfl

/-- The reference's pair. -/
theorem pair_apply (b : Fin 16) (t j : Fin 2048) : val_main_v53 (F := Ideal) x0 x1 x2 x3 x4 x6 (ix3 b t j)
    = pair (tNsa x0 x1 x2 x4 b t) (fun k => x3 (ix3 b t k)) (fun k => x6 (ix1 k)) j := by
  unfold val_main_v53 pair
  by_cases h : j.val < 1024
  · rw [dif_pos h, ← left_apply x0 x1 x2 x4 x6 b t ⟨j.val, h⟩ j rfl]
    exact concatenate_apply_piece (t := S16x2048x2048) 2 _ _ (ix3 b t j) 0 (by exact (show 0 < 2 by decide)) S16x2048x1024 _ rfl rfl 0 rfl (ix3 b t ⟨j.val, h⟩)
      (fun a ha => by match a with | ⟨0, _⟩ => rfl | ⟨1, _⟩ => rfl | ⟨2, _⟩ => exact absurd rfl ha) (Nat.zero_add _)
  · have hj := j.isLt
    rw [dif_neg h, ← right_apply x3 x6 b t ⟨j.val - 1024, by omega⟩ j (by show 1024 + (j.val - 1024) = j.val; omega)]
    exact concatenate_apply_piece (t := S16x2048x2048) 2 _ _ (ix3 b t j) 1 (by exact (show 1 < 2 by decide)) S16x2048x1024 _ rfl rfl 1024 rfl (ix3 b t ⟨j.val - 1024, by omega⟩)
      (fun a ha => by match a with | ⟨0, _⟩ => rfl | ⟨1, _⟩ => rfl | ⟨2, _⟩ => exact absurd rfl ha) (by show 1024 + (j.val - 1024) = j.val; omega)

/-- The reference's product. -/
theorem mm_apply (b : Fin 16) (t k : Fin 2048) : val_main_v54 (F := Ideal) x0 x1 x2 x3 x4 x6 x7 (ix3 b t k) = tMm x0 x1 x2 x3 x4 x6 x7 b t k := by
  rw [val_main_v54_apply]
  unfold tMm mm
  refine Finset.sum_congr rfl fun j _ => ?_
  have l : lidx_main_v54 (ix3 b t k) j = ix3 b t j := by funext a; match a with | ⟨0, _⟩ => rfl | ⟨1, _⟩ => rfl | ⟨2, _⟩ => rfl
  have r : ridx_main_v54 (ix3 b t k) j = ix2 j k := by funext a; match a with | ⟨0, _⟩ => rfl | ⟨1, _⟩ => rfl
  rw [l, r, pair_apply]

/-- The reference's reciprocal root of the product. -/
theorem mm_scale (b : Fin 16) (t : Fin 2048) : val_main_v62 (F := Ideal) x0 x1 x2 x3 x4 x6 x7 (ix3 b t 0) = Rows.scale (tMm x0 x1 x2 x3 x4 x6 x7 b t) 0x45000000#32 := by
  rw [val_main_v62_apply, val_main_v61_apply, val_main_v59_apply, val_main_v57_apply, val_main_v56_apply, val_main_v58_apply, val_main_v60_apply]
  have e : ∀ j, val_main_cst_5 (F := Ideal) j + ∑ k : Fin 2048, (val_main_v55 (F := Ideal) x0 x1 x2 x3 x4 x6 x7) (idx_main_v56 (idx_main_v57 (ix3 b t 0)) k)
      = ∑ k : Fin 2048, (tMm x0 x1 x2 x3 x4 x6 x7 b t) k * (tMm x0 x1 x2 x3 x4 x6 x7 b t) k := by
    intro j
    refine Eq.trans (congrArg₂ (· + ·) (Ideal.ofBits_zero_f32) (Finset.sum_congr rfl fun k _ => ?_)) (zero_add _)
    have i : idx_main_v56 (idx_main_v57 (ix3 b t 0)) k = ix3 b t k := by
      funext a; match a with | ⟨0, _⟩ => rfl | ⟨1, _⟩ => rfl | ⟨2, _⟩ => rfl
    rw [val_main_v55_apply, i, mm_apply]; rfl
  rw [e]; rfl

/-- THE REFERENCE'S FIRST RESULT. -/
theorem v70_apply (b : Fin 16) (t k : Fin 2048) : val_main_v70 (F := Ideal) x0 x1 x2 x3 x4 x5 x6 x7 x8 x9 (ix3 b t k) = tRes x0 x1 x2 x3 x4 x5 x6 x7 x8 x9 b t k := by
  rw [val_main_v70_apply, val_main_v69_apply, val_main_v68_apply, val_main_v67_apply, val_main_v64_apply, val_main_v63_apply, val_main_v66_apply, val_main_v65_apply]
  have i63 : idx_main_v63 (ix3 b t k) = ix3 b t 0 := by funext a; match a with | ⟨0, _⟩ => rfl | ⟨1, _⟩ => rfl | ⟨2, _⟩ => rfl
  have i66 : idx_main_v65 (idx_main_v66 (ix3 b t k)) = ix1 k := by funext a; match a with | ⟨0, _⟩ => rfl
  have i68 : idx_main_v68 (ix3 b t k) = ix3 b 0 k := by funext a; match a with | ⟨0, _⟩ => rfl | ⟨1, _⟩ => rfl | ⟨2, _⟩ => rfl
  rw [i63, i66, i68, mm_scale, mm_apply]; rfl

/-- The reference's reciprocal root of the residual. -/
theorem res_scale (b : Fin 16) (t : Fin 2048) : val_main_v78 (F := Ideal) x0 x1 x2 x3 x4 x5 x6 x7 x8 x9 (ix3 b t 0) = Rows.scale (tRes x0 x1 x2 x3 x4 x5 x6 x7 x8 x9 b t) 0x45000000#32 := by
  rw [val_main_v78_apply, val_main_v77_apply, val_main_v75_apply, val_main_v73_apply, val_main_v72_apply, val_main_v74_apply, val_main_v76_apply]
  have e : ∀ j, val_main_cst_8 (F := Ideal) j + ∑ k : Fin 2048, (val_main_v71 (F := Ideal) x0 x1 x2 x3 x4 x5 x6 x7 x8 x9) (idx_main_v72 (idx_main_v73 (ix3 b t 0)) k)
      = ∑ k : Fin 2048, (tRes x0 x1 x2 x3 x4 x5 x6 x7 x8 x9 b t) k * (tRes x0 x1 x2 x3 x4 x5 x6 x7 x8 x9 b t) k := by
    intro j
    refine Eq.trans (congrArg₂ (· + ·) (Ideal.ofBits_zero_f32) (Finset.sum_congr rfl fun k _ => ?_)) (zero_add _)
    have i : idx_main_v72 (idx_main_v73 (ix3 b t 0)) k = ix3 b t k := by
      funext a; match a with | ⟨0, _⟩ => rfl | ⟨1, _⟩ => rfl | ⟨2, _⟩ => rfl
    rw [val_main_v71_apply, i, v70_apply]; rfl
  rw [e]; rfl

/-- THE REFERENCE'S SECOND RESULT. -/
theorem v90_apply (b : Fin 16) (t k : Fin 2048) :
    val_main_v90 (F := Ideal) x0 x1 x2 x3 x4 x5 x6 x7 x8 x9 x10 x11 x12 (ix3 b t k) = tInp x0 x1 x2 x3 x4 x5 x6 x7 x8 x9 x10 x11 x12 b t k := by
  rw [val_main_v90_apply, val_main_v89_apply, val_main_v88_apply, val_main_v87_apply, val_main_v86_apply, val_main_v85_apply, val_main_v84_apply, val_main_v83_apply,
    val_main_v82_apply, val_main_v81_apply, val_main_v80_apply, val_main_v79_apply]
  have i79 : idx_main_v79 (ix3 b t k) = ix3 b t 0 := by funext a; match a with | ⟨0, _⟩ => rfl | ⟨1, _⟩ => rfl | ⟨2, _⟩ => rfl
  have i82 : idx_main_v81 (idx_main_v82 (ix3 b t k)) = ix1 k := by funext a; match a with | ⟨0, _⟩ => rfl
  have i86 : idx_main_v86 (ix3 b t k) = ix3 b 0 k := by funext a; match a with | ⟨0, _⟩ => rfl | ⟨1, _⟩ => rfl | ⟨2, _⟩ => rfl
  have i88 : idx_main_v88 (ix3 b t k) = ix3 b 0 k := by funext a; match a with | ⟨0, _⟩ => rfl | ⟨1, _⟩ => rfl | ⟨2, _⟩ => rfl
  rw [i79, i82, i86, i88, res_scale, v70_apply]; rfl

end Cert.MergeRefIdeal.Read

end
-- ==== Proof.MergeIdeal.Payloads.lean ====
module

public import proofs.«01_k».proof.Proof.Gen.MergeIdeal.Frame
public import proofs.«01_k».proof.Proof.MergeSpec
public import Idealize.ShloMosaic.Lib.MatmulPlain

@[expose] public section

set_option maxRecDepth 16384

noncomputable section

/-! # What the merge call's body computes, at an entry -/

namespace Cert.MergeIdeal.Gen

open Idealize.ShloMosaic hiding ix1 ix2 ix3 ix4 ix5
open Idealize.ShloMosaic.TcCoe Idealize.ShloMosaic.ValueIdx
open Cert.MergeSpec

/-! ## The gated sum -/

/-- One gate times one branch: the gate is a column of the gates' block, repeated along the head. -/
theorem part_apply (v : FVec Ideal S256x128 .f32) (a : FVec Ideal S1x256x128 .bf16) (o : ℕ) (h : S256x128.Slices ![0, o] S256x1) (p : Fin 256) (l : Fin 128)
    (q : Fin 128) (hq : q.val = o) :
    (mulf (broadcastTo S256x128 (extractStridedSlice S256x1 ![0, o] v h) broadcasts_S256x1_S256x128)
      (extf .f32 (shapeCast S256x128 a shapeCasts_S1x256x128_S256x128) bitsLt_bf16_f32) : FVec Ideal S256x128 .f32) (ix2 p l) = v (ix2 p q) * a (ix3 0 p l) := by
  refine congrArg₂ (· * ·) ?_ (shapeCast_1ab_ab_apply _ _ _ _)
  refine (broadcastTo_apply _ _ _ (ix2 p 0) fun a => match a with | ⟨0, _⟩ => rfl | ⟨1, _⟩ => rfl).trans ?_
  exact extractStridedSlice_apply ![0, o] v h _ _ fun a => match a with
    | ⟨0, _⟩ => (Nat.zero_add _).symm
    | ⟨1, _⟩ => hq

/-- A head's columns of a branch's block. -/
theorem head_cut (x : Vec Ideal S1x256x1024 .bf16) (o : ℕ) (inb) (p : Fin 256) (l : Fin 128) (k : Fin 1024) (hk : o + l.val = k.val) :
    (View.ld x (Rect.unit (s := S1x256x1024) ![0, 0, o] S1x256x128.size inb) : S1x256x128.Idx → EReal) (ix3 0 p l) = x (ix3 0 p k) :=
  congrArg x (funext fun a => Fin.ext (by
    match a with
    | ⟨0, _⟩ => rfl
    | ⟨1, _⟩ => show 0 + 1 * p.val = p.val; omega
    | ⟨2, _⟩ => show o + 1 * l.val = k.val; omega))

/-- The gates' block without its unit axis. -/
theorem gates_apply (x : Vec Ideal S1x256x128 .f32) (p : Fin 256) (q : Fin 128) :
    (k0_pay2 (F := Ideal) (View.ld x r0_0) : S256x128.Idx → EReal) (ix2 p q) = x (ix3 0 p q) := by
  have z3 : (![0, 0, 0] : Fin 3 → ℕ) = fun _ => 0 := by decide
  unfold k0_pay2
  rw [View.ld_unit_zero z3]
  exact shapeCast_1ab_ab_apply _ _ _ _

/-- A head's gated sum: the three gates are eight columns apart. -/
theorem head_apply (x0 x1 x2 : Vec Ideal S1x256x1024 .bf16) (x4 : Vec Ideal S1x256x128 .f32) (n : ℕ) (hn : n < 8)
    (i0 i1 i2) (h0 : S256x128.Slices ![0, n] S256x1) (h1 : S256x128.Slices ![0, 8 + n] S256x1) (h2 : S256x128.Slices ![0, 16 + n] S256x1)
    (p : Fin 256) (l : Fin 128) (k : Fin 1024) (hk : 128 * n + l.val = k.val) :
    (addf (addf
        (mulf (broadcastTo S256x128 (extractStridedSlice S256x1 ![0, n] (k0_pay2 (F := Ideal) (View.ld x4 r0_0)) h0) broadcasts_S256x1_S256x128)
          (extf .f32 (shapeCast S256x128 (View.ld x0 (Rect.unit (s := S1x256x1024) ![0, 0, 128 * n] S1x256x128.size i0) : FVec Ideal S1x256x128 .bf16) shapeCasts_S1x256x128_S256x128) bitsLt_bf16_f32))
        (mulf (broadcastTo S256x128 (extractStridedSlice S256x1 ![0, 8 + n] (k0_pay2 (F := Ideal) (View.ld x4 r0_0)) h1) broadcasts_S256x1_S256x128)
          (extf .f32 (shapeCast S256x128 (View.ld x1 (Rect.unit (s := S1x256x1024) ![0, 0, 128 * n] S1x256x128.size i1) : FVec Ideal S1x256x128 .bf16) shapeCasts_S1x256x128_S256x128) bitsLt_bf16_f32)))
        (mulf (broadcastTo S256x128 (extractStridedSlice S256x1 ![0, 16 + n] (k0_pay2 (F := Ideal) (View.ld x4 r0_0)) h2) broadcasts_S256x1_S256x128)
          (extf .f32 (shapeCast S256x128 (View.ld x2 (Rect.unit (s := S1x256x1024) ![0, 0, 128 * n] S1x256x128.size i2) : FVec Ideal S1x256x128 .bf16) shapeCasts_S1x256x128_S256x128) bitsLt_bf16_f32)) : FVec Ideal S256x128 .f32) (ix2 p l)
      = nsa (fun k => x0 (ix3 0 p k)) (fun k => x1 (ix3 0 p k)) (fun k => x2 (ix3 0 p k)) (fun k => x4 (ix3 0 p k)) k := by
  have hl := l.isLt
  have hc : ∀ (x : Vec Ideal S1x256x1024 .bf16) (i), (View.ld x (Rect.unit (s := S1x256x1024) ![0, 0, 128 * n] S1x256x128.size i) : S1x256x128.Idx → EReal) (ix3 0 p l) = x (ix3 0 p k) :=
    fun x i => head_cut x (128 * n) i p l k hk
  have e : n = k.val / 128 := by omega
  refine congrArg₂ (· + ·) (congrArg₂ (· + ·) ?_ ?_) ?_
  · exact (part_apply _ _ n h0 p l ⟨k.val / 128, by omega⟩ e.symm).trans (congrArg₂ (· * ·) (gates_apply x4 p _) (hc x0 i0))
  · exact (part_apply _ _ (8 + n) h1 p l ⟨8 + k.val / 128, by omega⟩ (by show 8 + k.val / 128 = 8 + n; omega)).trans (congrArg₂ (· * ·) (gates_apply x4 p _) (hc x1 i1))
  · exact (part_apply _ _ (16 + n) h2 p l ⟨16 + k.val / 128, by omega⟩ (by show 16 + k.val / 128 = 16 + n; omega)).trans (congrArg₂ (· * ·) (gates_apply x4 p _) (hc x2 i2))

/-- The eight heads' sums side by side. -/
def heads (x0 x1 x2 : Vec Ideal S1x256x1024 .bf16) (x4 : Vec Ideal S1x256x128 .f32) : FVec Ideal S256x1024 .f32 :=
  k0_pay15 (k0_pay2 (View.ld x4 r0_0)) (k0_pay3 (View.ld x4 r0_0) (View.ld x0 r0_1) (View.ld x1 r0_1) (View.ld x2 r0_1))
    (k0_pay6 (k0_pay4 (View.ld x4 r0_0) (View.ld x0 r0_2) (View.ld x1 r0_2)) (k0_pay5 (View.ld x4 r0_0)) (View.ld x2 r0_2))
    (k0_pay7 (k0_pay2 (View.ld x4 r0_0)) (View.ld x0 r0_3) (View.ld x1 r0_3) (View.ld x2 r0_3))
    (k0_pay11 (k0_pay8 (k0_pay2 (View.ld x4 r0_0)) (View.ld x0 r0_4) (View.ld x1 r0_4)) (k0_pay9 (k0_pay2 (View.ld x4 r0_0))) (k0_pay10 (View.ld x2 r0_4)))
    (k0_pay12 (k0_pay2 (View.ld x4 r0_0)) (View.ld x0 r0_5) (View.ld x1 r0_5) (View.ld x2 r0_5))
    (k0_pay13 (k0_pay2 (View.ld x4 r0_0)) (View.ld x0 r0_6) (View.ld x1 r0_6)) (k0_pay14 (k0_pay2 (View.ld x4 r0_0)) (View.ld x2 r0_6))
    (View.ld x0 r0_7) (View.ld x1 r0_7) (View.ld x2 r0_7) (View.ld x0 r0_8) (View.ld x1 r0_8) (View.ld x2 r0_8)

/-- They are the gated sum. -/
theorem heads_apply (x0 x1 x2 : Vec Ideal S1x256x1024 .bf16) (x4 : Vec Ideal S1x256x128 .f32) (p : Fin 256) (k : Fin 1024) :
    (heads x0 x1 x2 x4 : S256x1024.Idx → EReal) (ix2 p k) = nsa (fun k => x0 (ix3 0 p k)) (fun k => x1 (ix3 0 p k)) (fun k => x2 (ix3 0 p k)) (fun k => x4 (ix3 0 p k)) k := by
  have hk := k.isLt
  unfold heads k0_pay15
  obtain ⟨n, hn⟩ : ∃ n : Fin 8, n.val = k.val / 128 := ⟨⟨k.val / 128, by omega⟩, rfl⟩
  match n with
  | ⟨0, _⟩ =>
    have e : 0 = k.val / 128 := hn
    exact (concatenate_apply_piece (t := S256x1024) 1 _ _ (ix2 p k) 0 (by exact (show 0 < 8 by decide)) S256x128 _ rfl rfl 0 rfl (ix2 p (⟨k.val - 0, by omega⟩ : Fin 128))
      (fun a ha => by match a with | ⟨0, _⟩ => rfl | ⟨1, _⟩ => exact absurd rfl ha) (by show 0 + (k.val - 0) = k.val; omega)).trans
      (head_apply x0 x1 x2 x4 0 (by decide) _ _ _ slices_S256x128_o0_0_S256x1 slices_S256x128_o0_8_S256x1 slices_S256x128_o0_16_S256x1 p ⟨k.val - 0, by omega⟩ k (by show 128 * 0 + (k.val - 0) = k.val; omega))
  | ⟨1, _⟩ =>
    have e : 1 = k.val / 128 := hn
    exact (concatenate_apply_piece (t := S256x1024) 1 _ _ (ix2 p k) 1 (by exact (show 1 < 8 by decide)) S256x128 _ rfl rfl 128 rfl (ix2 p (⟨k.val - 128, by omega⟩ : Fin 128))
      (fun a ha => by match a with | ⟨0, _⟩ => rfl | ⟨1, _⟩ => exact absurd rfl ha) (by show 128 + (k.val - 128) = k.val; omega)).trans
      (head_apply x0 x1 x2 x4 1 (by decide) _ _ _ slices_S256x128_o0_1_S256x1 slices_S256x128_o0_9_S256x1 slices_S256x128_o0_17_S256x1 p ⟨k.val - 128, by omega⟩ k (by show 128 * 1 + (k.val - 128) = k.val; omega))
  | ⟨2, _⟩ =>
    have e : 2 = k.val / 128 := hn
    exact (concatenate_apply_piece (t := S256x1024) 1 _ _ (ix2 p k) 2 (by exact (show 2 < 8 by decide)) S256x128 _ rfl rfl 256 rfl (ix2 p (⟨k.val - 256, by omega⟩ : Fin 128))
      (fun a ha => by match a with | ⟨0, _⟩ => rfl | ⟨1, _⟩ => exact absurd rfl ha) (by show 256 + (k.val - 256) = k.val; omega)).trans
      (head_apply x0 x1 x2 x4 2 (by decide) _ _ _ slices_S256x128_o0_2_S256x1 slices_S256x128_o0_10_S256x1 slices_S256x128_o0_18_S256x1 p ⟨k.val - 256, by omega⟩ k (by show 128 * 2 + (k.val - 256) = k.val; omega))
  | ⟨3, _⟩ =>
    have e : 3 = k.val / 128 := hn
    exact (concatenate_apply_piece (t := S256x1024) 1 _ _ (ix2 p k) 3 (by exact (show 3 < 8 by decide)) S256x128 _ rfl rfl 384 rfl (ix2 p (⟨k.val - 384, by omega⟩ : Fin 128))
      (fun a ha => by match a with | ⟨0, _⟩ => rfl | ⟨1, _⟩ => exact absurd rfl ha) (by show 384 + (k.val - 384) = k.val; omega)).trans
      (head_apply x0 x1 x2 x4 3 (by decide) _ _ _ slices_S256x128_o0_3_S256x1 slices_S256x128_o0_11_S256x1 slices_S256x128_o0_19_S256x1 p ⟨k.val - 384, by omega⟩ k (by show 128 * 3 + (k.val - 384) = k.val; omega))
  | ⟨4, _⟩ =>
    have e : 4 = k.val / 128 := hn
    exact (concatenate_apply_piece (t := S256x1024) 1 _ _ (ix2 p k) 4 (by exact (show 4 < 8 by decide)) S256x128 _ rfl rfl 512 rfl (ix2 p (⟨k.val - 512, by omega⟩ : Fin 128))
      (fun a ha => by match a with | ⟨0, _⟩ => rfl | ⟨1, _⟩ => exact absurd rfl ha) (by show 512 + (k.val - 512) = k.val; omega)).trans
      (head_apply x0 x1 x2 x4 4 (by decide) _ _ _ slices_S256x128_o0_4_S256x1 slices_S256x128_o0_12_S256x1 slices_S256x128_o0_20_S256x1 p ⟨k.val - 512, by omega⟩ k (by show 128 * 4 + (k.val - 512) = k.val; omega))
  | ⟨5, _⟩ =>
    have e : 5 = k.val / 128 := hn
    exact (concatenate_apply_piece (t := S256x1024) 1 _ _ (ix2 p k) 5 (by exact (show 5 < 8 by decide)) S256x128 _ rfl rfl 640 rfl (ix2 p (⟨k.val - 640, by omega⟩ : Fin 128))
      (fun a ha => by match a with | ⟨0, _⟩ => rfl | ⟨1, _⟩ => exact absurd rfl ha) (by show 640 + (k.val - 640) = k.val; omega)).trans
      (head_apply x0 x1 x2 x4 5 (by decide) _ _ _ slices_S256x128_o0_5_S256x1 slices_S256x128_o0_13_S256x1 slices_S256x128_o0_21_S256x1 p ⟨k.val - 640, by omega⟩ k (by show 128 * 5 + (k.val - 640) = k.val; omega))
  | ⟨6, _⟩ =>
    have e : 6 = k.val / 128 := hn
    exact (concatenate_apply_piece (t := S256x1024) 1 _ _ (ix2 p k) 6 (by exact (show 6 < 8 by decide)) S256x128 _ rfl rfl 768 rfl (ix2 p (⟨k.val - 768, by omega⟩ : Fin 128))
      (fun a ha => by match a with | ⟨0, _⟩ => rfl | ⟨1, _⟩ => exact absurd rfl ha) (by show 768 + (k.val - 768) = k.val; omega)).trans
      (head_apply x0 x1 x2 x4 6 (by decide) _ _ _ slices_S256x128_o0_6_S256x1 slices_S256x128_o0_14_S256x1 slices_S256x128_o0_22_S256x1 p ⟨k.val - 768, by omega⟩ k (by show 128 * 6 + (k.val - 768) = k.val; omega))
  | ⟨7, _⟩ =>
    have e : 7 = k.val / 128 := hn
    exact (concatenate_apply_piece (t := S256x1024) 1 _ _ (ix2 p k) 7 (by exact (show 7 < 8 by decide)) S256x128 _ rfl rfl 896 rfl (ix2 p (⟨k.val - 896, by omega⟩ : Fin 128))
      (fun a ha => by match a with | ⟨0, _⟩ => rfl | ⟨1, _⟩ => exact absurd rfl ha) (by show 896 + (k.val - 896) = k.val; omega)).trans
      (head_apply x0 x1 x2 x4 7 (by decide) _ _ _ slices_S256x128_o0_7_S256x1 slices_S256x128_o0_15_S256x1 slices_S256x128_o0_23_S256x1 p ⟨k.val - 896, by omega⟩ k (by show 128 * 7 + (k.val - 896) = k.val; omega))

/-! ## The pair, the product and the norms -/

/-- Two blocks side by side. -/
theorem halves_apply (u v : FVec Ideal S256x1024 .f32) (p : Fin 256) (j : Fin 2048) :
    (concatenate S256x2048 1 [⟨S256x1024, u⟩, ⟨S256x1024, v⟩] concatenates_S256x1024_S256x1024_S256x2048_d1 : FVec Ideal S256x2048 .f32) (ix2 p j)
      = if h : j.val < 1024 then u (ix2 p ⟨j.val, h⟩) else v (ix2 p ⟨j.val - 1024, by have := j.isLt; omega⟩) := by
  have hj := j.isLt
  by_cases h : j.val < 1024
  · rw [dif_pos h]
    exact concatenate_apply_piece (t := S256x2048) 1 _ _ (ix2 p j) 0 (by exact (show 0 < 2 by decide)) S256x1024 _ rfl rfl 0 rfl (ix2 p (⟨j.val, h⟩ : Fin 1024))
      (fun a ha => by match a with | ⟨0, _⟩ => rfl | ⟨1, _⟩ => exact absurd rfl ha) (Nat.zero_add _)
  · rw [dif_neg h]
    exact concatenate_apply_piece (t := S256x2048) 1 _ _ (ix2 p j) 1 (by exact (show 1 < 2 by decide)) S256x1024 _ rfl rfl 1024 rfl (ix2 p (⟨j.val - 1024, by omega⟩ : Fin 1024))
      (fun a ha => by match a with | ⟨0, _⟩ => rfl | ⟨1, _⟩ => exact absurd rfl ha) (by show 1024 + (j.val - 1024) = j.val; omega)

/-- The pair times the output matrix. -/
theorem pay16_apply (n : FVec Ideal S256x1024 .f32) (g1 : FVec Ideal S1x1024 .f32) (f : FVec Ideal S1x256x1024 .bf16) (g2 : FVec Ideal S1x1024 .f32) (w : FVec Ideal S2048x2048 .bf16)
    (g : Fin 2048 → EReal) (hg1 : ∀ (j : Fin 1024) (q : Fin 2048), q.val = j.val → g1 (ix2 0 j) = g q)
    (hg2 : ∀ (j : Fin 1024) (q : Fin 2048), q.val = 1024 + j.val → g2 (ix2 0 j) = g q) (p : Fin 256) (k : Fin 2048) :
    (k0_pay16 (F := Ideal) n g1 f g2 w : S256x2048.Idx → EReal) (ix2 p k)
      = mm (pair (fun k => n (ix2 p k)) (fun k => f (ix3 0 p k)) g) (fun j k => w (ix2 j k)) k := by
  unfold k0_pay16 mm
  rw [shapeCast_self, shapeCast_self, shapeCast_self]
  refine (Ideal.matmul_plain_apply none _ _ _ p k).trans ?_
  show Ideal.ofBits .f32 0x00000000#32 + _ = _
  rw [Ideal.ofBits_zero_f32, zero_add]
  refine Finset.sum_congr rfl fun j _ => congrArg₂ (· * ·) ?_ rfl
  unfold pair
  have hj := j.isLt
  refine (halves_apply _ _ p j).trans ?_
  by_cases h : j.val < 1024
  · rw [dif_pos h, dif_pos h]
    exact congrArg₂ (· * ·) (congrArg₂ (· * ·) rfl (Rows.scale_apply _ reduces_S256x1024_S256 _ _ shapeCasts_S256_S256x1 broadcasts_S256x1_S256x1024 (by decide) 0x44800000#32 p _))
      ((Rows.down_apply _ _ (by decide) p _).trans (hg1 _ j rfl))
  · rw [dif_neg h, dif_neg h]
    have es : ∀ k, (extf .f32 (shapeCast S256x1024 f shapeCasts_S1x256x1024_S256x1024) bitsLt_bf16_f32 : FVec Ideal S256x1024 .f32) (ix2 p k) = f (ix3 0 p k) :=
      fun k => shapeCast_1ab_ab_apply _ _ _ _
    exact congrArg₂ (· * ·) (congrArg₂ (· * ·) (es _) ((Rows.scale_apply _ reduces_S256x1024_S256 _ _ shapeCasts_S256_S256x1 broadcasts_S256x1_S256x1024 (by decide) 0x44800000#32 p _).trans (Rows.scale_congr es _)))
      ((Rows.down_apply _ _ (by decide) p _).trans (hg2 _ j (by show j.val = 1024 + (j.val - 1024); omega)))

/-- The residual with the product's modulated norm added. -/
theorem pay18_apply (z x : FVec Ideal S256x2048 .f32) (gt : FVec Ideal S1x1x2048 .f32) (g : FVec Ideal S1x2048 .f32) (p : Fin 256) (k : Fin 2048) :
    (k0_pay18 (F := Ideal) z x gt g : S256x2048.Idx → EReal) (ix2 p k)
      = res (fun k => z (ix2 p k)) (fun k => x (ix2 p k)) (fun k => gt (ix3 0 0 k)) (fun k => g (ix2 0 k)) k := by
  unfold k0_pay18
  rw [shapeCast_self]
  exact congrArg₂ (· + ·) rfl (congrArg₂ (· * ·) ((Rows.down_apply _ _ (by decide) p k).trans (shapeCast_1ab_ab_apply _ _ _ _))
    (congrArg₂ (· * ·) (congrArg₂ (· * ·) rfl (Rows.scale_apply _ reduces_S256x2048_S256 _ _ shapeCasts_S256_S256x1 broadcasts_S256x1_S256x2048 (by decide) 0x45000000#32 p k))
      (Rows.down_apply _ _ (by decide) p k)))

/-- The first stored block. -/
theorem pay19_apply (z x : FVec Ideal S256x2048 .f32) (gt : FVec Ideal S1x1x2048 .f32) (g : FVec Ideal S1x2048 .f32) (p : Fin 256) (k : Fin 2048) :
    (k0_pay19 (F := Ideal) z x gt g : S1x256x2048.Idx → EReal) (ix3 0 p k)
      = res (fun k => z (ix2 p k)) (fun k => x (ix2 p k)) (fun k => gt (ix3 0 0 k)) (fun k => g (ix2 0 k)) k :=
  (shapeCast_ab_1ab_apply _ _ _ _ _).trans (pay18_apply z x gt g p k)

/-- The second stored block. -/
theorem pay23_apply (z x : FVec Ideal S256x2048 .f32) (gt : FVec Ideal S1x1x2048 .f32) (g : FVec Ideal S1x2048 .f32) (gp : FVec Ideal S1x2048 .f32) (sc sh : FVec Ideal S1x1x2048 .f32)
    (p : Fin 256) (k : Fin 2048) :
    (k0_pay23 (F := Ideal) (k0_pay20 z x gt g gp sc) sh : S1x256x2048.Idx → EReal) (ix3 0 p k)
      = inp (res (fun k => z (ix2 p k)) (fun k => x (ix2 p k)) (fun k => gt (ix3 0 0 k)) fun k => g (ix2 0 k)) (fun k => gp (ix2 0 k)) (fun k => sc (ix3 0 0 k)) (fun k => sh (ix3 0 0 k)) k := by
  unfold k0_pay23 k0_pay22 k0_pay21 k0_pay20
  rw [shapeCast_self]
  refine (shapeCast_ab_1ab_apply _ _ _ _ _).trans ?_
  have es : ∀ k, (k0_pay18 (F := Ideal) z x gt g : S256x2048.Idx → EReal) (ix2 p k) = _ := fun k => pay18_apply z x gt g p k
  have ec : (addf (broadcast S1x2048 (Scalar.ofBits .f32 0x3F800000#32)) (shapeCast S1x2048 sc shapeCasts_S1x1x2048_S1x2048) : FVec Ideal S1x2048 .f32) (ix2 0 k)
      = Ideal.ofBits .f32 0x3F800000#32 + sc (ix3 0 0 k) := congrArg₂ (· + ·) rfl (shapeCast_1ab_ab_apply sc _ 0 k)
  refine congrArg₂ (· + ·) (congrArg₂ (· * ·) (congrArg₂ (· * ·) (congrArg₂ (· * ·) (es k)
    ((Rows.scale_apply _ reduces_S256x2048_S256 _ _ shapeCasts_S256_S256x1 broadcasts_S256x1_S256x2048 (by decide) 0x45000000#32 p k).trans (Rows.scale_congr es _)))
      (Rows.down_apply _ _ (by decide) p k))
      ((Rows.down_apply _ _ (by decide) p k).trans ec))
    ((Rows.down_apply _ _ (by decide) p k).trans (shapeCast_1ab_ab_apply _ _ _ _))

end Cert.MergeIdeal.Gen

end
-- ==== Proof.MergeIdeal.Value.lean ====
module

public import proofs.«01_k».proof.Proof.MergeIdeal.Payloads

@[expose] public section

set_option maxRecDepth 16384

noncomputable section

/-! # The merge call's result arrays -/

namespace Cert.MergeIdeal.Gen

open Idealize.ShloMosaic hiding ix1 ix2 ix3 ix4 ix5
open Idealize.ShloMosaic.TcCoe Idealize.ShloMosaic.ValueIdx
open Idealize.SL Idealize.SL.Sem
open Cert.MergeSpec

variable (m : (ℓ : Loc nD τ sig) → Buf (Elt Ideal) ℓ) (c : Dev nD)

/-! ## The arguments -/

/-- The compressed branch, -/
abbrev a0 : S16x2048x1024.Idx → EReal := m ((c : Thread nD τ).loc main_arg0)
/-- the selected branch, -/
abbrev a1 : S16x2048x1024.Idx → EReal := m ((c : Thread nD τ).loc main_arg1)
/-- the window branch -/
abbrev a2 : S16x2048x1024.Idx → EReal := m ((c : Thread nD τ).loc main_arg2)
/-- and the other attention; -/
abbrev a3 : S16x2048x1024.Idx → EReal := m ((c : Thread nD τ).loc main_arg3)
/-- the gates; -/
abbrev a4 : S16x2048x128.Idx → EReal := m ((c : Thread nD τ).loc main_arg4)
/-- the residual; -/
abbrev a5 : S16x2048x2048.Idx → EReal := m ((c : Thread nD τ).loc main_arg5)
/-- the gains of the pair; -/
abbrev a6 : S2048.Idx → EReal := m ((c : Thread nD τ).loc main_arg6)
/-- the output matrix; -/
abbrev a7 : S2048x2048.Idx → EReal := m ((c : Thread nD τ).loc main_arg7)
/-- the gains of the product; -/
abbrev a8 : S2048.Idx → EReal := m ((c : Thread nD τ).loc main_arg8)
/-- the modulation of the product; -/
abbrev a9 : S16x1x2048.Idx → EReal := m ((c : Thread nD τ).loc main_arg9)
/-- the gains of the experts' input -/
abbrev a10 : S2048.Idx → EReal := m ((c : Thread nD τ).loc main_arg10)
/-- and its modulation: -/
abbrev a11 : S16x1x2048.Idx → EReal := m ((c : Thread nD τ).loc main_arg11)
/-- a scale and a shift. -/
abbrev a12 : S16x1x2048.Idx → EReal := m ((c : Thread nD τ).loc main_arg12)

/-- The gains of argument 6 get a unit axis. -/
theorem V_main_v9 (k : Fin 2048) : (V m c main_v9 : S1x2048.Idx → EReal) (ix2 0 k) = a6 m c (ix1 k) := by
  have e : V m c main_v9 = broadcastInDim S1x2048 ![1] bcast_S2048_S1x2048_1 (m ((c : Thread nD τ).loc main_arg6)) := rfl
  rw [e]
  exact broadcastInDim_apply _ _ _ _ (ix1 k) fun a => match a with | ⟨0, _⟩ => rfl

/-- The gains of argument 8 get a unit axis. -/
theorem V_main_v11 (k : Fin 2048) : (V m c main_v11 : S1x2048.Idx → EReal) (ix2 0 k) = a8 m c (ix1 k) := by
  have e : V m c main_v11 = broadcastInDim S1x2048 ![1] bcast_S2048_S1x2048_1 (m ((c : Thread nD τ).loc main_arg8)) := rfl
  rw [e]
  exact broadcastInDim_apply _ _ _ _ (ix1 k) fun a => match a with | ⟨0, _⟩ => rfl

/-- The gains of argument 10 get a unit axis. -/
theorem V_main_v12 (k : Fin 2048) : (V m c main_v12 : S1x2048.Idx → EReal) (ix2 0 k) = a10 m c (ix1 k) := by
  have e : V m c main_v12 = broadcastInDim S1x2048 ![1] bcast_S2048_S1x2048_1 (m ((c : Thread nD τ).loc main_arg10)) := rfl
  rw [e]
  exact broadcastInDim_apply _ _ _ _ (ix1 k) fun a => match a with | ⟨0, _⟩ => rfl

/-- The output matrix is cast, which leaves the numbers. -/
theorem V_main_v10 : (V m c main_v10 : S2048x2048.Idx → EReal) = a7 m c := rfl

/-! ## The blocks at coordinates -/

/-- A point's batch and row tile. -/
theorem coords_at : ∀ t : Fin grid0.N, (grid0.coords t 0).val = t.val / 8 ∧ (grid0.coords t 1).val = t.val % 8 := by
  decide +kernel

/-- The batch of a point -/
def bat (t : Fin cfg0.N) : Fin 16 := ⟨t.val / 8, by have h : t.val < 128 := Nat.lt_of_lt_of_eq t.isLt N_0; omega⟩
/-- and row `p` of its row tile. -/
def row (t : Fin cfg0.N) (p : Fin 256) : Fin 2048 := ⟨t.val % 8 * 256 + p.val, by omega⟩

/-- The block of argument 0. -/
theorem x0_apply (t : Fin cfg0.N) (p : Fin 256) (k : Fin 1024) : (iblk m c 0 t : S1x256x1024.Idx → EReal) (ix3 0 p k) = a0 m c (ix3 (bat t) (row t p) k) := by
  obtain ⟨e0, e1⟩ := coords_at t
  have h : t.val < 128 := Nat.lt_of_lt_of_eq t.isLt N_0
  refine (congrFun (V_main_arg0 m c) _).trans (congrArg (a0 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 1024 + 1 * k.val = k.val; rw [Nat.one_mul]; exact Nat.zero_add _

/-- The block of argument 1. -/
theorem x1_apply (t : Fin cfg0.N) (p : Fin 256) (k : Fin 1024) : (iblk m c 1 t : S1x256x1024.Idx → EReal) (ix3 0 p k) = a1 m c (ix3 (bat t) (row t p) k) := by
  obtain ⟨e0, e1⟩ := coords_at t
  have h : t.val < 128 := Nat.lt_of_lt_of_eq t.isLt N_0
  refine (congrFun (V_main_arg1 m c) _).trans (congrArg (a1 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 1024 + 1 * k.val = k.val; rw [Nat.one_mul]; exact Nat.zero_add _

/-- The block of argument 2. -/
theorem x2_apply (t : Fin cfg0.N) (p : Fin 256) (k : Fin 1024) : (iblk m c 2 t : S1x256x1024.Idx → EReal) (ix3 0 p k) = a2 m c (ix3 (bat t) (row t p) k) := by
  obtain ⟨e0, e1⟩ := coords_at t
  have h : t.val < 128 := Nat.lt_of_lt_of_eq t.isLt N_0
  refine (congrFun (V_main_arg2 m c) _).trans (congrArg (a2 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 1024 + 1 * k.val = k.val; rw [Nat.one_mul]; exact Nat.zero_add _

/-- The block of argument 3. -/
theorem x3_apply (t : Fin cfg0.N) (p : Fin 256) (k : Fin 1024) : (iblk m c 3 t : S1x256x1024.Idx → EReal) (ix3 0 p k) = a3 m c (ix3 (bat t) (row t p) k) := by
  obtain ⟨e0, e1⟩ := coords_at t
  have h : t.val < 128 := Nat.lt_of_lt_of_eq t.isLt N_0
  refine (congrFun (V_main_arg3 m c) _).trans (congrArg (a3 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 1024 + 1 * k.val = k.val; rw [Nat.one_mul]; exact Nat.zero_add _

/-- The block of argument 4. -/
theorem x4_apply (t : Fin cfg0.N) (p : Fin 256) (k : Fin 128) : (iblk m c 4 t : S1x256x128.Idx → EReal) (ix3 0 p k) = a4 m c (ix3 (bat t) (row t p) k) := by
  obtain ⟨e0, e1⟩ := coords_at t
  have h : t.val < 128 := Nat.lt_of_lt_of_eq t.isLt N_0
  refine (congrFun (V_main_arg4 m c) _).trans (congrArg (a4 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 128 + 1 * k.val = k.val; rw [Nat.one_mul]; exact Nat.zero_add _

/-- The block of argument 5. -/
theorem x5_apply (t : Fin cfg0.N) (p : Fin 256) (k : Fin 2048) : (iblk m c 5 t : S1x256x2048.Idx → EReal) (ix3 0 p k) = a5 m c (ix3 (bat t) (row t p) k) := by
  obtain ⟨e0, e1⟩ := coords_at t
  have h : t.val < 128 := Nat.lt_of_lt_of_eq t.isLt N_0
  refine (congrFun (V_main_arg5 m c) _).trans (congrArg (a5 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ =>
    show (BitVec.ofNat 32 (grid0.coords t 1).val).toNat * 256 + 1 * p.val = t.val % 8 * 256 + p.val
    rw [e1, BitVec.toNat_ofNat, Nat.mod_eq_of_lt (by omega)]; omega
  | ⟨2, _⟩ => show (0#32 : BitVec 32).toNat * 2048 + 1 * k.val = k.val; rw [Nat.one_mul]; exact Nat.zero_add _

/-- The gains of argument 6. -/
theorem x6_apply (t : Fin cfg0.N) (k : Fin 2048) : (iblk m c 6 t : S1x2048.Idx → EReal) (ix2 0 k) = a6 m c (ix1 k) := by
  refine Eq.trans (congrArg (V m c main_v9 : S1x2048.Idx → EReal) (funext fun a => Fin.ext ?_)) (V_main_v9 m c k)
  match a with
  | ⟨0, _⟩ => rfl
  | ⟨1, _⟩ => show (0#32 : BitVec 32).toNat * 2048 + 1 * k.val = k.val; rw [Nat.one_mul]; exact Nat.zero_add _

/-- The gains of argument 8. -/
theorem x8_apply (t : Fin cfg0.N) (k : Fin 2048) : (iblk m c 8 t : S1x2048.Idx → EReal) (ix2 0 k) = a8 m c (ix1 k) := by
  refine Eq.trans (congrArg (V m c main_v11 : S1x2048.Idx → EReal) (funext fun a => Fin.ext ?_)) (V_main_v11 m c k)
  match a with
  | ⟨0, _⟩ => rfl
  | ⟨1, _⟩ => show (0#32 : BitVec 32).toNat * 2048 + 1 * k.val = k.val; rw [Nat.one_mul]; exact Nat.zero_add _

/-- The gains of argument 10. -/
theorem x10_apply (t : Fin cfg0.N) (k : Fin 2048) : (iblk m c 10 t : S1x2048.Idx → EReal) (ix2 0 k) = a10 m c (ix1 k) := by
  refine Eq.trans (congrArg (V m c main_v12 : S1x2048.Idx → EReal) (funext fun a => Fin.ext ?_)) (V_main_v12 m c k)
  match a with
  | ⟨0, _⟩ => rfl
  | ⟨1, _⟩ => show (0#32 : BitVec 32).toNat * 2048 + 1 * k.val = k.val; rw [Nat.one_mul]; exact Nat.zero_add _

/-- The output matrix. -/
theorem x7_apply (t : Fin cfg0.N) (j k : Fin 2048) : (iblk m c 7 t : S2048x2048.Idx → EReal) (ix2 j k) = a7 m c (ix2 j k) := by
  refine Eq.trans (congrArg (V m c main_v10 : S2048x2048.Idx → EReal) (funext fun a => Fin.ext ?_)) (congrFun (V_main_v10 m c) (ix2 j k))
  match a with
  | ⟨0, _⟩ => show (0#32 : BitVec 32).toNat * 2048 + 1 * j.val = j.val; rw [Nat.one_mul]; exact Nat.zero_add _
  | ⟨1, _⟩ => show (0#32 : BitVec 32).toNat * 2048 + 1 * k.val = k.val; rw [Nat.one_mul]; exact Nat.zero_add _

/-- The modulation of argument 9 at the point's batch. -/
theorem x9_apply (t : Fin cfg0.N) (k : Fin 2048) : (iblk m c 9 t : S1x1x2048.Idx → EReal) (ix3 0 0 k) = a9 m c (ix3 (bat t) 0 k) := by
  obtain ⟨e0, -⟩ := coords_at t
  have h : t.val < 128 := Nat.lt_of_lt_of_eq t.isLt N_0
  refine (congrFun (V_main_arg9 m c) _).trans (congrArg (a9 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-- The modulation of argument 11 at the point's batch. -/
theorem x11_apply (t : Fin cfg0.N) (k : Fin 2048) : (iblk m c 11 t : S1x1x2048.Idx → EReal) (ix3 0 0 k) = a11 m c (ix3 (bat t) 0 k) := by
  obtain ⟨e0, -⟩ := coords_at t
  have h : t.val < 128 := Nat.lt_of_lt_of_eq t.isLt N_0
  refine (congrFun (V_main_arg11 m c) _).trans (congrArg (a11 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-- The modulation of argument 12 at the point's batch. -/
theorem x12_apply (t : Fin cfg0.N) (k : Fin 2048) : (iblk m c 12 t : S1x1x2048.Idx → EReal) (ix3 0 0 k) = a12 m c (ix3 (bat t) 0 k) := by
  obtain ⟨e0, -⟩ := coords_at t
  have h : t.val < 128 := Nat.lt_of_lt_of_eq t.isLt N_0
  refine (congrFun (V_main_arg12 m c) _).trans (congrArg (a12 m c) (funext fun a => Fin.ext ?_))
  match a with
  | ⟨0, _⟩ =>
    show (BitVec.ofNat 32 (grid0.coords t 0).val).toNat * 1 + 1 * 0 = t.val / 8
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-! ## What the body leaves, of blocks whose entries are known -/

section
variable (x0 x1 x2 x3 : Vec Ideal S1x256x1024 .bf16) (x4 : Vec Ideal S1x256x128 .f32) (x5 : Vec Ideal S1x256x2048 .f32) (x6 : Vec Ideal S1x2048 .f32)
    (x7 : Vec Ideal S2048x2048 .bf16) (x8 : Vec Ideal S1x2048 .f32) (x9 : Vec Ideal S1x1x2048 .f32) (x10 : Vec Ideal S1x2048 .f32) (x11 x12 : Vec Ideal S1x1x2048 .f32)
    (x13 x14 : Vec Ideal S2048x128 .bf16) (x15 : Vec Ideal S1x128 .f32)
  (b : Fin 16) (r : Fin 2048) (p : Fin 256)

/-- A half of the pair's gains. -/
theorem half_cut (o : ℕ) (inb) (j : Fin 1024) (q : Fin 2048) (hq : q.val = o + j.val) :
    (View.ld x6 (Rect.unit (s := S1x2048) ![0, o] S1x1024.size inb) : S1x1024.Idx → EReal) (ix2 0 j) = x6 (ix2 0 q) :=
  congrArg x6 (funext fun a => Fin.ext (by
    match a with
    | ⟨0, _⟩ => rfl
    | ⟨1, _⟩ => show o + 1 * j.val = q.val; omega))

/-- The product. -/
theorem mm_known (h0 : ∀ k : Fin 1024, x0 (ix3 0 p k) = a0 m c (ix3 b r k)) (h1 : ∀ k : Fin 1024, x1 (ix3 0 p k) = a1 m c (ix3 b r k))
    (h2 : ∀ k : Fin 1024, x2 (ix3 0 p k) = a2 m c (ix3 b r k)) (h3 : ∀ k : Fin 1024, x3 (ix3 0 p k) = a3 m c (ix3 b r k))
    (h4 : ∀ k : Fin 128, x4 (ix3 0 p k) = a4 m c (ix3 b r k)) (h6 : ∀ k : Fin 2048, x6 (ix2 0 k) = a6 m c (ix1 k)) (h7 : ∀ j k : Fin 2048, x7 (ix2 j k) = a7 m c (ix2 j k)) (k : Fin 2048) :
    (k0_pay44 (F := Ideal) x0 x1 x2 x3 x4 x5 x6 x7 x8 x9 x10 x11 x12 x13 x14 x15 : S256x2048.Idx → EReal) (ix2 p k)
      = tMm (a0 m c) (a1 m c) (a2 m c) (a3 m c) (a4 m c) (a6 m c) (a7 m c) b r k := by
  have z3 : (![0, 0, 0] : Fin 3 → ℕ) = fun _ => 0 := by decide
  have z2 : (![0, 0] : Fin 2 → ℕ) = fun _ => 0 := by decide
  unfold k0_pay44 k0_pay43
  rw [View.ld_unit_zero z3 (X := x3), View.ld_unit_zero z2 (X := x7)]
  refine (pay16_apply (heads x0 x1 x2 x4) _ x3 _ x7 (fun q => x6 (ix2 0 q)) (fun j q hq => half_cut x6 0 _ j q (by omega)) (fun j q hq => half_cut x6 1024 _ j q hq) p k).trans ?_
  unfold tMm tNsa
  have e : (fun k => (heads x0 x1 x2 x4 : S256x1024.Idx → EReal) (ix2 p k)) = _ := funext fun k => heads_apply x0 x1 x2 x4 p k
  rw [e, (funext h0 : (fun k => x0 (ix3 0 p k)) = _), (funext h1 : (fun k => x1 (ix3 0 p k)) = _), (funext h2 : (fun k => x2 (ix3 0 p k)) = _),
    (funext h3 : (fun k => x3 (ix3 0 p k)) = _), (funext h4 : (fun k => x4 (ix3 0 p k)) = _), (funext h6 : (fun k => x6 (ix2 0 k)) = _),
    (funext fun j => funext fun k => h7 j k : (fun j k => x7 (ix2 j k)) = _)]

/-- The residual without its unit axis. -/
theorem x_known (k : Fin 2048) : (k0_pay45 (F := Ideal) x0 x1 x2 x3 x4 x5 x6 x7 x8 x9 x10 x11 x12 x13 x14 x15 : S256x2048.Idx → EReal) (ix2 p k) = x5 (ix3 0 p k) := by
  have z3 : (![0, 0, 0] : Fin 3 → ℕ) = fun _ => 0 := by decide
  unfold k0_pay45 k0_pay17
  rw [View.ld_unit_zero z3]
  exact shapeCast_1ab_ab_apply _ _ _ _

/-- The first result's block. -/
theorem out16_known (h0 : ∀ k : Fin 1024, x0 (ix3 0 p k) = a0 m c (ix3 b r k)) (h1 : ∀ k : Fin 1024, x1 (ix3 0 p k) = a1 m c (ix3 b r k))
    (h2 : ∀ k : Fin 1024, x2 (ix3 0 p k) = a2 m c (ix3 b r k)) (h3 : ∀ k : Fin 1024, x3 (ix3 0 p k) = a3 m c (ix3 b r k))
    (h4 : ∀ k : Fin 128, x4 (ix3 0 p k) = a4 m c (ix3 b r k)) (h6 : ∀ k : Fin 2048, x6 (ix2 0 k) = a6 m c (ix1 k)) (h7 : ∀ j k : Fin 2048, x7 (ix2 j k) = a7 m c (ix2 j k))
    (h5 : ∀ k : Fin 2048, x5 (ix3 0 p k) = a5 m c (ix3 b r k)) (h8 : ∀ k : Fin 2048, x8 (ix2 0 k) = a8 m c (ix1 k)) (h9 : ∀ k : Fin 2048, x9 (ix3 0 0 k) = a9 m c (ix3 b 0 k)) (k : Fin 2048) :
    (out0_16 x0 x1 x2 x3 x4 x5 x6 x7 x8 x9 x10 x11 x12 x13 x14 x15 : S1x256x2048.Idx → EReal) (ix3 0 p k)
      = tRes (a0 m c) (a1 m c) (a2 m c) (a3 m c) (a4 m c) (a5 m c) (a6 m c) (a7 m c) (a8 m c) (a9 m c) b r k := by
  have z3 : (![0, 0, 0] : Fin 3 → ℕ) = fun _ => 0 := by decide
  have z2 : (![0, 0] : Fin 2 → ℕ) = fun _ => 0 := by decide
  have em := fun k => mm_known m c x0 x1 x2 x3 x4 x5 x6 x7 x8 x9 x10 x11 x12 x13 x14 x15 b r p h0 h1 h2 h3 h4 h6 h7 k
  have ex := fun k => (x_known x0 x1 x2 x3 x4 x5 x6 x7 x8 x9 x10 x11 x12 x13 x14 x15 p k).trans (h5 k)
  unfold out0_16
  rw [View.canon_unit_zero z3, View.ld_unit_zero z3 (X := x9), View.ld_unit_zero z2 (X := x8)]
  refine (pay19_apply _ _ _ _ p k).trans ?_
  rw [funext em, funext ex, funext h9, funext h8]
  rfl

/-- The second result's block. -/
theorem out17_known (h0 : ∀ k : Fin 1024, x0 (ix3 0 p k) = a0 m c (ix3 b r k)) (h1 : ∀ k : Fin 1024, x1 (ix3 0 p k) = a1 m c (ix3 b r k))
    (h2 : ∀ k : Fin 1024, x2 (ix3 0 p k) = a2 m c (ix3 b r k)) (h3 : ∀ k : Fin 1024, x3 (ix3 0 p k) = a3 m c (ix3 b r k))
    (h4 : ∀ k : Fin 128, x4 (ix3 0 p k) = a4 m c (ix3 b r k)) (h6 : ∀ k : Fin 2048, x6 (ix2 0 k) = a6 m c (ix1 k)) (h7 : ∀ j k : Fin 2048, x7 (ix2 j k) = a7 m c (ix2 j k))
    (h5 : ∀ k : Fin 2048, x5 (ix3 0 p k) = a5 m c (ix3 b r k)) (h8 : ∀ k : Fin 2048, x8 (ix2 0 k) = a8 m c (ix1 k)) (h9 : ∀ k : Fin 2048, x9 (ix3 0 0 k) = a9 m c (ix3 b 0 k))
    (h10 : ∀ k : Fin 2048, x10 (ix2 0 k) = a10 m c (ix1 k)) (h11 : ∀ k : Fin 2048, x11 (ix3 0 0 k) = a11 m c (ix3 b 0 k)) (h12 : ∀ k : Fin 2048, x12 (ix3 0 0 k) = a12 m c (ix3 b 0 k)) (k : Fin 2048) :
    (out0_17 x0 x1 x2 x3 x4 x5 x6 x7 x8 x9 x10 x11 x12 x13 x14 x15 : S1x256x2048.Idx → EReal) (ix3 0 p k)
      = tInp (a0 m c) (a1 m c) (a2 m c) (a3 m c) (a4 m c) (a5 m c) (a6 m c) (a7 m c) (a8 m c) (a9 m c) (a10 m c) (a11 m c) (a12 m c) b r k := by
  have z3 : (![0, 0, 0] : Fin 3 → ℕ) = fun _ => 0 := by decide
  have z2 : (![0, 0] : Fin 2 → ℕ) = fun _ => 0 := by decide
  have em := fun k => mm_known m c x0 x1 x2 x3 x4 x5 x6 x7 x8 x9 x10 x11 x12 x13 x14 x15 b r p h0 h1 h2 h3 h4 h6 h7 k
  have ex := fun k => (x_known x0 x1 x2 x3 x4 x5 x6 x7 x8 x9 x10 x11 x12 x13 x14 x15 p k).trans (h5 k)
  unfold out0_17 k0_pay46
  rw [View.canon_unit_zero z3, View.ld_unit_zero z3 (X := x9), View.ld_unit_zero z2 (X := x8), View.ld_unit_zero z2 (X := x10), View.ld_unit_zero z3 (X := x11), View.ld_unit_zero z3 (X := x12)]
  refine (pay23_apply _ _ _ _ _ _ _ p k).trans ?_
  rw [funext em, funext ex, funext h9, funext h8, funext h10, funext h11, funext h12]
  rfl

end

/-- What it leaves in the first result's block at a point. -/
theorem out16_apply (t : Fin cfg0.N) (p : Fin 256) (k : Fin 2048) :
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : S1x256x2048.Idx → EReal) (ix3 0 p k)
      = tRes (a0 m c) (a1 m c) (a2 m c) (a3 m c) (a4 m c) (a5 m c) (a6 m c) (a7 m c) (a8 m c) (a9 m c) (bat t) (row t p) k :=
  out16_known m c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (bat t) (row t p) p (x0_apply m c t p) (x1_apply m c t p) (x2_apply m c t p) (x3_apply m c t p) (x4_apply m c t p) (x6_apply m c t) (x7_apply m c t) (x5_apply m c t p) (x8_apply m c t) (x9_apply m c t) k

/-- What it leaves in the second result's block at a point. -/
theorem out17_apply (t : Fin cfg0.N) (p : Fin 256) (k : Fin 2048) :
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : S1x256x2048.Idx → EReal) (ix3 0 p k)
      = tInp (a0 m c) (a1 m c) (a2 m c) (a3 m c) (a4 m c) (a5 m c) (a6 m c) (a7 m c) (a8 m c) (a9 m c) (a10 m c) (a11 m c) (a12 m c) (bat t) (row t p) k :=
  out17_known m c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (bat t) (row t p) p (x0_apply m c t p) (x1_apply m c t p) (x2_apply m c t p) (x3_apply m c t p) (x4_apply m c t p) (x6_apply m c t) (x7_apply m c t) (x5_apply m c t p) (x8_apply m c t) (x9_apply m c t) (x10_apply m c t) (x11_apply m c t) (x12_apply m c t) k

/-! ## The result arrays -/

/-- The point of row `r` of batch `b`. -/
def ptOf (b : Fin 16) (r : Fin 2048) : Fin cfg0.N := ⟨8 * b.val + r.val / 256, Nat.lt_of_lt_of_eq (by omega) N_0.symm⟩

/-- The first result's block index is the batch and the row tile. -/
theorem at_16 : ∀ t : Fin grid0.N, cc0_transform_16 (grid0.coords t) 0 = t.val / 8 ∧ cc0_transform_16 (grid0.coords t) 1 = t.val % 8 ∧ cc0_transform_16 (grid0.coords t) 2 = 0 := by
  decide +kernel

/-- The first result. -/
def res1 : S16x2048x2048.Idx → EReal := fun i => tRes (a0 m c) (a1 m c) (a2 m c) (a3 m c) (a4 m c) (a5 m c) (a6 m c) (a7 m c) (a8 m c) (a9 m c) (i 0) (i 1) (i 2)

/-- The formula at an entry whose numbers are known. -/
theorem res1_congr {b b' : Fin 16} {r r' k k' : Fin 2048} (hb : b.val = b'.val) (hr : r.val = r'.val) (hk : k.val = k'.val) :
    tRes (a0 m c) (a1 m c) (a2 m c) (a3 m c) (a4 m c) (a5 m c) (a6 m c) (a7 m c) (a8 m c) (a9 m c) b r k
      = tRes (a0 m c) (a1 m c) (a2 m c) (a3 m c) (a4 m c) (a5 m c) (a6 m c) (a7 m c) (a8 m c) (a9 m c) b' r' k' := by
  rw [Fin.ext hb, Fin.ext hr, Fin.ext hk]

/-- Every entry of the first result is in a block that is written back. -/
theorem covered_16 (i : S16x2048x2048.Idx) : ∃ t : Fin cfg0.N, (cfg0.win 16).flush t = true ∧ i ∈ ((cfg0.win 16).blk t).view.set := by
  have h0 : (i 0).val < 16 := (i 0).isLt
  have h1 : (i 1).val < 2048 := (i 1).isLt
  have h2 : (i 2).val < 2048 := (i 2).isLt
  obtain ⟨e0, e1, e2⟩ := at_16 (ptOf (i 0) (i 1))
  have ev : (ptOf (i 0) (i 1)).val = 8 * (i 0).val + (i 1).val / 256 := rfl
  rw [ev] at e0 e1
  refine ⟨ptOf (i 0) (i 1), flush0_16 _, ?_⟩
  refine (ValueKit.mem_set_slice_whole_iff _ _ _ Iff.rfl).mpr (Rect.mem_set_unit.mpr fun a => ?_)
  match a with
  | ⟨0, _⟩ =>
    show cc0_transform_16 (grid0.coords (ptOf (i 0) (i 1))) 0 * 1 ≤ (i 0).val ∧ (i 0).val < cc0_transform_16 (grid0.coords (ptOf (i 0) (i 1))) 0 * 1 + 1
    rw [e0]; omega
  | ⟨1, _⟩ =>
    show cc0_transform_16 (grid0.coords (ptOf (i 0) (i 1))) 1 * 256 ≤ (i 1).val ∧ (i 1).val < cc0_transform_16 (grid0.coords (ptOf (i 0) (i 1))) 1 * 256 + 256
    rw [e1]; omega
  | ⟨2, _⟩ =>
    show cc0_transform_16 (grid0.coords (ptOf (i 0) (i 1))) 2 * 2048 ≤ (i 2).val ∧ (i 2).val < cc0_transform_16 (grid0.coords (ptOf (i 0) (i 1))) 2 * 2048 + 2048
    rw [e2]; omega

/-- THE FIRST RESULT after the last point. -/
theorem final_16 : (dats m 0 c).arrAt 16 cfg0.N = res1 m c := by
  refine (dats m 0 c).arrAt_eq_of_emb 16 (res1 m c) (fun t hf y => ?_) covered_16
  have hy : ∀ y : S1x256x2048.Idx, ∃ (p : Fin 256) (q : Fin 2048), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_16 t
  have i0 : bat t = (((cfg0.win 16).blk t).view.emb (ix3 0 p q) : S16x2048x2048.Idx) 0 := Fin.ext (by
    show t.val / 8 = cc0_transform_16 (grid0.coords t) 0 * 1 + 1 * 0
    rw [e0]; omega)
  have i1 : row t p = (((cfg0.win 16).blk t).view.emb (ix3 0 p q) : S16x2048x2048.Idx) 1 := Fin.ext (by
    show t.val % 8 * 256 + p.val = cc0_transform_16 (grid0.coords t) 1 * 256 + 1 * p.val
    rw [e1]; omega)
  have i2 : q = (((cfg0.win 16).blk t).view.emb (ix3 0 p q) : S16x2048x2048.Idx) 2 := Fin.ext (by
    show q.val = cc0_transform_16 (grid0.coords t) 2 * 2048 + 1 * q.val
    rw [e2]; omega)
  refine Eq.trans (b := ((dats m 0 c).after 16 t : S1x256x2048.Idx → EReal) (ix3 0 p q)) rfl ?_
  rw [after0_16]
  exact (out16_apply m c t p q).trans (res1_congr m c (congrArg Fin.val i0) (congrArg Fin.val i1) (congrArg Fin.val i2))

/-- The second result's block index is the batch and the row tile. -/
theorem at_17 : ∀ t : Fin grid0.N, cc0_transform_17 (grid0.coords t) 0 = t.val / 8 ∧ cc0_transform_17 (grid0.coords t) 1 = t.val % 8 ∧ cc0_transform_17 (grid0.coords t) 2 = 0 := by
  decide +kernel

/-- The second result. -/
def res2 : S16x2048x2048.Idx → EReal := fun i => tInp (a0 m c) (a1 m c) (a2 m c) (a3 m c) (a4 m c) (a5 m c) (a6 m c) (a7 m c) (a8 m c) (a9 m c) (a10 m c) (a11 m c) (a12 m c) (i 0) (i 1) (i 2)

/-- The formula at an entry whose numbers are known. -/
theorem res2_congr {b b' : Fin 16} {r r' k k' : Fin 2048} (hb : b.val = b'.val) (hr : r.val = r'.val) (hk : k.val = k'.val) :
    tInp (a0 m c) (a1 m c) (a2 m c) (a3 m c) (a4 m c) (a5 m c) (a6 m c) (a7 m c) (a8 m c) (a9 m c) (a10 m c) (a11 m c) (a12 m c) b r k
      = tInp (a0 m c) (a1 m c) (a2 m c) (a3 m c) (a4 m c) (a5 m c) (a6 m c) (a7 m c) (a8 m c) (a9 m c) (a10 m c) (a11 m c) (a12 m c) b' r' k' := by
  rw [Fin.ext hb, Fin.ext hr, Fin.ext hk]

/-- Every entry of the second result is in a block that is written back. -/
theorem covered_17 (i : S16x2048x2048.Idx) : ∃ t : Fin cfg0.N, (cfg0.win 17).flush t = true ∧ i ∈ ((cfg0.win 17).blk t).view.set := by
  have h0 : (i 0).val < 16 := (i 0).isLt
  have h1 : (i 1).val < 2048 := (i 1).isLt
  have h2 : (i 2).val < 2048 := (i 2).isLt
  obtain ⟨e0, e1, e2⟩ := at_17 (ptOf (i 0) (i 1))
  have ev : (ptOf (i 0) (i 1)).val = 8 * (i 0).val + (i 1).val / 256 := rfl
  rw [ev] at e0 e1
  refine ⟨ptOf (i 0) (i 1), flush0_17 _, ?_⟩
  refine (ValueKit.mem_set_slice_whole_iff _ _ _ Iff.rfl).mpr (Rect.mem_set_unit.mpr fun a => ?_)
  match a with
  | ⟨0, _⟩ =>
    show cc0_transform_17 (grid0.coords (ptOf (i 0) (i 1))) 0 * 1 ≤ (i 0).val ∧ (i 0).val < cc0_transform_17 (grid0.coords (ptOf (i 0) (i 1))) 0 * 1 + 1
    rw [e0]; omega
  | ⟨1, _⟩ =>
    show cc0_transform_17 (grid0.coords (ptOf (i 0) (i 1))) 1 * 256 ≤ (i 1).val ∧ (i 1).val < cc0_transform_17 (grid0.coords (ptOf (i 0) (i 1))) 1 * 256 + 256
    rw [e1]; omega
  | ⟨2, _⟩ =>
    show cc0_transform_17 (grid0.coords (ptOf (i 0) (i 1))) 2 * 2048 ≤ (i 2).val ∧ (i 2).val < cc0_transform_17 (grid0.coords (ptOf (i 0) (i 1))) 2 * 2048 + 2048
    rw [e2]; omega

/-- THE SECOND RESULT after the last point. -/
theorem final_17 : (dats m 0 c).arrAt 17 cfg0.N = res2 m c := by
  refine (dats m 0 c).arrAt_eq_of_emb 17 (res2 m c) (fun t hf y => ?_) covered_17
  have hy : ∀ y : S1x256x2048.Idx, ∃ (p : Fin 256) (q : Fin 2048), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_17 t
  have i0 : bat t = (((cfg0.win 17).blk t).view.emb (ix3 0 p q) : S16x2048x2048.Idx) 0 := Fin.ext (by
    show t.val / 8 = cc0_transform_17 (grid0.coords t) 0 * 1 + 1 * 0
    rw [e0]; omega)
  have i1 : row t p = (((cfg0.win 17).blk t).view.emb (ix3 0 p q) : S16x2048x2048.Idx) 1 := Fin.ext (by
    show t.val % 8 * 256 + p.val = cc0_transform_17 (grid0.coords t) 1 * 256 + 1 * p.val
    rw [e1]; omega)
  have i2 : q = (((cfg0.win 17).blk t).view.emb (ix3 0 p q) : S16x2048x2048.Idx) 2 := Fin.ext (by
    show q.val = cc0_transform_17 (grid0.coords t) 2 * 2048 + 1 * q.val
    rw [e2]; omega)
  refine Eq.trans (b := ((dats m 0 c).after 17 t : S1x256x2048.Idx → EReal) (ix3 0 p q)) rfl ?_
  rw [after0_17]
  exact (out17_apply m c t p q).trans (res2_congr m c (congrArg Fin.val i0) (congrArg Fin.val i1) (congrArg Fin.val i2))

/-- THE RUN: the two results, and the arguments as they were. -/
theorem run_values (g : Dev nD → PrngReg) : θ_run defs (onTc (τ := τ) (main (F := Ideal))) ⟨m, fun _ => 0, g⟩ fun r => ∀ c : Dev nD,
      r.2.mem ((c.tc : Thread nD τ).loc main_v13_0) = res1 m c
      ∧ r.2.mem ((c.tc : Thread nD τ).loc main_v13_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h.1 c).1 16 |>.trans (final_16 m c), (h.1 c).1 17 |>.trans (final_17 m c), h.2 c⟩) (θ_run_and (run_main m g) (unchanged m g))

end Cert.MergeIdeal.Gen

end
-- ==== Proof.MergeClaim.lean ====
module

public import proofs.«01_k».proof.Defs
public import proofs.«01_k».proof.Proof.Gen.Merge.Frame
public import proofs.«01_k».proof.Proof.MergeIdeal.Value
public import proofs.«01_k».proof.Proof.Gen.MergeRefIdeal.Run
public import Idealize.ShloMosaic.Lib.Quiescent

@[expose] public section

set_option maxRecDepth 16384

noncomputable section

/-! # The claims about the merge call -/

namespace Cert.MergeClaim

open Idealize.ShloMosaic hiding ix1 ix2 ix3 ix4 ix5
open Idealize.ShloMosaic.TcCoe Idealize.ShloMosaic.ValueIdx
open Idealize.SL Idealize.SL.Sem

/-- The kernel runs, leaves its arguments and every counter as they were. -/
theorem kernel_frame : quiescent_Merge := fun m g _ => Merge.Gen.frame m g

/-- The idealized kernel too. -/
theorem ideal_frame : quiescent_MergeIdeal := fun m g _ => MergeIdeal.Gen.frame m g

/-- The reference has no counters, so that its run leaves all of them at zero. -/
theorem ref_frame : quiescent_MergeRefIdeal := fun m g _ =>
  (θ_run MergeRefIdeal.defs _ _).mono (fun r h => ⟨fun c => (h c).2.2, sem_eq_zero_of_no_sems (by decide) r.2⟩) (MergeRefIdeal.Value.run (F := Ideal) m g)

/-- The kernel and the reference leave equal results over the extended reals. -/
theorem values : algebraic_MergeIdeal_MergeRefIdeal := fun m g m' g' _ he => by
  refine ⟨fun c => MergeIdeal.Gen.res1 m c, fun c => MergeIdeal.Gen.res2 m c, MergeIdeal.Gen.run_values m g, ?_⟩
  refine (θ_run MergeRefIdeal.defs _ _).mono (fun r hr c => ?_) (MergeRefIdeal.Value.run (F := Ideal) m' g')
  obtain ⟨h0, h1, hargs⟩ := hr c
  obtain ⟨e0, e1, e2, e3, e4, e5, e6, e7, e8, e9, e10, e11, e12, -⟩ := he c
  refine ⟨h0.trans ?_, h1.trans ?_, hargs⟩
  · refine (MergeRefIdeal.Read.val_main_v70_eq m' c).trans ?_
    rw [e0, e1, e2, e3, e4, e5, e6, e7, e8, e9]
    funext i
    obtain ⟨b, t, k, rfl⟩ : ∃ (b : Fin 16) (t k : Fin 2048), i = ix3 b t k := ⟨i 0, i 1, i 2, ValueIdx.eq_ix3 i⟩
    exact MergeRefIdeal.Read.v70_apply _ _ _ _ _ _ _ _ _ _ b t k
  · refine (MergeRefIdeal.Read.val_main_v90_eq m' c).trans ?_
    rw [e0, e1, e2, e3, e4, e5, e6, e7, e8, e9, e10, e11, e12]
    funext i
    obtain ⟨b, t, k, rfl⟩ : ∃ (b : Fin 16) (t k : Fin 2048), i = ix3 b t k := ⟨i 0, i 1, i 2, ValueIdx.eq_ix3 i⟩
    exact MergeRefIdeal.Read.v90_apply _ _ _ _ _ _ _ _ _ _ _ _ _ b t k

end Cert.MergeClaim

end
-- ==== Proof.FinalSpec.lean ====
module

public import proofs.«01_k».proof.Proof.Gen.FinalRefIdeal.Read
public import proofs.«01_k».proof.Proof.Rows

@[expose] public section

set_option maxRecDepth 16384

noncomputable section

/-! # The last call as one formula

Each token's four products are added up and normalised; the modulated sum is added to the residual. The reference is shown equal
to this formula here, the kernel in its own module. -/

namespace Cert.FinalSpec

open Idealize.ShloMosaic hiding ix1 ix2 ix3 ix4
open Idealize.ShloMosaic.ValueIdx

variable (y : (⟨4, ![4, 16, 2048, 2048]⟩ : Shape).Idx → EReal) (x : (⟨3, ![16, 2048, 2048]⟩ : Shape).Idx → EReal) (gt : (⟨3, ![16, 1, 2048]⟩ : Shape).Idx → EReal)
  (g : (⟨1, ![2048]⟩ : Shape).Idx → EReal)

/-- A token's four products added up, at column `k`. -/
def four (b : Fin 16) (t k : Fin 2048) : EReal := ∑ j : Fin 4, y (ix4 j b t k)

/-- The result at column `k`. -/
def fin (b : Fin 16) (t k : Fin 2048) : EReal :=
  x (ix3 b t k) + gt (ix3 b 0 k) * (four y b t k * Rows.scale (four y b t) 0x45000000#32 * g (ix1 k))

end Cert.FinalSpec

namespace Cert.FinalRefIdeal.Read

open Idealize.ShloMosaic hiding ix1 ix2 ix3 ix4
open Idealize.ShloMosaic.ValueIdx Cert.FinalSpec

variable (x0 : S4x16x2048x2048.Idx → EReal) (x1 : S16x2048x2048.Idx → EReal) (x2 : S16x1x2048.Idx → EReal) (x3 : S2048.Idx → EReal)

/-- The reference's sum of the four. -/
theorem four_apply (b : Fin 16) (t k : Fin 2048) : val_main_v1 (F := Ideal) x0 (ix3 b t k) = four x0 b t k := by
  rw [val_main_v1_apply]
  refine Eq.trans (congrArg₂ (· + ·) (Ideal.ofBits_zero_f32) (Finset.sum_congr rfl fun j _ => ?_)) (zero_add _)
  rw [val_main_v0_apply]
  refine congrArg x0 ?_
  funext a; match a with | ⟨0, _⟩ => rfl | ⟨1, _⟩ => rfl | ⟨2, _⟩ => rfl | ⟨3, _⟩ => rfl

/-- The reference's reciprocal root. -/
theorem scale_apply (b : Fin 16) (t : Fin 2048) : val_main_v9 (F := Ideal) x0 (ix3 b t 0) = Rows.scale (four x0 b t) 0x45000000#32 := by
  rw [val_main_v9_apply, val_main_v8_apply, val_main_v6_apply, val_main_v4_apply, val_main_v3_apply, val_main_v5_apply, val_main_v7_apply]
  have e : ∀ j, val_main_cst_0 (F := Ideal) j + ∑ k : Fin 2048, (val_main_v2 (F := Ideal) x0) (idx_main_v3 (idx_main_v4 (ix3 b t 0)) k)
      = ∑ k : Fin 2048, four x0 b t k * four x0 b t k := by
    intro j
    refine Eq.trans (congrArg₂ (· + ·) (Ideal.ofBits_zero_f32) (Finset.sum_congr rfl fun k _ => ?_)) (zero_add _)
    have i : idx_main_v3 (idx_main_v4 (ix3 b t 0)) k = ix3 b t k := by
      funext a; match a with | ⟨0, _⟩ => rfl | ⟨1, _⟩ => rfl | ⟨2, _⟩ => rfl
    rw [val_main_v2_apply, i, four_apply]; rfl
  rw [e]; rfl

/-- THE REFERENCE'S RESULT. -/
theorem v17_apply (b : Fin 16) (t k : Fin 2048) : val_main_v17 (F := Ideal) x0 x1 x2 x3 (ix3 b t k) = fin x0 x1 x2 x3 b t k := by
  rw [val_main_v17_apply, val_main_v16_apply, val_main_v14_apply, val_main_v11_apply, val_main_v10_apply, val_main_v15_apply, val_main_v13_apply, val_main_v12_apply]
  have i10 : idx_main_v10 (ix3 b t k) = ix3 b t 0 := by funext a; match a with | ⟨0, _⟩ => rfl | ⟨1, _⟩ => rfl | ⟨2, _⟩ => rfl
  have i12 : idx_main_v12 (idx_main_v13 (ix3 b t k)) = ix1 k := by funext a; match a with | ⟨0, _⟩ => rfl
  have i15 : idx_main_v15 (ix3 b t k) = ix3 b 0 k := by funext a; match a with | ⟨0, _⟩ => rfl | ⟨1, _⟩ => rfl | ⟨2, _⟩ => rfl
  rw [i10, i12, i15, scale_apply, four_apply]; rfl

end Cert.FinalRefIdeal.Read

end
-- ==== Proof.FinalIdeal.Value.lean ====
module

public import proofs.«01_k».proof.Proof.Gen.FinalIdeal.Frame
public import proofs.«01_k».proof.Proof.FinalSpec

@[expose] public section

set_option maxRecDepth 16384

noncomputable section

/-! # The last call's result array -/

namespace Cert.FinalIdeal.Gen

open Idealize.ShloMosaic hiding ix1 ix2 ix3 ix4
open Idealize.ShloMosaic.TcCoe Idealize.ShloMosaic.ValueIdx
open Idealize.SL Idealize.SL.Sem
open Cert.FinalSpec

variable (m : (ℓ : Loc nD τ sig) → Buf (Elt Ideal) ℓ) (c : Dev nD)

/-! ## The arguments -/

/-- The products, four for each token, -/
abbrev a0 : S4x16x2048x2048.Idx → EReal := m ((c : Thread nD τ).loc main_arg0)
/-- the residual, -/
abbrev a1 : S16x2048x2048.Idx → EReal := m ((c : Thread nD τ).loc main_arg1)
/-- the modulation -/
abbrev a2 : S16x1x2048.Idx → EReal := m ((c : Thread nD τ).loc main_arg2)
/-- and the gains. -/
abbrev a3 : S2048.Idx → EReal := m ((c : Thread nD τ).loc main_arg3)

/-- The gains get a unit axis. -/
theorem V_main_v0 (k : Fin 2048) : (V m c main_v0 : S1x2048.Idx → EReal) (ix2 0 k) = a3 m c (ix1 k) := by
  have e : V m c main_v0 = broadcastInDim S1x2048 ![1] bcast_S2048_S1x2048_1 (m ((c : Thread nD τ).loc main_arg3)) := rfl
  rw [e]
  exact broadcastInDim_apply _ _ _ _ (ix1 k) fun a => match a with | ⟨0, _⟩ => rfl

/-! ## The body's value, at an entry -/

/-- One of the four products' blocks without its unit axes. -/
theorem cast4_apply (x : S1x1x512x2048.Idx → EReal) (h : S1x1x512x2048.ShapeCasts S512x2048) (p : Fin 512) (k : Fin 2048) :
    shapeCast S512x2048 x h (ix2 p k) = x (ix4 0 0 p k) :=
  shapeCast_apply x h _ _ (by
    rw [Shape.rowMajor_val_four, Shape.rowMajor_val_two]
    show ((0 * 1 + 0) * 512 + p.val) * 2048 + k.val = p.val * 2048 + k.val
    omega)

/-- The normalised sum. -/
theorem pay5_apply (x0 x1 x2 x3 : FVec Ideal S1x1x512x2048 .bf16) (p : Fin 512) (k : Fin 2048) :
    k0_pay5 (F := Ideal) x0 x1 x2 x3 (ix2 p k)
      = (x0 (ix4 0 0 p k) + x1 (ix4 0 0 p k) + x2 (ix4 0 0 p k) + x3 (ix4 0 0 p k))
        * Rows.scale (fun k => x0 (ix4 0 0 p k) + x1 (ix4 0 0 p k) + x2 (ix4 0 0 p k) + x3 (ix4 0 0 p k)) 0x45000000#32 := by
  unfold k0_pay5
  have es : ∀ k, (addf (addf (addf (extf .f32 (shapeCast S512x2048 x0 shapeCasts_S1x1x512x2048_S512x2048) bitsLt_bf16_f32) (extf .f32 (shapeCast S512x2048 x1 shapeCasts_S1x1x512x2048_S512x2048) bitsLt_bf16_f32))
      (extf .f32 (shapeCast S512x2048 x2 shapeCasts_S1x1x512x2048_S512x2048) bitsLt_bf16_f32)) (extf .f32 (shapeCast S512x2048 x3 shapeCasts_S1x1x512x2048_S512x2048) bitsLt_bf16_f32) : FVec Ideal S512x2048 .f32) (ix2 p k)
      = x0 (ix4 0 0 p k) + x1 (ix4 0 0 p k) + x2 (ix4 0 0 p k) + x3 (ix4 0 0 p k) := fun k =>
    congrArg₂ (· + ·) (congrArg₂ (· + ·) (congrArg₂ (· + ·) (cast4_apply _ _ p k) (cast4_apply _ _ p k)) (cast4_apply _ _ p k)) (cast4_apply _ _ p k)
  refine congrArg₂ (· * ·) (es k) ((Rows.scale_apply _ reduces_S512x2048_S512 _ _ shapeCasts_S512_S512x1 broadcasts_S512x1_S512x2048 (by decide) 0x45000000#32 p k).trans (Rows.scale_congr es _))

/-- What is stored. -/
theorem pay1_apply (x : FVec Ideal S1x512x2048 .f32) (gt : FVec Ideal S1x1x2048 .f32) (g : FVec Ideal S1x2048 .f32) (z : FVec Ideal S512x2048 .f32) (p : Fin 512) (k : Fin 2048) :
    k0_pay1 (F := Ideal) (k0_pay2 x) (k0_pay3 gt) (k0_pay4 g) z (ix3 0 p k) = x (ix3 0 p k) + gt (ix3 0 0 k) * (z (ix2 p k) * g (ix2 0 k)) := by
  unfold k0_pay1 k0_pay2 k0_pay3 k0_pay4
  rw [shapeCast_self]
  refine (shapeCast_ab_1ab_apply _ _ _ _ _).trans ?_
  exact congrArg₂ (· + ·) (shapeCast_1ab_ab_apply _ _ _ _) (congrArg₂ (· * ·) ((Rows.down_apply _ _ (by decide) p k).trans (shapeCast_1ab_ab_apply _ _ _ _))
    (congrArg₂ (· * ·) rfl (Rows.down_apply _ _ (by decide) p k)))

/-! ## The blocks at coordinates -/

/-- A point's batch and row tile. -/
theorem coords_at : ∀ t : Fin grid0.N, (grid0.coords t 0).val = t.val / 4 ∧ (grid0.coords t 1).val = t.val % 4 := by
  decide +kernel

/-- The batch of a point -/
def bat (t : Fin cfg0.N) : Fin 16 := ⟨t.val / 4, by have h : t.val < 64 := Nat.lt_of_lt_of_eq t.isLt N_0; omega⟩
/-- and row `p` of its row tile. -/
def row (t : Fin cfg0.N) (p : Fin 512) : Fin 2048 := ⟨t.val % 4 * 512 + p.val, by omega⟩

/-- The products' block. -/
theorem y_apply (t : Fin cfg0.N) (j : Fin 4) (p : Fin 512) (k : Fin 2048) : (iblk m c 0 t : S4x1x512x2048.Idx → EReal) (ix4 j 0 p k) = a0 m c (ix4 j (bat t) (row t p) k) := by
  obtain ⟨e0, e1⟩ := coords_at t
  have h : t.val < 64 := Nat.lt_of_lt_of_eq t.isLt N_0
  refine (congrFun (V_main_arg0 m c) _).trans (congrArg (a0 m c) (funext fun a => Fin.ext ?_))
  match a with
  | ⟨0, _⟩ => show (0#32 : BitVec 32).toNat * 4 + 1 * j.val = j.val; rw [Nat.one_mul]; exact Nat.zero_add _
  | ⟨1, _⟩ =>
    show (BitVec.ofNat 32 (grid0.coords t 0).val).toNat * 1 + 1 * 0 = t.val / 4
    rw [e0, BitVec.toNat_ofNat, Nat.mod_eq_of_lt (by omega)]; omega
  | ⟨2, _⟩ =>
    show (BitVec.ofNat 32 (grid0.coords t 1).val).toNat * 512 + 1 * p.val = t.val % 4 * 512 + p.val
    rw [e1, BitVec.toNat_ofNat, Nat.mod_eq_of_lt (by omega)]; omega
  | ⟨3, _⟩ => show (0#32 : BitVec 32).toNat * 2048 + 1 * k.val = k.val; rw [Nat.one_mul]; exact Nat.zero_add _

/-- The residual's block. -/
theorem x_apply (t : Fin cfg0.N) (p : Fin 512) (k : Fin 2048) : (iblk m c 1 t : S1x512x2048.Idx → EReal) (ix3 0 p k) = a1 m c (ix3 (bat t) (row t p) k) := by
  obtain ⟨e0, e1⟩ := coords_at t
  have h : t.val < 64 := Nat.lt_of_lt_of_eq t.isLt N_0
  refine (congrFun (V_main_arg1 m c) _).trans (congrArg (a1 m c) (funext fun a => Fin.ext ?_))
  match a with
  | ⟨0, _⟩ =>
    show (BitVec.ofNat 32 (grid0.coords t 0).val).toNat * 1 + 1 * 0 = t.val / 4
    rw [e0, BitVec.toNat_ofNat, Nat.mod_eq_of_lt (by omega)]; omega
  | ⟨1, _⟩ =>
    show (BitVec.ofNat 32 (grid0.coords t 1).val).toNat * 512 + 1 * p.val = t.val % 4 * 512 + p.val
    rw [e1, BitVec.toNat_ofNat, Nat.mod_eq_of_lt (by omega)]; omega
  | ⟨2, _⟩ => show (0#32 : BitVec 32).toNat * 2048 + 1 * k.val = k.val; rw [Nat.one_mul]; exact Nat.zero_add _

/-- The modulation at the point's batch. -/
theorem gt_apply (t : Fin cfg0.N) (k : Fin 2048) : (iblk m c 2 t : S1x1x2048.Idx → EReal) (ix3 0 0 k) = a2 m c (ix3 (bat t) 0 k) := by
  obtain ⟨e0, -⟩ := coords_at t
  have h : t.val < 64 := Nat.lt_of_lt_of_eq t.isLt N_0
  refine (congrFun (V_main_arg2 m c) _).trans (congrArg (a2 m c) (funext fun a => Fin.ext ?_))
  match a with
  | ⟨0, _⟩ =>
    show (BitVec.ofNat 32 (grid0.coords t 0).val).toNat * 1 + 1 * 0 = t.val / 4
    rw [e0, BitVec.toNat_ofNat, Nat.mod_eq_of_lt (by omega)]; omega
  | ⟨1, _⟩ => rfl
  | ⟨2, _⟩ => show (0#32 : BitVec 32).toNat * 2048 + 1 * k.val = k.val; rw [Nat.one_mul]; exact Nat.zero_add _

/-- The gains. -/
theorem g_apply (t : Fin cfg0.N) (k : Fin 2048) : (iblk m c 3 t : S1x2048.Idx → EReal) (ix2 0 k) = a3 m c (ix1 k) := by
  refine Eq.trans (congrArg (V m c main_v0 : S1x2048.Idx → EReal) (funext fun a => Fin.ext ?_)) (V_main_v0 m c k)
  match a with
  | ⟨0, _⟩ => rfl
  | ⟨1, _⟩ => show (0#32 : BitVec 32).toNat * 2048 + 1 * k.val = k.val; rw [Nat.one_mul]; exact Nat.zero_add _

/-- A cut of one of the four products' blocks. -/
theorem ld4_apply (x : Vec Ideal S4x1x512x2048 .bf16) (j : ℕ) (hj : j < 4) (inb) (p : Fin 512) (k : Fin 2048) :
    (View.ld x (Rect.unit (s := S4x1x512x2048) ![j, 0, 0, 0] S1x1x512x2048.size inb) : S1x1x512x2048.Idx → EReal) (ix4 0 0 p k) = x (ix4 ⟨j, hj⟩ 0 p k) :=
  congrArg x (funext fun a => Fin.ext (by
    match a with
    | ⟨0, _⟩ => rfl
    | ⟨1, _⟩ => rfl
    | ⟨2, _⟩ => show 0 + 1 * p.val = p.val; omega
    | ⟨3, _⟩ => show 0 + 1 * k.val = k.val; omega))

/-- What the body leaves of its blocks. -/
theorem out_blocks (x0 : Vec Ideal S4x1x512x2048 .bf16) (x1 : Vec Ideal S1x512x2048 .f32) (x2 : Vec Ideal S1x1x2048 .f32) (x3 : Vec Ideal S1x2048 .f32) (p : Fin 512) (k : Fin 2048) :
    (out0_4 x0 x1 x2 x3 : S1x512x2048.Idx → EReal) (ix3 0 p k)
      = (x1 (ix3 0 p k) : EReal) + x2 (ix3 0 0 k) * ((∑ j : Fin 4, (x0 (ix4 j 0 p k) : EReal)) * Rows.scale (fun k => ∑ j : Fin 4, (x0 (ix4 j 0 p k) : EReal)) 0x45000000#32 * x3 (ix2 0 k)) := by
  unfold out0_4
  have z3 : (![0, 0, 0] : Fin 3 → ℕ) = fun _ => 0 := by decide
  have z2 : (![0, 0] : Fin 2 → ℕ) = fun _ => 0 := by decide
  rw [View.canon_unit_zero z3, View.ld_unit_zero z3, View.ld_unit_zero z3, View.ld_unit_zero z2]
  refine (pay1_apply x1 x2 x3 _ p k).trans ?_
  have es : ∀ k, (View.ld x0 r0_0 : S1x1x512x2048.Idx → EReal) (ix4 0 0 p k) + (View.ld x0 r0_1 : S1x1x512x2048.Idx → EReal) (ix4 0 0 p k)
      + (View.ld x0 r0_2 : S1x1x512x2048.Idx → EReal) (ix4 0 0 p k) + (View.ld x0 r0_3 : S1x1x512x2048.Idx → EReal) (ix4 0 0 p k)
      = ∑ j : Fin 4, (x0 (ix4 j 0 p k) : EReal) := fun k => by
    refine Eq.trans ?_ (Fin.sum_univ_four _).symm
    exact congrArg₂ (· + ·) (congrArg₂ (· + ·) (congrArg₂ (· + ·) (ld4_apply x0 0 (by decide) _ p k) (ld4_apply x0 1 (by decide) _ p k))
      (ld4_apply x0 2 (by decide) _ p k)) (ld4_apply x0 3 (by decide) _ p k)
  refine congrArg₂ (· + ·) rfl (congrArg₂ (· * ·) rfl (congrArg₂ (· * ·) ?_ rfl))
  exact (pay5_apply _ _ _ _ p k).trans (congrArg₂ (· * ·) (es k) (Rows.scale_congr es _))

/-- What the body leaves in the result's block, of blocks whose entries are known. -/
theorem out_known (x0 : Vec Ideal S4x1x512x2048 .bf16) (x1 : Vec Ideal S1x512x2048 .f32) (x2 : Vec Ideal S1x1x2048 .f32) (x3 : Vec Ideal S1x2048 .f32) (b : Fin 16) (r : Fin 2048) (p : Fin 512)
    (h0 : ∀ (j : Fin 4) (k : Fin 2048), x0 (ix4 j 0 p k) = a0 m c (ix4 j b r k)) (h1 : ∀ k : Fin 2048, x1 (ix3 0 p k) = a1 m c (ix3 b r k))
    (h2 : ∀ k : Fin 2048, x2 (ix3 0 0 k) = a2 m c (ix3 b 0 k)) (h3 : ∀ k : Fin 2048, x3 (ix2 0 k) = a3 m c (ix1 k)) (k : Fin 2048) :
    (out0_4 x0 x1 x2 x3 : S1x512x2048.Idx → EReal) (ix3 0 p k) = fin (a0 m c) (a1 m c) (a2 m c) (a3 m c) b r k := by
  refine (out_blocks x0 x1 x2 x3 p k).trans ?_
  have es : ∀ k, (∑ j : Fin 4, (x0 (ix4 j 0 p k) : EReal)) = four (a0 m c) b r k := fun k => Finset.sum_congr rfl fun j _ => h0 j k
  rw [es k, h1 k, h2 k, h3 k, Rows.scale_congr es]
  rfl

/-- What it leaves at a point. -/
theorem out_apply (t : Fin cfg0.N) (p : Fin 512) (k : Fin 2048) :
    (out0_4 (iblk m c 0 t) (iblk m c 1 t) (iblk m c 2 t) (iblk m c 3 t) : S1x512x2048.Idx → EReal) (ix3 0 p k)
      = fin (a0 m c) (a1 m c) (a2 m c) (a3 m c) (bat t) (row t p) k :=
  out_known m c (iblk m c 0 t) (iblk m c 1 t) (iblk m c 2 t) (iblk m c 3 t) (bat t) (row t p) p
    (fun j k => y_apply m c t j p k) (fun k => x_apply m c t p k) (fun k => gt_apply m c t k) (fun k => g_apply m c t k) k

/-! ## The result array -/

/-- The result's block index is the batch and the row tile. -/
theorem at_4 : ∀ t : Fin grid0.N, cc0_transform_4 (grid0.coords t) 0 = t.val / 4 ∧ cc0_transform_4 (grid0.coords t) 1 = t.val % 4 ∧ cc0_transform_4 (grid0.coords t) 2 = 0 := by
  decide +kernel

/-- The point of row `r` of batch `b`. -/
def ptOf (b : Fin 16) (r : Fin 2048) : Fin cfg0.N := ⟨4 * b.val + r.val / 512, Nat.lt_of_lt_of_eq (by omega) N_0.symm⟩

/-- The result. -/
def res : S16x2048x2048.Idx → EReal := fun i => fin (a0 m c) (a1 m c) (a2 m c) (a3 m c) (i 0) (i 1) (i 2)

/-- The formula at an entry whose numbers are known. -/
theorem fin_congr {b b' : Fin 16} {r r' k k' : Fin 2048} (hb : b.val = b'.val) (hr : r.val = r'.val) (hk : k.val = k'.val) :
    fin (a0 m c) (a1 m c) (a2 m c) (a3 m c) b r k = fin (a0 m c) (a1 m c) (a2 m c) (a3 m c) b' r' k' := by
  rw [Fin.ext hb, Fin.ext hr, Fin.ext hk]

/-- Every entry of the result is in a block that is written back. -/
theorem covered (i : S16x2048x2048.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 2048 := (i 2).isLt
  obtain ⟨e0, e1, e2⟩ := at_4 (ptOf (i 0) (i 1))
  have ev : (ptOf (i 0) (i 1)).val = 4 * (i 0).val + (i 1).val / 512 := rfl
  rw [ev] at e0 e1
  refine ⟨ptOf (i 0) (i 1), flush0_4 _, ?_⟩
  refine (ValueKit.mem_set_slice_whole_iff _ _ _ Iff.rfl).mpr (Rect.mem_set_unit.mpr fun a => ?_)
  match a with
  | ⟨0, _⟩ =>
    show cc0_transform_4 (grid0.coords (ptOf (i 0) (i 1))) 0 * 1 ≤ (i 0).val ∧ (i 0).val < cc0_transform_4 (grid0.coords (ptOf (i 0) (i 1))) 0 * 1 + 1
    rw [e0]; omega
  | ⟨1, _⟩ =>
    show cc0_transform_4 (grid0.coords (ptOf (i 0) (i 1))) 1 * 512 ≤ (i 1).val ∧ (i 1).val < cc0_transform_4 (grid0.coords (ptOf (i 0) (i 1))) 1 * 512 + 512
    rw [e1]; omega
  | ⟨2, _⟩ =>
    show cc0_transform_4 (grid0.coords (ptOf (i 0) (i 1))) 2 * 2048 ≤ (i 2).val ∧ (i 2).val < cc0_transform_4 (grid0.coords (ptOf (i 0) (i 1))) 2 * 2048 + 2048
    rw [e2]; omega

/-- THE RESULT after the last point. -/
theorem final_4 : (dats m 0 c).arrAt 4 cfg0.N = res m c := by
  refine (dats m 0 c).arrAt_eq_of_emb 4 (res m c) (fun t hf y => ?_) covered
  have hy : ∀ y : S1x512x2048.Idx, ∃ (p : Fin 512) (q : Fin 2048), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_4 t
  have i0 : bat t = (((cfg0.win 4).blk t).view.emb (ix3 0 p q) : S16x2048x2048.Idx) 0 := Fin.ext (by
    show t.val / 4 = cc0_transform_4 (grid0.coords t) 0 * 1 + 1 * 0
    rw [e0]; omega)
  have i1 : row t p = (((cfg0.win 4).blk t).view.emb (ix3 0 p q) : S16x2048x2048.Idx) 1 := Fin.ext (by
    show t.val % 4 * 512 + p.val = cc0_transform_4 (grid0.coords t) 1 * 512 + 1 * p.val
    rw [e1]; omega)
  have i2 : q = (((cfg0.win 4).blk t).view.emb (ix3 0 p q) : S16x2048x2048.Idx) 2 := Fin.ext (by
    show q.val = cc0_transform_4 (grid0.coords t) 2 * 2048 + 1 * q.val
    rw [e2]; omega)
  refine Eq.trans (b := ((dats m 0 c).after 4 t : S1x512x2048.Idx → EReal) (ix3 0 p q)) rfl ?_
  rw [after0_4]
  exact (out_apply m c t p q).trans (fin_congr m c (congrArg Fin.val i0) (congrArg Fin.val i1) (congrArg Fin.val i2))

/-- THE RUN: the result, and the arguments as they were. -/
theorem run_values (g : Dev nD → PrngReg) : θ_run defs (onTc (τ := τ) (main (F := Ideal))) ⟨m, fun _ => 0, g⟩ fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4 |>.trans (final_4 m c), h.2 c⟩) (θ_run_and (run_main m g) (unchanged m g))

end Cert.FinalIdeal.Gen

end
-- ==== Proof.FinalClaim.lean ====
module

public import proofs.«01_k».proof.Defs
public import proofs.«01_k».proof.Proof.Gen.Final.Frame
public import proofs.«01_k».proof.Proof.FinalIdeal.Value
public import proofs.«01_k».proof.Proof.Gen.FinalRefIdeal.Run
public import Idealize.ShloMosaic.Lib.Quiescent

@[expose] public section

set_option maxRecDepth 16384

noncomputable section

/-! # The claims about the last call -/

namespace Cert.FinalClaim

open Idealize.ShloMosaic hiding ix1 ix2 ix3 ix4
open Idealize.ShloMosaic.TcCoe Idealize.ShloMosaic.ValueIdx
open Idealize.SL Idealize.SL.Sem

/-- The kernel runs, leaves its arguments and every counter as they were. -/
theorem kernel_frame : quiescent_Final := fun m g _ => Final.Gen.frame m g

/-- The idealized kernel too. -/
theorem ideal_frame : quiescent_FinalIdeal := fun m g _ => FinalIdeal.Gen.frame m g

/-- The reference has no counters, so that its run leaves all of them at zero. -/
theorem ref_frame : quiescent_FinalRefIdeal := fun m g _ =>
  (θ_run FinalRefIdeal.defs _ _).mono (fun r h => ⟨fun c => (h c).2, sem_eq_zero_of_no_sems (by decide) r.2⟩) (FinalRefIdeal.Value.run (F := Ideal) m g)

/-- The kernel and the reference leave equal results over the extended reals. -/
theorem values : algebraic_FinalIdeal_FinalRefIdeal := fun m g m' g' _ he => by
  refine ⟨fun c => FinalIdeal.Gen.res m c, FinalIdeal.Gen.run_values m g, ?_⟩
  refine (θ_run FinalRefIdeal.defs _ _).mono (fun r hr c => ?_) (FinalRefIdeal.Value.run (F := Ideal) m' g')
  obtain ⟨h0, hargs⟩ := hr c
  obtain ⟨e0, e1, e2, e3⟩ := he c
  refine ⟨h0.trans ?_, hargs⟩
  refine (FinalRefIdeal.Read.val_main_v17_eq _ _ _ _).trans ?_
  rw [e0, e1, e2, e3]
  funext i
  obtain ⟨b, t, k, rfl⟩ : ∃ (b : Fin 16) (t k : Fin 2048), i = ix3 b t k := ⟨i 0, i 1, i 2, ValueIdx.eq_ix3 i⟩
  exact FinalRefIdeal.Read.v17_apply _ _ _ _ b t k

end Cert.FinalClaim

end
-- ==== Proof.FinalSampleSpec.lean ====
module

public import proofs.«01_k».proof.Proof.Gen.FinalSampleRefIdeal.Read
public import proofs.«01_k».proof.Proof.Rows

@[expose] public section

set_option maxRecDepth 16384

noncomputable section

/-! # The last call as one formula, at the sample's shapes

Each sequence's new token's four products are added up and normalised; the sum, modulated by its own row, is added to the residual. The reference is shown equal
to this formula here, the kernel in its own module. -/

namespace Cert.FinalSampleSpec

open Idealize.ShloMosaic hiding ix1 ix2 ix3 ix4
open Idealize.ShloMosaic.ValueIdx

variable (y : (⟨4, ![4, 1, 32, 2048]⟩ : Shape).Idx → EReal) (x : (⟨3, ![1, 32, 2048]⟩ : Shape).Idx → EReal) (gt : (⟨3, ![1, 32, 2048]⟩ : Shape).Idx → EReal)
  (g : (⟨1, ![2048]⟩ : Shape).Idx → EReal)

/-- A token's four products added up, at column `k`. -/
def four (t : Fin 32) (k : Fin 2048) : EReal := ∑ j : Fin 4, y (ix4 j 0 t k)

/-- The result at column `k`. -/
def fin (t : Fin 32) (k : Fin 2048) : EReal :=
  x (ix3 0 t k) + gt (ix3 0 t k) * (four y t k * Rows.scale (four y t) 0x45000000#32 * g (ix1 k))

end Cert.FinalSampleSpec

namespace Cert.FinalSampleRefIdeal.Read

open Idealize.ShloMosaic hiding ix1 ix2 ix3 ix4
open Idealize.ShloMosaic.ValueIdx Cert.FinalSampleSpec

variable (x0 : S4x1x32x2048.Idx → EReal) (x1 : S1x32x2048.Idx → EReal) (x2 : S1x32x2048.Idx → EReal) (x3 : S2048.Idx → EReal)

/-- The reference's sum of the four. -/
theorem four_apply (t : Fin 32) (k : Fin 2048) : val_main_v1 (F := Ideal) x0 (ix3 0 t k) = four x0 t k := by
  rw [val_main_v1_apply]
  refine Eq.trans (congrArg₂ (· + ·) (Ideal.ofBits_zero_f32) (Finset.sum_congr rfl fun j _ => ?_)) (zero_add _)
  rw [val_main_v0_apply]
  refine congrArg x0 ?_
  funext a; match a with | ⟨0, _⟩ => rfl | ⟨1, _⟩ => rfl | ⟨2, _⟩ => rfl | ⟨3, _⟩ => rfl

/-- The reference's reciprocal root. -/
theorem scale_apply (t : Fin 32) : val_main_v9 (F := Ideal) x0 (ix3 0 t 0) = Rows.scale (four x0 t) 0x45000000#32 := by
  rw [val_main_v9_apply, val_main_v8_apply, val_main_v6_apply, val_main_v4_apply, val_main_v3_apply, val_main_v5_apply, val_main_v7_apply]
  have e : ∀ j, val_main_cst_0 (F := Ideal) j + ∑ k : Fin 2048, (val_main_v2 (F := Ideal) x0) (idx_main_v3 (idx_main_v4 (ix3 0 t 0)) k)
      = ∑ k : Fin 2048, four x0 t k * four x0 t k := by
    intro j
    refine Eq.trans (congrArg₂ (· + ·) (Ideal.ofBits_zero_f32) (Finset.sum_congr rfl fun k _ => ?_)) (zero_add _)
    have i : idx_main_v3 (idx_main_v4 (ix3 0 t 0)) k = ix3 0 t k := by
      funext a; match a with | ⟨0, _⟩ => rfl | ⟨1, _⟩ => rfl | ⟨2, _⟩ => rfl
    rw [val_main_v2_apply, i, four_apply]; rfl
  rw [e]; rfl

/-- THE REFERENCE'S RESULT. -/
theorem v16_apply (t : Fin 32) (k : Fin 2048) : val_main_v16 (F := Ideal) x0 x1 x2 x3 (ix3 0 t k) = fin x0 x1 x2 x3 t k := by
  rw [val_main_v16_apply, val_main_v15_apply, val_main_v14_apply, val_main_v11_apply, val_main_v10_apply, val_main_v13_apply, val_main_v12_apply]
  have i10 : idx_main_v10 (ix3 0 t k) = ix3 0 t 0 := by funext a; match a with | ⟨0, _⟩ => rfl | ⟨1, _⟩ => rfl | ⟨2, _⟩ => rfl
  have i12 : idx_main_v12 (idx_main_v13 (ix3 0 t k)) = ix1 k := by funext a; match a with | ⟨0, _⟩ => rfl
  rw [i10, i12, scale_apply, four_apply]; rfl

end Cert.FinalSampleRefIdeal.Read

end
-- ==== Proof.FinalSampleIdeal.Value.lean ====
module

public import proofs.«01_k».proof.Proof.Gen.FinalSampleIdeal.Frame
public import proofs.«01_k».proof.Proof.FinalSampleSpec

@[expose] public section

set_option maxRecDepth 16384

noncomputable section

/-! # The last call's result array, at the sample's shapes -/

namespace Cert.FinalSampleIdeal.Gen

open Idealize.ShloMosaic hiding ix1 ix2 ix3 ix4
open Idealize.ShloMosaic.TcCoe Idealize.ShloMosaic.ValueIdx
open Idealize.SL Idealize.SL.Sem
open Cert.FinalSampleSpec

variable (m : (ℓ : Loc nD τ sig) → Buf (Elt Ideal) ℓ) (c : Dev nD)

/-! ## The arguments -/

/-- The products, four for each token, -/
abbrev a0 : S4x1x32x2048.Idx → EReal := m ((c : Thread nD τ).loc main_arg0)
/-- the residual, -/
abbrev a1 : S1x32x2048.Idx → EReal := m ((c : Thread nD τ).loc main_arg1)
/-- the modulation -/
abbrev a2 : S1x32x2048.Idx → EReal := m ((c : Thread nD τ).loc main_arg2)
/-- and the gains. -/
abbrev a3 : S2048.Idx → EReal := m ((c : Thread nD τ).loc main_arg3)

/-- The gains get a unit axis. -/
theorem V_main_v0 (k : Fin 2048) : (V m c main_v0 : S1x2048.Idx → EReal) (ix2 0 k) = a3 m c (ix1 k) := by
  have e : V m c main_v0 = broadcastInDim S1x2048 ![1] bcast_S2048_S1x2048_1 (m ((c : Thread nD τ).loc main_arg3)) := rfl
  rw [e]
  exact broadcastInDim_apply _ _ _ _ (ix1 k) fun a => match a with | ⟨0, _⟩ => rfl

/-! ## The body's value, at an entry -/

/-- One of the four products' blocks without its unit axes. -/
theorem cast4_apply (x : S1x1x32x2048.Idx → EReal) (h : S1x1x32x2048.ShapeCasts S32x2048) (p : Fin 32) (k : Fin 2048) :
    shapeCast S32x2048 x h (ix2 p k) = x (ix4 0 0 p k) :=
  shapeCast_apply x h _ _ (by
    rw [Shape.rowMajor_val_four, Shape.rowMajor_val_two]
    show ((0 * 1 + 0) * 32 + p.val) * 2048 + k.val = p.val * 2048 + k.val
    omega)

/-- The normalised sum. -/
theorem pay5_apply (x0 x1 x2 x3 : FVec Ideal S1x1x32x2048 .bf16) (p : Fin 32) (k : Fin 2048) :
    k0_pay5 (F := Ideal) x0 x1 x2 x3 (ix2 p k)
      = (x0 (ix4 0 0 p k) + x1 (ix4 0 0 p k) + x2 (ix4 0 0 p k) + x3 (ix4 0 0 p k))
        * Rows.scale (fun k => x0 (ix4 0 0 p k) + x1 (ix4 0 0 p k) + x2 (ix4 0 0 p k) + x3 (ix4 0 0 p k)) 0x45000000#32 := by
  unfold k0_pay5
  have es : ∀ k, (addf (addf (addf (extf .f32 (shapeCast S32x2048 x0 shapeCasts_S1x1x32x2048_S32x2048) bitsLt_bf16_f32) (extf .f32 (shapeCast S32x2048 x1 shapeCasts_S1x1x32x2048_S32x2048) bitsLt_bf16_f32))
      (extf .f32 (shapeCast S32x2048 x2 shapeCasts_S1x1x32x2048_S32x2048) bitsLt_bf16_f32)) (extf .f32 (shapeCast S32x2048 x3 shapeCasts_S1x1x32x2048_S32x2048) bitsLt_bf16_f32) : FVec Ideal S32x2048 .f32) (ix2 p k)
      = x0 (ix4 0 0 p k) + x1 (ix4 0 0 p k) + x2 (ix4 0 0 p k) + x3 (ix4 0 0 p k) := fun k =>
    congrArg₂ (· + ·) (congrArg₂ (· + ·) (congrArg₂ (· + ·) (cast4_apply _ _ p k) (cast4_apply _ _ p k)) (cast4_apply _ _ p k)) (cast4_apply _ _ p k)
  refine congrArg₂ (· * ·) (es k) ((Rows.scale_apply _ reduces_S32x2048_S32 _ _ shapeCasts_S32_S32x1 broadcasts_S32x1_S32x2048 (by decide) 0x45000000#32 p k).trans (Rows.scale_congr es _))

/-- What is stored. -/
theorem pay1_apply (x : FVec Ideal S1x32x2048 .f32) (gt : FVec Ideal S1x32x2048 .f32) (g : FVec Ideal S1x2048 .f32) (z : FVec Ideal S32x2048 .f32) (p : Fin 32) (k : Fin 2048) :
    k0_pay1 (F := Ideal) (k0_pay2 x) (k0_pay3 gt) (k0_pay4 g) z (ix3 0 p k) = x (ix3 0 p k) + gt (ix3 0 p k) * (z (ix2 p k) * g (ix2 0 k)) := by
  unfold k0_pay1 k0_pay2 k0_pay3 k0_pay4
  rw [shapeCast_self]
  refine (shapeCast_ab_1ab_apply _ _ _ _ _).trans ?_
  exact congrArg₂ (· + ·) (shapeCast_1ab_ab_apply _ _ _ _) (congrArg₂ (· * ·) (shapeCast_1ab_ab_apply _ _ _ _)
    (congrArg₂ (· * ·) rfl (Rows.down_apply _ _ (by decide) p k)))

/-! ## The blocks at coordinates: each is the whole array -/

/-- The grid's one point. -/
theorem coords_at : ∀ t : Fin grid0.N, (grid0.coords t 0).val = 0 ∧ (grid0.coords t 1).val = 0 := by
  decide +kernel

/-- The products' block. -/
theorem y_apply (t : Fin cfg0.N) (j : Fin 4) (p : Fin 32) (k : Fin 2048) : (iblk m c 0 t : S4x1x32x2048.Idx → EReal) (ix4 j 0 p k) = a0 m c (ix4 j 0 p k) := by
  obtain ⟨e0, e1⟩ := coords_at t
  refine (congrFun (V_main_arg0 m c) _).trans (congrArg (a0 m c) (funext fun a => Fin.ext ?_))
  match a with
  | ⟨0, _⟩ => show (0#32 : BitVec 32).toNat * 4 + 1 * j.val = j.val; rw [Nat.one_mul]; exact Nat.zero_add _
  | ⟨1, _⟩ => show (BitVec.ofNat 32 (grid0.coords t 0).val).toNat * 1 + 1 * 0 = 0; rw [e0]; rfl
  | ⟨2, _⟩ => show (BitVec.ofNat 32 (grid0.coords t 1).val).toNat * 32 + 1 * p.val = p.val; rw [e1, Nat.one_mul]; exact Nat.zero_add _
  | ⟨3, _⟩ => show (0#32 : BitVec 32).toNat * 2048 + 1 * k.val = k.val; rw [Nat.one_mul]; exact Nat.zero_add _

/-- The residual's block. -/
theorem x_apply (t : Fin cfg0.N) (p : Fin 32) (k : Fin 2048) : (iblk m c 1 t : S1x32x2048.Idx → EReal) (ix3 0 p k) = a1 m c (ix3 0 p k) := by
  obtain ⟨e0, e1⟩ := coords_at t
  refine (congrFun (V_main_arg1 m c) _).trans (congrArg (a1 m c) (funext fun a => Fin.ext ?_))
  match a with
  | ⟨0, _⟩ => show (BitVec.ofNat 32 (grid0.coords t 0).val).toNat * 1 + 1 * 0 = 0; rw [e0]; rfl
  | ⟨1, _⟩ => show (BitVec.ofNat 32 (grid0.coords t 1).val).toNat * 32 + 1 * p.val = p.val; rw [e1, Nat.one_mul]; exact Nat.zero_add _
  | ⟨2, _⟩ => show (0#32 : BitVec 32).toNat * 2048 + 1 * k.val = k.val; rw [Nat.one_mul]; exact Nat.zero_add _

/-- The modulation's block. -/
theorem gt_apply (t : Fin cfg0.N) (p : Fin 32) (k : Fin 2048) : (iblk m c 2 t : S1x32x2048.Idx → EReal) (ix3 0 p k) = a2 m c (ix3 0 p k) := by
  obtain ⟨e0, e1⟩ := coords_at t
  refine (congrFun (V_main_arg2 m c) _).trans (congrArg (a2 m c) (funext fun a => Fin.ext ?_))
  match a with
  | ⟨0, _⟩ => show (BitVec.ofNat 32 (grid0.coords t 0).val).toNat * 1 + 1 * 0 = 0; rw [e0]; rfl
  | ⟨1, _⟩ => show (BitVec.ofNat 32 (grid0.coords t 1).val).toNat * 32 + 1 * p.val = p.val; rw [e1, Nat.one_mul]; exact Nat.zero_add _
  | ⟨2, _⟩ => show (0#32 : BitVec 32).toNat * 2048 + 1 * k.val = k.val; rw [Nat.one_mul]; exact Nat.zero_add _

/-- The gains. -/
theorem g_apply (t : Fin cfg0.N) (k : Fin 2048) : (iblk m c 3 t : S1x2048.Idx → EReal) (ix2 0 k) = a3 m c (ix1 k) := by
  refine Eq.trans (congrArg (V m c main_v0 : S1x2048.Idx → EReal) (funext fun a => Fin.ext ?_)) (V_main_v0 m c k)
  match a with
  | ⟨0, _⟩ => rfl
  | ⟨1, _⟩ => show (0#32 : BitVec 32).toNat * 2048 + 1 * k.val = k.val; rw [Nat.one_mul]; exact Nat.zero_add _

/-- A cut of one of the four products' blocks. -/
theorem ld4_apply (x : Vec Ideal S4x1x32x2048 .bf16) (j : ℕ) (hj : j < 4) (inb) (p : Fin 32) (k : Fin 2048) :
    (View.ld x (Rect.unit (s := S4x1x32x2048) ![j, 0, 0, 0] S1x1x32x2048.size inb) : S1x1x32x2048.Idx → EReal) (ix4 0 0 p k) = x (ix4 ⟨j, hj⟩ 0 p k) :=
  congrArg x (funext fun a => Fin.ext (by
    match a with
    | ⟨0, _⟩ => rfl
    | ⟨1, _⟩ => rfl
    | ⟨2, _⟩ => show 0 + 1 * p.val = p.val; omega
    | ⟨3, _⟩ => show 0 + 1 * k.val = k.val; omega))

/-- What the body leaves of its blocks. -/
theorem out_blocks (x0 : Vec Ideal S4x1x32x2048 .bf16) (x1 : Vec Ideal S1x32x2048 .f32) (x2 : Vec Ideal S1x32x2048 .f32) (x3 : Vec Ideal S1x2048 .f32) (p : Fin 32) (k : Fin 2048) :
    (out0_4 x0 x1 x2 x3 : S1x32x2048.Idx → EReal) (ix3 0 p k)
      = (x1 (ix3 0 p k) : EReal) + x2 (ix3 0 p k) * ((∑ j : Fin 4, (x0 (ix4 j 0 p k) : EReal)) * Rows.scale (fun k => ∑ j : Fin 4, (x0 (ix4 j 0 p k) : EReal)) 0x45000000#32 * x3 (ix2 0 k)) := by
  unfold out0_4
  have z3 : (![0, 0, 0] : Fin 3 → ℕ) = fun _ => 0 := by decide
  have z2 : (![0, 0] : Fin 2 → ℕ) = fun _ => 0 := by decide
  rw [View.canon_unit_zero z3, View.ld_unit_zero z3, View.ld_unit_zero z3, View.ld_unit_zero z2]
  refine (pay1_apply x1 x2 x3 _ p k).trans ?_
  have es : ∀ k, (View.ld x0 r0_0 : S1x1x32x2048.Idx → EReal) (ix4 0 0 p k) + (View.ld x0 r0_1 : S1x1x32x2048.Idx → EReal) (ix4 0 0 p k)
      + (View.ld x0 r0_2 : S1x1x32x2048.Idx → EReal) (ix4 0 0 p k) + (View.ld x0 r0_3 : S1x1x32x2048.Idx → EReal) (ix4 0 0 p k)
      = ∑ j : Fin 4, (x0 (ix4 j 0 p k) : EReal) := fun k => by
    refine Eq.trans ?_ (Fin.sum_univ_four _).symm
    exact congrArg₂ (· + ·) (congrArg₂ (· + ·) (congrArg₂ (· + ·) (ld4_apply x0 0 (by decide) _ p k) (ld4_apply x0 1 (by decide) _ p k))
      (ld4_apply x0 2 (by decide) _ p k)) (ld4_apply x0 3 (by decide) _ p k)
  refine congrArg₂ (· + ·) rfl (congrArg₂ (· * ·) rfl (congrArg₂ (· * ·) ?_ rfl))
  exact (pay5_apply _ _ _ _ p k).trans (congrArg₂ (· * ·) (es k) (Rows.scale_congr es _))

/-- What the body leaves in the result's block, of blocks whose entries are known. -/
theorem out_known (x0 : Vec Ideal S4x1x32x2048 .bf16) (x1 : Vec Ideal S1x32x2048 .f32) (x2 : Vec Ideal S1x32x2048 .f32) (x3 : Vec Ideal S1x2048 .f32) (p : Fin 32)
    (h0 : ∀ (j : Fin 4) (k : Fin 2048), x0 (ix4 j 0 p k) = a0 m c (ix4 j 0 p k)) (h1 : ∀ k : Fin 2048, x1 (ix3 0 p k) = a1 m c (ix3 0 p k))
    (h2 : ∀ k : Fin 2048, x2 (ix3 0 p k) = a2 m c (ix3 0 p k)) (h3 : ∀ k : Fin 2048, x3 (ix2 0 k) = a3 m c (ix1 k)) (k : Fin 2048) :
    (out0_4 x0 x1 x2 x3 : S1x32x2048.Idx → EReal) (ix3 0 p k) = fin (a0 m c) (a1 m c) (a2 m c) (a3 m c) p k := by
  refine (out_blocks x0 x1 x2 x3 p k).trans ?_
  have es : ∀ k, (∑ j : Fin 4, (x0 (ix4 j 0 p k) : EReal)) = four (a0 m c) p k := fun k => Finset.sum_congr rfl fun j _ => h0 j k
  rw [es k, h1 k, h2 k, h3 k, Rows.scale_congr es]
  rfl

/-- What it leaves at a point. -/
theorem out_apply (t : Fin cfg0.N) (p : Fin 32) (k : Fin 2048) :
    (out0_4 (iblk m c 0 t) (iblk m c 1 t) (iblk m c 2 t) (iblk m c 3 t) : S1x32x2048.Idx → EReal) (ix3 0 p k)
      = fin (a0 m c) (a1 m c) (a2 m c) (a3 m c) p k :=
  out_known m c (iblk m c 0 t) (iblk m c 1 t) (iblk m c 2 t) (iblk m c 3 t) p
    (fun j k => y_apply m c t j p k) (fun k => x_apply m c t p k) (fun k => gt_apply m c t p k) (fun k => g_apply m c t k) k

/-! ## The result array -/

/-- The result's block is the whole array. -/
theorem at_4 : ∀ t : Fin grid0.N, cc0_transform_4 (grid0.coords t) 0 = 0 ∧ cc0_transform_4 (grid0.coords t) 1 = 0 ∧ cc0_transform_4 (grid0.coords t) 2 = 0 := by
  decide +kernel

/-- The result. -/
def res : S1x32x2048.Idx → EReal := fun i => fin (a0 m c) (a1 m c) (a2 m c) (a3 m c) (i 1) (i 2)

/-- The formula at an entry whose numbers are known. -/
theorem fin_congr {r r' : Fin 32} {k k' : Fin 2048} (hr : r.val = r'.val) (hk : k.val = k'.val) :
    fin (a0 m c) (a1 m c) (a2 m c) (a3 m c) r k = fin (a0 m c) (a1 m c) (a2 m c) (a3 m c) r' k' := by
  rw [Fin.ext hr, Fin.ext hk]

/-- The grid's point. -/
def pt : Fin cfg0.N := ⟨0, Nat.lt_of_lt_of_eq (by omega) N_0.symm⟩

/-- Every entry of the result is in the block that is written back. -/
theorem covered (i : S1x32x2048.Idx) : ∃ t : Fin cfg0.N, (cfg0.win 4).flush t = true ∧ i ∈ ((cfg0.win 4).blk t).view.set := by
  have h0 : (i 0).val < 1 := (i 0).isLt
  have h1 : (i 1).val < 32 := (i 1).isLt
  have h2 : (i 2).val < 2048 := (i 2).isLt
  obtain ⟨e0, e1, e2⟩ := at_4 pt
  refine ⟨pt, flush0_4 _, ?_⟩
  refine (ValueKit.mem_set_slice_whole_iff _ _ _ Iff.rfl).mpr (Rect.mem_set_unit.mpr fun a => ?_)
  match a with
  | ⟨0, _⟩ =>
    show cc0_transform_4 (grid0.coords pt) 0 * 1 ≤ (i 0).val ∧ (i 0).val < cc0_transform_4 (grid0.coords pt) 0 * 1 + 1
    rw [e0]; omega
  | ⟨1, _⟩ =>
    show cc0_transform_4 (grid0.coords pt) 1 * 32 ≤ (i 1).val ∧ (i 1).val < cc0_transform_4 (grid0.coords pt) 1 * 32 + 32
    rw [e1]; omega
  | ⟨2, _⟩ =>
    show cc0_transform_4 (grid0.coords pt) 2 * 2048 ≤ (i 2).val ∧ (i 2).val < cc0_transform_4 (grid0.coords pt) 2 * 2048 + 2048
    rw [e2]; omega

/-- THE RESULT after the last point. -/
theorem final_4 : (dats m 0 c).arrAt 4 cfg0.N = res m c := by
  refine (dats m 0 c).arrAt_eq_of_emb 4 (res m c) (fun t hf y => ?_) covered
  have hy : ∀ y : S1x32x2048.Idx, ∃ (p : Fin 32) (q : Fin 2048), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_4 t
  have i1 : p = (((cfg0.win 4).blk t).view.emb (ix3 0 p q) : S1x32x2048.Idx) 1 := Fin.ext (by
    show p.val = cc0_transform_4 (grid0.coords t) 1 * 32 + 1 * p.val
    rw [e1]; omega)
  have i2 : q = (((cfg0.win 4).blk t).view.emb (ix3 0 p q) : S1x32x2048.Idx) 2 := Fin.ext (by
    show q.val = cc0_transform_4 (grid0.coords t) 2 * 2048 + 1 * q.val
    rw [e2]; omega)
  refine Eq.trans (b := ((dats m 0 c).after 4 t : S1x32x2048.Idx → EReal) (ix3 0 p q)) rfl ?_
  rw [after0_4]
  exact (out_apply m c t p q).trans (fin_congr m c (congrArg Fin.val i1) (congrArg Fin.val i2))

/-- THE RUN: the result, and the arguments as they were. -/
theorem run_values (g : Dev nD → PrngReg) : θ_run defs (onTc (τ := τ) (main (F := Ideal))) ⟨m, fun _ => 0, g⟩ fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4 |>.trans (final_4 m c), h.2 c⟩) (θ_run_and (run_main m g) (unchanged m g))

end Cert.FinalSampleIdeal.Gen

end
-- ==== Proof.FinalSampleClaim.lean ====
module

public import proofs.«01_k».proof.Defs
public import proofs.«01_k».proof.Proof.Gen.FinalSample.Frame
public import proofs.«01_k».proof.Proof.FinalSampleIdeal.Value
public import proofs.«01_k».proof.Proof.Gen.FinalSampleRefIdeal.Run
public import Idealize.ShloMosaic.Lib.Quiescent

@[expose] public section

set_option maxRecDepth 16384

noncomputable section

/-! # The claims about the last call, at the sample's shapes -/

namespace Cert.FinalSampleClaim

open Idealize.ShloMosaic hiding ix1 ix2 ix3 ix4
open Idealize.ShloMosaic.TcCoe Idealize.ShloMosaic.ValueIdx
open Idealize.SL Idealize.SL.Sem

/-- The kernel runs, leaves its arguments and every counter as they were. -/
theorem kernel_frame : quiescent_FinalSample := fun m g _ => FinalSample.Gen.frame m g

/-- The idealized kernel too. -/
theorem ideal_frame : quiescent_FinalSampleIdeal := fun m g _ => FinalSampleIdeal.Gen.frame m g

/-- The reference has no counters, so that its run leaves all of them at zero. -/
theorem ref_frame : quiescent_FinalSampleRefIdeal := fun m g _ =>
  (θ_run FinalSampleRefIdeal.defs _ _).mono (fun r h => ⟨fun c => (h c).2, sem_eq_zero_of_no_sems (by decide) r.2⟩) (FinalSampleRefIdeal.Value.run (F := Ideal) m g)

/-- The kernel and the reference leave equal results over the extended reals. -/
theorem values : algebraic_FinalSampleIdeal_FinalSampleRefIdeal := fun m g m' g' _ he => by
  refine ⟨fun c => FinalSampleIdeal.Gen.res m c, FinalSampleIdeal.Gen.run_values m g, ?_⟩
  refine (θ_run FinalSampleRefIdeal.defs _ _).mono (fun r hr c => ?_) (FinalSampleRefIdeal.Value.run (F := Ideal) m' g')
  obtain ⟨h0, hargs⟩ := hr c
  obtain ⟨e0, e1, e2, e3⟩ := he c
  refine ⟨h0.trans ?_, hargs⟩
  refine (FinalSampleRefIdeal.Read.val_main_v16_eq _ _ _ _).trans ?_
  rw [e0, e1, e2, e3]
  funext i
  obtain ⟨t, k, rfl⟩ : ∃ (t : Fin 32) (k : Fin 2048), i = ix3 0 t k :=
    ⟨i 1, i 2, (ValueIdx.eq_ix3 i).trans (congrArg (fun z => ix3 z (i 1) (i 2)) (Fin.ext (by have : (i 0).val < 1 := (i 0).isLt; show (i 0).val = 0; omega)))⟩
  exact FinalSampleRefIdeal.Read.v16_apply _ _ _ _ t k

end Cert.FinalSampleClaim

end
-- ==== Proof.WinSpec.lean ====
module

public import proofs.«01_k».proof.Proof.Gen.WinRefIdeal.Read
public import Idealize.ShloMosaic.Lib.Pipeline.Value
public import Idealize.ShloMosaic.Lib.Pointwise.Reduce
public import Idealize.ShloMosaic.Lib.IdealHost

@[expose] public section

set_option maxRecDepth 16384

noncomputable section

/-! # The sample's window attention as formulas

Each sequence's window moves on by one row, the new row coming last; the new token's eight heads, four of each of two groups,
attend to the window's 512 rows. The reference is shown equal to these formulas here, the kernel in its own modules. -/

namespace Cert.WinSpec

open Idealize.ShloMosaic hiding ix1 ix2 ix3 ix4
open Idealize.ShloMosaic.ValueIdx

/-- The largest of `n` numbers. -/
def top {n : ℕ} (s : Fin n → EReal) : EReal := (Finset.univ : Finset (Fin n)).fold max (Ideal.ofBits .f32 0xFF800000#32) s

/-- The weight of the `r`th of `n` scores: its exponential over the sum of all, which is kept from nought. -/
def weight {n : ℕ} (s : Fin n → EReal) (r : Fin n) : EReal :=
  Ideal.div (Ideal.exp (s r - top s)) (max (∑ k, Ideal.exp (s k - top s)) (Ideal.ofBits .f32 0x0DA24260#32))

/-- A head's slope: `1 / 2 ^ (n + 1)` for the `n`th of the eight. -/
def incline (n : ℕ) : EReal := (((1 : ℝ) / 2 ^ (n + 1) : ℝ) : EReal)

/-- Row `r`'s position, counted from the new token's, which is the last row. -/
def pos (r : Fin 512) : EReal := (((r.val : ℝ) - 511 : ℝ) : EReal)

variable (q : (⟨3, ![32, 1, 1024]⟩ : Shape).Idx → EReal) (buf : (⟨3, ![32, 512, 512]⟩ : Shape).Idx → EReal) (new : (⟨3, ![32, 1, 512]⟩ : Shape).Idx → EReal)

/-- The window's next state at row `r`, column `k`. -/
def next (b : Fin 32) (r k : Fin 512) : EReal :=
  if h : r.val < 511 then buf (ix3 b ⟨r.val + 1, by omega⟩ k) else new (ix3 b 0 k)

/-- Lane `j` of head `h` of group `g` of the queries. -/
def lane (g : Fin 2) (h : Fin 4) (j : Fin 128) : Fin 1024 := ⟨(g.val * 4 + h.val) * 128 + j.val, by omega⟩
/-- Lane `j` of group `g` of the keys -/
def klane (g : Fin 2) (j : Fin 128) : Fin 512 := ⟨g.val * 128 + j.val, by omega⟩
/-- and of the values. -/
def vlane (g : Fin 2) (j : Fin 128) : Fin 512 := ⟨256 + g.val * 128 + j.val, by omega⟩

/-- The score of row `r` for head `h` of group `g`. -/
def score (b : Fin 32) (g : Fin 2) (h : Fin 4) (r : Fin 512) : EReal :=
  (∑ j : Fin 128, q (ix3 b 0 (lane g h j)) * next buf new b r (klane g j)) * Ideal.ofBits .f32 0x3DB504F3#32 + incline (g.val * 4 + h.val) * pos r

/-- The head's result at lane `d`. -/
def attn (b : Fin 32) (g : Fin 2) (h : Fin 4) (d : Fin 128) : EReal :=
  ∑ r : Fin 512, weight (score q buf new b g h) r * next buf new b r (vlane g d)

/-- Equal scores have equal weights. -/
theorem weight_congr {n : ℕ} {s s' : Fin n → EReal} (h : ∀ k, s k = s' k) (r : Fin n) : weight s r = weight s' r := by
  rw [funext h]

end Cert.WinSpec

namespace Cert.WinRefIdeal.Read

open Idealize.ShloMosaic hiding ix1 ix2 ix3 ix4
open Idealize.ShloMosaic.ValueIdx Cert.WinSpec

variable (x0 : S32x1x1024.Idx → EReal) (x1 : S32x512x512.Idx → EReal) (x2 : S32x1x512.Idx → EReal)

/-- The reference's next window. -/
theorem v1_apply (b : Fin 32) (r k : Fin 512) : val_main_v1 (F := Ideal) x1 x2 (ix3 b r k) = next x1 x2 b r k := by
  rw [val_main_v1_apply]
  unfold val_main_v0 next
  by_cases h : r.val < 511
  · rw [dif_pos h]
    refine concatenate_apply_piece (t := S32x513x512) 1 [⟨S32x512x512, x1⟩, ⟨S32x1x512, x2⟩] _ _ 0 (by show 0 < 2; omega) S32x512x512 x1 rfl rfl 0 rfl (ix3 b ⟨r.val + 1, by omega⟩ k) (fun a ha => ?_) ?_
    · match a with | ⟨0, _⟩ => rfl | ⟨1, _⟩ => exact absurd rfl ha | ⟨2, _⟩ => rfl
    · show 0 + (r.val + 1) = 1 + r.val; omega
  · rw [dif_neg h]
    refine concatenate_apply_piece (t := S32x513x512) 1 [⟨S32x512x512, x1⟩, ⟨S32x1x512, x2⟩] _ _ 1 (by show 1 < 2; omega) S32x1x512 x2 rfl rfl 512 rfl (ix3 b 0 k) (fun a ha => ?_) ?_
    · match a with | ⟨0, _⟩ => rfl | ⟨1, _⟩ => exact absurd rfl ha | ⟨2, _⟩ => rfl
    · show 512 + 0 = 1 + r.val; omega

/-- A query lane. -/
theorem q_apply (b : Fin 32) (g : Fin 2) (h : Fin 4) (j : Fin 128) : val_main_v4 (F := Ideal) x0 (ix4 b g h j) = x0 (ix3 b 0 (lane g h j)) := by
  rw [val_main_v4_apply, val_main_v3_apply]
  refine congrArg x0 (funext fun a => Fin.ext ?_)
  match a with
  | ⟨0, _⟩ => show (((b.val * 2 + g.val) * 4 + h.val) * 128 + j.val) / 1024 = b.val; omega
  | ⟨1, _⟩ => rfl
  | ⟨2, _⟩ => show (((b.val * 2 + g.val) * 4 + h.val) * 128 + j.val) % 1024 = (g.val * 4 + h.val) * 128 + j.val; omega

/-- A key lane. -/
theorem k_apply (b : Fin 32) (r : Fin 512) (g : Fin 2) (j : Fin 128) : val_main_v16 (F := Ideal) x1 x2 (ix4 b r g j) = next x1 x2 b r (klane g j) := by
  rw [val_main_v16_apply, val_main_v15_apply, val_main_v2_apply, ← v1_apply]
  refine congrArg (val_main_v1 (F := Ideal) x1 x2) (funext fun a => Fin.ext ?_)
  have e0 : (((b.val * 512 + r.val) * 2 + g.val) * 128 + j.val) / 131072 = b.val := by omega
  have e1 : (((b.val * 512 + r.val) * 2 + g.val) * 128 + j.val) / 256 % 512 = r.val := by omega
  have e3 : (((b.val * 512 + r.val) * 2 + g.val) * 128 + j.val) / 128 % 2 = g.val := by omega
  have e4 : (((b.val * 512 + r.val) * 2 + g.val) * 128 + j.val) % 128 = j.val := by omega
  match a with
  | ⟨0, _⟩ =>
    show ((((((((b.val * 512 + r.val) * 2 + g.val) * 128 + j.val) / 131072 * 512 + (((b.val * 512 + r.val) * 2 + g.val) * 128 + j.val) / 256 % 512) * 2 + 0) * 2
      + (((b.val * 512 + r.val) * 2 + g.val) * 128 + j.val) / 128 % 2) * 128 + (((b.val * 512 + r.val) * 2 + g.val) * 128 + j.val) % 128) / 262144) = b.val
    rw [e0, e1, e3, e4]; omega
  | ⟨1, _⟩ =>
    show ((((((((b.val * 512 + r.val) * 2 + g.val) * 128 + j.val) / 131072 * 512 + (((b.val * 512 + r.val) * 2 + g.val) * 128 + j.val) / 256 % 512) * 2 + 0) * 2
      + (((b.val * 512 + r.val) * 2 + g.val) * 128 + j.val) / 128 % 2) * 128 + (((b.val * 512 + r.val) * 2 + g.val) * 128 + j.val) % 128) / 512 % 512) = r.val
    rw [e0, e1, e3, e4]; omega
  | ⟨2, _⟩ =>
    show ((((((((b.val * 512 + r.val) * 2 + g.val) * 128 + j.val) / 131072 * 512 + (((b.val * 512 + r.val) * 2 + g.val) * 128 + j.val) / 256 % 512) * 2 + 0) * 2
      + (((b.val * 512 + r.val) * 2 + g.val) * 128 + j.val) / 128 % 2) * 128 + (((b.val * 512 + r.val) * 2 + g.val) * 128 + j.val) % 128) % 512) = g.val * 128 + j.val
    rw [e0, e1, e3, e4]; omega

/-- A value lane. -/
theorem v_apply (b : Fin 32) (r : Fin 512) (g : Fin 2) (j : Fin 128) : val_main_v40 (F := Ideal) x1 x2 (ix4 b r g j) = next x1 x2 b r (vlane g j) := by
  rw [val_main_v40_apply, val_main_v39_apply, val_main_v2_apply, ← v1_apply]
  refine congrArg (val_main_v1 (F := Ideal) x1 x2) (funext fun a => Fin.ext ?_)
  have e0 : (((b.val * 512 + r.val) * 2 + g.val) * 128 + j.val) / 131072 = b.val := by omega
  have e1 : (((b.val * 512 + r.val) * 2 + g.val) * 128 + j.val) / 256 % 512 = r.val := by omega
  have e3 : (((b.val * 512 + r.val) * 2 + g.val) * 128 + j.val) / 128 % 2 = g.val := by omega
  have e4 : (((b.val * 512 + r.val) * 2 + g.val) * 128 + j.val) % 128 = j.val := by omega
  match a with
  | ⟨0, _⟩ =>
    show ((((((((b.val * 512 + r.val) * 2 + g.val) * 128 + j.val) / 131072 * 512 + (((b.val * 512 + r.val) * 2 + g.val) * 128 + j.val) / 256 % 512) * 2 + (1 + 0)) * 2
      + (((b.val * 512 + r.val) * 2 + g.val) * 128 + j.val) / 128 % 2) * 128 + (((b.val * 512 + r.val) * 2 + g.val) * 128 + j.val) % 128) / 262144) = b.val
    rw [e0, e1, e3, e4]; omega
  | ⟨1, _⟩ =>
    show ((((((((b.val * 512 + r.val) * 2 + g.val) * 128 + j.val) / 131072 * 512 + (((b.val * 512 + r.val) * 2 + g.val) * 128 + j.val) / 256 % 512) * 2 + (1 + 0)) * 2
      + (((b.val * 512 + r.val) * 2 + g.val) * 128 + j.val) / 128 % 2) * 128 + (((b.val * 512 + r.val) * 2 + g.val) * 128 + j.val) % 128) / 512 % 512) = r.val
    rw [e0, e1, e3, e4]; omega
  | ⟨2, _⟩ =>
    show ((((((((b.val * 512 + r.val) * 2 + g.val) * 128 + j.val) / 131072 * 512 + (((b.val * 512 + r.val) * 2 + g.val) * 128 + j.val) / 256 % 512) * 2 + (1 + 0)) * 2
      + (((b.val * 512 + r.val) * 2 + g.val) * 128 + j.val) / 128 % 2) * 128 + (((b.val * 512 + r.val) * 2 + g.val) * 128 + j.val) % 128) % 512) = 256 + g.val * 128 + j.val
    rw [e0, e1, e3, e4]; omega

/-- Two, shifted up `n` places, as a number. -/
theorem shift_apply : ∀ n : Fin 8, (IntOp.shli .host (2#32) (BitVec.ofNat 32 n.val)).toInt = 2 ^ (n.val + 1) := by
  decide +kernel

/-- A head's slope. -/
theorem slope_apply (g : Fin 2) (h : Fin 4) : val_main_v11 (F := Ideal) (ix2 g h) = incline (g.val * 4 + h.val) := by
  rw [val_main_v11_apply]
  have i : idx_main_v11 (ix2 g h) = ix1 (⟨g.val * 4 + h.val, by omega⟩ : Fin 8) := by
    funext a; match a with | ⟨0, _⟩ => rfl
  rw [i, val_main_v10_apply, val_main_v9_apply, val_main_v8_apply, val_main_v7_apply]
  refine Eq.trans (b := Ideal.div (Ideal.ofBits .f32 0x3F800000#32) (((IntOp.shli .host (2#32) (BitVec.ofNat 32 (⟨g.val * 4 + h.val, by omega⟩ : Fin 8).val)).toInt : ℝ) : EReal)) rfl ?_
  rw [shift_apply, Ideal.ofBits_one_f32]
  have hp : (((2 ^ (g.val * 4 + h.val + 1) : ℤ) : ℝ)) ≠ 0 := by positivity
  unfold Ideal.div incline
  rw [if_neg (by exact_mod_cast hp), one_mul, ← EReal.coe_inv]
  congr 1
  push_cast
  rw [one_div]

/-- The distance of a row, the other way round. -/
theorem dist_int : ∀ r : Fin 512, (511#32 - BitVec.ofNat 32 r.val).toInt = 511 - (r.val : ℤ) := by
  decide +kernel

/-- A row's distance. -/
theorem dist_apply (r : Fin 512) : val_main_v21 (F := Ideal) (ix1 r) = -pos r := by
  rw [val_main_v21_apply, val_main_v14_apply, val_main_v13_apply]
  refine Eq.trans (b := ((((511#32 - BitVec.ofNat 32 r.val).toInt : ℝ)) : EReal)) rfl ?_
  rw [dist_int]
  unfold pos
  rw [← EReal.coe_neg]
  congr 1
  push_cast
  ring

/-- The reference's score. -/
theorem score_apply (b : Fin 32) (g : Fin 2) (h : Fin 4) (r : Fin 512) : val_main_v27 (F := Ideal) x0 x1 x2 (ix4 b g h r) = score x0 x1 x2 b g h r := by
  rw [val_main_v27_apply, val_main_v26_apply, val_main_v25_apply, val_main_v23_apply, val_main_v24_apply, val_main_v20_apply, val_main_v22_apply,
    val_main_v19_apply, val_main_v18_apply, val_main_v17_apply]
  have i20 : idx_main_v20 (idx_main_v23 (idx_main_v26 (ix4 b g h r))) = ix2 g h := by funext a; match a with | ⟨0, _⟩ => rfl | ⟨1, _⟩ => rfl
  have i22 : idx_main_v22 (idx_main_v24 (idx_main_v26 (ix4 b g h r))) = ix1 r := by funext a; match a with | ⟨0, _⟩ => rfl
  rw [i20, i22, slope_apply, dist_apply]
  have ed : ∑ k : Fin 128, (val_main_v4 (F := Ideal) x0) (lidx_main_v17 (ix4 b g h r) k) * (val_main_v16 (F := Ideal) x1 x2) (ridx_main_v17 (ix4 b g h r) k)
      = ∑ j : Fin 128, x0 (ix3 b 0 (lane g h j)) * next x1 x2 b r (klane g j) := by
    refine Finset.sum_congr rfl fun k _ => ?_
    have il : lidx_main_v17 (ix4 b g h r) k = ix4 b g h k := by funext a; match a with | ⟨0, _⟩ => rfl | ⟨1, _⟩ => rfl | ⟨2, _⟩ => rfl | ⟨3, _⟩ => rfl
    have ir : ridx_main_v17 (ix4 b g h r) k = ix4 b r g k := by funext a; match a with | ⟨0, _⟩ => rfl | ⟨1, _⟩ => rfl | ⟨2, _⟩ => rfl | ⟨3, _⟩ => rfl
    rw [il, ir, q_apply, k_apply]
  rw [ed]
  unfold score
  refine Eq.trans (b := (∑ j : Fin 128, x0 (ix3 b 0 (lane g h j)) * next x1 x2 b r (klane g j)) * Ideal.ofBits .f32 0x3DB504F3#32 - incline (g.val * 4 + h.val) * -pos r) rfl ?_
  rw [mul_neg, sub_eq_add_neg, neg_neg]

/-- The reference's largest score. -/
theorem top_apply (b : Fin 32) (g : Fin 2) (h : Fin 4) : val_main_v28 (F := Ideal) x0 x1 x2 (ix3 b g h) = top (score x0 x1 x2 b g h) := by
  unfold val_main_v28
  rw [Host.reduce_eq_fold]
  simp only [pointwise]
  unfold top
  refine congrArg₂ (fun z f => (Finset.univ : Finset (Fin 512)).fold max z f) rfl (funext fun r => ?_)
  exact score_apply x0 x1 x2 b g h r

/-- The reference's exponential. -/
theorem exp_apply (b : Fin 32) (g : Fin 2) (h : Fin 4) (r : Fin 512) :
    val_main_v32 (F := Ideal) x0 x1 x2 (ix4 b g h r) = Ideal.exp (score x0 x1 x2 b g h r - top (score x0 x1 x2 b g h)) := by
  rw [val_main_v32_apply, val_main_v31_apply, val_main_v30_apply, val_main_v29_apply]
  have i : idx_main_v29 (idx_main_v30 (ix4 b g h r)) = ix3 b g h := by funext a; match a with | ⟨0, _⟩ => rfl | ⟨1, _⟩ => rfl | ⟨2, _⟩ => rfl
  rw [i, score_apply, top_apply]; rfl

/-- The reference's weights. -/
theorem weight_apply (b : Fin 32) (g : Fin 2) (h : Fin 4) (r : Fin 512) : val_main_v38 (F := Ideal) x0 x1 x2 (ix4 b g h r) = weight (score x0 x1 x2 b g h) r := by
  rw [val_main_v38_apply, val_main_v37_apply, val_main_v36_apply, val_main_v34_apply, val_main_v33_apply, exp_apply]
  have e : ∀ j, val_main_cst_3 (F := Ideal) j + ∑ k : Fin 512, (val_main_v32 (F := Ideal) x0 x1 x2) (idx_main_v33 (idx_main_v34 (idx_main_v37 (ix4 b g h r))) k)
      = ∑ k : Fin 512, Ideal.exp (score x0 x1 x2 b g h k - top (score x0 x1 x2 b g h)) := by
    intro j
    refine Eq.trans (congrArg₂ (· + ·) (Ideal.ofBits_zero_f32) (Finset.sum_congr rfl fun k _ => ?_)) (zero_add _)
    have i : idx_main_v33 (idx_main_v34 (idx_main_v37 (ix4 b g h r))) k = ix4 b g h k := by
      funext a; match a with | ⟨0, _⟩ => rfl | ⟨1, _⟩ => rfl | ⟨2, _⟩ => rfl | ⟨3, _⟩ => rfl
    rw [i, exp_apply]
  rw [e]; rfl

/-- THE REFERENCE'S RESULT at lane `d` of a head. -/
theorem v43_apply (b : Fin 32) (g : Fin 2) (h : Fin 4) (d : Fin 128) : val_main_v43 (F := Ideal) x0 x1 x2 (ix3 b 0 (lane g h d)) = attn x0 x1 x2 b g h d := by
  rw [val_main_v43_apply, val_main_v42_apply, val_main_v41_apply]
  have i42 : idx_main_v42 (ix3 b 0 (lane g h d)) = ix4 b g h d := by
    funext a
    refine Fin.ext ?_
    match a with
    | ⟨0, _⟩ => show ((b.val * 1 + 0) * 1024 + ((g.val * 4 + h.val) * 128 + d.val)) / 1024 = b.val; omega
    | ⟨1, _⟩ => show ((b.val * 1 + 0) * 1024 + ((g.val * 4 + h.val) * 128 + d.val)) / 512 % 2 = g.val; omega
    | ⟨2, _⟩ => show ((b.val * 1 + 0) * 1024 + ((g.val * 4 + h.val) * 128 + d.val)) / 128 % 4 = h.val; omega
    | ⟨3, _⟩ => show ((b.val * 1 + 0) * 1024 + ((g.val * 4 + h.val) * 128 + d.val)) % 128 = d.val; omega
  rw [i42]
  refine Finset.sum_congr rfl fun k _ => ?_
  have il : lidx_main_v41 (ix4 b g h d) k = ix4 b g h k := by funext a; match a with | ⟨0, _⟩ => rfl | ⟨1, _⟩ => rfl | ⟨2, _⟩ => rfl | ⟨3, _⟩ => rfl
  have ir : ridx_main_v41 (ix4 b g h d) k = ix4 b k g d := by funext a; match a with | ⟨0, _⟩ => rfl | ⟨1, _⟩ => rfl | ⟨2, _⟩ => rfl | ⟨3, _⟩ => rfl
  rw [il, ir, weight_apply, v_apply]

end Cert.WinRefIdeal.Read

end
-- ==== Proof.WinIdeal.Payloads.lean ====
module

public import proofs.«01_k».proof.Proof.Gen.WinIdeal.Frame
public import proofs.«01_k».proof.Proof.WinSpec
public import proofs.«01_k».proof.Proof.Rows
public import Idealize.ShloMosaic.Lib.KernelVsHost
public import Idealize.ShloMosaic.Lib.MatmulPlain

@[expose] public section

set_option maxRecDepth 16384

noncomputable section

/-! # The window kernel's values, at an entry -/

namespace Cert.WinIdeal.Gen

open Idealize.ShloMosaic hiding ix1 ix2 ix3 ix4
open Idealize.ShloMosaic.TcCoe Idealize.ShloMosaic.ValueIdx
open Idealize.SL Idealize.SL.Sem
open Cert.WinSpec

/-! ## The next window -/

/-- A row's number is the last one's only if it is the last. -/
theorem last_word : ∀ r : Fin 512, IntOp.cmpi .eq (BitVec.ofNat 32 r.val) (511#32) = if r.val < 511 then 0#1 else 1#1 := by
  decide +kernel

/-- The next window: the buffer moved up one row, the new row last. -/
theorem pay3_apply (n : FVec Ideal S1x1x512 .f32) (w : FVec Ideal S1x512x512 .f32) (r k : Fin 512) :
    k0_pay3 (F := Ideal) n w (ix2 r k) = if h : r.val < 511 then w (ix3 0 ⟨r.val + 1, by omega⟩ k) else n (ix3 0 0 k) := by
  unfold k0_pay3
  rw [shapeCast_self]
  have ei : cmpi .eq (iota .tc S512x512 32 [0] iota_S512x512_d0_w32) (broadcast S512x512 511#32) (ix2 r k) = if r.val < 511 then 0#1 else 1#1 := by
    refine Eq.trans ?_ (last_word r)
    exact congrArg (fun z => IntOp.cmpi .eq z (511#32)) (iota_single_apply _ _ _ _ _ _)
  refine Eq.trans (b := Scalar.select (if r.val < 511 then 0#1 else 1#1) (broadcastTo S512x512 (shapeCast S1x512 n shapeCasts_S1x1x512_S1x512) broadcasts_S1x512_S512x512 (ix2 r k))
    (dynamicRotate 0 511#32 none (shapeCast S512x512 w shapeCasts_S1x512x512_S512x512) rotates_S512x512_d0 (ix2 r k))) (congrArg (fun z => Scalar.select z _ _) ei) ?_
  by_cases h : r.val < 511
  · rw [if_pos h, dif_pos h]
    refine Eq.trans (b := dynamicRotate 0 511#32 none (shapeCast S512x512 w shapeCasts_S1x512x512_S512x512) rotates_S512x512_d0 (ix2 r k)) rfl ?_
    refine (dynamicRotate_apply 0 511#32 _ rotates_S512x512_d0 (ix2 r k) (ix2 ⟨r.val + 1, by omega⟩ k) fun a => ?_).trans (shapeCast_1ab_ab_apply _ _ _ _)
    match a with
    | ⟨0, _⟩ => show r.val + 1 = (r.val + 512 - 511 % 512) % 512; omega
    | ⟨1, _⟩ => rfl
  · rw [if_neg h, dif_neg h]
    refine Eq.trans (b := broadcastTo S512x512 (shapeCast S1x512 n shapeCasts_S1x1x512_S1x512) broadcasts_S1x512_S512x512 (ix2 r k)) rfl ?_
    exact (Rows.down_apply _ _ (by decide) r k).trans (shapeCast_1ab_ab_apply _ _ _ _)

/-- It is stored with a unit axis. -/
theorem pay4_apply (n : FVec Ideal S1x1x512 .f32) (w : FVec Ideal S1x512x512 .f32) (r k : Fin 512) :
    k0_pay4 (F := Ideal) n w (ix3 0 r k) = k0_pay3 (F := Ideal) n w (ix2 r k) :=
  shapeCast_ab_1ab_apply (k0_pay3 (F := Ideal) n w) shapeCasts_S512x512_S1x512x512 0 r k

/-! ## The scores -/

/-- The row of head `h` in a group's eight, of which four are unused. -/
def up (h : Fin 4) : Fin 8 := ⟨h.val, by omega⟩

/-- The queries without their unit axis. -/
theorem pay5_apply (x : FVec Ideal S1x1x1024 .bf16) (l : Fin 1024) : k0_pay5 (F := Ideal) x (ix2 0 l) = x (ix3 0 0 l) :=
  shapeCast_1ab_ab_apply _ _ _ _

/-- A cut of the queries. -/
theorem cut_apply (x : FVec Ideal S1x1024 .f32) (o : ℕ) (h : S1x1024.Slices ![0, o] S1x128) (j : Fin 128) (l : Fin 1024) (hl : l.val = o + j.val) :
    extractStridedSlice S1x128 ![0, o] x h (ix2 0 j) = x (ix2 0 l) :=
  extractStridedSlice_apply _ _ _ _ _ fun a => match a with | ⟨0, _⟩ => rfl | ⟨1, _⟩ => hl

/-- A cut of the window's columns. -/
theorem cols_apply (w : FVec Ideal S512x512 .f32) (o : ℕ) (h : S512x512.Slices ![0, o] S512x128) (r : Fin 512) (j : Fin 128) (l : Fin 512) (hl : l.val = o + j.val) :
    extractStridedSlice S512x128 ![0, o] w h (ix2 r j) = w (ix2 r l) :=
  extractStridedSlice_apply _ _ _ _ _ fun a => match a with | ⟨0, _⟩ => (Nat.zero_add _).symm | ⟨1, _⟩ => hl

/-- Four rows and four rows of noughts, one under the other. -/
theorem stack_apply (y0 y1 y2 y3 : FVec Ideal S1x128 .f32) (z : FVec Ideal S4x128 .f32) (h : Fin 4) (j : Fin 128) :
    concatenate S8x128 0 [⟨S1x128, y0⟩, ⟨S1x128, y1⟩, ⟨S1x128, y2⟩, ⟨S1x128, y3⟩, ⟨S4x128, z⟩] concatenates_S1x128_S1x128_S1x128_S1x128_S4x128_S8x128_d0 (ix2 (up h) j)
      = (![y0, y1, y2, y3] h) (ix2 0 j) := by
  have hb : ∀ (p : Fin 8) (a : Fin S1x128.rank), a ≠ 0 → ((ix2 (0 : Fin 1) j : S1x128.Idx) a).val = ((ix2 p j : S8x128.Idx) a).val := fun p a ha => by
    match a with | ⟨0, _⟩ => exact absurd rfl ha | ⟨1, _⟩ => rfl
  match h with
  | ⟨0, _⟩ => exact concatenate_apply_piece (t := S8x128) 0 [⟨S1x128, y0⟩, ⟨S1x128, y1⟩, ⟨S1x128, y2⟩, ⟨S1x128, y3⟩, ⟨S4x128, z⟩] _ _ 0 (by show 0 < 5; omega) S1x128 y0 rfl rfl 0 rfl (ix2 0 j) (hb _) rfl
  | ⟨1, _⟩ => exact concatenate_apply_piece (t := S8x128) 0 [⟨S1x128, y0⟩, ⟨S1x128, y1⟩, ⟨S1x128, y2⟩, ⟨S1x128, y3⟩, ⟨S4x128, z⟩] _ _ 1 (by show 1 < 5; omega) S1x128 y1 rfl rfl 1 rfl (ix2 0 j) (hb _) rfl
  | ⟨2, _⟩ => exact concatenate_apply_piece (t := S8x128) 0 [⟨S1x128, y0⟩, ⟨S1x128, y1⟩, ⟨S1x128, y2⟩, ⟨S1x128, y3⟩, ⟨S4x128, z⟩] _ _ 2 (by show 2 < 5; omega) S1x128 y2 rfl rfl 2 rfl (ix2 0 j) (hb _) rfl
  | ⟨3, _⟩ => exact concatenate_apply_piece (t := S8x128) 0 [⟨S1x128, y0⟩, ⟨S1x128, y1⟩, ⟨S1x128, y2⟩, ⟨S1x128, y3⟩, ⟨S4x128, z⟩] _ _ 3 (by show 3 < 5; omega) S1x128 y3 rfl rfl 3 rfl (ix2 0 j) (hb _) rfl

/-- The products of queries and keys, scaled. -/
theorem dots_apply (a : FVec Ideal S8x128 .bf16) (b : FVec Ideal S512x128 .bf16) (p : Fin 8) (r : Fin 512) :
    mulf (matmul (F := Ideal) dot_S8x128_S512x128_S8x512_1_1_0_0_n_n none a b (constant S8x512 .f32 0x00000000#32)) (broadcast S8x512 (Scalar.ofBits (F := Ideal) .f32 0x3DB504F3#32)) (ix2 p r)
      = (∑ j : Fin 128, (a (ix2 p j) : EReal) * b (ix2 r j)) * Ideal.ofBits .f32 0x3DB504F3#32 := by
  refine congrArg (fun z => z * Ideal.ofBits .f32 0x3DB504F3#32) ?_
  refine (Ideal.matmul_transposedRhs_apply none _ _ _ p r).trans ?_
  exact (congrArg (fun z => z + _) Ideal.ofBits_zero_f32).trans (zero_add _)

/-- The first group's. -/
theorem pay8_apply (n : FVec Ideal S1x1x512 .f32) (w : FVec Ideal S1x512x512 .f32) (x : FVec Ideal S1x1x1024 .bf16) (h : Fin 4) (r : Fin 512) :
    k0_pay8 (F := Ideal) n w x (ix2 (up h) r)
      = (∑ j : Fin 128, (x (ix3 0 0 (lane 0 h j)) : EReal) * k0_pay3 (F := Ideal) n w (ix2 r (klane 0 j))) * Ideal.ofBits .f32 0x3DB504F3#32 := by
  unfold k0_pay8
  refine (dots_apply _ _ (up h) r).trans (congrArg (fun z => z * Ideal.ofBits .f32 0x3DB504F3#32) (Finset.sum_congr rfl fun j _ => congrArg₂ (· * ·) ?_ ?_))
  · refine (stack_apply _ _ _ _ _ h j).trans ?_
    match h with
    | ⟨0, _⟩ => exact (cut_apply (k0_pay5 x) 0 slices_S1x1024_o0_0_S1x128 j (lane 0 0 j) (by show (0 * 4 + 0) * 128 + j.val = 0 + j.val; omega)).trans (pay5_apply x _)
    | ⟨1, _⟩ => exact (cut_apply (k0_pay5 x) 128 slices_S1x1024_o0_128_S1x128 j (lane 0 1 j) (by show (0 * 4 + 1) * 128 + j.val = 128 + j.val; omega)).trans (pay5_apply x _)
    | ⟨2, _⟩ => exact (cut_apply (k0_pay5 x) 256 slices_S1x1024_o0_256_S1x128 j (lane 0 2 j) (by show (0 * 4 + 2) * 128 + j.val = 256 + j.val; omega)).trans (pay5_apply x _)
    | ⟨3, _⟩ => exact (cut_apply (k0_pay5 x) 384 slices_S1x1024_o0_384_S1x128 j (lane 0 3 j) (by show (0 * 4 + 3) * 128 + j.val = 384 + j.val; omega)).trans (pay5_apply x _)
  · exact cols_apply (k0_pay3 (F := Ideal) n w) 0 slices_S512x512_o0_0_S512x128 r j (klane 0 j) (by show 0 * 128 + j.val = 0 + j.val; omega)

/-- The second group's. -/
theorem pay17_apply (w : FVec Ideal S512x512 .f32) (x : FVec Ideal S1x1x1024 .bf16) (h : Fin 4) (r : Fin 512) :
    k0_pay17 (F := Ideal) w (k0_pay5 x) (ix2 (up h) r)
      = (∑ j : Fin 128, (x (ix3 0 0 (lane 1 h j)) : EReal) * w (ix2 r (klane 1 j))) * Ideal.ofBits .f32 0x3DB504F3#32 := by
  unfold k0_pay17
  refine (dots_apply _ _ (up h) r).trans (congrArg (fun z => z * Ideal.ofBits .f32 0x3DB504F3#32) (Finset.sum_congr rfl fun j _ => congrArg₂ (· * ·) ?_ ?_))
  · refine (stack_apply _ _ _ _ _ h j).trans ?_
    match h with
    | ⟨0, _⟩ => exact (cut_apply (k0_pay5 x) 512 slices_S1x1024_o0_512_S1x128 j (lane 1 0 j) (by show (1 * 4 + 0) * 128 + j.val = 512 + j.val; omega)).trans (pay5_apply x _)
    | ⟨1, _⟩ => exact (cut_apply (k0_pay5 x) 640 slices_S1x1024_o0_640_S1x128 j (lane 1 1 j) (by show (1 * 4 + 1) * 128 + j.val = 640 + j.val; omega)).trans (pay5_apply x _)
    | ⟨2, _⟩ => exact (cut_apply (k0_pay5 x) 768 slices_S1x1024_o0_768_S1x128 j (lane 1 2 j) (by show (1 * 4 + 2) * 128 + j.val = 768 + j.val; omega)).trans (pay5_apply x _)
    | ⟨3, _⟩ => exact (cut_apply (k0_pay5 x) 896 slices_S1x1024_o0_896_S1x128 j (lane 1 3 j) (by show (1 * 4 + 3) * 128 + j.val = 896 + j.val; omega)).trans (pay5_apply x _)
  · exact cols_apply w 128 slices_S512x512_o0_128_S512x128 r j (klane 1 j) (by show 1 * 128 + j.val = 128 + j.val; omega)

/-- The first group's values -/
theorem pay7_apply (n : FVec Ideal S1x1x512 .f32) (w : FVec Ideal S1x512x512 .f32) (r : Fin 512) (j : Fin 128) :
    k0_pay7 (F := Ideal) n w (ix2 r j) = k0_pay3 (F := Ideal) n w (ix2 r (vlane 0 j)) :=
  cols_apply (k0_pay3 (F := Ideal) n w) 256 slices_S512x512_o0_256_S512x128 r j (vlane 0 j) (by show 256 + 0 * 128 + j.val = 256 + j.val; omega)

/-- and the second's. -/
theorem pay16_apply (w : FVec Ideal S512x512 .f32) (r : Fin 512) (j : Fin 128) : k0_pay16 (F := Ideal) w (ix2 r j) = w (ix2 r (vlane 1 j)) :=
  cols_apply w 384 slices_S512x512_o0_384_S512x128 r j (vlane 1 j) (by show 256 + 1 * 128 + j.val = 384 + j.val; omega)

/-! ## Slopes and positions -/

/-- A row's position as a whole number. -/
theorem pos_int : ∀ r : Fin 512, (BitVec.ofNat 32 r.val - 511#32).toInt = (r.val : ℤ) - 511 := by
  decide +kernel

/-- A row's position. -/
theorem pay6_apply (r : Fin 512) : k0_pay6 (F := Ideal) (ix2 0 r) = pos r := by
  unfold k0_pay6
  refine Eq.trans (b := ((((BitVec.ofNat 32 r.val - 511#32).toInt : ℝ)) : EReal)) ?_ ?_
  · exact congrArg (fun z : BitVec 32 => ((((z - 511#32).toInt : ℝ)) : EReal)) (iota_single_apply _ _ _ _ _ _)
  · rw [pos_int]
    unfold pos
    congr 1
    push_cast
    rfl

/-- A chain of four choices by the row's number. -/
def column (l0 l1 l2 l3 : BitVec 32) : FVec Ideal S8x1 .f32 :=
  select (cmpi .eq (iota .tc S8x1 32 [0] iota_S8x1_d0_w32) (broadcast S8x1 3#32)) (broadcast S8x1 (Scalar.ofBits .f32 l3))
    (select (cmpi .eq (iota .tc S8x1 32 [0] iota_S8x1_d0_w32) (broadcast S8x1 2#32)) (broadcast S8x1 (Scalar.ofBits .f32 l2))
      (select (cmpi .eq (iota .tc S8x1 32 [0] iota_S8x1_d0_w32) (broadcast S8x1 1#32)) (broadcast S8x1 (Scalar.ofBits .f32 l1))
        (select (cmpi .eq (iota .tc S8x1 32 [0] iota_S8x1_d0_w32) (broadcast S8x1 0#32)) (broadcast S8x1 (Scalar.ofBits .f32 l0))
          (broadcast S8x1 (Scalar.ofBits .f32 0x00000000#32)))))

/-- What it picks. -/
theorem column_apply (l0 l1 l2 l3 : BitVec 32) (h : Fin 4) : column l0 l1 l2 l3 (ix2 (up h) 0) = Ideal.ofBits .f32 (![l0, l1, l2, l3] h) := by
  have e : iota .tc S8x1 32 [0] iota_S8x1_d0_w32 (ix2 (up h) 0) = BitVec.ofNat 32 h.val := iota_single_apply _ _ _ _ _ _
  refine Eq.trans (b := Scalar.select (IntOp.cmpi .eq (BitVec.ofNat 32 h.val) 3#32) (Ideal.ofBits .f32 l3) (Scalar.select (IntOp.cmpi .eq (BitVec.ofNat 32 h.val) 2#32) (Ideal.ofBits .f32 l2)
    (Scalar.select (IntOp.cmpi .eq (BitVec.ofNat 32 h.val) 1#32) (Ideal.ofBits .f32 l1) (Scalar.select (IntOp.cmpi .eq (BitVec.ofNat 32 h.val) 0#32) (Ideal.ofBits .f32 l0)
      (Ideal.ofBits .f32 0x00000000#32))))) ?_ ?_
  · rw [← e]; rfl
  · match h with
    | ⟨0, _⟩ => rfl
    | ⟨1, _⟩ => rfl
    | ⟨2, _⟩ => rfl
    | ⟨3, _⟩ => rfl

/-- The first group's slopes -/
theorem column0_apply (h : Fin 4) : column 0x3F000000#32 0x3E800000#32 0x3E000000#32 0x3D800000#32 (ix2 (up h) 0) = incline ((0 : Fin 2).val * 4 + h.val) := by
  refine (column_apply _ _ _ _ h).trans ?_
  match h with
  | ⟨0, _⟩ => show Ideal.ofBits .f32 0x3F000000#32 = incline 0; simp [Ideal.ofBits, Ideal.ieee, incline, -EReal.coe_mul]; norm_num
  | ⟨1, _⟩ => show Ideal.ofBits .f32 0x3E800000#32 = incline 1; simp [Ideal.ofBits, Ideal.ieee, incline, -EReal.coe_mul]; norm_num
  | ⟨2, _⟩ => show Ideal.ofBits .f32 0x3E000000#32 = incline 2; simp [Ideal.ofBits, Ideal.ieee, incline, -EReal.coe_mul]; norm_num
  | ⟨3, _⟩ => show Ideal.ofBits .f32 0x3D800000#32 = incline 3; simp [Ideal.ofBits, Ideal.ieee, incline, -EReal.coe_mul]; norm_num

/-- and the second's. -/
theorem column1_apply (h : Fin 4) : column 0x3D000000#32 0x3C800000#32 0x3C000000#32 0x3B800000#32 (ix2 (up h) 0) = incline ((1 : Fin 2).val * 4 + h.val) := by
  refine (column_apply _ _ _ _ h).trans ?_
  match h with
  | ⟨0, _⟩ => show Ideal.ofBits .f32 0x3D000000#32 = incline 4; simp [Ideal.ofBits, Ideal.ieee, incline, -EReal.coe_mul]; norm_num
  | ⟨1, _⟩ => show Ideal.ofBits .f32 0x3C800000#32 = incline 5; simp [Ideal.ofBits, Ideal.ieee, incline, -EReal.coe_mul]; norm_num
  | ⟨2, _⟩ => show Ideal.ofBits .f32 0x3C000000#32 = incline 6; simp [Ideal.ofBits, Ideal.ieee, incline, -EReal.coe_mul]; norm_num
  | ⟨3, _⟩ => show Ideal.ofBits .f32 0x3B800000#32 = incline 7; simp [Ideal.ofBits, Ideal.ieee, incline, -EReal.coe_mul]; norm_num

/-! ## The weighted values -/

/-- A choice that always falls on the first. -/
theorem select_all {s : Shape} {α : Type} (x y : s.Idx → α) : select (broadcast s 1#1) x y = x := rfl

/-- Each row's exponentials. -/
def exps (s : FVec Ideal S8x512 .f32) : FVec Ideal S8x512 .f32 :=
  exp (subf s (broadcastTo S8x512 (shapeCast S8x1 (multiReduction .maximumf [1] S8 s 0xFF800000#32 reduces_S8x512_S8 (.inl rfl) rfl) shapeCasts_S8_S8x1) broadcasts_S8x1_S8x512))

/-- A column repeated across. -/
theorem across_apply (y : S8.Idx → EReal) (p : Fin 8) (r : Fin 512) :
    broadcastTo S8x512 (shapeCast S8x1 y shapeCasts_S8_S8x1) broadcasts_S8x1_S8x512 (ix2 p r) = y (ix1 p) :=
  (broadcastTo_apply _ _ _ (ix2 p 0) fun a => match a with | ⟨0, _⟩ => rfl | ⟨1, _⟩ => rfl).trans (shapeCast_a_a1_apply _ _ _ _)

/-- A row's largest. -/
theorem top_apply (s : FVec Ideal S8x512 .f32) (p : Fin 8) :
    multiReduction (F := Ideal) .maximumf [1] S8 s 0xFF800000#32 reduces_S8x512_S8 (.inl rfl) rfl (ix1 p) = top fun r => s (ix2 p r) := by
  refine (Ideal.multiReduction_maximumf_single _ _ _ _ _ _).trans ?_
  refine congrArg (fun f => (Finset.univ : Finset (Fin 512)).fold max (Ideal.ofBits .f32 0xFF800000#32) f) (funext fun r => ?_)
  have e : reduces_S8x512_S8.lift (ix1 p) r = ix2 p r := funext fun a => Fin.ext (by match a with | ⟨0, _⟩ => rfl | ⟨1, _⟩ => rfl)
  exact congrArg s e

/-- A row's exponential. -/
theorem exps_apply (s : FVec Ideal S8x512 .f32) (p : Fin 8) (r : Fin 512) : exps s (ix2 p r) = Ideal.exp (s (ix2 p r) - top fun r => s (ix2 p r)) := by
  unfold exps
  exact congrArg (fun z => Ideal.exp (s (ix2 p r) - z)) ((across_apply _ p r).trans (top_apply s p))

/-- A row's sum. -/
theorem sum_apply (e : FVec Ideal S8x512 .f32) (p : Fin 8) :
    multiReduction (F := Ideal) .add [1] S8 e 0x00000000#32 reduces_S8x512_S8 (.inl rfl) rfl (ix1 p) = ∑ r : Fin 512, (e (ix2 p r) : EReal) := by
  refine (Ideal.multiReduction_add_single _ _ _ _ _ _).trans (Finset.sum_congr rfl fun r _ => ?_)
  have i : reduces_S8x512_S8.lift (ix1 p) r = ix2 p r := funext fun a => Fin.ext (by match a with | ⟨0, _⟩ => rfl | ⟨1, _⟩ => rfl)
  exact congrArg e i

/-- The weights times the values. -/
def soft (s : FVec Ideal S8x512 .f32) (v : FVec Ideal S512x128 .bf16) : FVec Ideal S8x128 .f32 :=
  matmul dot_S8x512_S512x128_S8x128_1_0_0_1_n_n none (truncf .bf16 (divf (exps s) (broadcastTo S8x512 (maximumf (shapeCast S8x1 (multiReduction .add [1] S8 (exps s) 0x00000000#32 reduces_S8x512_S8 (.inl rfl) rfl) shapeCasts_S8_S8x1)
    (broadcast S8x1 (Scalar.ofBits .f32 0x0DA24260#32))) broadcasts_S8x1_S8x512)) bitsLt_bf16_f32) v (constant S8x128 .f32 0x00000000#32)

/-- Its entries. -/
theorem soft_apply (s : FVec Ideal S8x512 .f32) (v : FVec Ideal S512x128 .bf16) (p : Fin 8) (d : Fin 128) :
    soft s v (ix2 p d) = ∑ r : Fin 512, weight (fun r => (s (ix2 p r) : EReal)) r * v (ix2 r d) := by
  unfold soft
  refine (Ideal.matmul_plain_apply none _ _ _ p d).trans ?_
  refine (congrArg₂ (· + ·) Ideal.ofBits_zero_f32 (Finset.sum_congr rfl fun r _ => congrArg (fun z => z * v (ix2 r d)) ?_)).trans (zero_add _)
  unfold weight
  refine congrArg₂ Ideal.div (exps_apply s p r) ?_
  refine (broadcastTo_apply _ _ _ (ix2 p 0) fun a => match a with | ⟨0, _⟩ => rfl | ⟨1, _⟩ => rfl).trans ?_
  refine Eq.trans (b := max _ _) rfl (congrArg (fun z => max z (Ideal.ofBits .f32 0x0DA24260#32)) ?_)
  refine (shapeCast_a_a1_apply _ _ _ _).trans ((sum_apply _ p).trans (Finset.sum_congr rfl fun k _ => exps_apply s p k))

/-- The slopes times the positions, added on. -/
def biased (s : FVec Ideal S8x512 .f32) (c : FVec Ideal S8x1 .f32) (q : FVec Ideal S1x512 .f32) : FVec Ideal S8x512 .f32 :=
  addf s (mulf (broadcastTo S8x512 c broadcasts_S8x1_S8x512) (broadcastTo S8x512 q broadcasts_S1x512_S8x512))

/-- Its entries. -/
theorem biased_apply (s : FVec Ideal S8x512 .f32) (c : FVec Ideal S8x1 .f32) (q : FVec Ideal S1x512 .f32) (p : Fin 8) (r : Fin 512) :
    biased s c q (ix2 p r) = (s (ix2 p r) : EReal) + c (ix2 p 0) * q (ix2 0 r) :=
  congrArg (fun z => (s (ix2 p r) : EReal) + z) (congrArg₂ (· * ·) (broadcastTo_apply _ _ _ (ix2 p 0) fun a => match a with | ⟨0, _⟩ => rfl | ⟨1, _⟩ => rfl)
    (Rows.down_apply _ _ (by decide) p r))

/-- The first group's results -/
theorem pay11_eq (q : FVec Ideal S1x512 .f32) (v : FVec Ideal S512x128 .bf16) (s : FVec Ideal S8x512 .f32) :
    k0_pay11 (F := Ideal) q v s (iota .tc S8x1 32 [0] iota_S8x1_d0_w32) (k0_pay9 (F := Ideal)) k0_pay10
      = soft (biased s (column 0x3F000000#32 0x3E800000#32 0x3E000000#32 0x3D800000#32) q) v := by
  unfold k0_pay11 k0_pay9 k0_pay10
  dsimp only
  rw [select_all, select_all]
  rfl

/-- and the second's. -/
theorem pay19_eq (q : FVec Ideal S1x512 .f32) (v : FVec Ideal S512x128 .bf16) (s : FVec Ideal S8x512 .f32) :
    k0_pay19 (F := Ideal) q v s (iota .tc S8x1 32 [0] iota_S8x1_d0_w32) (k0_pay18 (F := Ideal)) 2#32
      = soft (biased s (column 0x3D000000#32 0x3C800000#32 0x3C000000#32 0x3B800000#32) q) v := by
  unfold k0_pay19 k0_pay18
  dsimp only
  rw [select_all, select_all]
  rfl

end Cert.WinIdeal.Gen

end
-- ==== Proof.WinIdeal.Value.lean ====
module

public import proofs.«01_k».proof.Proof.WinIdeal.Payloads
public import Idealize.ShloMosaic.Lib.Pipeline.ValueKit.Tiles
public import Idealize.ShloMosaic.Lib.Pipeline.ReadBack

@[expose] public section

set_option maxRecDepth 16384

noncomputable section

/-! # The window kernel's result arrays -/

namespace Cert.WinIdeal.Gen

open Idealize.ShloMosaic hiding ix1 ix2 ix3 ix4
open Idealize.ShloMosaic.TcCoe Idealize.ShloMosaic.ValueIdx
open Idealize.SL Idealize.SL.Sem
open Cert.WinSpec

variable (m : (ℓ : Loc nD τ sig) → Buf (Elt Ideal) ℓ) (c : Dev nD)

/-! ## The arguments -/

/-- The queries, -/
abbrev a0 : S32x1x1024.Idx → EReal := m ((c : Thread nD τ).loc main_arg0)
/-- the window -/
abbrev a1 : S32x512x512.Idx → EReal := m ((c : Thread nD τ).loc main_arg1)
/-- and its new rows. -/
abbrev a2 : S32x1x512.Idx → EReal := m ((c : Thread nD τ).loc main_arg2)

/-! ## The body's value of blocks whose entries are known -/

section Known

variable (q : S32x1x1024.Idx → EReal) (buf : S32x512x512.Idx → EReal) (new : S32x1x512.Idx → EReal) (b : Fin 32)
  (x0 : Vec Ideal S1x1x1024 .bf16) (x1 : Vec Ideal S1x512x512 .f32) (x2 : Vec Ideal S1x1x512 .f32)

/-- The next window. -/
theorem next_known (h1 : ∀ r k : Fin 512, x1 (ix3 0 r k) = buf (ix3 b r k)) (h2 : ∀ k : Fin 512, x2 (ix3 0 0 k) = new (ix3 b 0 k)) (r k : Fin 512) :
    k0_pay3 (F := Ideal) x2 x1 (ix2 r k) = next buf new b r k := by
  rw [pay3_apply]
  unfold next
  by_cases h : r.val < 511
  · rw [dif_pos h, dif_pos h, h1]
  · rw [dif_neg h, dif_neg h, h2]

/-- The values that the stores' payloads name, with their loads of whole blocks read off. -/
theorem pay30_eq : k0_pay30 (F := Ideal) x0 x1 x2
    = soft (biased (k0_pay8 x2 x1 x0) (column 0x3F000000#32 0x3E800000#32 0x3E000000#32 0x3D800000#32) k0_pay6) (k0_pay7 x2 x1) := by
  have z3 : (![0, 0, 0] : Fin 3 → ℕ) = fun _ => 0 := by decide
  unfold k0_pay30 k0_pay23 k0_pay25 k0_pay26 k0_pay27 k0_pay28 k0_pay29
  rw [View.ld_unit_zero z3, View.ld_unit_zero z3, View.ld_unit_zero z3]
  exact pay11_eq _ _ _

/-- The second group's likewise. -/
theorem pay19_of : k0_pay19 (F := Ideal) (k0_pay25 x0 x1 x2) (k0_pay32 x0 x1 x2) (k0_pay33 x0 x1 x2) (k0_pay31 x0 x1 x2) (k0_pay34 x0 x1 x2) 2#32
    = soft (biased (k0_pay17 (k0_pay3 x2 x1) (k0_pay5 x0)) (column 0x3D000000#32 0x3C800000#32 0x3C000000#32 0x3B800000#32) k0_pay6) (k0_pay16 (k0_pay3 x2 x1)) := by
  have z3 : (![0, 0, 0] : Fin 3 → ℕ) = fun _ => 0 := by decide
  unfold k0_pay25 k0_pay32 k0_pay33 k0_pay31 k0_pay34 k0_pay24
  rw [View.ld_unit_zero z3, View.ld_unit_zero z3, View.ld_unit_zero z3]
  exact pay19_eq _ _ _

variable (h0 : ∀ l : Fin 1024, x0 (ix3 0 0 l) = q (ix3 b 0 l)) (h1 : ∀ r k : Fin 512, x1 (ix3 0 r k) = buf (ix3 b r k)) (h2 : ∀ k : Fin 512, x2 (ix3 0 0 k) = new (ix3 b 0 k))
include h0 h1 h2

/-- The first group's heads. -/
theorem heads0 (h : Fin 4) (d : Fin 128) : k0_pay30 (F := Ideal) x0 x1 x2 (ix2 (up h) d) = attn q buf new b 0 h d := by
  rw [pay30_eq]
  refine (soft_apply _ _ _ _).trans (Finset.sum_congr rfl fun r _ => congrArg₂ (· * ·) (weight_congr (fun r => ?_) r) ((pay7_apply _ _ r d).trans (next_known buf new b x1 x2 h1 h2 _ _)))
  refine (biased_apply _ _ _ _ _).trans (congrArg₂ (· + ·) ((pay8_apply _ _ _ h r).trans ?_) (congrArg₂ (· * ·) (column0_apply h) (pay6_apply r)))
  exact congrArg (fun z => z * Ideal.ofBits .f32 0x3DB504F3#32) (Finset.sum_congr rfl fun j _ => congrArg₂ (· * ·) (h0 _) (next_known buf new b x1 x2 h1 h2 _ _))

/-- The second group's heads. -/
theorem heads1 (h : Fin 4) (d : Fin 128) :
    k0_pay19 (F := Ideal) (k0_pay25 x0 x1 x2) (k0_pay32 x0 x1 x2) (k0_pay33 x0 x1 x2) (k0_pay31 x0 x1 x2) (k0_pay34 x0 x1 x2) 2#32 (ix2 (up h) d) = attn q buf new b 1 h d := by
  rw [pay19_of]
  refine (soft_apply _ _ _ _).trans (Finset.sum_congr rfl fun r _ => congrArg₂ (· * ·) (weight_congr (fun r => ?_) r) ((pay16_apply _ r d).trans (next_known buf new b x1 x2 h1 h2 _ _)))
  refine (biased_apply _ _ _ _ _).trans (congrArg₂ (· + ·) ((pay17_apply _ _ h r).trans ?_) (congrArg₂ (· * ·) (column1_apply h) (pay6_apply r)))
  exact congrArg (fun z => z * Ideal.ofBits .f32 0x3DB504F3#32) (Finset.sum_congr rfl fun j _ => congrArg₂ (· * ·) (h0 _) (next_known buf new b x1 x2 h1 h2 _ _))

end Known

/-! ## The lanes of the result -/

/-- The result at a lane: its group's, its head's. -/
def flat (q : S32x1x1024.Idx → EReal) (buf : S32x512x512.Idx → EReal) (new : S32x1x512.Idx → EReal) (b : Fin 32) (l : Fin 1024) : EReal :=
  attn q buf new b ⟨l.val / 512, by omega⟩ ⟨l.val / 128 % 4, by omega⟩ ⟨l.val % 128, by omega⟩

/-- At a lane of a head. -/
theorem flat_eq (q : S32x1x1024.Idx → EReal) (buf : S32x512x512.Idx → EReal) (new : S32x1x512.Idx → EReal) (b : Fin 32) (l : Fin 1024) (g : Fin 2) (h : Fin 4) (d : Fin 128)
    (e : l.val = (g.val * 4 + h.val) * 128 + d.val) : flat q buf new b l = attn q buf new b g h d := by
  unfold flat
  have eg : (⟨l.val / 512, by omega⟩ : Fin 2) = g := Fin.ext (by show l.val / 512 = g.val; omega)
  have eh : (⟨l.val / 128 % 4, by omega⟩ : Fin 4) = h := Fin.ext (by show l.val / 128 % 4 = h.val; omega)
  have ed : (⟨l.val % 128, by omega⟩ : Fin 128) = d := Fin.ext (by show l.val % 128 = d.val; omega)
  rw [eg, eh, ed]

/-- A row of a group's eight, stored with unit axes. -/
theorem piece_apply (z : FVec Ideal S8x128 .f32) (p : ℕ) (hp : p < 8) (h : S8x128.Slices ![p, 0] S1x128) (d : Fin 128) :
    shapeCast S1x1x128 (truncf .bf16 (extractStridedSlice S1x128 ![p, 0] z h) bitsLt_bf16_f32) shapeCasts_S1x128_S1x1x128 (ix3 0 0 d) = z (ix2 ⟨p, hp⟩ d) := by
  refine (shapeCast_ab_1ab_apply (truncf .bf16 (extractStridedSlice S1x128 ![p, 0] z h) bitsLt_bf16_f32) shapeCasts_S1x128_S1x1x128 0 0 d).trans ?_
  exact extractStridedSlice_apply _ z h (ix2 0 d) (ix2 ⟨p, hp⟩ d) fun a => match a with | ⟨0, _⟩ => rfl | ⟨1, _⟩ => (Nat.zero_add _).symm

/-- An index of a head's store is its lane. -/
theorem lane_ix (x : S1x1x128.Idx) : x = ix3 0 0 (x 2) :=
  (ValueIdx.eq_ix3 x).trans (congrArg₂ (fun y z => ix3 y z (x 2)) (Fin.ext (by have : (x 0).val < 1 := (x 0).isLt; show (x 0).val = 0; omega)) (Fin.ext (by have : (x 1).val < 1 := (x 1).isLt; show (x 1).val = 0; omega)))

/-- WHAT THE BODY LEAVES of the heads, of blocks whose entries are known. -/
theorem out3_known (q : S32x1x1024.Idx → EReal) (buf : S32x512x512.Idx → EReal) (new : S32x1x512.Idx → EReal) (b : Fin 32)
    (x0 : Vec Ideal S1x1x1024 .bf16) (x1 : Vec Ideal S1x512x512 .f32) (x2 : Vec Ideal S1x1x512 .f32)
    (h0 : ∀ l : Fin 1024, x0 (ix3 0 0 l) = q (ix3 b 0 l)) (h1 : ∀ r k : Fin 512, x1 (ix3 0 r k) = buf (ix3 b r k)) (h2 : ∀ k : Fin 512, x2 (ix3 0 0 k) = new (ix3 b 0 k)) (l : Fin 1024) :
    (out0_3 x0 x1 x2 : S1x1x1024.Idx → EReal) (ix3 0 0 l) = flat q buf new b l := by
  have k0 : ∀ (h : Fin 4) (p : ℕ) (hp : p < 8) (hs) (e : p = h.val) (d : Fin 128),
      shapeCast S1x1x128 (truncf .bf16 (extractStridedSlice S1x128 ![p, 0] (k0_pay30 (F := Ideal) x0 x1 x2) hs) bitsLt_bf16_f32) shapeCasts_S1x128_S1x1x128 (ix3 0 0 d) = attn q buf new b 0 h d :=
    fun h p hp hs e d => (piece_apply _ p hp hs d).trans ((congrArg (fun i => k0_pay30 (F := Ideal) x0 x1 x2 (ix2 i d)) (Fin.ext e)).trans (heads0 q buf new b x0 x1 x2 h0 h1 h2 h d))
  have k1 : ∀ (h : Fin 4) (p : ℕ) (hp : p < 8) (hs) (e : p = h.val) (d : Fin 128),
      shapeCast S1x1x128 (truncf .bf16 (extractStridedSlice S1x128 ![p, 0]
        (k0_pay19 (F := Ideal) (k0_pay25 x0 x1 x2) (k0_pay32 x0 x1 x2) (k0_pay33 x0 x1 x2) (k0_pay31 x0 x1 x2) (k0_pay34 x0 x1 x2) 2#32) hs) bitsLt_bf16_f32) shapeCasts_S1x128_S1x1x128 (ix3 0 0 d) = attn q buf new b 1 h d :=
    fun h p hp hs e d => (piece_apply _ p hp hs d).trans ((congrArg (fun i => k0_pay19 (F := Ideal) (k0_pay25 x0 x1 x2) (k0_pay32 x0 x1 x2) (k0_pay33 x0 x1 x2) (k0_pay31 x0 x1 x2) (k0_pay34 x0 x1 x2) 2#32 (ix2 i d)) (Fin.ext e)).trans
      (heads1 q buf new b x0 x1 x2 h0 h1 h2 h d))
  have hG : ∀ (o : ℕ) (inb) (g : Fin 2) (h : Fin 4) (ho : o = (g.val * 4 + h.val) * 128) (x : S1x1x128.Idx),
      attn q buf new b g h (x 2) = flat q buf new b (((Rect.unit (s := S1x1x1024) ![0, 0, o] S1x1x128.size inb).emb x : S1x1x1024.Idx) 2) := fun o inb g h ho x =>
    (flat_eq q buf new b _ g h (x 2) (by show o + 1 * (x 2).val = _; rw [ho]; omega)).symm
  unfold out0_3
  refine View.canon_eq_of_allAt _ _ _ (cover0_3 _ _ _ _ _ _ _ _ _) fun p hp x hx => ?_
  refine Eq.trans (View.PiecesOf.mem (G := fun y : S1x1x1024.Idx => flat q buf new b (y 2)) ?_ p hp x) (congrArg (fun y : S1x1x1024.Idx => flat q buf new b (y 2)) hx)
  refine ⟨fun x => ?_, fun x => ?_, fun x => ?_, fun x => ?_, fun x => ?_, fun x => ?_, fun x => ?_, fun x => ?_, trivial⟩
  · exact ((congrArg _ (lane_ix x)).trans (k1 3 3 (by omega) _ rfl (x 2))).trans (hG 896 (by decide) 1 3 rfl x)
  · exact ((congrArg _ (lane_ix x)).trans (k1 2 2 (by omega) _ rfl (x 2))).trans (hG 768 (by decide) 1 2 rfl x)
  · exact ((congrArg _ (lane_ix x)).trans (k1 1 1 (by omega) _ rfl (x 2))).trans (hG 640 (by decide) 1 1 rfl x)
  · exact ((congrArg _ (lane_ix x)).trans (k1 0 0 (by omega) _ rfl (x 2))).trans (hG 512 (by decide) 1 0 rfl x)
  · exact ((congrArg _ (lane_ix x)).trans (k0 3 3 (by omega) _ rfl (x 2))).trans (hG 384 (by decide) 0 3 rfl x)
  · exact ((congrArg _ (lane_ix x)).trans (k0 2 2 (by omega) _ rfl (x 2))).trans (hG 256 (by decide) 0 2 rfl x)
  · exact ((congrArg _ (lane_ix x)).trans (k0 1 1 (by omega) _ rfl (x 2))).trans (hG 128 (by decide) 0 1 rfl x)
  · exact ((congrArg _ (lane_ix x)).trans (k0 0 0 (by omega) _ rfl (x 2))).trans (hG 0 (by decide) 0 0 rfl x)

/-- What it leaves of the window. -/
theorem out4_known (buf : S32x512x512.Idx → EReal) (new : S32x1x512.Idx → EReal) (b : Fin 32)
    (x0 : Vec Ideal S1x1x1024 .bf16) (x1 : Vec Ideal S1x512x512 .f32) (x2 : Vec Ideal S1x1x512 .f32)
    (h1 : ∀ r k : Fin 512, x1 (ix3 0 r k) = buf (ix3 b r k)) (h2 : ∀ k : Fin 512, x2 (ix3 0 0 k) = new (ix3 b 0 k)) (r k : Fin 512) :
    (out0_4 x0 x1 x2 : S1x512x512.Idx → EReal) (ix3 0 r k) = next buf new b r k := by
  unfold out0_4
  have z3 : (![0, 0, 0] : Fin 3 → ℕ) = fun _ => 0 := by decide
  rw [View.canon_unit_zero z3, View.ld_unit_zero z3, View.ld_unit_zero z3]
  exact (pay4_apply x2 x1 r k).trans (next_known buf new b x1 x2 h1 h2 r k)

/-! ## The blocks at coordinates -/

/-- A point is its sequence's number. -/
theorem coords_at : ∀ t : Fin grid0.N, (grid0.coords t 0).val = t.val := by
  decide +kernel

/-- The sequence of a point. -/
def seq (t : Fin cfg0.N) : Fin 32 := ⟨t.val, Nat.lt_of_lt_of_eq t.isLt N_0⟩

/-- The queries' block. -/
theorem q_apply (t : Fin cfg0.N) (l : Fin 1024) : (iblk m c 0 t : S1x1x1024.Idx → EReal) (ix3 0 0 l) = a0 m c (ix3 (seq t) 0 l) := by
  have e0 := coords_at t
  have h : t.val < 32 := Nat.lt_of_lt_of_eq t.isLt N_0
  refine (congrFun (V_main_arg0 m c) _).trans (congrArg (a0 m c) (funext fun a => Fin.ext ?_))
  match a with
  | ⟨0, _⟩ =>
    show (BitVec.ofNat 32 (grid0.coords t 0).val).toNat * 1 + 1 * 0 = t.val
    rw [e0, BitVec.toNat_ofNat, Nat.mod_eq_of_lt (by omega)]; omega
  | ⟨1, _⟩ => rfl
  | ⟨2, _⟩ => show (0#32 : BitVec 32).toNat * 1024 + 1 * l.val = l.val; rw [Nat.one_mul]; exact Nat.zero_add _

/-- The window's block. -/
theorem w_apply (t : Fin cfg0.N) (r k : Fin 512) : (iblk m c 1 t : S1x512x512.Idx → EReal) (ix3 0 r k) = a1 m c (ix3 (seq t) r k) := by
  have e0 := coords_at t
  have h : t.val < 32 := Nat.lt_of_lt_of_eq t.isLt N_0
  refine (congrFun (V_main_arg1 m c) _).trans (congrArg (a1 m c) (funext fun a => Fin.ext ?_))
  match a with
  | ⟨0, _⟩ =>
    show (BitVec.ofNat 32 (grid0.coords t 0).val).toNat * 1 + 1 * 0 = t.val
    rw [e0, BitVec.toNat_ofNat, Nat.mod_eq_of_lt (by omega)]; omega
  | ⟨1, _⟩ => show (0#32 : BitVec 32).toNat * 512 + 1 * r.val = r.val; rw [Nat.one_mul]; exact Nat.zero_add _
  | ⟨2, _⟩ => show (0#32 : BitVec 32).toNat * 512 + 1 * k.val = k.val; rw [Nat.one_mul]; exact Nat.zero_add _

/-- The new row's block. -/
theorem n_apply (t : Fin cfg0.N) (k : Fin 512) : (iblk m c 2 t : S1x1x512.Idx → EReal) (ix3 0 0 k) = a2 m c (ix3 (seq t) 0 k) := by
  have e0 := coords_at t
  have h : t.val < 32 := Nat.lt_of_lt_of_eq t.isLt N_0
  refine (congrFun (V_main_arg2 m c) _).trans (congrArg (a2 m c) (funext fun a => Fin.ext ?_))
  match a with
  | ⟨0, _⟩ =>
    show (BitVec.ofNat 32 (grid0.coords t 0).val).toNat * 1 + 1 * 0 = t.val
    rw [e0, BitVec.toNat_ofNat, Nat.mod_eq_of_lt (by omega)]; omega
  | ⟨1, _⟩ => rfl
  | ⟨2, _⟩ => show (0#32 : BitVec 32).toNat * 512 + 1 * k.val = k.val; rw [Nat.one_mul]; exact Nat.zero_add _

/-- What the body leaves of the heads at a point, -/
theorem out3_apply (t : Fin cfg0.N) (l : Fin 1024) :
    (out0_3 (iblk m c 0 t) (iblk m c 1 t) (iblk m c 2 t) : S1x1x1024.Idx → EReal) (ix3 0 0 l) = flat (a0 m c) (a1 m c) (a2 m c) (seq t) l :=
  out3_known (a0 m c) (a1 m c) (a2 m c) (seq t) (iblk m c 0 t) (iblk m c 1 t) (iblk m c 2 t) (fun l => q_apply m c t l) (fun r k => w_apply m c t r k) (fun k => n_apply m c t k) l

/-- and of the window. -/
theorem out4_apply (t : Fin cfg0.N) (r k : Fin 512) :
    (out0_4 (iblk m c 0 t) (iblk m c 1 t) (iblk m c 2 t) : S1x512x512.Idx → EReal) (ix3 0 r k) = next (a1 m c) (a2 m c) (seq t) r k :=
  out4_known (a1 m c) (a2 m c) (seq t) (iblk m c 0 t) (iblk m c 1 t) (iblk m c 2 t) (fun r k => w_apply m c t r k) (fun k => n_apply m c t k) r k

/-! ## The result arrays -/

/-- The heads' block index is the sequence -/
theorem at_3 : ∀ t : Fin grid0.N, cc0_transform_3 (grid0.coords t) 0 = t.val ∧ cc0_transform_3 (grid0.coords t) 1 = 0 ∧ cc0_transform_3 (grid0.coords t) 2 = 0 := by
  decide +kernel

/-- and the window's too. -/
theorem at_4 : ∀ t : Fin grid0.N, cc0_transform_4 (grid0.coords t) 0 = t.val ∧ cc0_transform_4 (grid0.coords t) 1 = 0 ∧ cc0_transform_4 (grid0.coords t) 2 = 0 := by
  decide +kernel

/-- The point of a sequence. -/
def ptOf (b : Fin 32) : Fin cfg0.N := ⟨b.val, Nat.lt_of_lt_of_eq b.isLt N_0.symm⟩

/-- The heads' results. -/
def res3 : S32x1x1024.Idx → EReal := fun i => flat (a0 m c) (a1 m c) (a2 m c) (i 0) (i 2)
/-- The next windows. -/
def res4 : S32x512x512.Idx → EReal := fun i => next (a1 m c) (a2 m c) (i 0) (i 1) (i 2)

/-- Every entry of the heads' array is in a block that is written back, -/
theorem covered3 (i : S32x1x1024.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 1024 := (i 2).isLt
  obtain ⟨e0, e1, e2⟩ := at_3 (ptOf (i 0))
  have ev : (ptOf (i 0)).val = (i 0).val := rfl
  rw [ev] at e0
  refine ⟨ptOf (i 0), flush0_3 _, ?_⟩
  refine (ValueKit.mem_set_slice_whole_iff _ _ _ Iff.rfl).mpr (Rect.mem_set_unit.mpr fun a => ?_)
  match a with
  | ⟨0, _⟩ =>
    show cc0_transform_3 (grid0.coords (ptOf (i 0))) 0 * 1 ≤ (i 0).val ∧ (i 0).val < cc0_transform_3 (grid0.coords (ptOf (i 0))) 0 * 1 + 1
    rw [e0]; omega
  | ⟨1, _⟩ =>
    show cc0_transform_3 (grid0.coords (ptOf (i 0))) 1 * 1 ≤ (i 1).val ∧ (i 1).val < cc0_transform_3 (grid0.coords (ptOf (i 0))) 1 * 1 + 1
    rw [e1]; omega
  | ⟨2, _⟩ =>
    show cc0_transform_3 (grid0.coords (ptOf (i 0))) 2 * 1024 ≤ (i 2).val ∧ (i 2).val < cc0_transform_3 (grid0.coords (ptOf (i 0))) 2 * 1024 + 1024
    rw [e2]; omega

/-- and of the windows'. -/
theorem covered4 (i : S32x512x512.Idx) : ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 512 := (i 2).isLt
  obtain ⟨e0, e1, e2⟩ := at_4 (ptOf (i 0))
  have ev : (ptOf (i 0)).val = (i 0).val := rfl
  rw [ev] at e0
  refine ⟨ptOf (i 0), flush0_4 _, ?_⟩
  refine (ValueKit.mem_set_slice_whole_iff _ _ _ Iff.rfl).mpr (Rect.mem_set_unit.mpr fun a => ?_)
  match a with
  | ⟨0, _⟩ =>
    show cc0_transform_4 (grid0.coords (ptOf (i 0))) 0 * 1 ≤ (i 0).val ∧ (i 0).val < cc0_transform_4 (grid0.coords (ptOf (i 0))) 0 * 1 + 1
    rw [e0]; omega
  | ⟨1, _⟩ =>
    show cc0_transform_4 (grid0.coords (ptOf (i 0))) 1 * 512 ≤ (i 1).val ∧ (i 1).val < cc0_transform_4 (grid0.coords (ptOf (i 0))) 1 * 512 + 512
    rw [e1]; omega
  | ⟨2, _⟩ =>
    show cc0_transform_4 (grid0.coords (ptOf (i 0))) 2 * 512 ≤ (i 2).val ∧ (i 2).val < cc0_transform_4 (grid0.coords (ptOf (i 0))) 2 * 512 + 512
    rw [e2]; omega

/-- THE HEADS' ARRAY after the last point. -/
theorem final_3 : (dats m 0 c).arrAt 3 cfg0.N = res3 m c := by
  refine (dats m 0 c).arrAt_eq_of_emb 3 (res3 m c) (fun t hf y => ?_) covered3
  have hy : ∀ y : S1x1x1024.Idx, ∃ l : Fin 1024, y = ix3 0 0 l := fun y =>
    ⟨y 2, (ValueIdx.eq_ix3 y).trans (congrArg₂ (fun z z' => ix3 z z' (y 2)) (Fin.ext (by have : (y 0).val < 1 := (y 0).isLt; show (y 0).val = 0; omega))
      (Fin.ext (by have : (y 1).val < 1 := (y 1).isLt; show (y 1).val = 0; omega)))⟩
  obtain ⟨l, rfl⟩ := hy y
  obtain ⟨e0, e1, e2⟩ := at_3 t
  have i0 : seq t = (((cfg0.win 3).blk t).view.emb (ix3 0 0 l) : S32x1x1024.Idx) 0 := Fin.ext (by
    show t.val = cc0_transform_3 (grid0.coords t) 0 * 1 + 1 * 0
    rw [e0]; omega)
  have i2 : l = (((cfg0.win 3).blk t).view.emb (ix3 0 0 l) : S32x1x1024.Idx) 2 := Fin.ext (by
    show l.val = cc0_transform_3 (grid0.coords t) 2 * 1024 + 1 * l.val
    rw [e2]; omega)
  refine Eq.trans (b := ((dats m 0 c).after 3 t : S1x1x1024.Idx → EReal) (ix3 0 0 l)) rfl ?_
  rw [after0_3]
  exact (out3_apply m c t l).trans (congrArg₂ (fun b l => flat (a0 m c) (a1 m c) (a2 m c) b l) i0 i2)

/-- THE WINDOWS' ARRAY after the last point. -/
theorem final_4 : (dats m 0 c).arrAt 4 cfg0.N = res4 m c := by
  refine (dats m 0 c).arrAt_eq_of_emb 4 (res4 m c) (fun t hf y => ?_) covered4
  have hy : ∀ y : S1x512x512.Idx, ∃ (p q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_4 t
  have i0 : seq t = (((cfg0.win 4).blk t).view.emb (ix3 0 p q) : S32x512x512.Idx) 0 := Fin.ext (by
    show t.val = cc0_transform_4 (grid0.coords t) 0 * 1 + 1 * 0
    rw [e0]; omega)
  have i1 : p = (((cfg0.win 4).blk t).view.emb (ix3 0 p q) : S32x512x512.Idx) 1 := Fin.ext (by
    show p.val = cc0_transform_4 (grid0.coords t) 1 * 512 + 1 * p.val
    rw [e1]; omega)
  have i2 : q = (((cfg0.win 4).blk t).view.emb (ix3 0 p q) : S32x512x512.Idx) 2 := Fin.ext (by
    show q.val = cc0_transform_4 (grid0.coords t) 2 * 512 + 1 * q.val
    rw [e2]; omega)
  refine Eq.trans (b := ((dats m 0 c).after 4 t : S1x512x512.Idx → EReal) (ix3 0 p q)) rfl ?_
  rw [after0_4]
  refine (out4_apply m c t p q).trans ?_
  show next (a1 m c) (a2 m c) (seq t) p q = next (a1 m c) (a2 m c) _ _ _
  exact congr (congr (congrArg (next (a1 m c) (a2 m c)) i0) i1) i2

/-- THE RUN: both results, and the arguments as they were. -/
theorem run_values (g : Dev nD → PrngReg) : θ_run defs (onTc (τ := τ) (main (F := Ideal))) ⟨m, fun _ => 0, g⟩ fun r => ∀ c : Dev nD,
      r.2.mem ((c.tc : Thread nD τ).loc main_v0_0) = res3 m c
      ∧ r.2.mem ((c.tc : Thread nD τ).loc main_v0_1) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3 |>.trans (final_3 m c), (h.1 c).1 4 |>.trans (final_4 m c), h.2 c⟩) (θ_run_and (run_main m g) (unchanged m g))

end Cert.WinIdeal.Gen

end
-- ==== Proof.WinClaim.lean ====
module

public import proofs.«01_k».proof.Defs
public import proofs.«01_k».proof.Proof.Gen.Win.Frame
public import proofs.«01_k».proof.Proof.WinIdeal.Value
public import proofs.«01_k».proof.Proof.Gen.WinRefIdeal.Run
public import Idealize.ShloMosaic.Lib.Quiescent

@[expose] public section

set_option maxRecDepth 16384

noncomputable section

/-! # The claims about the sample's window attention -/

namespace Cert.WinClaim

open Idealize.ShloMosaic hiding ix1 ix2 ix3 ix4
open Idealize.ShloMosaic.TcCoe Idealize.ShloMosaic.ValueIdx
open Idealize.SL Idealize.SL.Sem

/-- The kernel runs, leaves its arguments and every counter as they were. -/
theorem kernel_frame : quiescent_Win := fun m g _ => Win.Gen.frame m g

/-- The idealized kernel too. -/
theorem ideal_frame : quiescent_WinIdeal := fun m g _ => WinIdeal.Gen.frame m g

/-- The reference has no counters, so that its run leaves all of them at zero. -/
theorem ref_frame : quiescent_WinRefIdeal := fun m g _ =>
  (θ_run WinRefIdeal.defs _ _).mono (fun r h => ⟨fun c => (h c).2.2, sem_eq_zero_of_no_sems (by decide) r.2⟩) (WinRefIdeal.Value.run (F := Ideal) m g)

/-- The kernel and the reference leave equal results over the extended reals. -/
theorem values : algebraic_WinIdeal_WinRefIdeal := fun m g m' g' _ he => by
  refine ⟨fun c => WinIdeal.Gen.res3 m c, fun c => WinIdeal.Gen.res4 m c, WinIdeal.Gen.run_values m g, ?_⟩
  refine (θ_run WinRefIdeal.defs _ _).mono (fun r hr c => ?_) (WinRefIdeal.Value.run (F := Ideal) m' g')
  obtain ⟨h0, h1, hargs⟩ := hr c
  obtain ⟨e0, e1, e2⟩ := he c
  refine ⟨h0.trans ?_, h1.trans ?_, hargs⟩
  · refine (WinRefIdeal.Read.val_main_v43_eq m' c).trans ?_
    rw [e0, e1, e2]
    funext i
    obtain ⟨b, l, rfl⟩ : ∃ (b : Fin 32) (l : Fin 1024), i = ix3 b 0 l :=
      ⟨i 0, i 2, (ValueIdx.eq_ix3 i).trans (congrArg (fun z => ix3 (i 0) z (i 2)) (Fin.ext (by have : (i 1).val < 1 := (i 1).isLt; show (i 1).val = 0; omega)))⟩
    obtain ⟨g, h, d, rfl⟩ : ∃ (g : Fin 2) (h : Fin 4) (d : Fin 128), l = WinSpec.lane g h d :=
      ⟨⟨l.val / 512, by omega⟩, ⟨l.val / 128 % 4, by omega⟩, ⟨l.val % 128, by omega⟩, Fin.ext (by show l.val = (l.val / 512 * 4 + l.val / 128 % 4) * 128 + l.val % 128; omega)⟩
    exact (WinRefIdeal.Read.v43_apply _ _ _ b g h d).trans (WinIdeal.Gen.flat_eq _ _ _ b _ g h d rfl).symm
  · refine (WinRefIdeal.Read.val_main_v1_eq _ _).trans ?_
    rw [e1, e2]
    funext i
    obtain ⟨b, r, k, rfl⟩ : ∃ (b : Fin 32) (r k : Fin 512), i = ix3 b r k := ⟨i 0, i 1, i 2, ValueIdx.eq_ix3 i⟩
    exact WinRefIdeal.Read.v1_apply _ _ b r k

end Cert.WinClaim

end
-- ==== Proof.InprojSampleSame.lean ====
module

public import proofs.«01_k».proof.Proof.Gen.InprojSample
public import proofs.«01_k».proof.Proof.Gen.InprojSampleIdeal

@[expose] public section

set_option maxRecDepth 16384

noncomputable section

/-! # The projection at the sample's shapes and its idealization are one program

No operation was rewritten, so that what holds of the idealized program at every kind of floats holds of the kernel. -/

namespace Cert.InprojSample.Same

open Idealize.ShloMosaic

variable {F : FTy → Type} [FloatOps F]

/-- The bodies are equal, -/
theorem body_eq : @InprojSample.cc0_inproj F _ _ = @InprojSampleIdeal.cc0_inproj F _ _ := rfl

/-- so are the tables of bodies -/
theorem defs₀_eq : InprojSample.defs₀ (F := F) = InprojSampleIdeal.defs₀ (F := F) := by
  unfold InprojSample.defs₀ InprojSampleIdeal.defs₀
  refine congrArg Defs.onTc ?_
  funext l x
  match l, x with
  | 0, (t, s) =>
    show @InprojSample.cc0_inproj F _ _ _ _ _ _ _ _ _ _ _ _ _ _ _ _ _ _ _ _ _ _ _ _ _ _ _ _ _ = _
    rw [body_eq]
    rfl

/-- and the tables with the calls' pipelines, -/
theorem defs_eq : InprojSample.defs (F := F) = InprojSampleIdeal.defs (F := F) := congrArg (Pipeline.defs InprojSampleIdeal.pcfgs) defs₀_eq

/-- and the host code is the same. -/
theorem main_eq : InprojSample.main (F := F) = InprojSampleIdeal.main (F := F) := rfl

end Cert.InprojSample.Same

end
-- ==== Proof.InprojSampleIdeal.Runs.lean ====
module

public import proofs.«01_k».proof.Proof.Gen.InprojSampleIdeal.Frame
public import proofs.«01_k».proof.Proof.Gen.InprojSampleIdeal.Skeleton
public import Idealize.ShloMosaic.Lib.Pipeline.DatRel
public import Idealize.ShloMosaic.Lib.Pipeline.ArrRel

@[expose] public section

set_option maxRecDepth 16384

noncomputable section

namespace Cert.InprojSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 9 % 1 := Pipeline.Grid.coords_val t 0 (by decide) rfl
    have e1 : (grid0.coords t 1).val = t.val / 9 % 1 := Pipeline.Grid.coords_val t 1 (by decide) rfl
    have e2 : (grid0.coords t 2).val = t.val / 1 % 9 := Pipeline.Grid.coords_val t 2 (by decide) rfl
    simp only [cond0_0, k0_cond1, e0, e1, e2]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points whose coordinates have i2 ≤ 1 — decided over the grid. -/
theorem hcond0_1 : ∀ t : Fin cfg0.N, cond0_1 (grid0.coords t) ↔ t.val % 9 ≤ 1 :=
  (by decide +kernel : ∀ t : Fin grid0.N, cond0_1 (grid0.coords t) ↔ t.val % 9 ≤ 1)

/-- The condition of the body's `scf.if` 2 (`k0_h3`), from the grid coordinates (the skeleton's scalar
    chain substituted). -/
abbrev cond0_2 (i : grid0.Coords) : Prop := k0_cond3 i = 1#1
/-- It holds at the points ≡ 2 (mod 9) — by arithmetic of the point. -/
theorem hcond0_2 : ∀ t : Fin cfg0.N, cond0_2 (grid0.coords t) ↔ t.val % 9 = 2 :=
  (fun t => by
    have ht : t.val < 9 := Nat.lt_of_lt_of_eq t.isLt N_0
    have e0 : (grid0.coords t 0).val = t.val / 9 % 1 := Pipeline.Grid.coords_val t 0 (by decide) rfl
    have e1 : (grid0.coords t 1).val = t.val / 9 % 1 := Pipeline.Grid.coords_val t 1 (by decide) rfl
    have e2 : (grid0.coords t 2).val = t.val / 1 % 9 := Pipeline.Grid.coords_val t 2 (by decide) rfl
    simp only [cond0_2, k0_cond3, e0, e1, e2]
    word_cmp
   : ∀ t : Fin grid0.N, cond0_2 (grid0.coords t) ↔ t.val % 9 = 2)

/-- The condition of the body's `scf.if` 3 (`k0_h4`), from the grid coordinates (the skeleton's scalar
    chain substituted). -/
abbrev cond0_3 (i : grid0.Coords) : Prop := k0_cond4 i = 1#1
/-- It holds at the points whose coordinates have 3 ≤ i2 and i2 ≤ 4 — by arithmetic of the point. -/
theorem hcond0_3 : ∀ t : Fin cfg0.N, cond0_3 (grid0.coords t) ↔ (3 ≤ t.val % 9 ∧ t.val % 9 ≤ 4) :=
  (fun t => by
    have ht : t.val < 9 := Nat.lt_of_lt_of_eq t.isLt N_0
    have e0 : (grid0.coords t 0).val = t.val / 9 % 1 := Pipeline.Grid.coords_val t 0 (by decide) rfl
    have e1 : (grid0.coords t 1).val = t.val / 9 % 1 := Pipeline.Grid.coords_val t 1 (by decide) rfl
    have e2 : (grid0.coords t 2).val = t.val / 1 % 9 := Pipeline.Grid.coords_val t 2 (by decide) rfl
    simp only [cond0_3, k0_cond4, e0, e1, e2]
    word_cmp
   : ∀ t : Fin grid0.N, cond0_3 (grid0.coords t) ↔ (3 ≤ t.val % 9 ∧ t.val % 9 ≤ 4))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x32x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InprojSampleIdeal.Gen

end
-- ==== Proof.InprojSampleIdeal.Run.lean ====
module

public import proofs.«01_k».proof.Proof.InprojSampleIdeal.Runs
public import Idealize.ShloMosaic.Lib.VecWindow

@[expose] public section

set_option maxRecDepth 16384

noncomputable section

namespace Cert.InprojSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a whole buffer at `x` reads after a store of all of it that is made only under `p`. -/
theorem read_store_if {s : Shape} {e : EltTy} {sp : Space} (A : Memref sig .tc sp s e) (hA : A.IsWhole) (x : s.Idx → Elt F e)
    (p : Prop) [Decidable p] {off : Fin s.rank → ℕ} (inb : ∀ a, off a + s.size a ≤ s.size a) (w : s.Idx → Elt F e) :
    A.view.read (Elt F) (if hc : p then A.view.writes (Elt F) (hA.unread x) [⟨Rect.unit off s.size inb, w⟩] else hA.unread x)
      = if p then w else x := by
  split
  · exact View.read_writes_full _ _ inb w []
  · exact hA.read_unread x

/-- The scratch after the body: the modulated input of the row tile at the tile's first point, what it held otherwise. -/
def scr (i : grid0.Coords) (x0 : Vec F S1x32x2048 .f32) (x1 : Vec F S1x2048 .f32) (x2 x3 : Vec F S1x32x2048 .f32) (s : Vec F S32x2048 .bf16) : Vec F S32x2048 .bf16 :=
  if cond0_0 i then k0_pay8 x0 x1 x2 x3 else s
/-- The block of the first keys and values after the body: the product at the first two points of the tile. -/
def kvv (i : grid0.Coords) (h : Vec F S32x2048 .bf16) (x4 : Vec F S2048x512 .bf16) (y : Vec F S1x32x512 .f32) : Vec F S1x32x512 .f32 :=
  if cond0_1 i then k0_pay4 h x4 else y
/-- The block of the window's keys and values after the body: the product at the third point of the tile. -/
def wnv (i : grid0.Coords) (h : Vec F S32x2048 .bf16) (x4 : Vec F S2048x512 .bf16) (y : Vec F S1x32x512 .f32) : Vec F S1x32x512 .f32 :=
  if cond0_2 i then k0_pay5 h x4 else y
/-- The block of the last keys and values after the body: the product at the fourth and fifth points of the tile. -/
def kfv (i : grid0.Coords) (h : Vec F S32x2048 .bf16) (x4 : Vec F S2048x512 .bf16) (y : Vec F S1x32x512 .f32) : Vec F S1x32x512 .f32 :=
  if cond0_3 i then k0_pay6 h x4 else y
/-- The block of gates and logits after the body: written at the first point of the tile. -/
def smv (i : grid0.Coords) (x0 : Vec F S1x32x2048 .f32) (x1 : Vec F S1x2048 .f32) (x2 x3 : Vec F S1x32x2048 .f32) (x5 : Vec F S2048x128 .bf16) (x6 : Vec F S1x128 .f32) (y : Vec F S1x32x128 .f32) : Vec F S1x32x128 .f32 :=
  if cond0_0 i then k0_pay1 (k0_pay9 x0 x1 x2 x3 x5 x6) (iota .tc S32x128 32 [1] iota_S32x128_d1_w32) 24#32 else y

set_option maxHeartbeats 2000000 in
/-- The whole body at a point: from the input blocks and what the output blocks and the scratch hold, to what they hold
    after it. -/
theorem kernel_run (c : Dev nD) (i : grid0.Coords) (arg3 : Memref sig .tc .vmem S1x32x2048 .f32) (harg3 : arg3.IsWhole) (arg4 : Memref sig .tc .vmem S1x2048 .f32) (harg4 : arg4.IsWhole) (arg5 : Memref sig .tc .vmem S1x32x2048 .f32) (harg5 : arg5.IsWhole) (arg6 : Memref sig .tc .vmem S1x32x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x128 .f32) (harg9 : arg9.IsWhole) (arg10 : Memref sig .tc .vmem S1x32x512 .bf16) (harg10 : arg10.IsWhole) (arg11 : Memref sig .tc .vmem S1x32x512 .f32) (harg11 : arg11.IsWhole) (arg12 : Memref sig .tc .vmem S1x32x512 .f32) (harg12 : arg12.IsWhole) (arg13 : Memref sig .tc .vmem S1x32x512 .f32) (harg13 : arg13.IsWhole) (arg14 : Memref sig .tc .vmem S1x32x128 .f32) (harg14 : arg14.IsWhole) (arg15 : Memref sig .tc .vmem S32x2048 .bf16) (harg15 : arg15.IsWhole)
    (x0 : Vec F S1x32x2048 .f32) (x1 : Vec F S1x2048 .f32) (x2 : Vec F S1x32x2048 .f32) (x3 : Vec F S1x32x2048 .f32) (x4 : Vec F S2048x512 .bf16) (x5 : Vec F S2048x128 .bf16) (x6 : Vec F S1x128 .f32)
    (y7 : Vec F S1x32x512 .bf16) (y8 : Vec F S1x32x512 .f32) (y9 : Vec F S1x32x512 .f32) (y10 : Vec F S1x32x512 .f32) (y11 : Vec F S1x32x128 .f32) (s0 : Vec F S32x2048 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare s0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay3 (scr i x0 x1 x2 x3 s0) x4) ∗ owns (c : Thread nD τ) arg11 fullShare (kvv i (scr i x0 x1 x2 x3 s0) x4 y8) ∗ owns (c : Thread nD τ) arg12 fullShare (wnv i (scr i x0 x1 x2 x3 s0) x4 y9) ∗ owns (c : Thread nD τ) arg13 fullShare (kfv i (scr i x0 x1 x2 x3 s0) x4 y10) ∗ owns (c : Thread nD τ) arg14 fullShare (smv i x0 x1 x2 x3 x5 x6 y11) ∗ owns (c : Thread nD τ) arg15 fullShare (scr i x0 x1 x2 x3 s0)) -∗ K ⟨⟩))
          ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
    simp only [cc0_inproj_eq_skeleton]; unfold cc0_inproj_skel
    simp only [k0_part1_eq_skeleton]; unfold k0_part1_skel
    have e0 : arg3.view.readAt (Elt F) (Rect.unit ![0, 0, 0] S1x32x2048.size inb_S1x32x2048_S1x32x2048_0_0_0).toLoadRect (harg3.unread x0) = x0 :=
      (View.readAt_full _ _ _).trans (harg3.read_unread x0)
    have e1 : arg4.view.readAt (Elt F) (Rect.unit ![0, 0] S1x2048.size inb_S1x2048_S1x2048_0_0).toLoadRect (harg4.unread x1) = x1 :=
      (View.readAt_full _ _ _).trans (harg4.read_unread x1)
    have e2 : arg5.view.readAt (Elt F) (Rect.unit ![0, 0, 0] S1x32x2048.size inb_S1x32x2048_S1x32x2048_0_0_0).toLoadRect (harg5.unread x2) = x2 :=
      (View.readAt_full _ _ _).trans (harg5.read_unread x2)
    have e3 : arg6.view.readAt (Elt F) (Rect.unit ![0, 0, 0] S1x32x2048.size inb_S1x32x2048_S1x32x2048_0_0_0).toLoadRect (harg6.unread x3) = x3 :=
      (View.readAt_full _ _ _).trans (harg6.read_unread x3)
    have e4 : arg7.view.readAt (Elt F) (Rect.unit ![0, 0] S2048x512.size inb_S2048x512_S2048x512_0_0).toLoadRect (harg7.unread x4) = x4 :=
      (View.readAt_full _ _ _).trans (harg7.read_unread x4)
    have e5 : arg8.view.readAt (Elt F) (Rect.unit ![0, 0] S2048x128.size inb_S2048x128_S2048x128_0_0).toLoadRect (harg8.unread x5) = x5 :=
      (View.readAt_full _ _ _).trans (harg8.read_unread x5)
    have e6 : arg9.view.readAt (Elt F) (Rect.unit ![0, 0] S1x128.size inb_S1x128_S1x128_0_0).toLoadRect (harg9.unread x6) = x6 :=
      (View.readAt_full _ _ _).trans (harg9.read_unread x6)
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    obtain rfl := harg15.eq_unread hs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr
      swap; · iexact H7
      ipureintro
      refine (View.read_writes_full _ _ _ _ _).trans ?_
      congr 1
      exact (View.readAt_full _ _ _).trans ((read_store_if arg15 harg15 s0 _ _ _).trans (by first | rfl | (rw [e0, e1, e2, e3]; rfl)))
    isplitl [H8]
    · iexists _; isplitr
      swap; · iexact H8
      ipureintro
      refine (read_store_if arg11 harg11 y8 _ _ _).trans ?_
      refine if_congr Iff.rfl ?_ rfl
      congr 1
      exact (View.readAt_full _ _ _).trans ((read_store_if arg15 harg15 s0 _ _ _).trans (by first | rfl | (rw [e0, e1, e2, e3]; rfl)))
    isplitl [H9]
    · iexists _; isplitr
      swap; · iexact H9
      ipureintro
      refine (read_store_if arg12 harg12 y9 _ _ _).trans ?_
      refine if_congr Iff.rfl ?_ rfl
      congr 1
      exact (View.readAt_full _ _ _).trans ((read_store_if arg15 harg15 s0 _ _ _).trans (by first | rfl | (rw [e0, e1, e2, e3]; rfl)))
    isplitl [H10]
    · iexists _; isplitr
      swap; · iexact H10
      ipureintro
      refine (read_store_if arg13 harg13 y10 _ _ _).trans ?_
      refine if_congr Iff.rfl ?_ rfl
      congr 1
      exact (View.readAt_full _ _ _).trans ((read_store_if arg15 harg15 s0 _ _ _).trans (by first | rfl | (rw [e0, e1, e2, e3]; rfl)))
    isplitl [H11]
    · iexists _; isplitr
      swap; · iexact H11
      ipureintro
      refine (read_store_if arg14 harg14 y11 _ _ _).trans ?_
      first | rfl | (rw [e0, e1, e2, e3, e5, e6]; rfl)
    iexists _; isplitr
    swap; · iexact HS0
    ipureintro
    exact (read_store_if arg15 harg15 s0 _ _ _).trans (by first | rfl | (rw [e0, e1, e2, e3]; rfl))

end Cert.InprojSampleIdeal.Gen

end
-- ==== Proof.InprojSampleIdeal.Frame.lean ====
module

public import proofs.«01_k».proof.Proof.InprojSampleIdeal.Run
public import Idealize.ShloMosaic.Lib.Claim

@[expose] public section

set_option maxRecDepth 16384

noncomputable section

namespace Cert.InprojSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the outputs hold after each point -/

/-- The point of number `j` of the nine of the row tile of point `t`. -/
def pt (t : Fin cfg0.N) (j : ℕ) (hj : j < 9) : Fin cfg0.N :=
  ⟨9 * (t.val / 9) + j, by have h : t.val < 9 := Nat.lt_of_lt_of_eq t.isLt N_0; exact Nat.lt_of_lt_of_eq (by omega) N_0.symm⟩

/-- A point is the one of its own number in its tile. -/
theorem pt_self (t : Fin cfg0.N) (j : ℕ) (hj : j < 9) (h : t.val % 9 = j) : pt t j hj = t :=
  Fin.ext (by show 9 * (t.val / 9) + j = t.val; omega)

/-- Points of one tile have the same points. -/
theorem pt_congr (t u : Fin cfg0.N) (j : ℕ) (hj : j < 9) (h : t.val / 9 = u.val / 9) : pt t j hj = pt u j hj :=
  Fin.ext (by show 9 * (t.val / 9) + j = 9 * (u.val / 9) + j; rw [h])

/-- The point before a point. -/
abbrev before (t : Fin cfg0.N) : Fin cfg0.N := ⟨t.val - 1, Nat.lt_of_le_of_lt (Nat.sub_le _ _) t.isLt⟩

/-- What the scratch holds after the body at point `t`: the modulated input of the row tile. -/
def hAt (c : Dev nD) (t : Fin cfg0.N) : Vec F S32x2048 .bf16 :=
  k0_pay8 (iblk m c 0 (pt t 0 (by decide))) (iblk m c 1 (pt t 0 (by decide))) (iblk m c 2 (pt t 0 (by decide))) (iblk m c 3 (pt t 0 (by decide)))
/-- The product written in the main result at point `t`. -/
def pbAt (c : Dev nD) (t : Fin cfg0.N) : Vec F S1x32x512 .bf16 := k0_pay3 (hAt m c t) (iblk m c 4 t)
/-- The same as the first keys and values, -/
def kvAt (c : Dev nD) (t : Fin cfg0.N) : Vec F S1x32x512 .f32 := k0_pay4 (hAt m c t) (iblk m c 4 t)
/-- as the window's, -/
def wnAt (c : Dev nD) (t : Fin cfg0.N) : Vec F S1x32x512 .f32 := k0_pay5 (hAt m c t) (iblk m c 4 t)
/-- as the last. -/
def kfAt (c : Dev nD) (t : Fin cfg0.N) : Vec F S1x32x512 .f32 := k0_pay6 (hAt m c t) (iblk m c 4 t)
/-- The gates and logits written at the first point of a tile. -/
def smAt (c : Dev nD) (t : Fin cfg0.N) : Vec F S1x32x128 .f32 :=
  k0_pay1 (k0_pay9 (iblk m c 0 t) (iblk m c 1 t) (iblk m c 2 t) (iblk m c 3 t) (iblk m c 5 t) (iblk m c 6 t)) (iota .tc S32x128 32 [1] iota_S32x128_d1_w32) 24#32

/-- At the first point of a tile the scratch is replaced, whatever it held. -/
theorem scr_first (c : Dev nD) (t : Fin cfg0.N) (h : t.val % 9 = 0) (s : Vec F S32x2048 .bf16) :
    scr (grid0.coords t) (iblk m c 0 t) (iblk m c 1 t) (iblk m c 2 t) (iblk m c 3 t) s = hAt m c t := by
  unfold scr hAt
  rw [if_pos ((hcond0_0 t).mpr h), pt_self t 0 (by decide) h]

/-- At the others it is kept. -/
theorem scr_kept (c : Dev nD) (t : Fin cfg0.N) (h : t.val % 9 ≠ 0) :
    scr (grid0.coords t) (iblk m c 0 t) (iblk m c 1 t) (iblk m c 2 t) (iblk m c 3 t) (hAt m c (before t)) = hAt m c t := by
  unfold scr hAt
  rw [if_neg (fun e => h ((hcond0_0 t).mp e)), pt_congr (before t) t 0 (by decide) (by show (t.val - 1) / 9 = t.val / 9; omega)]

/-- The output windows, of which only a condition on what the body leaves is stated. -/
def fgt : Fin 12 → Bool := fun w => w.val == 7 || w.val == 8 || w.val == 9 || w.val == 10 || w.val == 11

/-- The condition on what the body leaves in an output's buffer at point `t`: the main result's block of the point; of the
    others the block of the last point of the tile that wrote one, and nothing before the first that does. -/
def Rl (c : Dev nD) (w : Fin cfg0.W) (t : Fin cfg0.N) : ((cfg0.win w).block.Idx → Elt F (cfg0.win w).elt) → Prop :=
  match w with
  | ⟨7, _⟩ => fun X => X = pbAt m c t
  | ⟨8, _⟩ => fun X => X = kvAt m c (pt t (min (t.val % 9) 1) (by omega))
  | ⟨9, _⟩ => fun X => 2 ≤ t.val % 9 → X = wnAt m c (pt t 2 (by decide))
  | ⟨10, _⟩ => fun X => 3 ≤ t.val % 9 → X = kfAt m c (pt t (min (t.val % 9) 4) (by omega))
  | ⟨11, _⟩ => fun X => X = smAt m c (pt t 0 (by decide))
  | _ => fun _ => True

/-- The invariant before position `n`: at first the scratch holds anything; afterwards what the point before left in it. The
    generator register is at some state. -/
def PhiS (c : Dev nD) : (n : ℕ) → n ≤ cfg0.N → sProp 𝕄
  | 0, _ => Pipeline.ΦA spec0 c
  | n + 1, hn => iprop(owns (c : Thread nD τ) scM0_0 fullShare (hAt m c ⟨n, hn⟩) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(owns (c : Thread nD τ) scM0_0 fullShare (hAt m c ⟨n, hn⟩) ∗ (∃ r, prngReg c r)) := rfl

/-- Before a point that is not the first: the scratch at what the point before left. -/
theorem PhiS_pos (c : Dev nD) (n : ℕ) (h : n ≤ cfg0.N) (hz : n ≠ 0) :
    PhiS m c n h = iprop(owns (c : Thread nD τ) scM0_0 fullShare (hAt m c ⟨n - 1, by omega⟩) ∗ (∃ r, prngReg c r)) := by
  cases n with
  | zero => exact absurd rfl hz
  | succ n => rfl

/-! ## The pipeline's proof data -/

/-- The proof data on core `c`: the arrays as found at entry; after the body at a point each input's buffer at its block and
    the outputs' not named; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data with the outputs held to the conditions above. -/
abbrev rdat (c : Dev nD) : Pipeline.RDat τ (Elt F) Unit ℕ (UR sig nD τ) ℕ cfg0 c := (dats m 0 c).toRRel fgt (Rl m c)

/-- The proof data's arrays are the contents at entry. -/
theorem A_eq (c : Dev nD) (w : Fin cfg0.W) : (dats m 0 c).A w = V m c (Pipeline.arrRef spec0 w) := by
  dsimp only [dats]

/-- The invariant at a point's start, restated at its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-! Each input's current staging buffer holds its block at every point, fetched there or not. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## When the outputs are written back -/

/-- The first keys and values are written back after the first and the last point of a tile. -/
theorem flush0_8 : ∀ t : Fin cfg0.N, (cfg0.win 8).flush t = true ↔ (t.val % 9 = 0 ∨ t.val % 9 = 8) :=
  (by decide +kernel : ∀ t : Fin grid0.N, win0_8.flush t = true ↔ (t.val % 9 = 0 ∨ t.val % 9 = 8))

/-- The last keys and values after the fourth and the last. -/
theorem flush0_10 : ∀ t : Fin cfg0.N, (cfg0.win 10).flush t = true ↔ (t.val % 9 = 3 ∨ t.val % 9 = 8) :=
  (by decide +kernel : ∀ t : Fin grid0.N, win0_10.flush t = true ↔ (t.val % 9 = 3 ∨ t.val % 9 = 8))

/-- What is found in a conditioned buffer that was not written back at the point before meets the condition of that point. -/
theorem rl_of_finds (c : Dev nD) (w : Fin cfg0.W) (hw : fgt w = true) (hout : (cfg0.win w).isOut = true) (t : Fin cfg0.N) (ht : t.val ≠ 0)
    (hfl : (cfg0.win w).flush (before t) ≠ true) (Y : (cfg0.win w).block.Idx → Elt F (cfg0.win w).elt) (h : (rdat m c).Finds w t Y) :
    Rl m c w (before t) Y := by
  rcases ((rdat m c).finds_of_pos (Pipeline.Window.fetch_out _ hout t) ht Y).mp h with h1 | h1
  · exact absurd h1 hfl
  · exact (dats m 0 c).toRRel_leaves hw h1

/-! ## The body keeps the conditions -/

theorem step_8 (c : Dev nD) (t : Fin cfg0.N) (Y : Vec F S1x32x512 .f32) (h : (rdat m c).Finds 8 t Y) :
    kvv (grid0.coords t) (hAt m c t) (iblk m c 4 t) Y = kvAt m c (pt t (min (t.val % 9) 1) (by omega)) := by
  unfold kvv
  by_cases hc : t.val % 9 ≤ 1
  · rw [if_pos ((hcond0_1 t).mpr hc), pt_self t (min (t.val % 9) 1) (by omega) (by omega)]; rfl
  · rw [if_neg (fun e => hc ((hcond0_1 t).mp e))]
    have e : Y = kvAt m c (pt (before t) (min ((before t).val % 9) 1) (by omega)) :=
      rl_of_finds m c 8 rfl rfl t (by omega) (fun e => by have := (flush0_8 _).mp e; simp only at this; omega) Y h
    refine e.trans (congrArg (kvAt m c) (Fin.ext ?_))
    show 9 * ((t.val - 1) / 9) + min ((t.val - 1) % 9) 1 = 9 * (t.val / 9) + min (t.val % 9) 1
    omega

theorem step_9 (c : Dev nD) (t : Fin cfg0.N) (Y : Vec F S1x32x512 .f32) (h : (rdat m c).Finds 9 t Y) (h2 : 2 ≤ t.val % 9) :
    wnv (grid0.coords t) (hAt m c t) (iblk m c 4 t) Y = wnAt m c (pt t 2 (by decide)) := by
  unfold wnv
  by_cases hc : t.val % 9 = 2
  · rw [if_pos ((hcond0_2 t).mpr hc), pt_self t 2 (by omega) (by omega)]; rfl
  · rw [if_neg (fun e => hc ((hcond0_2 t).mp e))]
    have e : 2 ≤ (before t).val % 9 → Y = wnAt m c (pt (before t) 2 (by omega)) :=
      rl_of_finds m c 9 rfl rfl t (by omega) (fun e => by have := (flush0_9 _).mp e; simp only at this; omega) Y h
    refine (e (by show 2 ≤ (t.val - 1) % 9; omega)).trans (congrArg (wnAt m c) (pt_congr _ _ _ _ ?_))
    show (t.val - 1) / 9 = t.val / 9
    omega

theorem step_10 (c : Dev nD) (t : Fin cfg0.N) (Y : Vec F S1x32x512 .f32) (h : (rdat m c).Finds 10 t Y) (h2 : 3 ≤ t.val % 9) :
    kfv (grid0.coords t) (hAt m c t) (iblk m c 4 t) Y = kfAt m c (pt t (min (t.val % 9) 4) (by omega)) := by
  unfold kfv
  by_cases hc : t.val % 9 ≤ 4
  · rw [if_pos ((hcond0_3 t).mpr ⟨h2, hc⟩), pt_self t (min (t.val % 9) 4) (by omega) (by omega)]; rfl
  · rw [if_neg (fun e => hc ((hcond0_3 t).mp e).2)]
    have e : 3 ≤ (before t).val % 9 → Y = kfAt m c (pt (before t) (min ((before t).val % 9) 4) (by omega)) :=
      rl_of_finds m c 10 rfl rfl t (by omega) (fun e => by have := (flush0_10 _).mp e; simp only at this; omega) Y h
    refine (e (by show 3 ≤ (t.val - 1) % 9; omega)).trans (congrArg (kfAt m c) (Fin.ext ?_))
    show 9 * ((t.val - 1) / 9) + min ((t.val - 1) % 9) 4 = 9 * (t.val / 9) + min (t.val % 9) 4
    omega

theorem step_11 (c : Dev nD) (t : Fin cfg0.N) (Y : Vec F S1x32x128 .f32) (h : (rdat m c).Finds 11 t Y) :
    smv (grid0.coords t) (iblk m c 0 t) (iblk m c 1 t) (iblk m c 2 t) (iblk m c 3 t) (iblk m c 5 t) (iblk m c 6 t) Y = smAt m c (pt t 0 (by decide)) := by
  unfold smv
  by_cases hc : t.val % 9 = 0
  · rw [if_pos ((hcond0_0 t).mpr hc), pt_self t 0 (by omega) (by omega)]; rfl
  · rw [if_neg (fun e => hc ((hcond0_0 t).mp e))]
    have e : Y = smAt m c (pt (before t) 0 (by omega)) :=
      rl_of_finds m c 11 rfl rfl t (by omega) (fun e => by have := (flush0_11 _).mp e; simp only at this; omega) Y h
    refine e.trans (congrArg (smAt m c) (pt_congr _ _ _ _ ?_))
    show (t.val - 1) / 9 = t.val / 9
    omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

set_option maxHeartbeats 8000000 in
/-- The body at any point: the inputs' memrefs hold their blocks, the outputs' what meets the conditions, the scratch what the
    point before left (anything at the first point), so `kernel_run` applies and leaves what meets this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6]
  rw [show (dats m 0 c).owesAt () t.succ = (dats m 0 c).owesAt () t.castSucc from rfl]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩⟩
    have e := scr_first m c t (by omega) ds0
    rw [← e]
    iapply (kernel_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr
      swap; · iexact H7
      ipureintro; rw [e]; exact rfl
    isplitl [H8]
    · iexists _; isplitr
      swap; · iexact H8
      ipureintro; rw [e]; exact step_8 m c t Y8 h8
    isplitl [H9]
    · iexists _; isplitr
      swap; · iexact H9
      ipureintro; rw [e]; exact step_9 m c t Y9 h9
    isplitl [H10]
    · iexists _; isplitr
      swap; · iexact H10
      ipureintro; rw [e]; exact step_10 m c t Y10 h10
    iexists _; isplitr
    swap; · iexact H11
    ipureintro; exact step_11 m c t Y11 h11
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩⟩
    have e : scr (grid0.coords t) (iblk m c 0 t) (iblk m c 1 t) (iblk m c 2 t) (iblk m c 3 t) (hAt m c (before t)) = hAt m c t := by
      by_cases h9 : t.val % 9 = 0
      · exact scr_first m c t h9 _
      · exact scr_kept m c t h9
    rw [← e]
    iapply (kernel_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y7 Y8 Y9 Y10 Y11 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr
      swap; · iexact H7
      ipureintro; rw [e]; exact rfl
    isplitl [H8]
    · iexists _; isplitr
      swap; · iexact H8
      ipureintro; rw [e]; exact step_8 m c t Y8 h8
    isplitl [H9]
    · iexists _; isplitr
      swap; · iexact H9
      ipureintro; rw [e]; exact step_9 m c t Y9 h9
    isplitl [H10]
    · iexists _; isplitr
      swap; · iexact H10
      ipureintro; rw [e]; exact step_10 m c t Y10 h10
    iexists _; isplitr
    swap; · iexact H11
    ipureintro; exact step_11 m c t Y11 h11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives the region's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

set_option backward.isDefEq.respectTransparency.types false in
/-- The run of any proof data with output windows held to conditions. -/
theorem run_rel (d : (p : Fin 1) → (c : Dev nD) → Dat τ (Elt F) Unit ℕ (UR sig nD τ) ℕ (cfgs p) c) (g : Fin 12 → Bool)
    (R : (c : Dev nD) → (w : Fin (cfgs 0).W) → Fin (cfgs 0).N → (((cfgs 0).win w).block.Idx → Elt F ((cfgs 0).win w).elt) → Prop)
    (hbody : ∀ c, Pipeline.BodyObligationRel (d 0 c) (defs₀ (F := F)) Variants.none () Set.univ g (R c))
    (hshare : ∀ c w, (d 0 c).share w = fullShare) (howed : ∀ c t, (d 0 c).owed t = 0)
    (hA : ∀ c w, (d 0 c).A w = V m c (Pipeline.arrRef spec0 w))
    (hin : ∀ c, Pipeline.ΦA spec0 c ⊢ (d 0 c).Φ 0) (hout : ∀ c, (d 0 c).Φ (Fin.last (cfgs 0).N) ⊢ Pipeline.ΦA spec0 c) :
    θ_run defs (onTc (τ := τ) (main (F := F))) (s₀ m ρ) (fun r => (Pipeline.RDat.FramePost (cfgs 0) (fun c => (d 0 c).toRRel g (R c)) (V m)) r ∧ r.2.sem = fun _ => 0) :=
  Pipeline.RDat.θ_run_frame_track (Q' := _) cfgs (0 : Fin 1) launch0 defs₀ Variants.none (fun c => (d 0 c).toRRel g (R c)) m ρ main
    (hbody := fun c => (hbody c).toRRel) (hshare := hshare)
    (howed := howed) (V := V m) (hmain := hmain m Variants.none) (hA := hA) (hin := hin) (hout := hout)

/-- The launch ends with every array as the proof data allow and every counter at zero. -/
theorem run_main_quiescent : θ_run defs (onTc (τ := τ) (main (F := F))) (s₀ m ρ) (fun r => (Pipeline.RDat.FramePost (cfgs 0) (fun c => rdat m c) (V m)) r ∧ r.2.sem = fun _ => 0) :=
  run_rel m ρ (dats m) fgt (Rl m) (body_obligation m) (fun c => (dats m 0 c).share_full fun _ => rfl) (fun _ _ => rfl) (A_eq m) (hin m) (hout m)

/-- The same without the counters. -/
theorem run_main : θ_run defs (onTc (τ := τ) (main (F := F))) (s₀ m ρ) (Pipeline.RDat.FramePost (cfgs 0) (fun c => rdat m c) (V m)) :=
  (θ_run defs _ _).mono (fun _ h => h.1) (run_main_quiescent m ρ)

/-- Of such a run the argument arrays end unchanged. -/
theorem args_of (rd : (c : Dev nD) → Pipeline.RDat τ (Elt F) Unit ℕ (UR sig nD τ) ℕ (cfgs 0) c)
    (hA : ∀ c w, (rd c).A w = V m c (Pipeline.arrRef spec0 w)) (r : PUnit × MemSt nD τ sig (Elt F))
    (h : Pipeline.RDat.FramePost (cfgs 0) rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans ((hA c 0).trans (V_main_arg0 m c)),
    ((h c).2 main_arg1 (Pipeline.mem_restRefs_of main_arg1 (by decide) (by decide))).trans (V_main_arg1 m c),
    (h.arr_in c 2 rfl).trans ((hA c 2).trans (V_main_arg2 m c)),
    (h.arr_in c 3 rfl).trans ((hA c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The call terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m (fun c => rdat m c) (A_eq m) r h.1, h.2⟩) (run_main_quiescent m ρ)

end Cert.InprojSampleIdeal.Gen

end
-- ==== Proof.InprojSampleSpec.lean ====
module

public import proofs.«01_k».proof.Proof.InprojSpec
public import proofs.«01_k».proof.Proof.Gen.InprojSampleRefIdeal.Read
public import Idealize.ShloMosaic.Lib.IdealHost
public import Idealize.ShloMosaic.Lib.Pipeline.ValueKit

@[expose] public section

set_option maxRecDepth 16384

noncomputable section

/-! # The projection of the modulated rows, as one formula

`modul` is a row normalised, scaled and modulated, over the extended reals; `proj` is its inner product with a column of the
weights. The five results are columns of that product: `mainCol` says which columns the first holds, and `small` is the gates.
The reference is shown equal to these formulas here, the kernel in its own module. -/

namespace Cert.InprojSampleSpec

open Idealize.ShloMosaic hiding ix1 ix2 ix3
open Idealize.ShloMosaic.ValueIdx
open Cert.InprojSpec (logSig mainCol)

section
variable (x : (⟨3, ![1, 32, 2048]⟩ : Shape).Idx → EReal) (g : (⟨1, ![2048]⟩ : Shape).Idx → EReal) (sc sh : (⟨3, ![1, 32, 2048]⟩ : Shape).Idx → EReal)
  (w : (⟨2, ![2048, 4640]⟩ : Shape).Idx → EReal) (bg : (⟨1, ![24]⟩ : Shape).Idx → EReal) (bf : (⟨1, ![8]⟩ : Shape).Idx → EReal)

/-- The reciprocal root of a row's mean square. -/
def scale (b : Fin 1) (t : Fin 32) : EReal :=
  Ideal.rsqrt (Ideal.div (∑ k : Fin 2048, x (ix3 b t k) * x (ix3 b t k)) (Ideal.ofBits .f32 0x45000000#32) + Ideal.ofBits .f32 0x358637BD#32)

/-- A row normalised, scaled and modulated, at column `k`. -/
def modul (b : Fin 1) (t : Fin 32) (k : Fin 2048) : EReal :=
  x (ix3 b t k) * scale x b t * g (ix1 k) * (Ideal.ofBits .f32 0x3F800000#32 + sc (ix3 b t k)) + sh (ix3 b t k)

/-- Its product with column `n` of the weights. -/
def proj (b : Fin 1) (t : Fin 32) (n : Fin 4640) : EReal := ∑ k : Fin 2048, modul x g sc sh b t k * w (ix2 k n)

/-- The gates: 24 logistic ones, 8 logarithms of logistic ones, and padding that holds the logarithm's value at zero. -/
def small (b : Fin 1) (t : Fin 32) (l : Fin 128) : EReal :=
  if h1 : l.val < 24 then Ideal.logistic (proj x g sc sh w b t ⟨2560 + l.val, by omega⟩ + bg (ix1 ⟨l.val, h1⟩))
  else if h2 : l.val < 32 then logSig (proj x g sc sh w b t ⟨4632 + (l.val - 24), by omega⟩ + bf (ix1 ⟨l.val - 24, by omega⟩))
  else logSig 0
end

end Cert.InprojSampleSpec

namespace Cert.InprojSampleRefIdeal.Read

open Idealize.ShloMosaic hiding ix1 ix2 ix3
open Idealize.ShloMosaic.ValueIdx Cert.InprojSampleSpec
open Cert.InprojSpec (logSig mainCol select_une_self)

variable (x0 : S1x32x2048.Idx → EReal) (x1 : S2048.Idx → EReal) (x2 x3 : S1x32x2048.Idx → EReal) (x4 : S2048x4640.Idx → EReal)
  (x5 : S24.Idx → EReal) (x6 : S8.Idx → EReal)

/-- The reference's reciprocal root. -/
theorem scale_apply (b : Fin 1) (t : Fin 32) : val_main_v7 (F := Ideal) x0 (ix3 b t 0) = scale x0 b t := by
  rw [val_main_v7_apply, val_main_v6_apply, val_main_v4_apply, val_main_v2_apply, val_main_v1_apply, val_main_v3_apply, val_main_v5_apply]
  have e : ∀ j, val_main_cst (F := Ideal) j + ∑ k : Fin 2048, (val_main_v0 (F := Ideal) x0) (idx_main_v1 (idx_main_v2 (ix3 b t 0)) k)
      = ∑ k : Fin 2048, x0 (ix3 b t k) * x0 (ix3 b t k) := by
    intro j
    refine Eq.trans (congrArg₂ (· + ·) (Ideal.ofBits_zero_f32) (Finset.sum_congr rfl fun k _ => ?_)) (zero_add _)
    have i : idx_main_v1 (idx_main_v2 (ix3 b t 0)) k = ix3 b t k := by
      funext a; match a with | ⟨0, _⟩ => exact Subsingleton.elim (α := Fin 1) _ _ | ⟨1, _⟩ => rfl | ⟨2, _⟩ => rfl
    rw [val_main_v0_apply, i]; rfl
  rw [e]; rfl

/-- The reference's modulated row. -/
theorem modul_apply (b : Fin 1) (t : Fin 32) (k : Fin 2048) : val_main_v16 (F := Ideal) x0 x1 x2 x3 (ix3 b t k) = modul x0 x1 x2 x3 b t k := by
  rw [val_main_v16_apply, val_main_v15_apply, val_main_v12_apply, val_main_v9_apply, val_main_v8_apply, val_main_v11_apply, val_main_v10_apply,
    val_main_v14_apply, val_main_v13_apply]
  have i8 : idx_main_v8 (ix3 b t k) = ix3 b t 0 := by funext a; match a with | ⟨0, _⟩ => exact Subsingleton.elim (α := Fin 1) _ _ | ⟨1, _⟩ => rfl | ⟨2, _⟩ => rfl
  have i10 : idx_main_v10 (idx_main_v11 (ix3 b t k)) = ix1 k := by funext a; match a with | ⟨0, _⟩ => rfl
  rw [i8, i10, scale_apply]; rfl

/-- The reference's product. -/
theorem proj_apply (b : Fin 1) (t : Fin 32) (n : Fin 4640) : val_main_v17 (F := Ideal) x0 x1 x2 x3 x4 (ix3 b t n) = proj x0 x1 x2 x3 x4 b t n := by
  rw [val_main_v17_apply]
  refine Finset.sum_congr rfl fun k _ => congrArg₂ (· * ·) ((congrArg _ ?_).trans (modul_apply x0 x1 x2 x3 b t k)) (congrArg x4 ?_)
  · funext a; match a with | ⟨0, _⟩ => rfl | ⟨1, _⟩ => rfl | ⟨2, _⟩ => rfl
  · funext a; match a with | ⟨0, _⟩ => rfl | ⟨1, _⟩ => rfl

/-- Its columns from 0, -/
theorem v18_apply (b : Fin 1) (t : Fin 32) (n : Fin 1024) : val_main_v18 (F := Ideal) x0 x1 x2 x3 x4 (ix3 b t n) = proj x0 x1 x2 x3 x4 b t ⟨n.val, by omega⟩ := by
  rw [val_main_v18_apply]
  refine (congrArg _ ?_).trans (proj_apply x0 x1 x2 x3 x4 b t _)
  funext a; match a with | ⟨0, _⟩ => rfl | ⟨1, _⟩ => rfl | ⟨2, _⟩ => rfl
/-- from 1024, -/
theorem v19_apply (b : Fin 1) (t : Fin 32) (n : Fin 1536) : val_main_v19 (F := Ideal) x0 x1 x2 x3 x4 (ix3 b t n) = proj x0 x1 x2 x3 x4 b t ⟨1024 + n.val, by omega⟩ := by
  rw [val_main_v19_apply]
  refine (congrArg _ ?_).trans (proj_apply x0 x1 x2 x3 x4 b t _)
  funext a; match a with | ⟨0, _⟩ => rfl | ⟨1, _⟩ => rfl | ⟨2, _⟩ => rfl
/-- from 2560, -/
theorem v20_apply (b : Fin 1) (t : Fin 32) (n : Fin 24) : val_main_v20 (F := Ideal) x0 x1 x2 x3 x4 (ix3 b t n) = proj x0 x1 x2 x3 x4 b t ⟨2560 + n.val, by omega⟩ := by
  rw [val_main_v20_apply]
  refine (congrArg _ ?_).trans (proj_apply x0 x1 x2 x3 x4 b t _)
  funext a; match a with | ⟨0, _⟩ => rfl | ⟨1, _⟩ => rfl | ⟨2, _⟩ => rfl
/-- from 2584, -/
theorem v21_apply (b : Fin 1) (t : Fin 32) (n : Fin 1024) : val_main_v21 (F := Ideal) x0 x1 x2 x3 x4 (ix3 b t n) = proj x0 x1 x2 x3 x4 b t ⟨2584 + n.val, by omega⟩ := by
  rw [val_main_v21_apply]
  refine (congrArg _ ?_).trans (proj_apply x0 x1 x2 x3 x4 b t _)
  funext a; match a with | ⟨0, _⟩ => rfl | ⟨1, _⟩ => rfl | ⟨2, _⟩ => rfl
/-- from 3608: the fourth result, -/
theorem v22_apply (b : Fin 1) (t : Fin 32) (n : Fin 1024) : val_main_v22 (F := Ideal) x0 x1 x2 x3 x4 (ix3 b t n) = proj x0 x1 x2 x3 x4 b t ⟨3608 + n.val, by omega⟩ := by
  rw [val_main_v22_apply]
  refine (congrArg _ ?_).trans (proj_apply x0 x1 x2 x3 x4 b t _)
  funext a; match a with | ⟨0, _⟩ => rfl | ⟨1, _⟩ => rfl | ⟨2, _⟩ => rfl
/-- and from 4632. -/
theorem v23_apply (b : Fin 1) (t : Fin 32) (n : Fin 8) : val_main_v23 (F := Ideal) x0 x1 x2 x3 x4 (ix3 b t n) = proj x0 x1 x2 x3 x4 b t ⟨4632 + n.val, by omega⟩ := by
  rw [val_main_v23_apply]
  refine (congrArg _ ?_).trans (proj_apply x0 x1 x2 x3 x4 b t _)
  funext a; match a with | ⟨0, _⟩ => rfl | ⟨1, _⟩ => rfl | ⟨2, _⟩ => rfl

/-- The second result. -/
theorem v42_apply (b : Fin 1) (t : Fin 32) (n : Fin 1024) : val_main_v42 (F := Ideal) x0 x1 x2 x3 x4 (ix3 b t n) = proj x0 x1 x2 x3 x4 b t ⟨1024 + n.val, by omega⟩ := by
  rw [val_main_v42_apply]
  refine (congrArg _ ?_).trans (v19_apply x0 x1 x2 x3 x4 b t ⟨n.val, by omega⟩)
  funext a; match a with | ⟨0, _⟩ => rfl | ⟨1, _⟩ => rfl | ⟨2, _⟩ => rfl
/-- The third result. -/
theorem v43_apply (b : Fin 1) (t : Fin 32) (n : Fin 512) : val_main_v43 (F := Ideal) x0 x1 x2 x3 x4 (ix3 b t n) = proj x0 x1 x2 x3 x4 b t ⟨2048 + n.val, by omega⟩ := by
  rw [val_main_v43_apply]
  refine (congrArg _ ?_).trans ((v19_apply x0 x1 x2 x3 x4 b t ⟨1024 + n.val, by omega⟩).trans (congrArg (proj x0 x1 x2 x3 x4 b t) (Fin.ext ?_)))
  · funext a; match a with | ⟨0, _⟩ => rfl | ⟨1, _⟩ => rfl | ⟨2, _⟩ => rfl
  · show 1024 + (1024 + n.val) = 2048 + n.val; omega

/-- The first result. -/
theorem v40_apply (b : Fin 1) (t : Fin 32) (n : Fin 4608) : val_main_v40 (F := Ideal) x0 x1 x2 x3 x4 (ix3 b t n) = proj x0 x1 x2 x3 x4 b t (mainCol n) := by
  have hn := n.isLt
  rw [val_main_v40_apply]
  show val_main_v39 (F := Ideal) x0 x1 x2 x3 x4 (ix3 b t n) = _
  unfold val_main_v39 mainCol
  split
  · next h =>
    exact (concatenate_apply_piece (t := S1x32x4608) 2 _ _ (ix3 b t n) 0 (by exact (show 0 < 4 by decide)) S1x32x1536 _ rfl rfl 0 rfl (ix3 b t ⟨n.val, h⟩)
      (fun a ha => by match a with | ⟨0, _⟩ => rfl | ⟨1, _⟩ => rfl | ⟨2, _⟩ => exact absurd rfl ha) (Nat.zero_add _)).trans (v19_apply x0 x1 x2 x3 x4 b t _)
  split
  · next h0 h =>
    exact (concatenate_apply_piece (t := S1x32x4608) 2 _ _ (ix3 b t n) 1 (by exact (show 1 < 4 by decide)) S1x32x1024 _ rfl rfl 1536 rfl (ix3 b t ⟨n.val - 1536, by omega⟩)
      (fun a ha => by match a with | ⟨0, _⟩ => rfl | ⟨1, _⟩ => rfl | ⟨2, _⟩ => exact absurd rfl ha) (by show 1536 + (n.val - 1536) = n.val; omega)).trans (v22_apply x0 x1 x2 x3 x4 b t _)
  split
  · next h0 h1 h =>
    exact (concatenate_apply_piece (t := S1x32x4608) 2 _ _ (ix3 b t n) 2 (by exact (show 2 < 4 by decide)) S1x32x1024 _ rfl rfl 2560 rfl (ix3 b t ⟨n.val - 2560, by omega⟩)
      (fun a ha => by match a with | ⟨0, _⟩ => rfl | ⟨1, _⟩ => rfl | ⟨2, _⟩ => exact absurd rfl ha) (by show 2560 + (n.val - 2560) = n.val; omega)).trans (v18_apply x0 x1 x2 x3 x4 b t _)
  · next h0 h1 h =>
    exact (concatenate_apply_piece (t := S1x32x4608) 2 _ _ (ix3 b t n) 3 (by exact (show 3 < 4 by decide)) S1x32x1024 _ rfl rfl 3584 rfl (ix3 b t ⟨n.val - 3584, by omega⟩)
      (fun a ha => by match a with | ⟨0, _⟩ => rfl | ⟨1, _⟩ => rfl | ⟨2, _⟩ => exact absurd rfl ha) (by show 3584 + (n.val - 3584) = n.val; omega)).trans (v21_apply x0 x1 x2 x3 x4 b t _)

/-- The logistic gates. -/
theorem v32_apply (b : Fin 1) (t : Fin 32) (l : Fin 24) :
    val_main_v32 (F := Ideal) x0 x1 x2 x3 x4 x5 (ix3 b t l) = Ideal.logistic (proj x0 x1 x2 x3 x4 b t ⟨2560 + l.val, by omega⟩ + x5 (ix1 l)) := by
  have e : val_main_v26 (F := Ideal) x0 x1 x2 x3 x4 x5 (ix3 b t l) = proj x0 x1 x2 x3 x4 b t ⟨2560 + l.val, by omega⟩ + x5 (ix1 l) := by
    rw [val_main_v26_apply, v20_apply, val_main_v25_apply, val_main_v24_apply]
    refine congrArg (fun z => _ + x5 z) ?_
    funext a; match a with | ⟨0, _⟩ => rfl
  rw [val_main_v32_apply, val_main_v31_apply, val_main_v30_apply, val_main_v29_apply, val_main_v28_apply, val_main_v27_apply, e]
  show Ideal.div (Ideal.ofBits .f32 0x3F800000#32) (Ideal.ofBits .f32 0x3F800000#32 + _) = _
  rw [Ideal.ofBits_one_f32]; rfl

/-- The logarithmic gates. -/
theorem v36_apply (b : Fin 1) (t : Fin 32) (l : Fin 8) :
    val_main_v36 (F := Ideal) x0 x1 x2 x3 x4 x6 (ix3 b t l) = logSig (proj x0 x1 x2 x3 x4 b t ⟨4632 + l.val, by omega⟩ + x6 (ix1 l)) := by
  have e : val_main_v35 (F := Ideal) x0 x1 x2 x3 x4 x6 (ix3 b t l) = proj x0 x1 x2 x3 x4 b t ⟨4632 + l.val, by omega⟩ + x6 (ix1 l) := by
    rw [val_main_v35_apply, v23_apply, val_main_v34_apply, val_main_v33_apply]
    refine congrArg (fun z => _ + x6 z) ?_
    funext a; match a with | ⟨0, _⟩ => rfl
  rw [val_main_v36_apply, val_main_call0_v1_apply, val_main_call0_call0_v4_apply, show ∀ d : EReal, FloatOps.cmpf (F := Ideal) (φ := .f32) .une d d = Ideal.cmp .une d d from fun _ => rfl, select_une_self,
    val_main_call0_call0_v11_apply, val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply, val_main_call0_v0_apply, e]
  generalize proj x0 x1 x2 x3 x4 b t ⟨4632 + l.val, by omega⟩ + x6 (ix1 l) = z
  show -(max (-z) (Ideal.ofBits .f32 0x00000000#32) + Ideal.log1p (Ideal.exp (-(max (-z - Ideal.ofBits .f32 0x00000000#32) (-(-z - Ideal.ofBits .f32 0x00000000#32)))))) = _
  rw [Ideal.ofBits_zero_f32, sub_zero]; rfl

/-- The padding. -/
theorem v38_apply (b : Fin 1) (t : Fin 32) (l : Fin 96) : val_main_v38 (F := Ideal) (ix3 b t l) = logSig 0 := by
  rw [val_main_v38_apply, val_main_call1_v1_apply, val_main_call1_call0_v4_apply, show ∀ d : EReal, FloatOps.cmpf (F := Ideal) (φ := .f32) .une d d = Ideal.cmp .une d d from fun _ => rfl, select_une_self,
    val_main_call1_call0_v11_apply, val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply, val_main_call1_v0_apply, val_main_v37_apply]
  show -(max (-Ideal.ofBits .f32 0x00000000#32) (Ideal.ofBits .f32 0x00000000#32) + Ideal.log1p (Ideal.exp (-(max (-Ideal.ofBits .f32 0x00000000#32 - Ideal.ofBits .f32 0x00000000#32) (-(-Ideal.ofBits .f32 0x00000000#32 - Ideal.ofBits .f32 0x00000000#32)))))) = _
  rw [Ideal.ofBits_zero_f32, sub_zero]; rfl

/-- The fifth result. -/
theorem v41_apply (b : Fin 1) (t : Fin 32) (l : Fin 128) : val_main_v41 (F := Ideal) x0 x1 x2 x3 x4 x5 x6 (ix3 b t l) = small x0 x1 x2 x3 x4 x5 x6 b t l := by
  have hl := l.isLt
  unfold val_main_v41 small
  split
  · next h =>
    exact (concatenate_apply_piece (t := S1x32x128) 2 _ _ (ix3 b t l) 0 (by exact (show 0 < 3 by decide)) S1x32x24 _ rfl rfl 0 rfl (ix3 b t ⟨l.val, h⟩)
      (fun a ha => by match a with | ⟨0, _⟩ => rfl | ⟨1, _⟩ => rfl | ⟨2, _⟩ => exact absurd rfl ha) (Nat.zero_add _)).trans (v32_apply x0 x1 x2 x3 x4 x5 b t _)
  split
  · next h0 h =>
    exact (concatenate_apply_piece (t := S1x32x128) 2 _ _ (ix3 b t l) 1 (by exact (show 1 < 3 by decide)) S1x32x8 _ rfl rfl 24 rfl (ix3 b t ⟨l.val - 24, by omega⟩)
      (fun a ha => by match a with | ⟨0, _⟩ => rfl | ⟨1, _⟩ => rfl | ⟨2, _⟩ => exact absurd rfl ha) (by show 24 + (l.val - 24) = l.val; omega)).trans (v36_apply x0 x1 x2 x3 x4 x6 b t _)
  · next h0 h =>
    exact (concatenate_apply_piece (t := S1x32x128) 2 _ _ (ix3 b t l) 2 (by exact (show 2 < 3 by decide)) S1x32x96 _ rfl rfl 32 rfl (ix3 b t ⟨l.val - 32, by omega⟩)
      (fun a ha => by match a with | ⟨0, _⟩ => rfl | ⟨1, _⟩ => rfl | ⟨2, _⟩ => exact absurd rfl ha) (by show 32 + (l.val - 32) = l.val; omega)).trans (v38_apply b t _)

end Cert.InprojSampleRefIdeal.Read

end
-- ==== Proof.InprojSampleIdeal.Blocks.lean ====
module

public import proofs.«01_k».proof.Proof.InprojSampleIdeal.Frame
public import proofs.«01_k».proof.Proof.InprojSampleSpec
public import Idealize.ShloMosaic.Lib.ValueLayout
public import Idealize.ShloMosaic.Lib.ValueLayoutCasts
public import Idealize.ShloMosaic.Lib.MatmulPlain
public import Idealize.ShloMosaic.Lib.Pipeline.ValueKit

@[expose] public section

set_option maxRecDepth 16384

noncomputable section

/-! # What the body of the projection computes at a point, element by element -/

namespace Cert.InprojSampleIdeal.Gen

open Idealize.ShloMosaic hiding ix1 ix2 ix3
open Idealize.ShloMosaic.TcCoe Idealize.ShloMosaic.ValueIdx
open Idealize.SL Idealize.SL.Sem
open Cert.InprojSampleSpec
open Cert.InprojSpec (logSig mainCol select_une_self)

variable (m : (ℓ : Loc nD τ sig) → Buf (Elt Ideal) ℓ) (c : Dev nD)

/-! ## The arguments -/

/-- The rows, -/
abbrev a0 : S1x32x2048.Idx → EReal := m ((c : Thread nD τ).loc main_arg0)
/-- their gains, -/
abbrev a1 : S2048.Idx → EReal := m ((c : Thread nD τ).loc main_arg1)
/-- the modulation's scale -/
abbrev a2 : S1x32x2048.Idx → EReal := m ((c : Thread nD τ).loc main_arg2)
/-- and shift, -/
abbrev a3 : S1x32x2048.Idx → EReal := m ((c : Thread nD τ).loc main_arg3)
/-- the weights -/
abbrev a4 : S2048x4640.Idx → EReal := m ((c : Thread nD τ).loc main_arg4)
/-- and the gates' biases. -/
abbrev a5 : S24.Idx → EReal := m ((c : Thread nD τ).loc main_arg5)
/-- The last of them. -/
abbrev a6 : S8.Idx → EReal := m ((c : Thread nD τ).loc main_arg6)

/-! ## What the host's operations hand the call -/

/-- A cut of the weights' columns from `o` on, at an entry. -/
theorem cut_apply {n : ℕ} (x : S2048x4640.Idx → EReal) (o : ℕ) (h : S2048x4640.Slices ![0, o] ⟨2, ![2048, n]⟩) (k : Fin 2048) (q : Fin n) (r : Fin 4640)
    (hr : r.val = o + q.val) : extractStridedSlice ⟨2, ![2048, n]⟩ ![0, o] x h (ix2 k q) = x (ix2 k r) :=
  extractStridedSlice_apply ![0, o] x h (ix2 k q) (ix2 k r) (fun a => match a with
    | ⟨0, _⟩ => by show k.val = 0 + k.val; omega
    | ⟨1, _⟩ => hr)

/-- The gains get a unit axis. -/
theorem V_main_v14 (k : Fin 2048) : (V m c main_v14 : S1x2048.Idx → EReal) (ix2 0 k) = a1 m c (ix1 k) := by
  have e : V m c main_v14 = broadcastInDim S1x2048 ![1] bcast_S2048_S1x2048_1 (m ((c : Thread nD τ).loc main_arg1)) := rfl
  rw [e]
  exact broadcastInDim_apply _ _ _ _ (ix1 k) fun a => match a with | ⟨0, _⟩ => rfl

/-- The weights of the products, at the columns `mainCol` says. -/
theorem V_main_v5 (k : Fin 2048) (n : Fin 4608) : (V m c main_v5 : S2048x4608.Idx → EReal) (ix2 k n) = a4 m c (ix2 k (mainCol n)) := by
  have hn := n.isLt
  have e : (V m c main_v5 : S2048x4608.Idx → EReal) = (concatenate S2048x4608 1
    [⟨S2048x1536, extractStridedSlice S2048x1536 ![0, 1024] (a4 m c) slices_S2048x4640_S2048x1536_0_1024⟩,
     ⟨S2048x1024, extractStridedSlice S2048x1024 ![0, 3608] (a4 m c) slices_S2048x4640_S2048x1024_0_3608⟩,
     ⟨S2048x1024, extractStridedSlice S2048x1024 ![0, 0] (a4 m c) slices_S2048x4640_S2048x1024_0_0⟩,
     ⟨S2048x1024, extractStridedSlice S2048x1024 ![0, 2584] (a4 m c) slices_S2048x4640_S2048x1024_0_2584⟩] concatenates_S2048x1536_S2048x1024_S2048x1024_S2048x1024_S2048x4608_d1 : S2048x4608.Idx → EReal) := rfl
  rw [e]
  unfold mainCol
  split
  · next h =>
    exact (concatenate_apply_piece (t := S2048x4608) 1 _ _ (ix2 k n) 0 (by exact (show 0 < 4 by decide)) S2048x1536 _ rfl rfl 0 rfl (ix2 k ⟨n.val, h⟩)
      (fun a ha => by match a with | ⟨0, _⟩ => rfl | ⟨1, _⟩ => exact absurd rfl ha) (Nat.zero_add _)).trans (cut_apply _ _ _ _ _ _ rfl)
  split
  · next h0 h =>
    exact (concatenate_apply_piece (t := S2048x4608) 1 _ _ (ix2 k n) 1 (by exact (show 1 < 4 by decide)) S2048x1024 _ rfl rfl 1536 rfl (ix2 k ⟨n.val - 1536, by omega⟩)
      (fun a ha => by match a with | ⟨0, _⟩ => rfl | ⟨1, _⟩ => exact absurd rfl ha) (by show 1536 + (n.val - 1536) = n.val; omega)).trans (cut_apply _ _ _ _ _ _ rfl)
  split
  · next h0 h1 h =>
    exact (concatenate_apply_piece (t := S2048x4608) 1 _ _ (ix2 k n) 2 (by exact (show 2 < 4 by decide)) S2048x1024 _ rfl rfl 2560 rfl (ix2 k ⟨n.val - 2560, by omega⟩)
      (fun a ha => by match a with | ⟨0, _⟩ => rfl | ⟨1, _⟩ => exact absurd rfl ha) (by show 2560 + (n.val - 2560) = n.val; omega)).trans (cut_apply _ _ _ _ _ _ (Nat.zero_add _).symm)
  · next h0 h1 h =>
    exact (concatenate_apply_piece (t := S2048x4608) 1 _ _ (ix2 k n) 3 (by exact (show 3 < 4 by decide)) S2048x1024 _ rfl rfl 3584 rfl (ix2 k ⟨n.val - 3584, by omega⟩)
      (fun a ha => by match a with | ⟨0, _⟩ => rfl | ⟨1, _⟩ => exact absurd rfl ha) (by show 3584 + (n.val - 3584) = n.val; omega)).trans (cut_apply _ _ _ _ _ _ rfl)

/-- The weights of the gates: 24 columns, 8 columns and zeros. -/
def gateW (k : Fin 2048) (l : Fin 128) : EReal :=
  if h1 : l.val < 24 then a4 m c (ix2 k ⟨2560 + l.val, by omega⟩)
  else if h2 : l.val < 32 then a4 m c (ix2 k ⟨4632 + (l.val - 24), by omega⟩)
  else 0

/-- The call's array of them. -/
theorem V_main_v10 (k : Fin 2048) (l : Fin 128) : (V m c main_v10 : S2048x128.Idx → EReal) (ix2 k l) = gateW m c k l := by
  have hl := l.isLt
  have e : (V m c main_v10 : S2048x128.Idx → EReal) = (concatenate S2048x128 1
    [⟨S2048x24, extractStridedSlice S2048x24 ![0, 2560] (a4 m c) slices_S2048x4640_S2048x24_0_2560⟩,
     ⟨S2048x8, extractStridedSlice S2048x8 ![0, 4632] (a4 m c) slices_S2048x4640_S2048x8_0_4632⟩,
     ⟨S2048x96, broadcastInDim S2048x96 ![] bcast_S_S2048x96 (constant (F := Ideal) S_ .f32 0x00000000#32)⟩] concatenates_S2048x24_S2048x8_S2048x96_S2048x128_d1 : S2048x128.Idx → EReal) := rfl
  rw [e]
  unfold gateW
  split
  · next h =>
    exact (concatenate_apply_piece (t := S2048x128) 1 _ _ (ix2 k l) 0 (by exact (show 0 < 3 by decide)) S2048x24 _ rfl rfl 0 rfl (ix2 k ⟨l.val, h⟩)
      (fun a ha => by match a with | ⟨0, _⟩ => rfl | ⟨1, _⟩ => exact absurd rfl ha) (Nat.zero_add _)).trans (cut_apply _ _ _ _ _ _ rfl)
  split
  · next h0 h =>
    exact (concatenate_apply_piece (t := S2048x128) 1 _ _ (ix2 k l) 1 (by exact (show 1 < 3 by decide)) S2048x8 _ rfl rfl 24 rfl (ix2 k ⟨l.val - 24, by omega⟩)
      (fun a ha => by match a with | ⟨0, _⟩ => rfl | ⟨1, _⟩ => exact absurd rfl ha) (by show 24 + (l.val - 24) = l.val; omega)).trans (cut_apply _ _ _ _ _ _ rfl)
  · next h0 h =>
    exact (concatenate_apply_piece (t := S2048x128) 1 _ _ (ix2 k l) 2 (by exact (show 2 < 3 by decide)) S2048x96 _ rfl rfl 32 rfl (ix2 k ⟨l.val - 32, by omega⟩)
      (fun a ha => by match a with | ⟨0, _⟩ => rfl | ⟨1, _⟩ => exact absurd rfl ha) (by show 32 + (l.val - 32) = l.val; omega)).trans Ideal.ofBits_zero_f32

/-- The gates' biases: 24, 8 and zeros. -/
def gateB (l : Fin 128) : EReal :=
  if h1 : l.val < 24 then a5 m c (ix1 ⟨l.val, h1⟩)
  else if h2 : l.val < 32 then a6 m c (ix1 ⟨l.val - 24, by omega⟩)
  else 0

/-- The call's array of them. -/
theorem V_main_v13 (l : Fin 128) : (V m c main_v13 : S1x128.Idx → EReal) (ix2 0 l) = gateB m c l := by
  have hl := l.isLt
  have e : (V m c main_v13 : S1x128.Idx → EReal) = broadcastInDim S1x128 ![1] bcast_S128_S1x128_1 (concatenate S128 0
    [⟨S24, a5 m c⟩, ⟨S8, a6 m c⟩,
     ⟨S96, broadcastInDim S96 ![] bcast_S_S96 (constant (F := Ideal) S_ .f32 0x00000000#32)⟩] concatenates_S24_S8_S96_S128_d0 : S128.Idx → EReal) := rfl
  rw [e]
  refine (broadcastInDim_apply _ _ _ _ (ix1 l) fun a => match a with | ⟨0, _⟩ => rfl).trans ?_
  unfold gateB
  split
  · next h =>
    exact concatenate_apply_piece (t := S128) 0 _ _ (ix1 l) 0 (by exact (show 0 < 3 by decide)) S24 _ rfl rfl 0 rfl (ix1 ⟨l.val, h⟩)
      (fun a ha => by match a with | ⟨0, _⟩ => exact absurd rfl ha) (Nat.zero_add _)
  split
  · next h0 h =>
    exact concatenate_apply_piece (t := S128) 0 _ _ (ix1 l) 1 (by exact (show 1 < 3 by decide)) S8 _ rfl rfl 24 rfl (ix1 ⟨l.val - 24, by omega⟩)
      (fun a ha => by match a with | ⟨0, _⟩ => exact absurd rfl ha) (by show 24 + (l.val - 24) = l.val; omega)
  · next h0 h =>
    exact (concatenate_apply_piece (t := S128) 0 _ _ (ix1 l) 2 (by exact (show 2 < 3 by decide)) S96 _ rfl rfl 32 rfl (ix1 ⟨l.val - 32, by omega⟩)
      (fun a ha => by match a with | ⟨0, _⟩ => exact absurd rfl ha) (by show 32 + (l.val - 32) = l.val; omega)).trans Ideal.ofBits_zero_f32

/-! ## The blocks at coordinates -/

/-- A point's column tile. -/
theorem coords_at : ∀ t : Fin grid0.N, (grid0.coords t 0).val = 0 ∧ (grid0.coords t 1).val = 0 ∧ (grid0.coords t 2).val = t.val % 9 := by
  decide +kernel

/-- Column `q` of a point's column tile. -/
def col (t : Fin cfg0.N) (q : Fin 512) : Fin 4608 := ⟨t.val % 9 * 512 + q.val, by omega⟩

/-- An array of the rows' shape that is one block: the block's entries are the array's. -/
theorem whole_rows (t : Fin grid0.N) (p : Fin 32) (k : Fin 2048) (i : S1x32x2048.Idx)
    (h0 : (i 0).val = (BitVec.ofNat 32 (grid0.coords t 0).val).toNat * 1 + 1 * 0) (h1 : (i 1).val = (BitVec.ofNat 32 (grid0.coords t 1).val).toNat * 32 + 1 * p.val)
    (h2 : (i 2).val = (0#32 : BitVec 32).toNat * 2048 + 1 * k.val) : i = ix3 0 p k := by
  obtain ⟨e0, e1, -⟩ := coords_at t
  rw [e0] at h0
  rw [e1] at h1
  funext a
  match a with
  | ⟨0, _⟩ => exact Fin.ext h0
  | ⟨1, _⟩ => exact Fin.ext (h1.trans (by rw [Nat.one_mul]; exact Nat.zero_add _))
  | ⟨2, _⟩ => exact Fin.ext (h2.trans (by rw [Nat.one_mul]; exact Nat.zero_add _))

/-- The rows' block. -/
theorem x_apply (t : Fin cfg0.N) (p : Fin 32) (k : Fin 2048) : (iblk m c 0 t : S1x32x2048.Idx → EReal) (ix3 0 p k) = a0 m c (ix3 0 p k) :=
  (congrFun (V_main_arg0 m c) _).trans (congrArg (a0 m c) (whole_rows t p k _ rfl rfl rfl))

/-- The gains' block. -/
theorem g_apply (t : Fin cfg0.N) (k : Fin 2048) : (iblk m c 1 t : S1x2048.Idx → EReal) (ix2 0 k) = a1 m c (ix1 k) := by
  refine Eq.trans (congrArg (V m c main_v14 : S1x2048.Idx → EReal) (funext fun a => Fin.ext ?_)) (V_main_v14 m c k)
  match a with
  | ⟨0, _⟩ => rfl
  | ⟨1, _⟩ => show (0#32 : BitVec 32).toNat * 2048 + 1 * k.val = k.val; rw [Nat.one_mul]; exact Nat.zero_add _

/-- The modulation's scale, -/
theorem sc_apply (t : Fin cfg0.N) (p : Fin 32) (k : Fin 2048) : (iblk m c 2 t : S1x32x2048.Idx → EReal) (ix3 0 p k) = a2 m c (ix3 0 p k) :=
  (congrFun (V_main_arg2 m c) _).trans (congrArg (a2 m c) (whole_rows t p k _ rfl rfl rfl))

/-- and its shift. -/
theorem sh_apply (t : Fin cfg0.N) (p : Fin 32) (k : Fin 2048) : (iblk m c 3 t : S1x32x2048.Idx → EReal) (ix3 0 p k) = a3 m c (ix3 0 p k) :=
  (congrFun (V_main_arg3 m c) _).trans (congrArg (a3 m c) (whole_rows t p k _ rfl rfl rfl))

/-- The weights' block. -/
theorem w_apply (t : Fin cfg0.N) (k : Fin 2048) (q : Fin 512) : (iblk m c 4 t : S2048x512.Idx → EReal) (ix2 k q) = a4 m c (ix2 k (mainCol (col t q))) := by
  obtain ⟨-, -, e2⟩ := coords_at t
  refine Eq.trans (congrArg (V m c main_v5 : S2048x4608.Idx → EReal) (funext fun a => Fin.ext ?_)) (V_main_v5 m c k (col t q))
  match a with
  | ⟨0, _⟩ => show (0#32 : BitVec 32).toNat * 2048 + 1 * k.val = k.val; rw [Nat.one_mul]; exact Nat.zero_add _
  | ⟨1, _⟩ =>
    show (BitVec.ofNat 32 (grid0.coords t 2).val).toNat * 512 + 1 * q.val = t.val % 9 * 512 + q.val
    rw [e2, BitVec.toNat_ofNat, Nat.mod_eq_of_lt (by omega)]; omega

/-- The gates' weights -/
theorem ws_apply (t : Fin cfg0.N) (k : Fin 2048) (l : Fin 128) : (iblk m c 5 t : S2048x128.Idx → EReal) (ix2 k l) = gateW m c k l := by
  refine Eq.trans (congrArg (V m c main_v10 : S2048x128.Idx → EReal) (funext fun a => Fin.ext ?_)) (V_main_v10 m c k l)
  match a with
  | ⟨0, _⟩ => show (0#32 : BitVec 32).toNat * 2048 + 1 * k.val = k.val; rw [Nat.one_mul]; exact Nat.zero_add _
  | ⟨1, _⟩ => show (0#32 : BitVec 32).toNat * 128 + 1 * l.val = l.val; rw [Nat.one_mul]; exact Nat.zero_add _

/-- and biases. -/
theorem bs_apply (t : Fin cfg0.N) (l : Fin 128) : (iblk m c 6 t : S1x128.Idx → EReal) (ix2 0 l) = gateB m c l := by
  refine Eq.trans (congrArg (V m c main_v13 : S1x128.Idx → EReal) (funext fun a => Fin.ext ?_)) (V_main_v13 m c l)
  match a with
  | ⟨0, _⟩ => rfl
  | ⟨1, _⟩ => show (0#32 : BitVec 32).toNat * 128 + 1 * l.val = l.val; rw [Nat.one_mul]; exact Nat.zero_add _

end Cert.InprojSampleIdeal.Gen

end
-- ==== Proof.InprojSampleIdeal.Payloads.lean ====
module

public import proofs.«01_k».proof.Proof.InprojSampleIdeal.Blocks

@[expose] public section

set_option maxRecDepth 16384

noncomputable section

/-! # The values the body of the projection stores -/

namespace Cert.InprojSampleIdeal.Gen

open Idealize.ShloMosaic hiding ix1 ix2 ix3
open Idealize.ShloMosaic.TcCoe Idealize.ShloMosaic.ValueIdx
open Idealize.SL Idealize.SL.Sem
open Cert.InprojSampleSpec
open Cert.InprojSpec (logSig mainCol select_une_self)

/-! ## The payloads at an entry -/

/-- A row's sum of squares. -/
theorem squares_apply (y : FVec Ideal S32x2048 .f32) (p : Fin 32) :
    multiReduction (F := Ideal) .add [1] S32 (mulf y y) 0x00000000#32 reduces_S32x2048_S32 (.inl rfl) rfl (ix1 p) = ∑ k : Fin 2048, y (ix2 p k) * y (ix2 p k) := by
  refine (Ideal.multiReduction_add_single _ _ _ _ _ _).trans (Finset.sum_congr rfl fun k _ => ?_)
  have e : reduces_S32x2048_S32.lift (ix1 p) k = ix2 p k := funext fun a => Fin.ext (by match a with | ⟨0, _⟩ => rfl | ⟨1, _⟩ => rfl)
  exact congrArg (fun i => y i * y i) e

/-- A row repeated down a block. -/
theorem rowOf_apply {n : ℕ} (y : (⟨2, ![1, n]⟩ : Shape).Idx → EReal) (h : (⟨2, ![1, n]⟩ : Shape).Broadcasts ⟨2, ![32, n]⟩) (hn : n ≠ 1) (p : Fin 32) (k : Fin n) :
    broadcastTo ⟨2, ![32, n]⟩ y h (ix2 p k) = y (ix2 0 k) :=
  broadcastTo_apply _ _ _ (ix2 0 k) fun a => match a with
    | ⟨0, _⟩ => rfl
    | ⟨1, _⟩ => (if_neg hn).symm

/-- The modulated rows, at an entry. -/
theorem pay7_apply (x : FVec Ideal S1x32x2048 .f32) (g : FVec Ideal S1x2048 .f32) (sc sh : FVec Ideal S1x32x2048 .f32) (p : Fin 32) (k : Fin 2048) :
    k0_pay7 (F := Ideal) x g sc sh (ix2 p k)
      = x (ix3 0 p k) * Ideal.rsqrt (Ideal.div (∑ k : Fin 2048, x (ix3 0 p k) * x (ix3 0 p k)) (Ideal.ofBits .f32 0x45000000#32) + Ideal.ofBits .f32 0x358637BD#32)
          * g (ix2 0 k) * (Ideal.ofBits .f32 0x3F800000#32 + sc (ix3 0 p k)) + sh (ix3 0 p k) := by
  have ex : ∀ k, shapeCast S32x2048 x shapeCasts_S1x32x2048_S32x2048 (ix2 p k) = x (ix3 0 p k) := fun k => shapeCast_1ab_ab_apply _ _ _ _
  have es : ∀ (y : FVec Ideal S1x32x2048 .f32), shapeCast S32x2048 y shapeCasts_S1x32x2048_S32x2048 (ix2 p k) = y (ix3 0 p k) := fun y => shapeCast_1ab_ab_apply _ _ _ _
  unfold k0_pay7
  rw [shapeCast_self]
  refine congrArg₂ (· + ·) (congrArg₂ (· * ·) (congrArg₂ (· * ·) (congrArg₂ (· * ·) (ex k) ?_) ?_) ?_) ?_
  · refine (broadcastTo_apply _ _ _ (ix2 p 0) fun a => by match a with | ⟨0, _⟩ => rfl | ⟨1, _⟩ => rfl).trans ?_
    refine congrArg Ideal.rsqrt (congrArg (fun z => Ideal.div z (Ideal.ofBits .f32 0x45000000#32) + Ideal.ofBits .f32 0x358637BD#32) ?_)
    refine (shapeCast_a_a1_apply _ _ _ _).trans ((squares_apply _ p).trans (Finset.sum_congr rfl fun k _ => ?_))
    rw [ex k]
  · exact rowOf_apply _ _ (by decide) p k
  · exact congrArg (Ideal.ofBits .f32 0x3F800000#32 + ·) (es sc)
  · exact es sh

/-- A product block, at an entry. -/
theorem pay2_apply (h : FVec Ideal S32x2048 .bf16) (w : FVec Ideal S2048x512 .bf16) (p : Fin 32) (q : Fin 512) :
    k0_pay2 (F := Ideal) h w (ix2 p q) = ∑ k : Fin 2048, h (ix2 p k) * w (ix2 k q) := by
  unfold k0_pay2
  rw [shapeCast_self]
  refine (Ideal.matmul_plain_apply none h w _ p q).trans ?_
  show Ideal.ofBits .f32 0x00000000#32 + _ = _
  rw [Ideal.ofBits_zero_f32, zero_add]

/-- The gates before their functions, at an entry. -/
theorem pay9_apply (x : FVec Ideal S1x32x2048 .f32) (g : FVec Ideal S1x2048 .f32) (sc sh : FVec Ideal S1x32x2048 .f32) (w : FVec Ideal S2048x128 .bf16) (b : FVec Ideal S1x128 .f32)
    (p : Fin 32) (l : Fin 128) :
    k0_pay9 (F := Ideal) x g sc sh w b (ix2 p l) = (∑ k : Fin 2048, k0_pay7 (F := Ideal) x g sc sh (ix2 p k) * w (ix2 k l)) + b (ix2 0 l) := by
  unfold k0_pay9
  rw [shapeCast_self, shapeCast_self]
  refine congrArg₂ (· + ·) ((Ideal.matmul_plain_apply none _ _ _ p l).trans ?_) (rowOf_apply _ _ (by decide) p l)
  show Ideal.ofBits .f32 0x00000000#32 + _ = _
  rw [Ideal.ofBits_zero_f32, zero_add]

/-- Which lanes take the logistic function. -/
theorem lane_slt : ∀ l : Fin 128, Scalar.cmpi .slt (BitVec.ofNat 32 l.val) 24#32 = if l.val < 24 then 1#1 else 0#1 := by decide

/-- The gates, at an entry. -/
theorem pay1_apply (z : FVec Ideal S32x128 .f32) (p : Fin 32) (l : Fin 128) :
    k0_pay1 (F := Ideal) z (iota .tc S32x128 32 [1] iota_S32x128_d1_w32) 24#32 (ix3 0 p l) = if l.val < 24 then Ideal.logistic (z (ix2 p l)) else logSig (z (ix2 p l)) := by
  unfold k0_pay1
  refine (shapeCast_ab_1ab_apply _ _ _ _ _).trans ?_
  have ei : iota .tc S32x128 32 [1] iota_S32x128_d1_w32 (ix2 p l) = BitVec.ofNat 32 l.val := iota_single_apply _ _ _ _ _ _
  show Scalar.select (Scalar.cmpi .slt (iota .tc S32x128 32 [1] iota_S32x128_d1_w32 (ix2 p l)) 24#32) (Ideal.logistic (z (ix2 p l)))
    (Ideal.ofBits .f32 0x00000000#32 - Scalar.select
      (Ideal.cmp .une (Ideal.ofBits .f32 0x00000000#32 - z (ix2 p l) - Ideal.ofBits .f32 0x00000000#32) (Ideal.ofBits .f32 0x00000000#32 - z (ix2 p l) - Ideal.ofBits .f32 0x00000000#32))
      (Ideal.ofBits .f32 0x00000000#32 - z (ix2 p l) + Ideal.ofBits .f32 0x00000000#32)
      (max (Ideal.ofBits .f32 0x00000000#32 - z (ix2 p l)) (Ideal.ofBits .f32 0x00000000#32)
        + Ideal.log1p (Ideal.exp (Ideal.ofBits .f32 0x00000000#32
          - max (Ideal.ofBits .f32 0x00000000#32 - z (ix2 p l) - Ideal.ofBits .f32 0x00000000#32) (-(Ideal.ofBits .f32 0x00000000#32 - z (ix2 p l) - Ideal.ofBits .f32 0x00000000#32)))))) = _
  rw [select_une_self, ei, lane_slt, Ideal.ofBits_zero_f32]
  generalize z (ix2 p l) = y
  simp only [sub_zero, zero_sub]
  by_cases h : l.val < 24
  · rw [if_pos h, if_pos h]; rfl
  · rw [if_neg h, if_neg h]; rfl

/-! ## At a point -/

variable (m : (ℓ : Loc nD τ sig) → Buf (Elt Ideal) ℓ) (c : Dev nD)

/-- The projection of the arguments. -/
abbrev projOf (b : Fin 1) (t : Fin 32) (n : Fin 4640) : EReal := proj (a0 m c) (a1 m c) (a2 m c) (a3 m c) (a4 m c) b t n

/-- The modulated rows of a point. -/
theorem pay7_at (t : Fin cfg0.N) (p : Fin 32) (k : Fin 2048) :
    k0_pay7 (F := Ideal) (iblk m c 0 t) (iblk m c 1 t) (iblk m c 2 t) (iblk m c 3 t) (ix2 p k) = modul (a0 m c) (a1 m c) (a2 m c) (a3 m c) 0 p k := by
  refine (pay7_apply (iblk m c 0 t) (iblk m c 1 t) (iblk m c 2 t) (iblk m c 3 t) p k).trans ?_
  exact congrArg₂ (· + ·) (congrArg₂ (· * ·) (congrArg₂ (· * ·) (congrArg₂ (· * ·) (x_apply m c t p k)
    (congrArg Ideal.rsqrt (congrArg (fun z => Ideal.div z (Ideal.ofBits .f32 0x45000000#32) + Ideal.ofBits .f32 0x358637BD#32)
      (Finset.sum_congr rfl fun k _ => congrArg₂ (· * ·) (x_apply m c t p k) (x_apply m c t p k)))))
    (g_apply m c t k)) (congrArg (Ideal.ofBits .f32 0x3F800000#32 + ·) (sc_apply m c t p k))) (sh_apply m c t p k)

/-- What the scratch holds. -/
theorem hAt_apply (t : Fin cfg0.N) (p : Fin 32) (k : Fin 2048) :
    (hAt m c t : S32x2048.Idx → EReal) (ix2 p k) = modul (a0 m c) (a1 m c) (a2 m c) (a3 m c) 0 p k := by
  unfold hAt k0_pay8
  rw [shapeCast_self]
  exact pay7_at m c (pt t 0 (by decide)) p k

/-- The product of a point. -/
theorem prodAt_apply (t : Fin cfg0.N) (p : Fin 32) (q : Fin 512) :
    k0_pay2 (F := Ideal) (hAt m c t) (iblk m c 4 t) (ix2 p q) = projOf m c 0 p (mainCol (col t q)) :=
  (pay2_apply (hAt m c t) (iblk m c 4 t) p q).trans (Finset.sum_congr rfl fun k _ => congrArg₂ (· * ·) (hAt_apply m c t p k) (w_apply m c t k q))

/-- What is stored of it in the first result, -/
theorem pbAt_apply (t : Fin cfg0.N) (p : Fin 32) (q : Fin 512) : (pbAt m c t : S1x32x512.Idx → EReal) (ix3 0 p q) = projOf m c 0 p (mainCol (col t q)) := by
  unfold pbAt k0_pay3
  exact (shapeCast_ab_1ab_apply _ _ _ _ _).trans (prodAt_apply m c t p q)
/-- the second, -/
theorem kvAt_apply (t : Fin cfg0.N) (p : Fin 32) (q : Fin 512) : (kvAt m c t : S1x32x512.Idx → EReal) (ix3 0 p q) = projOf m c 0 p (mainCol (col t q)) := by
  unfold kvAt k0_pay4
  exact (shapeCast_ab_1ab_apply _ _ _ _ _).trans (prodAt_apply m c t p q)
/-- the third -/
theorem wnAt_apply (t : Fin cfg0.N) (p : Fin 32) (q : Fin 512) : (wnAt m c t : S1x32x512.Idx → EReal) (ix3 0 p q) = projOf m c 0 p (mainCol (col t q)) := by
  unfold wnAt k0_pay5
  exact (shapeCast_ab_1ab_apply _ _ _ _ _).trans (prodAt_apply m c t p q)
/-- and the fourth. -/
theorem kfAt_apply (t : Fin cfg0.N) (p : Fin 32) (q : Fin 512) : (kfAt m c t : S1x32x512.Idx → EReal) (ix3 0 p q) = projOf m c 0 p (mainCol (col t q)) := by
  unfold kfAt k0_pay6
  exact (shapeCast_ab_1ab_apply _ _ _ _ _).trans (prodAt_apply m c t p q)

/-- The gates of a point before their functions. -/
theorem pay9_at (t : Fin cfg0.N) (p : Fin 32) (l : Fin 128) :
    k0_pay9 (F := Ideal) (iblk m c 0 t) (iblk m c 1 t) (iblk m c 2 t) (iblk m c 3 t) (iblk m c 5 t) (iblk m c 6 t) (ix2 p l)
      = (∑ k : Fin 2048, modul (a0 m c) (a1 m c) (a2 m c) (a3 m c) 0 p k * gateW m c k l) + gateB m c l :=
  (pay9_apply (iblk m c 0 t) (iblk m c 1 t) (iblk m c 2 t) (iblk m c 3 t) (iblk m c 5 t) (iblk m c 6 t) p l).trans
    (congrArg₂ (· + ·) (Finset.sum_congr rfl fun k _ => congrArg₂ (· * ·) (pay7_at m c t p k) (ws_apply m c t k l)) (bs_apply m c t l))

/-- What is stored of them. -/
theorem smAt_apply (t : Fin cfg0.N) (p : Fin 32) (l : Fin 128) :
    (smAt m c t : S1x32x128.Idx → EReal) (ix3 0 p l) = small (a0 m c) (a1 m c) (a2 m c) (a3 m c) (a4 m c) (a5 m c) (a6 m c) 0 p l := by
  unfold smAt
  refine (pay1_apply _ p l).trans ?_
  rw [pay9_at]
  unfold gateW gateB small
  by_cases h1 : l.val < 24
  · simp only [dif_pos h1, if_pos h1]; rfl
  · by_cases h2 : l.val < 32
    · simp only [dif_neg h1, if_neg h1, dif_pos h2]; rfl
    · simp only [dif_neg h1, if_neg h1, dif_neg h2, mul_zero, Finset.sum_const_zero, add_zero]

end Cert.InprojSampleIdeal.Gen

end
-- ==== Proof.InprojSampleIdeal.Value.lean ====
module

public import proofs.«01_k».proof.Proof.InprojSampleIdeal.Payloads

@[expose] public section

set_option maxRecDepth 16384

noncomputable section

/-! # The projection's result arrays -/

namespace Cert.InprojSampleIdeal.Gen

open Idealize.ShloMosaic hiding ix1 ix2 ix3
open Idealize.ShloMosaic.TcCoe Idealize.ShloMosaic.ValueIdx
open Idealize.SL Idealize.SL.Sem
open Cert.InprojSampleSpec
open Cert.InprojSpec (logSig mainCol select_une_self)

/-! ## Where the blocks are written -/

/-- The block index of the first result is the batch, the row tile and the column tile; -/
theorem at_7 : ∀ t : Fin grid0.N, cc0_transform_7 (grid0.coords t) 0 = 0 ∧ cc0_transform_7 (grid0.coords t) 1 = 0 ∧ cc0_transform_7 (grid0.coords t) 2 = t.val % 9 := by
  decide +kernel
/-- of the second, the batch, the row tile and the lesser of the column tile and 1; -/
theorem at_8 : ∀ t : Fin grid0.N, cc0_transform_8 (grid0.coords t) 0 = 0 ∧ cc0_transform_8 (grid0.coords t) 1 = 0 ∧ cc0_transform_8 (grid0.coords t) 2 = min (t.val % 9) 1 := by
  decide +kernel
/-- of the third, the batch and the row tile; -/
theorem at_9 : ∀ t : Fin grid0.N, cc0_transform_9 (grid0.coords t) 0 = 0 ∧ cc0_transform_9 (grid0.coords t) 1 = 0 ∧ cc0_transform_9 (grid0.coords t) 2 = 0 := by
  decide +kernel
/-- of the fourth, the batch, the row tile, and 1 from the fifth column tile on; -/
theorem at_10 : ∀ t : Fin grid0.N, cc0_transform_10 (grid0.coords t) 0 = 0 ∧ cc0_transform_10 (grid0.coords t) 1 = 0 ∧ cc0_transform_10 (grid0.coords t) 2 = min (t.val % 9 - 3) 1 := by
  decide +kernel
/-- of the fifth, the batch and the row tile. -/
theorem at_11 : ∀ t : Fin grid0.N, cc0_transform_11 (grid0.coords t) 0 = 0 ∧ cc0_transform_11 (grid0.coords t) 1 = 0 ∧ cc0_transform_11 (grid0.coords t) 2 = 0 := by
  decide +kernel

/-- The `j`-th point. -/
def ptOf (j : ℕ) (hj : j < 9) : Fin cfg0.N := ⟨j, Nat.lt_of_lt_of_eq hj N_0.symm⟩

variable (m : (ℓ : Loc nD τ sig) → Buf (Elt Ideal) ℓ) (c : Dev nD)

/-! ## The columns -/

/-- The columns of the keys and values of the compressed branch lie in the first two column tiles, -/
theorem mainCol_kv (t : Fin cfg0.N) (j : ℕ) (hj : j < 2) (q : Fin 512) : (mainCol (col (pt t j (by omega)) q)).val = 1024 + (j * 512 + q.val) := by
  have e : (col (pt t j (by omega)) q).val = j * 512 + q.val := by show (9 * (t.val / 9) + j) % 9 * 512 + q.val = _; omega
  unfold mainCol
  rw [dif_pos (by omega)]
  show 1024 + (col (pt t j (by omega)) q).val = _
  rw [e]
/-- those of the window in the third, -/
theorem mainCol_wn (t : Fin cfg0.N) (q : Fin 512) : (mainCol (col (pt t 2 (by decide)) q)).val = 2048 + q.val := by
  have e : (col (pt t 2 (by decide)) q).val = 2 * 512 + q.val := by show (9 * (t.val / 9) + 2) % 9 * 512 + q.val = _; omega
  unfold mainCol
  rw [dif_pos (by omega)]
  show 1024 + (col (pt t 2 (by decide)) q).val = _
  rw [e]; omega
/-- those of the forgetting branch in the fourth and fifth. -/
theorem mainCol_kf (t : Fin cfg0.N) (j : ℕ) (h3 : 3 ≤ j) (h4 : j ≤ 4) (q : Fin 512) : (mainCol (col (pt t j (by omega)) q)).val = 3608 + ((j - 3) * 512 + q.val) := by
  have e : (col (pt t j (by omega)) q).val = j * 512 + q.val := by show (9 * (t.val / 9) + j) % 9 * 512 + q.val = _; omega
  unfold mainCol
  rw [dif_neg (by omega), dif_pos (by omega)]
  show 3608 + ((col (pt t j (by omega)) q).val - 1536) = _
  rw [e]; omega

/-! ## The result arrays -/

/-- The first result, -/
def res0 : S1x32x4608.Idx → EReal := fun i => projOf m c (i 0) (i 1) (mainCol (i 2))
/-- the second, -/
def res1 : S1x32x1024.Idx → EReal := fun i => projOf m c (i 0) (i 1) ⟨1024 + (i 2).val, by have h : (i 2).val < 1024 := (i 2).isLt; omega⟩
/-- the third, -/
def res2 : S1x32x512.Idx → EReal := fun i => projOf m c (i 0) (i 1) ⟨2048 + (i 2).val, by have h : (i 2).val < 512 := (i 2).isLt; omega⟩
/-- the fourth -/
def res3 : S1x32x1024.Idx → EReal := fun i => projOf m c (i 0) (i 1) ⟨3608 + (i 2).val, by have h : (i 2).val < 1024 := (i 2).isLt; omega⟩
/-- and the fifth. -/
def res4 : S1x32x128.Idx → EReal := fun i => small (a0 m c) (a1 m c) (a2 m c) (a3 m c) (a4 m c) (a5 m c) (a6 m c) (i 0) (i 1) (i 2)

/-- A projection at an entry whose numbers are known. -/
theorem projOf_congr {b b' : Fin 1} {r r' : Fin 32} {n n' : Fin 4640} (hb : b.val = b'.val) (hr : r.val = r'.val) (hn : n.val = n'.val) : projOf m c b r n = projOf m c b' r' n' := by
  rw [Fin.ext hb, Fin.ext hr, Fin.ext hn]

variable (after : (w : Fin cfg0.W) → Fin cfg0.N → (cfg0.win w).block.Idx → Elt Ideal (cfg0.win w).elt)

/-! ## The arrays after the last point -/

/-- Every entry of the first result is in a block that is written back. -/
theorem covered_7 (i : S1x32x4608.Idx) : ∃ t : Fin cfg0.N, (cfg0.win 7).flush t = true ∧ i ∈ ((cfg0.win 7).blk t).view.set := by
  have h0 : (i 0).val < 1 := (i 0).isLt
  have h1 : (i 1).val < 32 := (i 1).isLt
  have h2 : (i 2).val < 4608 := (i 2).isLt
  have hj : ((i 2).val / 512 : ℕ) < 9 := by omega
  obtain ⟨e0, e1, e2⟩ := at_7 (ptOf ((i 2).val / 512) hj)
  have ev : (ptOf ((i 2).val / 512) hj).val = ((i 2).val / 512) := rfl
  rw [ev] at e2
  refine ⟨ptOf ((i 2).val / 512) hj, flush0_7 _, ?_⟩
  refine (ValueKit.mem_set_slice_whole_iff _ _ _ Iff.rfl).mpr (Rect.mem_set_unit.mpr fun a => ?_)
  match a with
  | ⟨0, _⟩ =>
    show cc0_transform_7 (grid0.coords _) 0 * 1 ≤ (i 0).val ∧ (i 0).val < cc0_transform_7 (grid0.coords _) 0 * 1 + 1
    rw [e0]; omega
  | ⟨1, _⟩ =>
    show cc0_transform_7 (grid0.coords _) 1 * 32 ≤ (i 1).val ∧ (i 1).val < cc0_transform_7 (grid0.coords _) 1 * 32 + 32
    rw [e1]; omega
  | ⟨2, _⟩ =>
    show cc0_transform_7 (grid0.coords (ptOf ((i 2).val / 512) hj)) 2 * 512 ≤ (i 2).val ∧ (i 2).val < cc0_transform_7 (grid0.coords (ptOf ((i 2).val / 512) hj)) 2 * 512 + 512
    rw [e2]; omega

/-- THE FIRST RESULT after the last point. -/
theorem final_7 (h : ∀ t, (cfg0.win 7).flush t = true → Rl m c 7 t (after 7 t)) : ((rdat m c).withAfter after).arrAt 7 cfg0.N = res0 m c := by
  refine ((rdat m c).withAfter after).arrAt_eq_of_emb 7 (res0 m c) (fun t hf y => ?_) covered_7
  have hy : ∀ y : S1x32x512.Idx, ∃ (p : Fin 32) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_7 t
  have i0 : (0 : Fin 1) = (((cfg0.win 7).blk t).view.emb (ix3 0 p q) : S1x32x4608.Idx) 0 := Fin.ext (by
    show (0 : ℕ) = cc0_transform_7 (grid0.coords t) 0 * 1 + 1 * 0
    rw [e0])
  have i1 : p = (((cfg0.win 7).blk t).view.emb (ix3 0 p q) : S1x32x4608.Idx) 1 := Fin.ext (by
    show p.val = cc0_transform_7 (grid0.coords t) 1 * 32 + 1 * p.val
    rw [e1]; omega)
  have i2 : cc0_transform_7 (grid0.coords t) 2 * 512 + 1 * q.val = ((((cfg0.win 7).blk t).view.emb (ix3 0 p q) : S1x32x4608.Idx) 2).val := rfl
  rw [e2] at i2
  refine Eq.trans (b := (after 7 t : S1x32x512.Idx → EReal) (ix3 0 p q)) rfl ?_
  refine (congrFun (h t hf) (ix3 0 p q)).trans ((pbAt_apply m c t p q).trans ?_)
  refine projOf_congr m c (congrArg Fin.val i0) (congrArg Fin.val i1) (congrArg (fun n => (mainCol n).val) (Fin.ext ?_))
  refine Eq.trans ?_ i2
  show t.val % 9 * 512 + q.val = _
  omega

/-- Every entry of the second result is in a block that is written back. -/
theorem covered_8 (i : S1x32x1024.Idx) : ∃ t : Fin cfg0.N, (cfg0.win 8).flush t = true ∧ i ∈ ((cfg0.win 8).blk t).view.set := by
  have h0 : (i 0).val < 1 := (i 0).isLt
  have h1 : (i 1).val < 32 := (i 1).isLt
  have h2 : (i 2).val < 1024 := (i 2).isLt
  have hj : (if (i 2).val < 512 then 0 else 8 : ℕ) < 9 := by split <;> decide
  obtain ⟨e0, e1, e2⟩ := at_8 (ptOf (if (i 2).val < 512 then 0 else 8) hj)
  have ev : (ptOf (if (i 2).val < 512 then 0 else 8) hj).val = (if (i 2).val < 512 then 0 else 8) := rfl
  rw [ev] at e2
  refine ⟨ptOf (if (i 2).val < 512 then 0 else 8) hj, (flush0_8 _).mpr (by rw [ev]; split <;> omega), ?_⟩
  refine (ValueKit.mem_set_slice_whole_iff _ _ _ Iff.rfl).mpr (Rect.mem_set_unit.mpr fun a => ?_)
  match a with
  | ⟨0, _⟩ =>
    show cc0_transform_8 (grid0.coords _) 0 * 1 ≤ (i 0).val ∧ (i 0).val < cc0_transform_8 (grid0.coords _) 0 * 1 + 1
    rw [e0]; omega
  | ⟨1, _⟩ =>
    show cc0_transform_8 (grid0.coords _) 1 * 32 ≤ (i 1).val ∧ (i 1).val < cc0_transform_8 (grid0.coords _) 1 * 32 + 32
    rw [e1]; omega
  | ⟨2, _⟩ =>
    show cc0_transform_8 (grid0.coords (ptOf (if (i 2).val < 512 then 0 else 8) hj)) 2 * 512 ≤ (i 2).val ∧ (i 2).val < cc0_transform_8 (grid0.coords (ptOf (if (i 2).val < 512 then 0 else 8) hj)) 2 * 512 + 512
    rw [e2]; split <;> omega

/-- THE SECOND RESULT after the last point. -/
theorem final_8 (h : ∀ t, (cfg0.win 8).flush t = true → Rl m c 8 t (after 8 t)) : ((rdat m c).withAfter after).arrAt 8 cfg0.N = res1 m c := by
  refine ((rdat m c).withAfter after).arrAt_eq_of_emb 8 (res1 m c) (fun t hf y => ?_) covered_8
  have hy : ∀ y : S1x32x512.Idx, ∃ (p : Fin 32) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_8 t
  have i0 : (0 : Fin 1) = (((cfg0.win 8).blk t).view.emb (ix3 0 p q) : S1x32x1024.Idx) 0 := Fin.ext (by
    show (0 : ℕ) = cc0_transform_8 (grid0.coords t) 0 * 1 + 1 * 0
    rw [e0])
  have i1 : p = (((cfg0.win 8).blk t).view.emb (ix3 0 p q) : S1x32x1024.Idx) 1 := Fin.ext (by
    show p.val = cc0_transform_8 (grid0.coords t) 1 * 32 + 1 * p.val
    rw [e1]; omega)
  have i2 : cc0_transform_8 (grid0.coords t) 2 * 512 + 1 * q.val = ((((cfg0.win 8).blk t).view.emb (ix3 0 p q) : S1x32x1024.Idx) 2).val := rfl
  rw [e2] at i2
  refine Eq.trans (b := (after 8 t : S1x32x512.Idx → EReal) (ix3 0 p q)) rfl ?_
  refine (congrFun (h t hf) (ix3 0 p q)).trans ((kvAt_apply m c _ p q).trans ?_)
  refine projOf_congr m c (congrArg Fin.val i0) (congrArg Fin.val i1) ((mainCol_kv t _ (by omega) q).trans ?_)
  refine congrArg (1024 + ·) (Eq.trans ?_ i2)
  omega

/-- Every entry of the third result is in a block that is written back. -/
theorem covered_9 (i : S1x32x512.Idx) : ∃ t : Fin cfg0.N, (cfg0.win 9).flush t = true ∧ i ∈ ((cfg0.win 9).blk t).view.set := by
  have h0 : (i 0).val < 1 := (i 0).isLt
  have h1 : (i 1).val < 32 := (i 1).isLt
  have h2 : (i 2).val < 512 := (i 2).isLt
  have hj : (8 : ℕ) < 9 := by decide
  obtain ⟨e0, e1, e2⟩ := at_9 (ptOf (8) hj)
  have ev : (ptOf (8) hj).val = (8) := rfl
  refine ⟨ptOf (8) hj, (flush0_9 _).mpr (by rw [ev]), ?_⟩
  refine (ValueKit.mem_set_slice_whole_iff _ _ _ Iff.rfl).mpr (Rect.mem_set_unit.mpr fun a => ?_)
  match a with
  | ⟨0, _⟩ =>
    show cc0_transform_9 (grid0.coords _) 0 * 1 ≤ (i 0).val ∧ (i 0).val < cc0_transform_9 (grid0.coords _) 0 * 1 + 1
    rw [e0]; omega
  | ⟨1, _⟩ =>
    show cc0_transform_9 (grid0.coords _) 1 * 32 ≤ (i 1).val ∧ (i 1).val < cc0_transform_9 (grid0.coords _) 1 * 32 + 32
    rw [e1]; omega
  | ⟨2, _⟩ =>
    show cc0_transform_9 (grid0.coords (ptOf (8) hj)) 2 * 512 ≤ (i 2).val ∧ (i 2).val < cc0_transform_9 (grid0.coords (ptOf (8) hj)) 2 * 512 + 512
    rw [e2]; omega

/-- THE THIRD RESULT after the last point. -/
theorem final_9 (h : ∀ t, (cfg0.win 9).flush t = true → Rl m c 9 t (after 9 t)) : ((rdat m c).withAfter after).arrAt 9 cfg0.N = res2 m c := by
  refine ((rdat m c).withAfter after).arrAt_eq_of_emb 9 (res2 m c) (fun t hf y => ?_) covered_9
  have hy : ∀ y : S1x32x512.Idx, ∃ (p : Fin 32) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_9 t
  have i0 : (0 : Fin 1) = (((cfg0.win 9).blk t).view.emb (ix3 0 p q) : S1x32x512.Idx) 0 := Fin.ext (by
    show (0 : ℕ) = cc0_transform_9 (grid0.coords t) 0 * 1 + 1 * 0
    rw [e0])
  have i1 : p = (((cfg0.win 9).blk t).view.emb (ix3 0 p q) : S1x32x512.Idx) 1 := Fin.ext (by
    show p.val = cc0_transform_9 (grid0.coords t) 1 * 32 + 1 * p.val
    rw [e1]; omega)
  have i2 : cc0_transform_9 (grid0.coords t) 2 * 512 + 1 * q.val = ((((cfg0.win 9).blk t).view.emb (ix3 0 p q) : S1x32x512.Idx) 2).val := rfl
  rw [e2] at i2
  refine Eq.trans (b := (after 9 t : S1x32x512.Idx → EReal) (ix3 0 p q)) rfl ?_
  have h8 : t.val % 9 = 8 := (flush0_9 t).mp hf
  refine (congrFun (h t hf (by omega)) (ix3 0 p q)).trans ((wnAt_apply m c _ p q).trans ?_)
  refine projOf_congr m c (congrArg Fin.val i0) (congrArg Fin.val i1) ((mainCol_wn t q).trans ?_)
  refine congrArg (2048 + ·) (Eq.trans ?_ i2)
  omega

/-- Every entry of the fourth result is in a block that is written back. -/
theorem covered_10 (i : S1x32x1024.Idx) : ∃ t : Fin cfg0.N, (cfg0.win 10).flush t = true ∧ i ∈ ((cfg0.win 10).blk t).view.set := by
  have h0 : (i 0).val < 1 := (i 0).isLt
  have h1 : (i 1).val < 32 := (i 1).isLt
  have h2 : (i 2).val < 1024 := (i 2).isLt
  have hj : (if (i 2).val < 512 then 3 else 8 : ℕ) < 9 := by split <;> decide
  obtain ⟨e0, e1, e2⟩ := at_10 (ptOf (if (i 2).val < 512 then 3 else 8) hj)
  have ev : (ptOf (if (i 2).val < 512 then 3 else 8) hj).val = (if (i 2).val < 512 then 3 else 8) := rfl
  rw [ev] at e2
  refine ⟨ptOf (if (i 2).val < 512 then 3 else 8) hj, (flush0_10 _).mpr (by rw [ev]; split <;> omega), ?_⟩
  refine (ValueKit.mem_set_slice_whole_iff _ _ _ Iff.rfl).mpr (Rect.mem_set_unit.mpr fun a => ?_)
  match a with
  | ⟨0, _⟩ =>
    show cc0_transform_10 (grid0.coords _) 0 * 1 ≤ (i 0).val ∧ (i 0).val < cc0_transform_10 (grid0.coords _) 0 * 1 + 1
    rw [e0]; omega
  | ⟨1, _⟩ =>
    show cc0_transform_10 (grid0.coords _) 1 * 32 ≤ (i 1).val ∧ (i 1).val < cc0_transform_10 (grid0.coords _) 1 * 32 + 32
    rw [e1]; omega
  | ⟨2, _⟩ =>
    show cc0_transform_10 (grid0.coords (ptOf (if (i 2).val < 512 then 3 else 8) hj)) 2 * 512 ≤ (i 2).val ∧ (i 2).val < cc0_transform_10 (grid0.coords (ptOf (if (i 2).val < 512 then 3 else 8) hj)) 2 * 512 + 512
    rw [e2]; split <;> omega

/-- THE FOURTH RESULT after the last point. -/
theorem final_10 (h : ∀ t, (cfg0.win 10).flush t = true → Rl m c 10 t (after 10 t)) : ((rdat m c).withAfter after).arrAt 10 cfg0.N = res3 m c := by
  refine ((rdat m c).withAfter after).arrAt_eq_of_emb 10 (res3 m c) (fun t hf y => ?_) covered_10
  have hy : ∀ y : S1x32x512.Idx, ∃ (p : Fin 32) (q : Fin 512), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_10 t
  have i0 : (0 : Fin 1) = (((cfg0.win 10).blk t).view.emb (ix3 0 p q) : S1x32x1024.Idx) 0 := Fin.ext (by
    show (0 : ℕ) = cc0_transform_10 (grid0.coords t) 0 * 1 + 1 * 0
    rw [e0])
  have i1 : p = (((cfg0.win 10).blk t).view.emb (ix3 0 p q) : S1x32x1024.Idx) 1 := Fin.ext (by
    show p.val = cc0_transform_10 (grid0.coords t) 1 * 32 + 1 * p.val
    rw [e1]; omega)
  have i2 : cc0_transform_10 (grid0.coords t) 2 * 512 + 1 * q.val = ((((cfg0.win 10).blk t).view.emb (ix3 0 p q) : S1x32x1024.Idx) 2).val := rfl
  rw [e2] at i2
  refine Eq.trans (b := (after 10 t : S1x32x512.Idx → EReal) (ix3 0 p q)) rfl ?_
  have h8 : t.val % 9 = 3 ∨ t.val % 9 = 8 := (flush0_10 t).mp hf
  refine (congrFun (h t hf (by omega)) (ix3 0 p q)).trans ((kfAt_apply m c _ p q).trans ?_)
  refine projOf_congr m c (congrArg Fin.val i0) (congrArg Fin.val i1) ((mainCol_kf t _ (by omega) (by omega) q).trans ?_)
  refine congrArg (3608 + ·) (Eq.trans ?_ i2)
  omega

/-- Every entry of the fifth result is in a block that is written back. -/
theorem covered_11 (i : S1x32x128.Idx) : ∃ t : Fin cfg0.N, (cfg0.win 11).flush t = true ∧ i ∈ ((cfg0.win 11).blk t).view.set := by
  have h0 : (i 0).val < 1 := (i 0).isLt
  have h1 : (i 1).val < 32 := (i 1).isLt
  have h2 : (i 2).val < 128 := (i 2).isLt
  have hj : (8 : ℕ) < 9 := by decide
  obtain ⟨e0, e1, e2⟩ := at_11 (ptOf (8) hj)
  have ev : (ptOf (8) hj).val = (8) := rfl
  refine ⟨ptOf (8) hj, (flush0_11 _).mpr (by rw [ev]), ?_⟩
  refine (ValueKit.mem_set_slice_whole_iff _ _ _ Iff.rfl).mpr (Rect.mem_set_unit.mpr fun a => ?_)
  match a with
  | ⟨0, _⟩ =>
    show cc0_transform_11 (grid0.coords _) 0 * 1 ≤ (i 0).val ∧ (i 0).val < cc0_transform_11 (grid0.coords _) 0 * 1 + 1
    rw [e0]; omega
  | ⟨1, _⟩ =>
    show cc0_transform_11 (grid0.coords _) 1 * 32 ≤ (i 1).val ∧ (i 1).val < cc0_transform_11 (grid0.coords _) 1 * 32 + 32
    rw [e1]; omega
  | ⟨2, _⟩ =>
    show cc0_transform_11 (grid0.coords (ptOf (8) hj)) 2 * 128 ≤ (i 2).val ∧ (i 2).val < cc0_transform_11 (grid0.coords (ptOf (8) hj)) 2 * 128 + 128
    rw [e2]; omega

/-- THE FIFTH RESULT after the last point. -/
theorem final_11 (h : ∀ t, (cfg0.win 11).flush t = true → Rl m c 11 t (after 11 t)) : ((rdat m c).withAfter after).arrAt 11 cfg0.N = res4 m c := by
  refine ((rdat m c).withAfter after).arrAt_eq_of_emb 11 (res4 m c) (fun t hf y => ?_) covered_11
  have hy : ∀ y : S1x32x128.Idx, ∃ (p : Fin 32) (q : Fin 128), y = ix3 0 p q := fun y =>
    ⟨y 1, y 2, (ValueIdx.eq_ix3 y).trans (congrArg (fun z => ix3 z (y 1) (y 2)) (Fin.ext (by have : (y 0).val < 1 := (y 0).isLt; show (y 0).val = 0; omega)))⟩
  obtain ⟨p, q, rfl⟩ := hy y
  obtain ⟨e0, e1, e2⟩ := at_11 t
  have i0 : (0 : Fin 1) = (((cfg0.win 11).blk t).view.emb (ix3 0 p q) : S1x32x128.Idx) 0 := Fin.ext (by
    show (0 : ℕ) = cc0_transform_11 (grid0.coords t) 0 * 1 + 1 * 0
    rw [e0])
  have i1 : p = (((cfg0.win 11).blk t).view.emb (ix3 0 p q) : S1x32x128.Idx) 1 := Fin.ext (by
    show p.val = cc0_transform_11 (grid0.coords t) 1 * 32 + 1 * p.val
    rw [e1]; omega)
  have i2 : cc0_transform_11 (grid0.coords t) 2 * 128 + 1 * q.val = ((((cfg0.win 11).blk t).view.emb (ix3 0 p q) : S1x32x128.Idx) 2).val := rfl
  rw [e2] at i2
  refine Eq.trans (b := (after 11 t : S1x32x128.Idx → EReal) (ix3 0 p q)) rfl ?_
  refine (congrFun (h t hf) (ix3 0 p q)).trans ((smAt_apply m c _ p q).trans ?_)
  unfold res4
  rw [← i0, ← i1]
  refine congrArg _ (Fin.ext (Eq.trans ?_ i2))
  omega

/-! ## The run -/

/-- THE RUN of the idealized kernel leaves the five results and the arguments. -/
theorem run_values (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = res0 m c
      ∧ r.2.mem ((c.tc : Thread nD τ).loc main_v15_1) = res1 m c
      ∧ r.2.mem ((c.tc : Thread nD τ).loc main_v15_2) = res2 m c
      ∧ r.2.mem ((c.tc : Thread nD τ).loc main_v15_3) = res3 m c
      ∧ r.2.mem ((c.tc : Thread nD τ).loc main_v15_4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m g)
  obtain ⟨after, hL, hA⟩ := Pipeline.RDat.FramePost.exists_exact h c
  have hR : ∀ (w : Fin cfg0.W), fgt w = true → ∀ t, (cfg0.win w).flush t = true → Rl m c w t (after w t) :=
    fun w hw t hf => (dats m 0 c).toRRel_leaves hw (hL w t hf)
  exact ⟨(hA 7).trans (final_7 m c after (hR 7 rfl)), (hA 8).trans (final_8 m c after (hR 8 rfl)), (hA 9).trans (final_9 m c after (hR 9 rfl)),
    (hA 10).trans (final_10 m c after (hR 10 rfl)), (hA 11).trans (final_11 m c after (hR 11 rfl)), args_of m (fun c => rdat m c) (A_eq m) r h c⟩

end Cert.InprojSampleIdeal.Gen

end
-- ==== Proof.InprojSampleClaim.lean ====
module

public import proofs.«01_k».proof.Defs
public import proofs.«01_k».proof.Proof.InprojSampleSame
public import proofs.«01_k».proof.Proof.InprojSampleIdeal.Value
public import proofs.«01_k».proof.Proof.Gen.InprojSampleRefIdeal.Run
public import proofs.«01_k».proof.Proof.Gen.InprojSampleRefIdeal.Read
public import Idealize.ShloMosaic.Lib.Quiescent

@[expose] public section

set_option maxRecDepth 16384

noncomputable section

/-! # The claims about the projection -/

namespace Cert.InprojSampleClaim

open Idealize.ShloMosaic hiding ix1 ix2 ix3
open Idealize.ShloMosaic.TcCoe Idealize.ShloMosaic.ValueIdx
open Idealize.SL Idealize.SL.Sem

/-- The kernel runs, leaves its arguments and every counter as they were. -/
theorem kernel_frame : quiescent_InprojSample := fun m g _ => by
  rw [InprojSample.Same.defs_eq, InprojSample.Same.main_eq]
  exact InprojSampleIdeal.Gen.frame (F := Bits) m g

/-- The idealized kernel too. -/
theorem ideal_frame : quiescent_InprojSampleIdeal := fun m g _ => InprojSampleIdeal.Gen.frame m g

/-- The reference has no counters, so that its run leaves all of them at zero. -/
theorem ref_frame : quiescent_InprojSampleRefIdeal := fun m g _ =>
  (θ_run InprojSampleRefIdeal.defs _ _).mono (fun r h => ⟨fun c => (h c).2.2.2.2.2, sem_eq_zero_of_no_sems (by decide) r.2⟩) (InprojSampleRefIdeal.Value.run (F := Ideal) m g)

/-- The kernel and the reference leave equal results over the extended reals. -/
theorem values : algebraic_InprojSampleIdeal_InprojSampleRefIdeal := fun m g m' g' _ he => by
  refine ⟨fun c => InprojSampleIdeal.Gen.res0 m c, fun c => InprojSampleIdeal.Gen.res1 m c, fun c => InprojSampleIdeal.Gen.res2 m c, fun c => InprojSampleIdeal.Gen.res3 m c, fun c => InprojSampleIdeal.Gen.res4 m c,
    InprojSampleIdeal.Gen.run_values m g, ?_⟩
  refine (θ_run InprojSampleRefIdeal.defs _ _).mono (fun r hr c => ?_) (InprojSampleRefIdeal.Value.run (F := Ideal) m' g')
  obtain ⟨h0, h1, h2, h3, h4, hargs⟩ := hr c
  obtain ⟨e0, e1, e2, e3, e4, e5, e6⟩ := he c
  refine ⟨h0.trans ?_, h1.trans ?_, h2.trans ?_, h3.trans ?_, h4.trans ?_, hargs⟩
  · refine (InprojSampleRefIdeal.Read.val_main_v40_eq m' c).trans ?_
    rw [e0, e1, e2, e3, e4]
    funext i
    obtain ⟨b, t, n, rfl⟩ : ∃ (b : Fin 1) (t : Fin 32) (n : Fin 4608), i = ix3 b t n := ⟨i 0, i 1, i 2, ValueIdx.eq_ix3 i⟩
    exact InprojSampleRefIdeal.Read.v40_apply _ _ _ _ _ b t n
  · refine (InprojSampleRefIdeal.Read.val_main_v42_eq _ _ _ _ _).trans ?_
    rw [e0, e1, e2, e3, e4]
    funext i
    obtain ⟨b, t, n, rfl⟩ : ∃ (b : Fin 1) (t : Fin 32) (n : Fin 1024), i = ix3 b t n := ⟨i 0, i 1, i 2, ValueIdx.eq_ix3 i⟩
    exact InprojSampleRefIdeal.Read.v42_apply _ _ _ _ _ b t n
  · refine (InprojSampleRefIdeal.Read.val_main_v43_eq _ _ _ _ _).trans ?_
    rw [e0, e1, e2, e3, e4]
    funext i
    obtain ⟨b, t, n, rfl⟩ : ∃ (b : Fin 1) (t : Fin 32) (n : Fin 512), i = ix3 b t n := ⟨i 0, i 1, i 2, ValueIdx.eq_ix3 i⟩
    exact InprojSampleRefIdeal.Read.v43_apply _ _ _ _ _ b t n
  · refine (InprojSampleRefIdeal.Read.val_main_v22_eq _ _ _ _ _).trans ?_
    rw [e0, e1, e2, e3, e4]
    funext i
    obtain ⟨b, t, n, rfl⟩ : ∃ (b : Fin 1) (t : Fin 32) (n : Fin 1024), i = ix3 b t n := ⟨i 0, i 1, i 2, ValueIdx.eq_ix3 i⟩
    exact InprojSampleRefIdeal.Read.v22_apply _ _ _ _ _ b t n
  · refine (InprojSampleRefIdeal.Read.val_main_v41_eq m' c).trans ?_
    rw [e0, e1, e2, e3, e4, e5, e6]
    funext i
    obtain ⟨b, t, n, rfl⟩ : ∃ (b : Fin 1) (t : Fin 32) (n : Fin 128), i = ix3 b t n := ⟨i 0, i 1, i 2, ValueIdx.eq_ix3 i⟩
    exact InprojSampleRefIdeal.Read.v41_apply _ _ _ _ _ _ _ b t n

end Cert.InprojSampleClaim

end
-- ==== Proof.lean ====
module

public import proofs.«01_k».proof.Defs
public import proofs.«01_k».proof.Proof.Gen.Up
public import proofs.«01_k».proof.Proof.Gen.UpIdeal
public import proofs.«01_k».proof.Proof.Gen.UpRefIdeal
public import proofs.«01_k».proof.Proof.Gen.Pre_pre_up
public import proofs.«01_k».proof.Proof.Gen.UpRefIdeal.Run
public import proofs.«01_k».proof.Proof.Gen.UpRefIdeal.Read
public import proofs.«01_k».proof.Proof.Gen.Down
public import proofs.«01_k».proof.Proof.Gen.DownIdeal
public import proofs.«01_k».proof.Proof.Gen.DownRefIdeal
public import proofs.«01_k».proof.Proof.Gen.Pre_pre_down
public import proofs.«01_k».proof.Proof.Gen.DownRefIdeal.Run
public import proofs.«01_k».proof.Proof.Gen.DownRefIdeal.Read
public import proofs.«01_k».proof.Proof.Gen.Inproj
public import proofs.«01_k».proof.Proof.Gen.InprojIdeal
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.InprojIdeal.Skeleton
public import proofs.«01_k».proof.Proof.Gen.InprojIdeal.Frame
public import proofs.«01_k».proof.Proof.Gen.Merge
public import proofs.«01_k».proof.Proof.Gen.MergeIdeal
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Merge.Skeleton
public import proofs.«01_k».proof.Proof.Gen.MergeIdeal.Skeleton
public import proofs.«01_k».proof.Proof.Gen.Merge.Frame
public import proofs.«01_k».proof.Proof.Gen.MergeIdeal.Frame
public import proofs.«01_k».proof.Proof.Gen.Final
public import proofs.«01_k».proof.Proof.Gen.FinalIdeal
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Final.Skeleton
public import proofs.«01_k».proof.Proof.Gen.FinalIdeal.Skeleton
public import proofs.«01_k».proof.Proof.Gen.Final.Frame
public import proofs.«01_k».proof.Proof.Gen.FinalIdeal.Frame
public import proofs.«01_k».proof.Proof.Gen.FinalSample
public import proofs.«01_k».proof.Proof.Gen.FinalSampleIdeal
public import proofs.«01_k».proof.Proof.Gen.FinalSampleRefIdeal
public import proofs.«01_k».proof.Proof.Gen.FinalSampleRefIdeal.Run
public import proofs.«01_k».proof.Proof.Gen.FinalSampleRefIdeal.Read
public import proofs.«01_k».proof.Proof.Gen.FinalSample.Skeleton
public import proofs.«01_k».proof.Proof.Gen.FinalSampleIdeal.Skeleton
public import proofs.«01_k».proof.Proof.Gen.FinalSample.Frame
public import proofs.«01_k».proof.Proof.Gen.FinalSampleIdeal.Frame
public import proofs.«01_k».proof.Proof.Gen.Win
public import proofs.«01_k».proof.Proof.Gen.WinIdeal
public import proofs.«01_k».proof.Proof.Gen.WinRefIdeal
public import proofs.«01_k».proof.Proof.Gen.WinRefIdeal.Run
public import proofs.«01_k».proof.Proof.Gen.WinRefIdeal.Read
public import proofs.«01_k».proof.Proof.Gen.Win.Skeleton
public import proofs.«01_k».proof.Proof.Gen.WinIdeal.Skeleton
public import proofs.«01_k».proof.Proof.Gen.Win.Frame
public import proofs.«01_k».proof.Proof.Gen.WinIdeal.Frame
public import proofs.«01_k».proof.Proof.Gen.InprojSample
public import proofs.«01_k».proof.Proof.Gen.InprojSampleIdeal
public import proofs.«01_k».proof.Proof.Gen.InprojSampleRefIdeal
public import proofs.«01_k».proof.Proof.Gen.InprojSampleRefIdeal.Run
public import proofs.«01_k».proof.Proof.Gen.InprojSampleRefIdeal.Read
public import proofs.«01_k».proof.Proof.Gen.InprojSampleIdeal.Skeleton
public import proofs.«01_k».proof.Proof.Gen.InprojSampleIdeal.Frame
public import proofs.«01_k».proof.Proof.UpClaim
public import proofs.«01_k».proof.Proof.DownClaim
public import proofs.«01_k».proof.Proof.InprojClaim
public import proofs.«01_k».proof.Proof.MergeClaim
public import proofs.«01_k».proof.Proof.FinalClaim
public import proofs.«01_k».proof.Proof.FinalSampleClaim
public import proofs.«01_k».proof.Proof.WinClaim
public import proofs.«01_k».proof.Proof.InprojSampleClaim

@[expose] public section

namespace Cert.Proof

/-- Everything the certificate claims. -/
theorem claim : Cert.Claim :=
  ⟨Cert.Up.Gen.facts, Cert.UpIdeal.Gen.facts, Cert.UpRefIdeal.Gen.facts, Cert.Down.Gen.facts, Cert.DownIdeal.Gen.facts, Cert.DownRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts, Cert.Final.Gen.facts, Cert.FinalIdeal.Gen.facts, Cert.FinalRefIdeal.Gen.facts,
    Cert.FinalSample.Gen.facts, Cert.FinalSampleIdeal.Gen.facts, Cert.FinalSampleRefIdeal.Gen.facts,
    Cert.Win.Gen.facts, Cert.WinIdeal.Gen.facts, Cert.WinRefIdeal.Gen.facts,
    Cert.InprojSample.Gen.facts, Cert.InprojSampleIdeal.Gen.facts, Cert.InprojSampleRefIdeal.Gen.facts,
    Cert.Pre_pre_up.Gen.facts, Cert.Pre_pre_down.Gen.facts,
    UpClaim.kernel_frame, UpClaim.ideal_frame, UpClaim.ref_frame, UpClaim.ref_frame_pre,
    DownClaim.kernel_frame, DownClaim.ideal_frame, DownClaim.ref_frame, DownClaim.ref_frame_pre,
    InprojClaim.kernel_frame, InprojClaim.ideal_frame, InprojClaim.ref_frame,
    MergeClaim.kernel_frame, MergeClaim.ideal_frame, MergeClaim.ref_frame, FinalClaim.kernel_frame, FinalClaim.ideal_frame, FinalClaim.ref_frame,
    FinalSampleClaim.kernel_frame, FinalSampleClaim.ideal_frame, FinalSampleClaim.ref_frame, WinClaim.kernel_frame, WinClaim.ideal_frame, WinClaim.ref_frame,
    InprojSampleClaim.kernel_frame, InprojSampleClaim.ideal_frame, InprojSampleClaim.ref_frame,
    trivial, UpClaim.values, trivial, DownClaim.values, trivial, InprojClaim.values, trivial, MergeClaim.values, trivial, FinalClaim.values,
    trivial, FinalSampleClaim.values, trivial, WinClaim.values, trivial, InprojSampleClaim.values⟩

end Cert.Proof

end
